-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 [hPre_tiles_ok : Cert.Pre_tiles_ok.Facts] (m : (ℓ : Loc Cert.Kernel2.nD Cert.Kernel2.τ Cert.Kernel2.sig) → Buf (Elt Bits) ℓ) : Prop :=
  ∀ c : Dev Cert.Kernel2.nD,
    (Cert.Pre_tiles_ok.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_tiles_ok : Cert.Pre_tiles_ok.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tiles_ok.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tiles_ok [hPre_tiles_ok : Cert.Pre_tiles_ok.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tiles_ok.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_gates [hPre_finite_gates : Cert.Pre_finite_gates.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_gates.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_gates [hPre_finite_gates : Cert.Pre_finite_gates.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_gates.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_below_infinity [hPre_below_infinity : Cert.Pre_below_infinity.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_below_infinity.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_below_infinity [hPre_below_infinity : Cert.Pre_below_infinity.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_below_infinity.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_scan [hPre_finite_scan : Cert.Pre_finite_scan.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_scan.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_scan [hPre_finite_scan : Cert.Pre_finite_scan.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_scan.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_scan [hPre_finite_scan : Cert.Pre_finite_scan.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_scan.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_scan [hPre_finite_scan : Cert.Pre_finite_scan.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_scan.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_tiles_ok : Cert.Pre_tiles_ok.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_tiles_ok : Cert.Pre_tiles_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_tiles_ok [hReference2Ideal : Cert.Reference2Ideal.Facts] [hPre_tiles_ok : Cert.Pre_tiles_ok.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tiles_ok m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite_gates [hKernel5Ideal : Cert.Kernel5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_gates m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite_gates [hReference5Ideal : Cert.Reference5Ideal.Facts] [hPre_finite_gates : Cert.Pre_finite_gates.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_gates m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_below_infinity [hKernel6Ideal : Cert.Kernel6Ideal.Facts] [hPre_below_infinity : Cert.Pre_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_below_infinity m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_below_infinity [hReference6Ideal : Cert.Reference6Ideal.Facts] [hPre_below_infinity : Cert.Pre_below_infinity.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_below_infinity m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite_scan [hKernel7Ideal : Cert.Kernel7Ideal.Facts] [hPre_finite_scan : Cert.Pre_finite_scan.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_scan m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite_scan [hReference7Ideal : Cert.Reference7Ideal.Facts] [hPre_finite_scan : Cert.Pre_finite_scan.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_scan m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite_scan [hKernel8Ideal : Cert.Kernel8Ideal.Facts] [hPre_finite_scan : Cert.Pre_finite_scan.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_scan m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite_scan [hReference8Ideal : Cert.Reference8Ideal.Facts] [hPre_finite_scan : Cert.Pre_finite_scan.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_scan m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_tiles_ok : Cert.Pre_tiles_ok.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v115) = v0 c
          ∧ r.2.mem ((c.tc : Thread Cert.Reference4Ideal.nD Cert.Reference4Ideal.τ).loc Cert.Reference4Ideal.main_v116) = v1 c
          ∧ r.2.mem ((c.tc : Thread Cert.Reference4Ideal.nD Cert.Reference4Ideal.τ).loc Cert.Reference4Ideal.main_v118) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite_gates [hKernel5Ideal : Cert.Kernel5Ideal.Facts] [hReference5Ideal : Cert.Reference5Ideal.Facts] [hPre_finite_gates : Cert.Pre_finite_gates.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_gates m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)) (v2 : (c : Dev Cert.Kernel5Ideal.nD) → Buf (Elt Ideal) ((c.tc : Thread Cert.Kernel5Ideal.nD Cert.Kernel5Ideal.τ).loc Cert.Kernel5Ideal.main_v19_2)) (v3 : (c : Dev Cert.Kernel5Ideal.nD) → Buf (Elt Ideal) ((c.tc : Thread Cert.Kernel5Ideal.nD Cert.Kernel5Ideal.τ).loc Cert.Kernel5Ideal.main_v19_3)) (v4 : (c : Dev Cert.Kernel5Ideal.nD) → Buf (Elt Ideal) ((c.tc : Thread Cert.Kernel5Ideal.nD Cert.Kernel5Ideal.τ).loc Cert.Kernel5Ideal.main_v19_4)) (v5 : (c : Dev Cert.Kernel5Ideal.nD) → Buf (Elt Ideal) ((c.tc : Thread Cert.Kernel5Ideal.nD Cert.Kernel5Ideal.τ).loc Cert.Kernel5Ideal.main_v19_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_v19_2) = v2 c
          ∧ r.2.mem ((c.tc : Thread Cert.Kernel5Ideal.nD Cert.Kernel5Ideal.τ).loc Cert.Kernel5Ideal.main_v19_3) = v3 c
          ∧ r.2.mem ((c.tc : Thread Cert.Kernel5Ideal.nD Cert.Kernel5Ideal.τ).loc Cert.Kernel5Ideal.main_v19_4) = v4 c
          ∧ r.2.mem ((c.tc : Thread Cert.Kernel5Ideal.nD Cert.Kernel5Ideal.τ).loc Cert.Kernel5Ideal.main_v19_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_v60) = v1 c
          ∧ r.2.mem ((c.tc : Thread Cert.Reference5Ideal.nD Cert.Reference5Ideal.τ).loc Cert.Reference5Ideal.main_v61) = v2 c
          ∧ r.2.mem ((c.tc : Thread Cert.Reference5Ideal.nD Cert.Reference5Ideal.τ).loc Cert.Reference5Ideal.main_v62) = v3 c
          ∧ r.2.mem ((c.tc : Thread Cert.Reference5Ideal.nD Cert.Reference5Ideal.τ).loc Cert.Reference5Ideal.main_v49) = v4 c
          ∧ r.2.mem ((c.tc : Thread Cert.Reference5Ideal.nD Cert.Reference5Ideal.τ).loc Cert.Reference5Ideal.main_v56) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_below_infinity [hKernel6Ideal : Cert.Kernel6Ideal.Facts] [hReference6Ideal : Cert.Reference6Ideal.Facts] [hPre_below_infinity : Cert.Pre_below_infinity.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_below_infinity m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite_scan [hKernel7Ideal : Cert.Kernel7Ideal.Facts] [hReference7Ideal : Cert.Reference7Ideal.Facts] [hPre_finite_scan : Cert.Pre_finite_scan.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_scan m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_scan [hKernel8Ideal : Cert.Kernel8Ideal.Facts] [hReference8Ideal : Cert.Reference8Ideal.Facts] [hPre_finite_scan : Cert.Pre_finite_scan.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_scan m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v52) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_scores : Cert.Pre_finite_scores.Facts) (hPre_tiles_ok : Cert.Pre_tiles_ok.Facts) (hPre_finite_gates : Cert.Pre_finite_gates.Facts) (hPre_below_infinity : Cert.Pre_below_infinity.Facts) (hPre_finite_scan : Cert.Pre_finite_scan.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_tiles_ok := hPre_tiles_ok)
    ∧ quiescent_Kernel2Ideal (hKernel2Ideal := hKernel2Ideal) (hPre_tiles_ok := hPre_tiles_ok)
    ∧ quiescent_Reference2Ideal (hReference2Ideal := hReference2Ideal)
    ∧ quiescent_Reference2Ideal_pre_tiles_ok (hReference2Ideal := hReference2Ideal) (hPre_tiles_ok := hPre_tiles_ok)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_gates (hKernel5Ideal := hKernel5Ideal) (hPre_finite_gates := hPre_finite_gates)
    ∧ quiescent_Reference5Ideal (hReference5Ideal := hReference5Ideal)
    ∧ quiescent_Reference5Ideal_pre_finite_gates (hReference5Ideal := hReference5Ideal) (hPre_finite_gates := hPre_finite_gates)
    ∧ quiescent_Kernel6 (hKernel6 := hKernel6)
    ∧ quiescent_Kernel6Ideal (hKernel6Ideal := hKernel6Ideal)
    ∧ quiescent_Kernel6Ideal_pre_below_infinity (hKernel6Ideal := hKernel6Ideal) (hPre_below_infinity := hPre_below_infinity)
    ∧ quiescent_Reference6Ideal (hReference6Ideal := hReference6Ideal)
    ∧ quiescent_Reference6Ideal_pre_below_infinity (hReference6Ideal := hReference6Ideal) (hPre_below_infinity := hPre_below_infinity)
    ∧ quiescent_Kernel7 (hKernel7 := hKernel7)
    ∧ quiescent_Kernel7Ideal (hKernel7Ideal := hKernel7Ideal)
    ∧ quiescent_Kernel7Ideal_pre_finite_scan (hKernel7Ideal := hKernel7Ideal) (hPre_finite_scan := hPre_finite_scan)
    ∧ quiescent_Reference7Ideal (hReference7Ideal := hReference7Ideal)
    ∧ quiescent_Reference7Ideal_pre_finite_scan (hReference7Ideal := hReference7Ideal) (hPre_finite_scan := hPre_finite_scan)
    ∧ quiescent_Kernel8 (hKernel8 := hKernel8)
    ∧ quiescent_Kernel8Ideal (hKernel8Ideal := hKernel8Ideal)
    ∧ quiescent_Kernel8Ideal_pre_finite_scan (hKernel8Ideal := hKernel8Ideal) (hPre_finite_scan := hPre_finite_scan)
    ∧ quiescent_Reference8Ideal (hReference8Ideal := hReference8Ideal)
    ∧ quiescent_Reference8Ideal_pre_finite_scan (hReference8Ideal := hReference8Ideal) (hPre_finite_scan := hPre_finite_scan)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tiles_ok := hPre_tiles_ok)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_gates (hKernel5Ideal := hKernel5Ideal) (hReference5Ideal := hReference5Ideal) (hPre_finite_gates := hPre_finite_gates)
    ∧ preserves_Kernel6_Kernel6Ideal
    ∧ algebraic_Kernel6Ideal_Reference6Ideal_pre_below_infinity (hKernel6Ideal := hKernel6Ideal) (hReference6Ideal := hReference6Ideal) (hPre_below_infinity := hPre_below_infinity)
    ∧ preserves_Kernel7_Kernel7Ideal
    ∧ algebraic_Kernel7Ideal_Reference7Ideal_pre_finite_scan (hKernel7Ideal := hKernel7Ideal) (hReference7Ideal := hReference7Ideal) (hPre_finite_scan := hPre_finite_scan)
    ∧ preserves_Kernel8_Kernel8Ideal
    ∧ algebraic_Kernel8Ideal_Reference8Ideal_pre_finite_scan (hKernel8Ideal := hKernel8Ideal) (hReference8Ideal := hReference8Ideal) (hPre_finite_scan := hPre_finite_scan)
-- ==== Pre_below_infinity.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩

class Facts : Prop where
  bcast_S_S16x1024 : S_.BroadcastsInDim S16x1024 (![] : Fin 0 → Fin S16x1024.rank)
  reducesTo_S16x1024_S_d0_1 : S16x1024.ReducesTo [0, 1] S_
  h_S_ : 0 < S_.numel
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S16x1024 .f32) (main_arg1 : FVec F S4x1024x6144 .f32) (main_arg2 : FVec F S4x6144 .f32) : IVec S_ 1 :=
  let main_cst : FVec F S_ .f32 := constant S_ .f32 0x7F800000#32
  let main_v0 : FVec F S16x1024 .f32 := broadcastInDim S16x1024 ![] bcast_S_S16x1024 main_cst
  let main_v1 : IVec S16x1024 1 := cmpf .olt main_arg0 main_v0
  let main_c : IVec S_ 1 := constantI S_ 1 1#1
  let main_v2 : IVec S_ 1 := (fun x v => Host.reduce IntOp.andi x v reducesTo_S16x1024_S_d0_1 h_S_) main_v1 main_c
  let main_cst_0 : FVec F S_ .f32 := constant S_ .f32 0x7F800000#32
  let main_v3 : FVec F S4x1024x6144 .f32 := broadcastInDim S4x1024x6144 ![] bcast_S_S4x1024x6144 main_cst_0
  let main_v4 : IVec S4x1024x6144 1 := cmpf .olt main_arg1 main_v3
  let main_c_1 : IVec S_ 1 := constantI S_ 1 1#1
  let main_v5 : IVec S_ 1 := (fun x v => Host.reduce IntOp.andi x v reducesTo_S4x1024x6144_S_d0_1_2 h_S_) main_v4 main_c_1
  let main_v6 : IVec S_ 1 := andi main_v2 main_v5
  main_v6
-- ==== Pre_finite_gates.lean ====
abbrev S8x4352x1024 : Shape := ⟨3, ![8, 4352, 1024]⟩
abbrev S8x2x6x1024 : Shape := ⟨4, ![8, 2, 6, 1024]⟩
abbrev S1024 : Shape := ⟨1, ![1024]⟩
abbrev S1024x3104 : Shape := ⟨2, ![1024, 3104]⟩
abbrev S16x512 : Shape := ⟨2, ![16, 512]⟩
abbrev S512 : Shape := ⟨1, ![512]⟩
abbrev S8x2x2x1024 : Shape := ⟨4, ![8, 2, 2, 1024]⟩
abbrev S_ : Shape := ⟨0, ![]⟩
abbrev S1024x32 : Shape := ⟨2, ![1024, 32]⟩

class Facts : Prop where
  slices_S8x2x6x1024_S8x2x2x1024_0_0_0_0 : S8x2x6x1024.Slices ![0, 0, 0, 0] S8x2x2x1024
  bcast_S_S8x2x2x1024 : S_.BroadcastsInDim S8x2x2x1024 (![] : Fin 0 → Fin S8x2x2x1024.rank)
  reducesTo_S8x2x2x1024_S_d0_1_2_3 : S8x2x2x1024.ReducesTo [0, 1, 2, 3] S_
  h_S_ : 0 < S_.numel
  bcast_S_S1024 : S_.BroadcastsInDim S1024 (![] : Fin 0 → Fin S1024.rank)
  reducesTo_S1024_S_d0 : S1024.ReducesTo [0] S_
  slices_S1024x3104_S1024x32_0_3072 : S1024x3104.Slices ![0, 3072] S1024x32
  bcast_S_S1024x32 : S_.BroadcastsInDim S1024x32 (![] : Fin 0 → Fin S1024x32.rank)
  reducesTo_S1024x32_S_d0_1 : S1024x32.ReducesTo [0, 1] S_
  bcast_S_S16x512 : S_.BroadcastsInDim S16x512 (![] : Fin 0 → Fin S16x512.rank)
  reducesTo_S16x512_S_d0_1 : S16x512.ReducesTo [0, 1] S_

variable [Facts]

def fn_part1 {F : FTy → Type} [FloatOps F] (main_arg6 : FVec F S16x512 .f32) (main_v15 : IVec S_ 1) (main_v16 : FVec F S16x512 .f32) (main_cst_4 : FVec F S_ .f32) : IVec S_ 1 :=
  let main_v17 : FVec F S16x512 .f32 := broadcastInDim S16x512 ![] bcast_S_S16x512 main_cst_4
  let main_v18 : IVec S16x512 1 := cmpf .olt main_v16 main_v17
  let main_c_5 : IVec S_ 1 := constantI S_ 1 1#1
  let main_v19 : IVec S_ 1 := (fun x v => Host.reduce IntOp.andi x v reducesTo_S16x512_S_d0_1 h_S_) main_v18 main_c_5
  let main_v20 : IVec S_ 1 := andi main_v15 main_v19
  let main_v21 : FVec F S16x512 .f32 := Host.absf main_arg6
  let main_cst_6 : FVec F S_ .f32 := constant S_ .f32 0x7F800000#32
  let main_v22 : FVec F S16x512 .f32 := broadcastInDim S16x512 ![] bcast_S_S16x512 main_cst_6
  let main_v23 : IVec S16x512 1 := cmpf .olt main_v21 main_v22
  let main_c_7 : IVec S_ 1 := constantI S_ 1 1#1
  let main_v24 : IVec S_ 1 := (fun x v => Host.reduce IntOp.andi x v reducesTo_S16x512_S_d0_1 h_S_) main_v23 main_c_7
  let main_v25 : IVec S_ 1 := andi main_v20 main_v24
  main_v25

def fn {F : FTy → Type} [FloatOps F] (main_arg0 : FVec F S8x4352x1024 .f32) (main_arg1 : FVec F S8x2x6x1024 .f32) (main_arg2 : FVec F S1024 .f32) (main_arg3 : FVec F S1024x3104 .f32) (main_arg4 : FVec F S16x512 .f32) (main_arg5 : FVec F S512 .f32) (main_arg6 : FVec F S16x512 .f32) (main_arg7 : FVec F S512 .f32) : IVec S_ 1 :=
  let main_v0 : FVec F S8x2x2x1024 .f32 := (extractStridedSlice S8x2x2x1024 ![0, 0, 0, 0] · slices_S8x2x6x1024_S8x2x2x1024_0_0_0_0) main_arg1
  let main_v1 : FVec F S8x2x2x1024 .f32 := Host.absf main_v0
  let main_cst : FVec F S_ .f32 := constant S_ .f32 0x7F800000#32
  let main_v2 : FVec F S8x2x2x1024 .f32 := broadcastInDim S8x2x2x1024 ![] bcast_S_S8x2x2x1024 main_cst
  let main_v3 : IVec S8x2x2x1024 1 := cmpf .olt main_v1 main_v2
  let main_c : IVec S_ 1 := constantI S_ 1 1#1
  let main_v4 : IVec S_ 1 := (fun x v => Host.reduce IntOp.andi x v reducesTo_S8x2x2x1024_S_d0_1_2_3 h_S_) main_v3 main_c
  let main_v5 : FVec F S1024 .f32 := Host.absf main_arg2
  let main_cst_0 : FVec F S_ .f32 := constant S_ .f32 0x7F800000#32
  let main_v6 : FVec F S1024 .f32 := broadcastInDim S1024 ![] bcast_S_S1024 main_cst_0
  let main_v7 : IVec S1024 1 := cmpf .olt main_v5 main_v6
  let main_c_1 : IVec S_ 1 := constantI S_ 1 1#1
  let main_v8 : IVec S_ 1 := (fun x v => Host.reduce IntOp.andi x v reducesTo_S1024_S_d0 h_S_) main_v7 main_c_1
  let main_v9 : IVec S_ 1 := andi main_v4 main_v8
  let main_v10 : FVec F S1024x32 .f32 := (extractStridedSlice S1024x32 ![0, 3072] · slices_S1024x3104_S1024x32_0_3072) main_arg3
  let main_v11 : FVec F S1024x32 .f32 := Host.absf main_v10
  let main_cst_2 : FVec F S_ .f32 := constant S_ .f32 0x7F800000#32
  let main_v12 : FVec F S1024x32 .f32 := broadcastInDim S1024x32 ![] bcast_S_S1024x32 main_cst_2
  let main_v13 : IVec S1024x32 1 := cmpf .olt main_v11 main_v12
  let main_c_3 : IVec S_ 1 := constantI S_ 1 1#1
  let main_v14 : IVec S_ 1 := (fun x v => Host.reduce IntOp.andi x v reducesTo_S1024x32_S_d0_1 h_S_) main_v13 main_c_3
  let main_v15 : IVec S_ 1 := andi main_v9 main_v14
  let main_v16 : FVec F S16x512 .f32 := Host.absf main_arg4
  let main_cst_4 : FVec F S_ .f32 := constant S_ .f32 0x7F800000#32
  fn_part1 (F := F) main_arg6 main_v15 main_v16 main_cst_4
-- ==== Pre_finite_scan.lean ====
abbrev S8x4352x512 : Shape := ⟨3, ![8, 4352, 512]⟩
abbrev S8x4352x1024 : Shape := ⟨3, ![8, 4352, 1024]⟩
abbrev S_ : Shape := ⟨0, ![]⟩

class Facts : Prop where
  bcast_S_S8x4352x512 : S_.BroadcastsInDim S8x4352x512 (![] : Fin 0 → Fin S8x4352x512.rank)
  reducesTo_S8x4352x512_S_d0_1_2 : S8x4352x512.ReducesTo [0, 1, 2] S_
  h_S_ : 0 < S_.numel
  bcast_S_S8x4352x1024 : S_.BroadcastsInDim S8x4352x1024 (![] : Fin 0 → Fin S8x4352x1024.rank)
  reducesTo_S8x4352x1024_S_d0_1_2 : S8x4352x1024.ReducesTo [0, 1, 2] S_

variable [Facts]

def fn_part1 {F : FTy → Type} [FloatOps F] (main_v13 : IVec S_ 1) (main_v16 : IVec S8x4352x512 1) : IVec S_ 1 :=
  let main_c_5 : IVec S_ 1 := constantI S_ 1 1#1
  let main_v17 : IVec S_ 1 := (fun x v => Host.reduce IntOp.andi x v reducesTo_S8x4352x512_S_d0_1_2 h_S_) main_v16 main_c_5
  let main_v18 : IVec S_ 1 := andi main_v13 main_v17
  main_v18

def fn {F : FTy → Type} [FloatOps F] (main_arg0 : FVec F S8x4352x512 .bf16) (main_arg1 : FVec F S8x4352x512 .bf16) (main_arg2 : FVec F S8x4352x1024 .bf16) (main_arg3 : FVec F S8x4352x512 .f32) : IVec S_ 1 :=
  let main_v0 : FVec F S8x4352x512 .bf16 := Host.absf main_arg0
  let main_cst : FVec F S_ .bf16 := constant S_ .bf16 0x7F80#16
  let main_v1 : FVec F S8x4352x512 .bf16 := broadcastInDim S8x4352x512 ![] bcast_S_S8x4352x512 main_cst
  let main_v2 : IVec S8x4352x512 1 := cmpf .olt main_v0 main_v1
  let main_c : IVec S_ 1 := constantI S_ 1 1#1
  let main_v3 : IVec S_ 1 := (fun x v => Host.reduce IntOp.andi x v reducesTo_S8x4352x512_S_d0_1_2 h_S_) main_v2 main_c
  let main_v4 : FVec F S8x4352x512 .bf16 := Host.absf main_arg1
  let main_cst_0 : FVec F S_ .bf16 := constant S_ .bf16 0x7F80#16
  let main_v5 : FVec F S8x4352x512 .bf16 := broadcastInDim S8x4352x512 ![] bcast_S_S8x4352x512 main_cst_0
  let main_v6 : IVec S8x4352x512 1 := cmpf .olt main_v4 main_v5
  let main_c_1 : IVec S_ 1 := constantI S_ 1 1#1
  let main_v7 : IVec S_ 1 := (fun x v => Host.reduce IntOp.andi x v reducesTo_S8x4352x512_S_d0_1_2 h_S_) main_v6 main_c_1
  let main_v8 : IVec S_ 1 := andi main_v3 main_v7
  let main_v9 : FVec F S8x4352x1024 .bf16 := Host.absf main_arg2
  let main_cst_2 : FVec F S_ .bf16 := constant S_ .bf16 0x7F80#16
  let main_v10 : FVec F S8x4352x1024 .bf16 := broadcastInDim S8x4352x1024 ![] bcast_S_S8x4352x1024 main_cst_2
  let main_v11 : IVec S8x4352x1024 1 := cmpf .olt main_v9 main_v10
  let main_c_3 : IVec S_ 1 := constantI S_ 1 1#1
  let main_v12 : IVec S_ 1 := (fun x v => Host.reduce IntOp.andi x v reducesTo_S8x4352x1024_S_d0_1_2 h_S_) main_v11 main_c_3
  let main_v13 : IVec S_ 1 := andi main_v8 main_v12
  let main_v14 : FVec F S8x4352x512 .f32 := Host.absf main_arg3
  let main_cst_4 : FVec F S_ .f32 := constant S_ .f32 0x7F800000#32
  let main_v15 : FVec F S8x4352x512 .f32 := broadcastInDim S8x4352x512 ![] bcast_S_S8x4352x512 main_cst_4
  let main_v16 : IVec S8x4352x512 1 := cmpf .olt main_v14 main_v15
  fn_part1 (F := F) main_v13 main_v16
-- ==== Pre_finite_scores.lean ====
abbrev S8x1024x4352 : Shape := ⟨3, ![8, 1024, 4352]⟩
abbrev S8x4352x256 : Shape := ⟨3, ![8, 4352, 256]⟩
abbrev S8x256x4352 : Shape := ⟨3, ![8, 256, 4352]⟩
abbrev S1024x1024 : Shape := ⟨2, ![1024, 1024]⟩
abbrev S8x4352x1024 : Shape := ⟨3, ![8, 4352, 1024]⟩
abbrev S8x2x6x1024 : Shape := ⟨4, ![8, 2, 6, 1024]⟩
abbrev S_ : Shape := ⟨0, ![]⟩

class Facts : Prop where
  bcast_S_S8x1024x4352 : S_.BroadcastsInDim S8x1024x4352 (![] : Fin 0 → Fin S8x1024x4352.rank)
  reducesTo_S8x1024x4352_S_d0_1_2 : S8x1024x4352.ReducesTo [0, 1, 2] S_
  h_S_ : 0 < S_.numel
  bcast_S_S8x4352x256 : S_.BroadcastsInDim S8x4352x256 (![] : Fin 0 → Fin S8x4352x256.rank)
  reducesTo_S8x4352x256_S_d0_1_2 : S8x4352x256.ReducesTo [0, 1, 2] S_

variable [Facts]

def fn {F : FTy → Type} [FloatOps F] (main_arg0 : FVec F S8x1024x4352 .bf16) (main_arg1 : FVec F S8x4352x256 .bf16) (main_arg2 : FVec F S8x256x4352 .bf16) (main_arg3 : FVec F S1024x1024 .f32) (main_arg4 : FVec F S8x4352x1024 .f32) (main_arg5 : FVec F S8x2x6x1024 .f32) : IVec S_ 1 :=
  let main_v0 : FVec F S8x1024x4352 .bf16 := Host.absf main_arg0
  let main_cst : FVec F S_ .bf16 := constant S_ .bf16 0x7F80#16
  let main_v1 : FVec F S8x1024x4352 .bf16 := broadcastInDim S8x1024x4352 ![] bcast_S_S8x1024x4352 main_cst
  let main_v2 : IVec S8x1024x4352 1 := cmpf .olt main_v0 main_v1
  let main_c : IVec S_ 1 := constantI S_ 1 1#1
  let main_v3 : IVec S_ 1 := (fun x v => Host.reduce IntOp.andi x v reducesTo_S8x1024x4352_S_d0_1_2 h_S_) main_v2 main_c
  let main_v4 : FVec F S8x4352x256 .bf16 := Host.absf main_arg1
  let main_cst_0 : FVec F S_ .bf16 := constant S_ .bf16 0x7F80#16
  let main_v5 : FVec F S8x4352x256 .bf16 := broadcastInDim S8x4352x256 ![] bcast_S_S8x4352x256 main_cst_0
  let main_v6 : IVec S8x4352x256 1 := cmpf .olt main_v4 main_v5
  let main_c_1 : IVec S_ 1 := constantI S_ 1 1#1
  let main_v7 : IVec S_ 1 := (fun x v => Host.reduce IntOp.andi x v reducesTo_S8x4352x256_S_d0_1_2 h_S_) main_v6 main_c_1
  let main_v8 : IVec S_ 1 := andi main_v3 main_v7
  main_v8
-- ==== Pre_tiles_ok.lean ====
abbrev S575 : Shape := ⟨1, ![575]⟩
abbrev S1 : Shape := ⟨1, ![1]⟩
abbrev S147200x1024 : Shape := ⟨2, ![147200, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S575 : S_.BroadcastsInDim S575 (![] : Fin 0 → Fin S575.rank)
  reducesTo_S575_S_d0 : S575.ReducesTo [0] S_
  h_S_ : 0 < S_.numel
  shapeCasts_S1_S_ : S1.ShapeCasts S_

variable [Facts]

def fn {F : FTy → Type} [FloatOps F] (main_arg0 : IVec S575 32) (main_arg1 : IVec S1 32) (main_arg2 : FVec F S147200x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S575 32 := broadcastInDim S575 ![] bcast_S_S575 main_c
  let main_v1 : IVec S575 1 := cmpi .sge main_arg0 main_v0
  let main_c_0 : IVec S_ 32 := constantI S_ 32 32#32
  let main_v2 : IVec S575 32 := broadcastInDim S575 ![] bcast_S_S575 main_c_0
  let main_v3 : IVec S575 1 := cmpi .slt main_arg0 main_v2
  let main_v4 : IVec S575 1 := andi main_v1 main_v3
  let main_c_1 : IVec S_ 1 := constantI S_ 1 1#1
  let main_v5 : IVec S_ 1 := (fun x v => Host.reduce IntOp.andi x v reducesTo_S575_S_d0 h_S_) main_v4 main_c_1
  let main_v6 : IVec S_ 32 := shapeCast S_ main_arg1 shapeCasts_S1_S_
  let main_c_2 : IVec S_ 32 := constantI S_ 32 1#32
  let main_v7 : IVec S_ 1 := cmpi .sge main_v6 main_c_2
  let main_v8 : IVec S_ 1 := andi main_v5 main_v7
  main_v8
-- ==== Kernel.lean ====
abbrev S8x1024x4352 : Shape := ⟨3, ![8, 1024, 4352]⟩
abbrev S8x4352x256 : Shape := ⟨3, ![8, 4352, 256]⟩
abbrev S8x256x4352 : Shape := ⟨3, ![8, 256, 4352]⟩
abbrev S1024x1024 : Shape := ⟨2, ![1024, 1024]⟩
abbrev S8x4352x1024 : Shape := ⟨3, ![8, 4352, 1024]⟩
abbrev S8x2x6x1024 : Shape := ⟨4, ![8, 2, 6, 1024]⟩
abbrev S1x1024x256 : Shape := ⟨3, ![1, 1024, 256]⟩
abbrev S1x4352x256 : Shape := ⟨3, ![1, 4352, 256]⟩
abbrev S1x256x4352 : Shape := ⟨3, ![1, 256, 4352]⟩
abbrev S1x256x1024 : Shape := ⟨3, ![1, 256, 1024]⟩
abbrev S1x1x6x1024 : Shape := ⟨4, ![1, 1, 6, 1024]⟩
abbrev S256x256 : Shape := ⟨2, ![256, 256]⟩
abbrev S1024x256 : Shape := ⟨2, ![1024, 256]⟩
abbrev S1x64x256 : Shape := ⟨3, ![1, 64, 256]⟩
abbrev S64x256 : Shape := ⟨2, ![64, 256]⟩
abbrev S1x256x256 : Shape := ⟨3, ![1, 256, 256]⟩
abbrev S256 : Shape := ⟨1, ![256]⟩
abbrev S1x256 : Shape := ⟨2, ![1, 256]⟩
abbrev S4352x256 : Shape := ⟨2, ![4352, 256]⟩
abbrev S1x64x4352 : Shape := ⟨3, ![1, 64, 4352]⟩
abbrev S64x4352 : Shape := ⟨2, ![64, 4352]⟩
abbrev S256x1024 : Shape := ⟨2, ![256, 1024]⟩
abbrev S6x1024 : Shape := ⟨2, ![6, 1024]⟩
abbrev S1x1024 : Shape := ⟨2, ![1, 1024]⟩

abbrev nBuf : Space → Nat
  | .hbm => 8
  | .vmem => 15
  | .smem => 0
  | _ => 0

abbrev bufTy : (tb : Table) → Fin (tcTables nBuf tb) → BufTy
  | .hbm, ⟨0, _⟩ => ⟨S8x1024x4352, .bf16⟩
  | .hbm, ⟨1, _⟩ => ⟨S8x4352x256, .bf16⟩
  | .hbm, ⟨2, _⟩ => ⟨S8x256x4352, .bf16⟩
  | .hbm, ⟨3, _⟩ => ⟨S1024x1024, .f32⟩
  | .hbm, ⟨4, _⟩ => ⟨S8x4352x1024, .f32⟩
  | .hbm, ⟨5, _⟩ => ⟨S8x2x6x1024, .f32⟩
  | .hbm, ⟨6, _⟩ => ⟨S1024x1024, .bf16⟩
  | .hbm, ⟨7, _⟩ => ⟨S8x4352x1024, .f32⟩
  | .local _ .vmem, ⟨0, _⟩ => ⟨S1x1024x256, .bf16⟩
  | .local _ .vmem, ⟨1, _⟩ => ⟨S1x1024x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x256x4352, .bf16⟩
  | .local _ .vmem, ⟨5, _⟩ => ⟨S1x256x4352, .bf16⟩
  | .local _ .vmem, ⟨6, _⟩ => ⟨S1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S1x256x1024, .f32⟩
  | .local _ .vmem, ⟨12, _⟩ => ⟨S1x256x1024, .f32⟩
  | .local _ .vmem, ⟨13, _⟩ => ⟨S256x256, .bf16⟩
  | .local _ .vmem, ⟨14, _⟩ => ⟨S1024x256, .f32⟩
  | _, _ => ⟨S8x1024x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 17], ![false, false]⟩

def k0_cond1 (i : grid0.Coords) : BitVec 1 :=
  let arg1 : BitVec 32 := BitVec.ofNat 32 (i 1).val
  let c1_i32 : BitVec 32 := 1#32
  let v0 : BitVec 1 := Scalar.cmpi .slt arg1 c1_i32
  let v1 : BitVec 32 := Scalar.extui v0
  let c0_i32 : BitVec 32 := 0#32
  let v2 : BitVec 1 := Scalar.cmpi .ne v1 c0_i32
  v2

@[reducible] def k0_t1_loop : Scf.Loop 32 :=
  let c0_i32_15 : BitVec 32 := 0#32
  let c16_i32 : BitVec 32 := 16#32
  let v23 : BitVec 32 := Scalar.addi c0_i32_15 c16_i32
  let c1_i32_16 : BitVec 32 := 1#32
  ⟨c0_i32_15, v23, c1_i32_16⟩
def k0_mult1 (k0_t1 : Fin k0_t1_loop.trips) : BitVec 32 :=
  let c0_i32_15 : BitVec 32 := 0#32
  let c1_i32_16 : BitVec 32 := 1#32
  let arg11 : BitVec 32 := Scf.iv c0_i32_15 c1_i32_16 k0_t1
  let c64_i32 : BitVec 32 := 64#32
  let v41 : BitVec 32 := Scalar.muli arg11 c64_i32
  v41
def k0_mult2 (k0_t1 : Fin k0_t1_loop.trips) : BitVec 32 :=
  let c0_i32_15 : BitVec 32 := 0#32
  let c1_i32_16 : BitVec 32 := 1#32
  let arg11 : BitVec 32 := Scf.iv c0_i32_15 c1_i32_16 k0_t1
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  v43
def k0_off1 (k0_t1 : Fin k0_t1_loop.trips) : Fin 3 → Nat :=
  let c0_28 : Index := 0#32
  let c0_i32_15 : BitVec 32 := 0#32
  let c1_i32_16 : BitVec 32 := 1#32
  let arg11 : BitVec 32 := Scf.iv c0_i32_15 c1_i32_16 k0_t1
  let c64_i32 : BitVec 32 := 64#32
  let v41 : BitVec 32 := Scalar.muli arg11 c64_i32
  let v42 : BitVec 32 := v41
  let v49 : Index := Scalar.indexCast v42
  let c0_29 : Index := 0#32
  ![0, v49.toNat, 0]
def k0_off2 (k0_t1 : Fin k0_t1_loop.trips) : Fin 2 → Nat :=
  let c0_i32_15 : BitVec 32 := 0#32
  let c1_i32_16 : BitVec 32 := 1#32
  let arg11 : BitVec 32 := Scf.iv c0_i32_15 c1_i32_16 k0_t1
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  let v44 : BitVec 32 := v43
  let v52 : Index := Scalar.indexCast v44
  let c0_30 : Index := 0#32
  ![v52.toNat, 0]
def k0_off3 (k0_t1 : Fin k0_t1_loop.trips) : Fin 3 → Nat :=
  let c0_39 : Index := 0#32
  let c0_i32_15 : BitVec 32 := 0#32
  let c1_i32_16 : BitVec 32 := 1#32
  let arg11 : BitVec 32 := Scf.iv c0_i32_15 c1_i32_16 k0_t1
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  let v44 : BitVec 32 := v43
  let v67 : Index := Scalar.indexCast v44
  let c0_40 : Index := 0#32
  ![0, v67.toNat, 0]
def k0_off4 (k0_t1 : Fin k0_t1_loop.trips) : Fin 2 → Nat :=
  let c0_i32_15 : BitVec 32 := 0#32
  let c1_i32_16 : BitVec 32 := 1#32
  let arg11 : BitVec 32 := Scf.iv c0_i32_15 c1_i32_16 k0_t1
  let c64_i32 : BitVec 32 := 64#32
  let v41 : BitVec 32 := Scalar.muli arg11 c64_i32
  let v42 : BitVec 32 := v41
  let v74 : Index := Scalar.indexCast v42
  let c0_42 : Index := 0#32
  ![v74.toNat, 0]
def k0_cond2 (i : grid0.Coords) : BitVec 1 :=
  let arg1 : BitVec 32 := BitVec.ofNat 32 (i 1).val
  let c1_i32_0 : BitVec 32 := 1#32
  let v3 : BitVec 1 := Scalar.cmpi .sge arg1 c1_i32_0
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_15 : BitVec 32 := 0#32
  let c16_i32 : BitVec 32 := 16#32
  let v23 : BitVec 32 := Scalar.addi c0_i32_15 c16_i32
  let c1_i32_16 : BitVec 32 := 1#32
  ⟨c0_i32_15, v23, c1_i32_16⟩
def k0_mult3 (k0_t2 : Fin k0_t2_loop.trips) : BitVec 32 :=
  let c0_i32_15 : BitVec 32 := 0#32
  let c1_i32_16 : BitVec 32 := 1#32
  let arg11 : BitVec 32 := Scf.iv c0_i32_15 c1_i32_16 k0_t2
  let c64_i32 : BitVec 32 := 64#32
  let v41 : BitVec 32 := Scalar.muli arg11 c64_i32
  v41
def k0_mult4 (k0_t2 : Fin k0_t2_loop.trips) : BitVec 32 :=
  let c0_i32_15 : BitVec 32 := 0#32
  let c1_i32_16 : BitVec 32 := 1#32
  let arg11 : BitVec 32 := Scf.iv c0_i32_15 c1_i32_16 k0_t2
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  v43
def k0_off5 (k0_t2 : Fin k0_t2_loop.trips) : Fin 3 → Nat :=
  let c0_28 : Index := 0#32
  let c0_i32_15 : BitVec 32 := 0#32
  let c1_i32_16 : BitVec 32 := 1#32
  let arg11 : BitVec 32 := Scf.iv c0_i32_15 c1_i32_16 k0_t2
  let c64_i32 : BitVec 32 := 64#32
  let v41 : BitVec 32 := Scalar.muli arg11 c64_i32
  let v42 : BitVec 32 := v41
  let v49 : Index := Scalar.indexCast v42
  let c0_29 : Index := 0#32
  ![0, v49.toNat, 0]
def k0_off6 (k0_t2 : Fin k0_t2_loop.trips) : Fin 2 → Nat :=
  let c0_i32_15 : BitVec 32 := 0#32
  let c1_i32_16 : BitVec 32 := 1#32
  let arg11 : BitVec 32 := Scf.iv c0_i32_15 c1_i32_16 k0_t2
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  let v44 : BitVec 32 := v43
  let v52 : Index := Scalar.indexCast v44
  let c0_30 : Index := 0#32
  ![v52.toNat, 0]
def k0_off7 (k0_t2 : Fin k0_t2_loop.trips) : Fin 3 → Nat :=
  let c0_39 : Index := 0#32
  let c0_i32_15 : BitVec 32 := 0#32
  let c1_i32_16 : BitVec 32 := 1#32
  let arg11 : BitVec 32 := Scf.iv c0_i32_15 c1_i32_16 k0_t2
  let c0_i32_18 : BitVec 32 := 0#32
  let v25 : BitVec 1 := Scalar.cmpi .sgt arg11 c0_i32_18
  let v26 : BitVec 32 := Scalar.extui v25
  let c0_i32_19 : BitVec 32 := 0#32
  let v27 : BitVec 1 := Scalar.cmpi .slt arg11 c0_i32_19
  let v28 : BitVec 32 := Scalar.extui v27
  let v29 : BitVec 32 := Scalar.subi v26 v28
  let c4_i32 : BitVec 32 := 4#32
  let c0_i32_20 : BitVec 32 := 0#32
  let v30 : BitVec 1 := Scalar.cmpi .sgt c4_i32 c0_i32_20
  let v31 : BitVec 32 := Scalar.extui v30
  let c0_i32_21 : BitVec 32 := 0#32
  let v32 : BitVec 1 := Scalar.cmpi .slt c4_i32 c0_i32_21
  let v33 : BitVec 32 := Scalar.extui v32
  let v34 : BitVec 32 := Scalar.subi v31 v33
  let v35 : BitVec 1 := Scalar.cmpi .ne v29 v34
  let v36 : BitVec 32 := Scalar.remsi arg11 c4_i32
  let c0_i32_22 : BitVec 32 := 0#32
  let v37 : BitVec 1 := Scalar.cmpi .ne v36 c0_i32_22
  let v38 : BitVec 1 := Scalar.andi v35 v37
  let v24 : BitVec 32 := Scalar.divsi arg11 c4_i32
  let c1_i32_23 : BitVec 32 := 1#32
  let v39 : BitVec 32 := Scalar.subi v24 c1_i32_23
  let v40 : BitVec 32 := Scalar.select v38 v39 v24
  let c64_i32_24 : BitVec 32 := 64#32
  let v43 : BitVec 32 := Scalar.muli v40 c64_i32_24
  let v44 : BitVec 32 := v43
  let v67 : Index := Scalar.indexCast v44
  let c0_40 : Index := 0#32
  ![0, v67.toNat, 0]
def k0_off8 (k0_t2 : Fin k0_t2_loop.trips) : Fin 2 → Nat :=
  let c0_i32_15 : BitVec 32 := 0#32
  let c1_i32_16 : BitVec 32 := 1#32
  let arg11 : BitVec 32 := Scf.iv c0_i32_15 c1_i32_16 k0_t2
  let c64_i32 : BitVec 32 := 64#32
  let v41 : BitVec 32 := Scalar.muli arg11 c64_i32
  let v42 : BitVec 32 := v41
  let v74 : Index := Scalar.indexCast v42
  let c0_42 : Index := 0#32
  ![v74.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S8x1024x4352 : Shape := ⟨3, ![8, 1024, 4352]⟩
abbrev S8x4352x256 : Shape := ⟨3, ![8, 4352, 256]⟩
abbrev S8x256x4352 : Shape := ⟨3, ![8, 256, 4352]⟩
abbrev S1024x1024 : Shape := ⟨2, ![1024, 1024]⟩
abbrev S8x4352x1024 : Shape := ⟨3, ![8, 4352, 1024]⟩
abbrev S8x2x6x1024 : Shape := ⟨4, ![8, 2, 6, 1024]⟩
abbrev S8x4352x4x4x64 : Shape := ⟨5, ![8, 4352, 4, 4, 64]⟩
abbrev S8x4352x4x64 : Shape := ⟨4, ![8, 4352, 4, 64]⟩
abbrev S8x256x4x4x64 : Shape := ⟨5, ![8, 256, 4, 4, 64]⟩
abbrev S8x256x4x64 : Shape := ⟨4, ![8, 256, 4, 64]⟩
abbrev S8x4x256x256x4 : Shape := ⟨5, ![8, 4, 256, 256, 4]⟩
abbrev S8x4x4x256x256 : Shape := ⟨5, ![8, 4, 4, 256, 256]⟩
abbrev S_ : Shape := ⟨0, ![]⟩
abbrev S8x4x4x256 : Shape := ⟨4, ![8, 4, 4, 256]⟩
abbrev S8x4x4x256x1 : Shape := ⟨5, ![8, 4, 4, 256, 1]⟩
abbrev S8x4x64x4x256 : Shape := ⟨5, ![8, 4, 64, 4, 256]⟩
abbrev S8x256x1024 : Shape := ⟨3, ![8, 256, 1024]⟩
abbrev S8x4096x4x4x64 : Shape := ⟨5, ![8, 4096, 4, 4, 64]⟩
abbrev S8x4x4352x4096x4 : Shape := ⟨5, ![8, 4, 4352, 4096, 4]⟩
abbrev S8x4x4x4096x4352 : Shape := ⟨5, ![8, 4, 4, 4096, 4352]⟩
abbrev S8x4x4x4096 : Shape := ⟨4, ![8, 4, 4, 4096]⟩
abbrev S8x4x4x4096x1 : Shape := ⟨5, ![8, 4, 4, 4096, 1]⟩
abbrev S8x4x64x4x4096 : Shape := ⟨5, ![8, 4, 64, 4, 4096]⟩
abbrev S8x4096x1024 : Shape := ⟨3, ![8, 4096, 1024]⟩
abbrev S8x1x1x1024 : Shape := ⟨4, ![8, 1, 1, 1024]⟩
abbrev S8x1x1024 : Shape := ⟨3, ![8, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x1024x4352, .bf16⟩
  | .hbm, ⟨1, _⟩ => ⟨S8x4352x256, .bf16⟩
  | .hbm, ⟨2, _⟩ => ⟨S8x256x4352, .bf16⟩
  | .hbm, ⟨3, _⟩ => ⟨S1024x1024, .f32⟩
  | .hbm, ⟨4, _⟩ => ⟨S8x4352x1024, .f32⟩
  | .hbm, ⟨5, _⟩ => ⟨S8x2x6x1024, .f32⟩
  | .hbm, ⟨6, _⟩ => ⟨S8x1024x4352, .f32⟩
  | .hbm, ⟨7, _⟩ => ⟨S8x4352x1024, .f32⟩
  | .hbm, ⟨8, _⟩ => ⟨S8x4352x4x4x64, .f32⟩
  | .hbm, ⟨9, _⟩ => ⟨S8x4352x256, .f32⟩
  | .hbm, ⟨10, _⟩ => ⟨S8x4352x4x64, .f32⟩
  | .hbm, ⟨11, _⟩ => ⟨S8x256x4352, .f32⟩
  | .hbm, ⟨12, _⟩ => ⟨S8x4352x256, .f32⟩
  | .hbm, ⟨13, _⟩ => ⟨S8x4352x4x64, .f32⟩
  | .hbm, ⟨14, _⟩ => ⟨S8x256x4x4x64, .f32⟩
  | .hbm, ⟨15, _⟩ => ⟨S8x256x4x64, .f32⟩
  | .hbm, ⟨16, _⟩ => ⟨S8x256x4x64, .f32⟩
  | .hbm, ⟨17, _⟩ => ⟨S8x4x256x256x4, .f32⟩
  | .hbm, ⟨18, _⟩ => ⟨S8x4x4x256x256, .f32⟩
  | .hbm, ⟨19, _⟩ => ⟨S_, .f32⟩
  | .hbm, ⟨20, _⟩ => ⟨S8x4x4x256, .f32⟩
  | .hbm, ⟨21, _⟩ => ⟨S_, .f32⟩
  | .hbm, ⟨22, _⟩ => ⟨S8x4x4x256, .f32⟩
  | .hbm, ⟨23, _⟩ => ⟨S8x4x4x256, .f32⟩
  | .hbm, ⟨24, _⟩ => ⟨S8x4x4x256x1, .f32⟩
  | .hbm, ⟨25, _⟩ => ⟨S8x4x4x256x256, .f32⟩
  | .hbm, ⟨26, _⟩ => ⟨S8x4x4x256x256, .f32⟩
  | .hbm, ⟨27, _⟩ => ⟨S8x4x4x256x256, .f32⟩
  | .hbm, ⟨28, _⟩ => ⟨S_, .f32⟩
  | .hbm, ⟨29, _⟩ => ⟨S8x4x4x256, .f32⟩
  | .hbm, ⟨30, _⟩ => ⟨S8x4x4x256x1, .f32⟩
  | .hbm, ⟨31, _⟩ => ⟨S8x4x4x256x256, .f32⟩
  | .hbm, ⟨32, _⟩ => ⟨S8x4x4x256x256, .f32⟩
  | .hbm, ⟨33, _⟩ => ⟨S8x4x64x4x256, .f32⟩
  | .hbm, ⟨34, _⟩ => ⟨S8x256x4x4x64, .f32⟩
  | .hbm, ⟨35, _⟩ => ⟨S8x256x1024, .f32⟩
  | .hbm, ⟨36, _⟩ => ⟨S8x256x1024, .f32⟩
  | .hbm, ⟨37, _⟩ => ⟨S8x4096x4x4x64, .f32⟩
  | .hbm, ⟨38, _⟩ => ⟨S8x4x4352x4096x4, .f32⟩
  | .hbm, ⟨39, _⟩ => ⟨S8x4x4x4096x4352, .f32⟩
  | .hbm, ⟨40, _⟩ => ⟨S_, .f32⟩
  | .hbm, ⟨41, _⟩ => ⟨S8x4x4x4096, .f32⟩
  | .hbm, ⟨42, _⟩ => ⟨S_, .f32⟩
  | .hbm, ⟨43, _⟩ => ⟨S8x4x4x4096, .f32⟩
  | .hbm, ⟨44, _⟩ => ⟨S8x4x4x4096, .f32⟩
  | .hbm, ⟨45, _⟩ => ⟨S8x4x4x4096x1, .f32⟩
  | .hbm, ⟨46, _⟩ => ⟨S8x4x4x4096x4352, .f32⟩
  | .hbm, ⟨47, _⟩ => ⟨S8x4x4x4096x4352, .f32⟩
  | .hbm, ⟨48, _⟩ => ⟨S8x4x4x4096x4352, .f32⟩
  | .hbm, ⟨49, _⟩ => ⟨S_, .f32⟩
  | .hbm, ⟨50, _⟩ => ⟨S8x4x4x4096, .f32⟩
  | .hbm, ⟨51, _⟩ => ⟨S8x4x4x4096x1, .f32⟩
  | .hbm, ⟨52, _⟩ => ⟨S8x4x4x4096x4352, .f32⟩
  | .hbm, ⟨53, _⟩ => ⟨S8x4x4x4096x4352, .f32⟩
  | .hbm, ⟨54, _⟩ => ⟨S8x4x64x4x4096, .f32⟩
  | .hbm, ⟨55, _⟩ => ⟨S8x4096x4x4x64, .f32⟩
  | .hbm, ⟨56, _⟩ => ⟨S8x4096x1024, .f32⟩
  | .hbm, ⟨57, _⟩ => ⟨S8x4096x1024, .f32⟩
  | .hbm, ⟨58, _⟩ => ⟨S8x256x1024, .f32⟩
  | .hbm, ⟨59, _⟩ => ⟨S8x1x1x1024, .f32⟩
  | .hbm, ⟨60, _⟩ => ⟨S8x1x1024, .f32⟩
  | .hbm, ⟨61, _⟩ => ⟨S8x256x1024, .f32⟩
  | .hbm, ⟨62, _⟩ => ⟨S8x256x1024, .f32⟩
  | .hbm, ⟨63, _⟩ => ⟨S8x256x1024, .f32⟩
  | .hbm, ⟨64, _⟩ => ⟨S8x4096x1024, .f32⟩
  | .hbm, ⟨65, _⟩ => ⟨S8x1x1x1024, .f32⟩
  | .hbm, ⟨66, _⟩ => ⟨S8x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4352x1024, .f32⟩
  | _, _ => ⟨S8x1024x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel2.lean ====
abbrev S575 : Shape := ⟨1, ![575]⟩
abbrev S1 : Shape := ⟨1, ![1]⟩
abbrev S147200x1024 : Shape := ⟨2, ![147200, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S256x1024 : Shape := ⟨2, ![256, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 10
  | .vmem => 12
  | .smem => 2
  | _ => 0

abbrev bufTy : (tb : Table) → Fin (tcTables nBuf tb) → BufTy
  | .hbm, ⟨0, _⟩ => ⟨S147200x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1024x2048, .bf16⟩
  | .hbm, ⟨6, _⟩ => ⟨S32x1024x1024, .bf16⟩
  | .hbm, ⟨7, _⟩ => ⟨S32x1x2048, .f32⟩
  | .hbm, ⟨8, _⟩ => ⟨S32x1x1024, .f32⟩
  | .hbm, ⟨9, _⟩ => ⟨S147200x1024, .f32⟩
  | .local _ .vmem, ⟨0, _⟩ => ⟨S256x1024, .f32⟩
  | .local _ .vmem, ⟨1, _⟩ => ⟨S256x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S256x1024, .f32⟩
  | .local _ .vmem, ⟨11, _⟩ => ⟨S256x1024, .f32⟩
  | .local _ .smem, ⟨0, _⟩ => ⟨S575, .i32⟩
  | .local _ .smem, ⟨1, _⟩ => ⟨S1, .i32⟩
  | _, _ => ⟨S147200x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![575], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S575.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S575) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S575.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S575) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S575.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S575) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S575.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S575) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S575 : Shape := ⟨1, ![575]⟩
abbrev S1 : Shape := ⟨1, ![1]⟩
abbrev S147200x1024 : Shape := ⟨2, ![147200, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S575x256x1024 : Shape := ⟨3, ![575, 256, 1024]⟩
abbrev S_ : Shape := ⟨0, ![]⟩
abbrev S575x1 : Shape := ⟨2, ![575, 1]⟩
abbrev S575x1024x2048 : Shape := ⟨3, ![575, 1024, 2048]⟩
abbrev S575x256x2048 : Shape := ⟨3, ![575, 256, 2048]⟩
abbrev S575x2048 : Shape := ⟨2, ![575, 2048]⟩
abbrev S575x1x2048 : Shape := ⟨3, ![575, 1, 2048]⟩
abbrev S575x1024x1024 : Shape := ⟨3, ![575, 1024, 1024]⟩
abbrev S575x1024 : Shape := ⟨2, ![575, 1024]⟩
abbrev S575x1x1024 : Shape := ⟨3, ![575, 1, 1024]⟩
abbrev S575x1x1 : Shape := ⟨3, ![575, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S575, .i32⟩
  | .hbm, ⟨1, _⟩ => ⟨S1, .i32⟩
  | .hbm, ⟨2, _⟩ => ⟨S147200x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S575x256x1024, .f32⟩
  | .hbm, ⟨8, _⟩ => ⟨S_, .i32⟩
  | .hbm, ⟨9, _⟩ => ⟨S575, .i32⟩
  | .hbm, ⟨10, _⟩ => ⟨S575, .i1⟩
  | .hbm, ⟨11, _⟩ => ⟨S_, .i32⟩
  | .hbm, ⟨12, _⟩ => ⟨S575, .i32⟩
  | .hbm, ⟨13, _⟩ => ⟨S575, .i32⟩
  | .hbm, ⟨14, _⟩ => ⟨S575, .i32⟩
  | .hbm, ⟨15, _⟩ => ⟨S575x1, .i32⟩
  | .hbm, ⟨16, _⟩ => ⟨S575x1024x2048, .f32⟩
  | .hbm, ⟨17, _⟩ => ⟨S575x256x2048, .f32⟩
  | .hbm, ⟨18, _⟩ => ⟨S_, .i32⟩
  | .hbm, ⟨19, _⟩ => ⟨S575, .i32⟩
  | .hbm, ⟨20, _⟩ => ⟨S575, .i1⟩
  | .hbm, ⟨21, _⟩ => ⟨S_, .i32⟩
  | .hbm, ⟨22, _⟩ => ⟨S575, .i32⟩
  | .hbm, ⟨23, _⟩ => ⟨S575, .i32⟩
  | .hbm, ⟨24, _⟩ => ⟨S575, .i32⟩
  | .hbm, ⟨25, _⟩ => ⟨S575x1, .i32⟩
  | .hbm, ⟨26, _⟩ => ⟨S575x2048, .f32⟩
  | .hbm, ⟨27, _⟩ => ⟨S575x1x2048, .f32⟩
  | .hbm, ⟨28, _⟩ => ⟨S575x256x2048, .f32⟩
  | .hbm, ⟨29, _⟩ => ⟨S575x256x2048, .f32⟩
  | .hbm, ⟨30, _⟩ => ⟨S575x256x1024, .f32⟩
  | .hbm, ⟨31, _⟩ => ⟨S_, .f32⟩
  | .hbm, ⟨32, _⟩ => ⟨S575x256x1024, .f32⟩
  | .hbm, ⟨33, _⟩ => ⟨S575x256x1024, .f32⟩
  | .hbm, ⟨34, _⟩ => ⟨S575x256x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S575x256x1024, .f32⟩
  | .hbm, ⟨39, _⟩ => ⟨S575x256x1024, .f32⟩
  | .hbm, ⟨40, _⟩ => ⟨S_, .f32⟩
  | .hbm, ⟨41, _⟩ => ⟨S575x256x1024, .f32⟩
  | .hbm, ⟨42, _⟩ => ⟨S575x256x1024, .f32⟩
  | .hbm, ⟨43, _⟩ => ⟨S_, .f32⟩
  | .hbm, ⟨44, _⟩ => ⟨S575x256x1024, .f32⟩
  | .hbm, ⟨45, _⟩ => ⟨S575x256x1024, .f32⟩
  | .hbm, ⟨46, _⟩ => ⟨S_, .f32⟩
  | .hbm, ⟨47, _⟩ => ⟨S575x256x1024, .f32⟩
  | .hbm, ⟨48, _⟩ => ⟨S575x256x1024, .f32⟩
  | .hbm, ⟨49, _⟩ => ⟨S575x256x1024, .f32⟩
  | .hbm, ⟨50, _⟩ => ⟨S575x256x1024, .f32⟩
  | .hbm, ⟨51, _⟩ => ⟨S_, .f32⟩
  | .hbm, ⟨52, _⟩ => ⟨S575x256x1024, .f32⟩
  | .hbm, ⟨53, _⟩ => ⟨S575x256x1024, .f32⟩
  | .hbm, ⟨54, _⟩ => ⟨S_, .f32⟩
  | .hbm, ⟨55, _⟩ => ⟨S575x256x1024, .f32⟩
  | .hbm, ⟨56, _⟩ => ⟨S575x256x1024, .f32⟩
  | .hbm, ⟨57, _⟩ => ⟨S575x256x1024, .f32⟩
  | .hbm, ⟨58, _⟩ => ⟨S575x256x1024, .f32⟩
  | .hbm, ⟨59, _⟩ => ⟨S_, .i32⟩
  | .hbm, ⟨60, _⟩ => ⟨S575, .i32⟩
  | .hbm, ⟨61, _⟩ => ⟨S575, .i1⟩
  | .hbm, ⟨62, _⟩ => ⟨S_, .i32⟩
  | .hbm, ⟨63, _⟩ => ⟨S575, .i32⟩
  | .hbm, ⟨64, _⟩ => ⟨S575, .i32⟩
  | .hbm, ⟨65, _⟩ => ⟨S575, .i32⟩
  | .hbm, ⟨66, _⟩ => ⟨S575x1, .i32⟩
  | .hbm, ⟨67, _⟩ => ⟨S575x1024x1024, .f32⟩
  | .hbm, ⟨68, _⟩ => ⟨S575x256x1024, .f32⟩
  | .hbm, ⟨69, _⟩ => ⟨S_, .i32⟩
  | .hbm, ⟨70, _⟩ => ⟨S575, .i32⟩
  | .hbm, ⟨71, _⟩ => ⟨S575, .i1⟩
  | .hbm, ⟨72, _⟩ => ⟨S_, .i32⟩
  | .hbm, ⟨73, _⟩ => ⟨S575, .i32⟩
  | .hbm, ⟨74, _⟩ => ⟨S575, .i32⟩
  | .hbm, ⟨75, _⟩ => ⟨S575, .i32⟩
  | .hbm, ⟨76, _⟩ => ⟨S575x1, .i32⟩
  | .hbm, ⟨77, _⟩ => ⟨S575x1024, .f32⟩
  | .hbm, ⟨78, _⟩ => ⟨S575x1x1024, .f32⟩
  | .hbm, ⟨79, _⟩ => ⟨S575x256x1024, .f32⟩
  | .hbm, ⟨80, _⟩ => ⟨S575x256x1024, .f32⟩
  | .hbm, ⟨81, _⟩ => ⟨S575, .i32⟩
  | .hbm, ⟨82, _⟩ => ⟨S_, .i32⟩
  | .hbm, ⟨83, _⟩ => ⟨S575, .i32⟩
  | .hbm, ⟨84, _⟩ => ⟨S575, .i1⟩
  | .hbm, ⟨85, _⟩ => ⟨S575x1x1, .i1⟩
  | .hbm, ⟨86, _⟩ => ⟨S_, .f32⟩
  | .hbm, ⟨87, _⟩ => ⟨S_, .f32⟩
  | .hbm, ⟨88, _⟩ => ⟨S575x256x1024, .i1⟩
  | .hbm, ⟨89, _⟩ => ⟨S575x256x1024, .f32⟩
  | .hbm, ⟨90, _⟩ => ⟨S575x256x1024, .f32⟩
  | .hbm, ⟨91, _⟩ => ⟨S147200x1024, .f32⟩
  | _, _ => ⟨S575, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_cst_8 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel3.lean ====
abbrev S8x4352x1024 : Shape := ⟨3, ![8, 4352, 1024]⟩
abbrev S256 : Shape := ⟨1, ![256]⟩
abbrev S1024x1024 : Shape := ⟨2, ![1024, 1024]⟩
abbrev S8x2x6x1024 : Shape := ⟨4, ![8, 2, 6, 1024]⟩
abbrev S1x256 : Shape := ⟨2, ![1, 256]⟩
abbrev S1x256x1024 : Shape := ⟨3, ![1, 256, 1024]⟩
abbrev S1x1x6x1024 : Shape := ⟨4, ![1, 1, 6, 1024]⟩
abbrev S256x1024 : Shape := ⟨2, ![256, 1024]⟩
abbrev S256x256 : Shape := ⟨2, ![256, 256]⟩
abbrev S256x1 : Shape := ⟨2, ![256, 1]⟩
abbrev S6x1024 : Shape := ⟨2, ![6, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .bf16⟩
  | .hbm, ⟨3, _⟩ => ⟨S256, .f32⟩
  | .hbm, ⟨4, _⟩ => ⟨S1024x1024, .f32⟩
  | .hbm, ⟨5, _⟩ => ⟨S8x4352x1024, .f32⟩
  | .hbm, ⟨6, _⟩ => ⟨S8x2x6x1024, .f32⟩
  | .hbm, ⟨7, _⟩ => ⟨S1x256, .f32⟩
  | .hbm, ⟨8, _⟩ => ⟨S1024x1024, .bf16⟩
  | .hbm, ⟨9, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .bf16⟩
  | .local _ .vmem, ⟨5, _⟩ => ⟨S1x256x1024, .bf16⟩
  | .local _ .vmem, ⟨6, _⟩ => ⟨S1x256, .f32⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x1x6x1024, .f32⟩
  | .local _ .vmem, ⟨11, _⟩ => ⟨S1x1x6x1024, .f32⟩
  | .local _ .vmem, ⟨12, _⟩ => ⟨S1x256x1024, .f32⟩
  | .local _ .vmem, ⟨13, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x4352x1024 : Shape := ⟨3, ![8, 4352, 1024]⟩
abbrev S256 : Shape := ⟨1, ![256]⟩
abbrev S1024x1024 : Shape := ⟨2, ![1024, 1024]⟩
abbrev S8x2x6x1024 : Shape := ⟨4, ![8, 2, 6, 1024]⟩
abbrev S8x4352x4x256 : Shape := ⟨4, ![8, 4352, 4, 256]⟩
abbrev S_ : Shape := ⟨0, ![]⟩
abbrev S8x4352x4 : Shape := ⟨3, ![8, 4352, 4]⟩
abbrev S8x4352x4x1 : Shape := ⟨4, ![8, 4352, 4, 1]⟩
abbrev S1x1x1x256 : Shape := ⟨4, ![1, 1, 1, 256]⟩
abbrev S8x256x1024 : Shape := ⟨3, ![8, 256, 1024]⟩
abbrev S8x1x1x1024 : Shape := ⟨4, ![8, 1, 1, 1024]⟩
abbrev S8x1x1024 : Shape := ⟨3, ![8, 1, 1024]⟩
abbrev S8x4096x1024 : Shape := ⟨3, ![8, 4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x1024, .bf16⟩
  | .hbm, ⟨3, _⟩ => ⟨S256, .f32⟩
  | .hbm, ⟨4, _⟩ => ⟨S1024x1024, .f32⟩
  | .hbm, ⟨5, _⟩ => ⟨S8x4352x1024, .f32⟩
  | .hbm, ⟨6, _⟩ => ⟨S8x2x6x1024, .f32⟩
  | .hbm, ⟨7, _⟩ => ⟨S8x4352x1024, .f32⟩
  | .hbm, ⟨8, _⟩ => ⟨S8x4352x4x256, .f32⟩
  | .hbm, ⟨9, _⟩ => ⟨S8x4352x4x256, .f32⟩
  | .hbm, ⟨10, _⟩ => ⟨S_, .f32⟩
  | .hbm, ⟨11, _⟩ => ⟨S8x4352x4, .f32⟩
  | .hbm, ⟨12, _⟩ => ⟨S8x4352x4x1, .f32⟩
  | .hbm, ⟨13, _⟩ => ⟨S_, .f32⟩
  | .hbm, ⟨14, _⟩ => ⟨S8x4352x4x1, .f32⟩
  | .hbm, ⟨15, _⟩ => ⟨S8x4352x4x1, .f32⟩
  | .hbm, ⟨16, _⟩ => ⟨S_, .f32⟩
  | .hbm, ⟨17, _⟩ => ⟨S8x4352x4x1, .f32⟩
  | .hbm, ⟨18, _⟩ => ⟨S8x4352x4x1, .f32⟩
  | .hbm, ⟨19, _⟩ => ⟨S8x4352x4x1, .f32⟩
  | .hbm, ⟨20, _⟩ => ⟨S8x4352x4x256, .f32⟩
  | .hbm, ⟨21, _⟩ => ⟨S8x4352x4x256, .f32⟩
  | .hbm, ⟨22, _⟩ => ⟨S1x1x1x256, .f32⟩
  | .hbm, ⟨23, _⟩ => ⟨S8x4352x4x256, .f32⟩
  | .hbm, ⟨24, _⟩ => ⟨S8x4352x4x256, .f32⟩
  | .hbm, ⟨25, _⟩ => ⟨S8x4352x1024, .f32⟩
  | .hbm, ⟨26, _⟩ => ⟨S8x4352x1024, .f32⟩
  | .hbm, ⟨27, _⟩ => ⟨S8x4352x1024, .f32⟩
  | .hbm, ⟨28, _⟩ => ⟨S8x4352x1024, .f32⟩
  | .hbm, ⟨29, _⟩ => ⟨S_, .f32⟩
  | .hbm, ⟨30, _⟩ => ⟨S8x4352x1024, .f32⟩
  | .hbm, ⟨31, _⟩ => ⟨S8x4352x1024, .f32⟩
  | .hbm, ⟨32, _⟩ => ⟨S_, .f32⟩
  | .hbm, ⟨33, _⟩ => ⟨S8x4352x1024, .f32⟩
  | .hbm, ⟨34, _⟩ => ⟨S8x4352x1024, .f32⟩
  | .hbm, ⟨35, _⟩ => ⟨S8x4352x1024, .f32⟩
  | .hbm, ⟨36, _⟩ => ⟨S8x4352x1024, .f32⟩
  | .hbm, ⟨37, _⟩ => ⟨S8x4352x1024, .f32⟩
  | .hbm, ⟨38, _⟩ => ⟨S8x256x1024, .f32⟩
  | .hbm, ⟨39, _⟩ => ⟨S8x1x1x1024, .f32⟩
  | .hbm, ⟨40, _⟩ => ⟨S8x1x1024, .f32⟩
  | .hbm, ⟨41, _⟩ => ⟨S8x256x1024, .f32⟩
  | .hbm, ⟨42, _⟩ => ⟨S8x256x1024, .f32⟩
  | .hbm, ⟨43, _⟩ => ⟨S8x256x1024, .f32⟩
  | .hbm, ⟨44, _⟩ => ⟨S8x256x1024, .f32⟩
  | .hbm, ⟨45, _⟩ => ⟨S8x4096x1024, .f32⟩
  | .hbm, ⟨46, _⟩ => ⟨S8x1x1x1024, .f32⟩
  | .hbm, ⟨47, _⟩ => ⟨S8x1x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4352x1024, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]
-- ==== Kernel4.lean ====
abbrev S8x4352x1024 : Shape := ⟨3, ![8, 4352, 1024]⟩
abbrev S8x2x6x1024 : Shape := ⟨4, ![8, 2, 6, 1024]⟩
abbrev S1024 : Shape := ⟨1, ![1024]⟩
abbrev S1536x1024 : Shape := ⟨2, ![1536, 1024]⟩
abbrev S64 : Shape := ⟨1, ![64]⟩
abbrev S32x4352 : Shape := ⟨2, ![32, 4352]⟩
abbrev S1x1024 : Shape := ⟨2, ![1, 1024]⟩
abbrev S64x1 : Shape := ⟨2, ![64, 1]⟩
abbrev S8x1024x4352 : Shape := ⟨3, ![8, 1024, 4352]⟩
abbrev S8x4352x256 : Shape := ⟨3, ![8, 4352, 256]⟩
abbrev S8x256x4352 : Shape := ⟨3, ![8, 256, 4352]⟩
abbrev S1x256x1024 : Shape := ⟨3, ![1, 256, 1024]⟩
abbrev S1x1x6x1024 : Shape := ⟨4, ![1, 1, 6, 1024]⟩
abbrev S32x256 : Shape := ⟨2, ![32, 256]⟩
abbrev S1x1024x256 : Shape := ⟨3, ![1, 1024, 256]⟩
abbrev S1x256x256 : Shape := ⟨3, ![1, 256, 256]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S1536x256 : Shape := ⟨2, ![1536, 256]⟩
abbrev S64x256 : Shape := ⟨2, ![64, 256]⟩
abbrev S1x256 : Shape := ⟨2, ![1, 256]⟩
abbrev S1x64x256 : Shape := ⟨3, ![1, 64, 256]⟩
abbrev S256x256 : Shape := ⟨2, ![256, 256]⟩

abbrev nBuf : Space → Nat
  | .hbm => 15
  | .vmem => 18
  | .smem => 0
  | _ => 0

abbrev bufTy : (tb : Table) → Fin (tcTables nBuf tb) → BufTy
  | .hbm, ⟨0, _⟩ => ⟨S8x4352x1024, .f32⟩
  | .hbm, ⟨1, _⟩ => ⟨S8x2x6x1024, .f32⟩
  | .hbm, ⟨2, _⟩ => ⟨S1024, .f32⟩
  | .hbm, ⟨3, _⟩ => ⟨S1536x1024, .f32⟩
  | .hbm, ⟨4, _⟩ => ⟨S64, .f32⟩
  | .hbm, ⟨5, _⟩ => ⟨S64, .f32⟩
  | .hbm, ⟨6, _⟩ => ⟨S32x4352, .f32⟩
  | .hbm, ⟨7, _⟩ => ⟨S32x4352, .f32⟩
  | .hbm, ⟨8, _⟩ => ⟨S1x1024, .f32⟩
  | .hbm, ⟨9, _⟩ => ⟨S1536x1024, .bf16⟩
  | .hbm, ⟨10, _⟩ => ⟨S64x1, .f32⟩
  | .hbm, ⟨11, _⟩ => ⟨S64x1, .f32⟩
  | .hbm, ⟨12, _⟩ => ⟨S8x1024x4352, .bf16⟩
  | .hbm, ⟨13, _⟩ => ⟨S8x4352x256, .bf16⟩
  | .hbm, ⟨14, _⟩ => ⟨S8x256x4352, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1536x1024, .bf16⟩
  | .local _ .vmem, ⟨6, _⟩ => ⟨S64x1, .f32⟩
  | .local _ .vmem, ⟨7, _⟩ => ⟨S64x1, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | .local _ .vmem, ⟨12, _⟩ => ⟨S1x1024x256, .bf16⟩
  | .local _ .vmem, ⟨13, _⟩ => ⟨S1x1024x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4352x1024 : Shape := ⟨3, ![8, 4352, 1024]⟩
abbrev S8x2x6x1024 : Shape := ⟨4, ![8, 2, 6, 1024]⟩
abbrev S1024 : Shape := ⟨1, ![1024]⟩
abbrev S1536x1024 : Shape := ⟨2, ![1536, 1024]⟩
abbrev S64 : Shape := ⟨1, ![64]⟩
abbrev S32x4352 : Shape := ⟨2, ![32, 4352]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x256x1024 : Shape := ⟨3, ![8, 256, 1024]⟩
abbrev S8x1x1x1024 : Shape := ⟨4, ![8, 1, 1, 1024]⟩
abbrev S8x1x1024 : Shape := ⟨3, ![8, 1, 1024]⟩
abbrev S8x4096x1024 : Shape := ⟨3, ![8, 4096, 1024]⟩
abbrev S8x4352x1536 : Shape := ⟨3, ![8, 4352, 1536]⟩
abbrev S8x4352x16x64 : Shape := ⟨4, ![8, 4352, 16, 64]⟩
abbrev S8x4352x16 : Shape := ⟨3, ![8, 4352, 16]⟩
abbrev S8x4352x16x1 : Shape := ⟨4, ![8, 4352, 16, 1]⟩
abbrev S1x1x1x64 : Shape := ⟨4, ![1, 1, 1, 64]⟩
abbrev S8x4352x256 : Shape := ⟨3, ![8, 4352, 256]⟩
abbrev S8x4352x4x64 : Shape := ⟨4, ![8, 4352, 4, 64]⟩
abbrev S8x4352x4 : Shape := ⟨3, ![8, 4352, 4]⟩
abbrev S8x4352x4x1 : Shape := ⟨4, ![8, 4352, 4, 1]⟩
abbrev S4352x32 : Shape := ⟨2, ![4352, 32]⟩
abbrev S4352x1x32 : Shape := ⟨3, ![4352, 1, 32]⟩
abbrev S8x4352x16x32 : Shape := ⟨4, ![8, 4352, 16, 32]⟩
abbrev S1x4352x1x32 : Shape := ⟨4, ![1, 4352, 1, 32]⟩
abbrev S8x4352x4x32 : Shape := ⟨4, ![8, 4352, 4, 32]⟩
abbrev S8x1024x4352 : Shape := ⟨3, ![8, 1024, 4352]⟩
abbrev S8x256x4352 : Shape := ⟨3, ![8, 256, 4352]⟩

abbrev nBuf : Space → Nat
  | .hbm => 139
  | .vmem => 0
  | .smem => 0
  | _ => 0

abbrev hbmTy0_0 (i : Nat) : BufTy := match i % 128 with
  | 0 => ⟨S8x4352x1024, .f32⟩
  | 1 => ⟨S8x2x6x1024, .f32⟩
  | 2 => ⟨S1024, .f32⟩
  | 3 => ⟨S1536x1024, .f32⟩
  | 4 => ⟨S64, .f32⟩
  | 5 => ⟨S64, .f32⟩
  | 6 => ⟨S32x4352, .f32⟩
  | 7 => ⟨S32x4352, .f32⟩
  | 8 => ⟨S8x4352x1024, .f32⟩
  | 9 => ⟨S_, .f32⟩
  | 10 => ⟨S8x4352, .f32⟩
  | 11 => ⟨S8x4352x1, .f32⟩
  | 12 => ⟨S_, .f32⟩
  | 13 => ⟨S8x4352x1, .f32⟩
  | 14 => ⟨S8x4352x1, .f32⟩
  | 15 => ⟨S_, .f32⟩
  | 16 => ⟨S8x4352x1, .f32⟩
  | 17 => ⟨S8x4352x1, .f32⟩
  | 18 => ⟨S8x4352x1, .f32⟩
  | 19 => ⟨S8x4352x1024, .f32⟩
  | 20 => ⟨S8x4352x1024, .f32⟩
  | 21 => ⟨S1x1x1024, .f32⟩
  | 22 => ⟨S8x4352x1024, .f32⟩
  | 23 => ⟨S8x4352x1024, .f32⟩
  | 24 => ⟨S8x256x1024, .f32⟩
  | 25 => ⟨S8x1x1x1024, .f32⟩
  | 26 => ⟨S8x1x1024, .f32⟩
  | 27 => ⟨S_, .f32⟩
  | 28 => ⟨S8x1x1024, .f32⟩
  | 29 => ⟨S8x1x1024, .f32⟩
  | 30 => ⟨S8x256x1024, .f32⟩
  | 31 => ⟨S8x256x1024, .f32⟩
  | 32 => ⟨S8x1x1x1024, .f32⟩
  | 33 => ⟨S8x1x1024, .f32⟩
  | 34 => ⟨S8x256x1024, .f32⟩
  | 35 => ⟨S8x256x1024, .f32⟩
  | 36 => ⟨S8x4096x1024, .f32⟩
  | 37 => ⟨S8x1x1x1024, .f32⟩
  | 38 => ⟨S8x1x1024, .f32⟩
  | 39 => ⟨S_, .f32⟩
  | 40 => ⟨S8x1x1024, .f32⟩
  | 41 => ⟨S8x1x1024, .f32⟩
  | 42 => ⟨S8x4096x1024, .f32⟩
  | 43 => ⟨S8x4096x1024, .f32⟩
  | 44 => ⟨S8x1x1x1024, .f32⟩
  | 45 => ⟨S8x1x1024, .f32⟩
  | 46 => ⟨S8x4096x1024, .f32⟩
  | 47 => ⟨S8x4096x1024, .f32⟩
  | 48 => ⟨S8x4352x1024, .f32⟩
  | 49 => ⟨S8x4352x1536, .f32⟩
  | 50 => ⟨S8x4352x1024, .f32⟩
  | 51 => ⟨S8x4352x16x64, .f32⟩
  | 52 => ⟨S8x4352x16x64, .f32⟩
  | 53 => ⟨S_, .f32⟩
  | 54 => ⟨S8x4352x16, .f32⟩
  | 55 => ⟨S8x4352x16x1, .f32⟩
  | 56 => ⟨S_, .f32⟩
  | 57 => ⟨S8x4352x16x1, .f32⟩
  | 58 => ⟨S8x4352x16x1, .f32⟩
  | 59 => ⟨S_, .f32⟩
  | 60 => ⟨S8x4352x16x1, .f32⟩
  | 61 => ⟨S8x4352x16x1, .f32⟩
  | 62 => ⟨S8x4352x16x1, .f32⟩
  | 63 => ⟨S8x4352x16x64, .f32⟩
  | 64 => ⟨S8x4352x16x64, .f32⟩
  | 65 => ⟨S1x1x1x64, .f32⟩
  | 66 => ⟨S8x4352x16x64, .f32⟩
  | 67 => ⟨S8x4352x16x64, .f32⟩
  | 68 => ⟨S8x4352x256, .f32⟩
  | 69 => ⟨S8x4352x4x64, .f32⟩
  | 70 => ⟨S8x4352x4x64, .f32⟩
  | 71 => ⟨S_, .f32⟩
  | 72 => ⟨S8x4352x4, .f32⟩
  | 73 => ⟨S8x4352x4x1, .f32⟩
  | 74 => ⟨S_, .f32⟩
  | 75 => ⟨S8x4352x4x1, .f32⟩
  | 76 => ⟨S8x4352x4x1, .f32⟩
  | 77 => ⟨S_, .f32⟩
  | 78 => ⟨S8x4352x4x1, .f32⟩
  | 79 => ⟨S8x4352x4x1, .f32⟩
  | 80 => ⟨S8x4352x4x1, .f32⟩
  | 81 => ⟨S8x4352x4x64, .f32⟩
  | 82 => ⟨S8x4352x4x64, .f32⟩
  | 83 => ⟨S1x1x1x64, .f32⟩
  | 84 => ⟨S8x4352x4x64, .f32⟩
  | 85 => ⟨S8x4352x4x64, .f32⟩
  | 86 => ⟨S4352x32, .f32⟩
  | 87 => ⟨S4352x32, .f32⟩
  | 88 => ⟨S4352x1x32, .f32⟩
  | 89 => ⟨S4352x1x32, .f32⟩
  | 90 => ⟨S8x4352x16x32, .f32⟩
  | 91 => ⟨S8x4352x16x32, .f32⟩
  | 92 => ⟨S1x4352x1x32, .f32⟩
  | 93 => ⟨S8x4352x16x32, .f32⟩
  | 94 => ⟨S8x4352x16x32, .f32⟩
  | 95 => ⟨S1x4352x1x32, .f32⟩
  | 96 => ⟨S8x4352x16x32, .f32⟩
  | 97 => ⟨S8x4352x16x32, .f32⟩
  | 98 => ⟨S8x4352x16x32, .f32⟩
  | 99 => ⟨S1x4352x1x32, .f32⟩
  | 100 => ⟨S8x4352x16x32, .f32⟩
  | 101 => ⟨S8x4352x16x32, .f32⟩
  | 102 => ⟨S1x4352x1x32, .f32⟩
  | 103 => ⟨S8x4352x16x32, .f32⟩
  | 104 => ⟨S8x4352x16x32, .f32⟩
  | 105 => ⟨S8x4352x16x32, .f32⟩
  | 106 => ⟨S8x4352x16x64, .f32⟩
  | 107 => ⟨S8x4352x1024, .f32⟩
  | 108 => ⟨S_, .f32⟩
  | 109 => ⟨S8x4352x1024, .f32⟩
  | 110 => ⟨S8x4352x1024, .f32⟩
  | 111 => ⟨S4352x32, .f32⟩
  | 112 => ⟨S4352x32, .f32⟩
  | 113 => ⟨S4352x1x32, .f32⟩
  | 114 => ⟨S4352x1x32, .f32⟩
  | 115 => ⟨S8x4352x4x32, .f32⟩
  | 116 => ⟨S8x4352x4x32, .f32⟩
  | 117 => ⟨S1x4352x1x32, .f32⟩
  | 118 => ⟨S8x4352x4x32, .f32⟩
  | 119 => ⟨S8x4352x4x32, .f32⟩
  | 120 => ⟨S1x4352x1x32, .f32⟩
  | 121 => ⟨S8x4352x4x32, .f32⟩
  | 122 => ⟨S8x4352x4x32, .f32⟩
  | 123 => ⟨S8x4352x4x32, .f32⟩
  | 124 => ⟨S1x4352x1x32, .f32⟩
  | 125 => ⟨S8x4352x4x32, .f32⟩
  | 126 => ⟨S8x4352x4x32, .f32⟩
  | 127 => ⟨S1x4352x1x32, .f32⟩
  | _ => ⟨S8x4352x1024, .f32⟩

abbrev hbmTy0_1 (i : Nat) : BufTy := match i % 128 with
  | 0 => ⟨S8x4352x4x32, .f32⟩
  | 1 => ⟨S8x4352x4x32, .f32⟩
  | 2 => ⟨S8x4352x4x32, .f32⟩
  | 3 => ⟨S8x4352x4x64, .f32⟩
  | 4 => ⟨S8x4352x256, .f32⟩
  | 5 => ⟨S8x4352x256, .f32⟩
  | 6 => ⟨S8x1024x4352, .f32⟩
  | 7 => ⟨S8x1024x4352, .bf16⟩
  | 8 => ⟨S8x4352x256, .bf16⟩
  | 9 => ⟨S8x256x4352, .f32⟩
  | 10 => ⟨S8x256x4352, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_cst_9 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩

abbrev nD : Nat := 1
abbrev τ : Topo := Topo.v7x

variable {F : FTy → Type} [FloatOps F]
-- ==== Kernel5.lean ====
abbrev S8x4352x1024 : Shape := ⟨3, ![8, 4352, 1024]⟩
abbrev S8x2x6x1024 : Shape := ⟨4, ![8, 2, 6, 1024]⟩
abbrev S1024 : Shape := ⟨1, ![1024]⟩
abbrev S1024x3104 : Shape := ⟨2, ![1024, 3104]⟩
abbrev S16x512 : Shape := ⟨2, ![16, 512]⟩
abbrev S512 : Shape := ⟨1, ![512]⟩
abbrev S1024x3072 : Shape := ⟨2, ![1024, 3072]⟩
abbrev S_ : Shape := ⟨0, ![]⟩
abbrev S1024x128 : Shape := ⟨2, ![1024, 128]⟩
abbrev S1024x32 : Shape := ⟨2, ![1024, 32]⟩
abbrev S1 : Shape := ⟨1, ![1]⟩
abbrev S128x1024 : Shape := ⟨2, ![128, 1024]⟩
abbrev S2 : Shape := ⟨1, ![2]⟩
abbrev S1x1024 : Shape := ⟨2, ![1, 1024]⟩
abbrev S8x4352x512 : Shape := ⟨3, ![8, 4352, 512]⟩
abbrev S1x256x1024 : Shape := ⟨3, ![1, 256, 1024]⟩
abbrev S1x1x6x1024 : Shape := ⟨4, ![1, 1, 6, 1024]⟩
abbrev S1x256x512 : Shape := ⟨3, ![1, 256, 512]⟩
abbrev S6x1024 : Shape := ⟨2, ![6, 1024]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩
abbrev S256x512 : Shape := ⟨2, ![256, 512]⟩
abbrev S256x128 : Shape := ⟨2, ![256, 128]⟩

abbrev nBuf : Space → Nat
  | .hbm => 40
  | .vmem => 21
  | .smem => 0
  | _ => 0

abbrev bufTy : (tb : Table) → Fin (tcTables nBuf tb) → BufTy
  | .hbm, ⟨0, _⟩ => ⟨S8x4352x1024, .f32⟩
  | .hbm, ⟨1, _⟩ => ⟨S8x2x6x1024, .f32⟩
  | .hbm, ⟨2, _⟩ => ⟨S1024, .f32⟩
  | .hbm, ⟨3, _⟩ => ⟨S1024x3104, .f32⟩
  | .hbm, ⟨4, _⟩ => ⟨S16x512, .f32⟩
  | .hbm, ⟨5, _⟩ => ⟨S512, .f32⟩
  | .hbm, ⟨6, _⟩ => ⟨S16x512, .f32⟩
  | .hbm, ⟨7, _⟩ => ⟨S512, .f32⟩
  | .hbm, ⟨8, _⟩ => ⟨S1024x3072, .f32⟩
  | .hbm, ⟨9, _⟩ => ⟨S1024x3072, .bf16⟩
  | .hbm, ⟨10, _⟩ => ⟨S_, .f32⟩
  | .hbm, ⟨11, _⟩ => ⟨S1024x128, .f32⟩
  | .hbm, ⟨12, _⟩ => ⟨S1024x32, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S1024x128, .bf16⟩
  | .hbm, ⟨17, _⟩ => ⟨S_, .f32⟩
  | .hbm, ⟨18, _⟩ => ⟨S128x1024, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S2, .i32⟩
  | .hbm, ⟨24, _⟩ => ⟨S128x1024, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x1024, .f32⟩
  | .hbm, ⟨31, _⟩ => ⟨S1024, .f32⟩
  | .hbm, ⟨32, _⟩ => ⟨S1x1024, .f32⟩
  | .hbm, ⟨33, _⟩ => ⟨S1x1024, .f32⟩
  | .hbm, ⟨34, _⟩ => ⟨S8x4352x512, .bf16⟩
  | .hbm, ⟨35, _⟩ => ⟨S8x4352x512, .bf16⟩
  | .hbm, ⟨36, _⟩ => ⟨S8x4352x1024, .bf16⟩
  | .hbm, ⟨37, _⟩ => ⟨S8x4352x1024, .bf16⟩
  | .hbm, ⟨38, _⟩ => ⟨S8x4352x512, .f32⟩
  | .hbm, ⟨39, _⟩ => ⟨S8x4352x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x3072, .bf16⟩
  | .local _ .vmem, ⟨6, _⟩ => ⟨S1024x128, .bf16⟩
  | .local _ .vmem, ⟨7, _⟩ => ⟨S128x1024, .f32⟩
  | .local _ .vmem, ⟨8, _⟩ => ⟨S1x1024, .f32⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19_0 : Ref sig .tc := ⟨.hbm, 34, rfl⟩
abbrev main_v19_1 : Ref sig .tc := ⟨.hbm, 35, rfl⟩
abbrev main_v19_2 : Ref sig .tc := ⟨.hbm, 36, rfl⟩
abbrev main_v19_3 : Ref sig .tc := ⟨.hbm, 37, rfl⟩
abbrev main_v19_4 : Ref sig .tc := ⟨.hbm, 38, rfl⟩
abbrev main_v19_5 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg1 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![arg0.toNat, v1.toNat, c0_i32_1.toNat, c0_i32_2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference5Ideal.lean ====
abbrev S8x4352x1024 : Shape := ⟨3, ![8, 4352, 1024]⟩
abbrev S8x2x6x1024 : Shape := ⟨4, ![8, 2, 6, 1024]⟩
abbrev S1024 : Shape := ⟨1, ![1024]⟩
abbrev S1024x3104 : Shape := ⟨2, ![1024, 3104]⟩
abbrev S16x512 : Shape := ⟨2, ![16, 512]⟩
abbrev S512 : Shape := ⟨1, ![512]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩
abbrev S8x256x1024 : Shape := ⟨3, ![8, 256, 1024]⟩
abbrev S8x1x1x1024 : Shape := ⟨4, ![8, 1, 1, 1024]⟩
abbrev S8x1x1024 : Shape := ⟨3, ![8, 1, 1024]⟩
abbrev S8x4096x1024 : Shape := ⟨3, ![8, 4096, 1024]⟩
abbrev S8x4352x3104 : Shape := ⟨3, ![8, 4352, 3104]⟩
abbrev S8x4352x512 : Shape := ⟨3, ![8, 4352, 512]⟩
abbrev S8x4352x16 : Shape := ⟨3, ![8, 4352, 16]⟩
abbrev S1x1x512 : Shape := ⟨3, ![1, 1, 512]⟩

abbrev nBuf : Space → Nat
  | .hbm => 109
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S8x2x6x1024, .f32⟩
  | .hbm, ⟨2, _⟩ => ⟨S1024, .f32⟩
  | .hbm, ⟨3, _⟩ => ⟨S1024x3104, .f32⟩
  | .hbm, ⟨4, _⟩ => ⟨S16x512, .f32⟩
  | .hbm, ⟨5, _⟩ => ⟨S512, .f32⟩
  | .hbm, ⟨6, _⟩ => ⟨S16x512, .f32⟩
  | .hbm, ⟨7, _⟩ => ⟨S512, .f32⟩
  | .hbm, ⟨8, _⟩ => ⟨S8x4352x1024, .f32⟩
  | .hbm, ⟨9, _⟩ => ⟨S_, .f32⟩
  | .hbm, ⟨10, _⟩ => ⟨S8x4352, .f32⟩
  | .hbm, ⟨11, _⟩ => ⟨S8x4352x1, .f32⟩
  | .hbm, ⟨12, _⟩ => ⟨S_, .f32⟩
  | .hbm, ⟨13, _⟩ => ⟨S8x4352x1, .f32⟩
  | .hbm, ⟨14, _⟩ => ⟨S8x4352x1, .f32⟩
  | .hbm, ⟨15, _⟩ => ⟨S_, .f32⟩
  | .hbm, ⟨16, _⟩ => ⟨S8x4352x1, .f32⟩
  | .hbm, ⟨17, _⟩ => ⟨S8x4352x1, .f32⟩
  | .hbm, ⟨18, _⟩ => ⟨S8x4352x1, .f32⟩
  | .hbm, ⟨19, _⟩ => ⟨S8x4352x1024, .f32⟩
  | .hbm, ⟨20, _⟩ => ⟨S8x4352x1024, .f32⟩
  | .hbm, ⟨21, _⟩ => ⟨S1x1x1024, .f32⟩
  | .hbm, ⟨22, _⟩ => ⟨S8x4352x1024, .f32⟩
  | .hbm, ⟨23, _⟩ => ⟨S8x4352x1024, .f32⟩
  | .hbm, ⟨24, _⟩ => ⟨S8x256x1024, .f32⟩
  | .hbm, ⟨25, _⟩ => ⟨S8x1x1x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x256x1024, .f32⟩
  | .hbm, ⟨31, _⟩ => ⟨S8x256x1024, .f32⟩
  | .hbm, ⟨32, _⟩ => ⟨S8x1x1x1024, .f32⟩
  | .hbm, ⟨33, _⟩ => ⟨S8x1x1024, .f32⟩
  | .hbm, ⟨34, _⟩ => ⟨S8x256x1024, .f32⟩
  | .hbm, ⟨35, _⟩ => ⟨S8x256x1024, .f32⟩
  | .hbm, ⟨36, _⟩ => ⟨S8x4096x1024, .f32⟩
  | .hbm, ⟨37, _⟩ => ⟨S8x1x1x1024, .f32⟩
  | .hbm, ⟨38, _⟩ => ⟨S8x1x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x4096x1024, .f32⟩
  | .hbm, ⟨43, _⟩ => ⟨S8x4096x1024, .f32⟩
  | .hbm, ⟨44, _⟩ => ⟨S8x1x1x1024, .f32⟩
  | .hbm, ⟨45, _⟩ => ⟨S8x1x1024, .f32⟩
  | .hbm, ⟨46, _⟩ => ⟨S8x4096x1024, .f32⟩
  | .hbm, ⟨47, _⟩ => ⟨S8x4096x1024, .f32⟩
  | .hbm, ⟨48, _⟩ => ⟨S8x4352x1024, .f32⟩
  | .hbm, ⟨49, _⟩ => ⟨S8x4352x3104, .f32⟩
  | .hbm, ⟨50, _⟩ => ⟨S8x4352x512, .f32⟩
  | .hbm, ⟨51, _⟩ => ⟨S8x4352x512, .f32⟩
  | .hbm, ⟨52, _⟩ => ⟨S8x4352x1024, .f32⟩
  | .hbm, ⟨53, _⟩ => ⟨S8x4352x1024, .f32⟩
  | .hbm, ⟨54, _⟩ => ⟨S8x4352x16, .f32⟩
  | .hbm, ⟨55, _⟩ => ⟨S8x4352x16, .f32⟩
  | .hbm, ⟨56, _⟩ => ⟨S8x4352x512, .f32⟩
  | .hbm, ⟨57, _⟩ => ⟨S1x1x512, .f32⟩
  | .hbm, ⟨58, _⟩ => ⟨S8x4352x512, .f32⟩
  | .hbm, ⟨59, _⟩ => ⟨S8x4352x512, .f32⟩
  | .hbm, ⟨60, _⟩ => ⟨S8x4352x512, .f32⟩
  | .hbm, ⟨61, _⟩ => ⟨S_, .f32⟩
  | .hbm, ⟨62, _⟩ => ⟨S8x4352x512, .f32⟩
  | .hbm, ⟨63, _⟩ => ⟨S8x4352x512, .f32⟩
  | .hbm, ⟨64, _⟩ => ⟨S8x4352x512, .f32⟩
  | .hbm, ⟨65, _⟩ => ⟨S8x4352x512, .f32⟩
  | .hbm, ⟨66, _⟩ => ⟨S8x4352x512, .i1⟩
  | .hbm, ⟨67, _⟩ => ⟨S8x4352x512, .f32⟩
  | .hbm, ⟨68, _⟩ => ⟨S8x4352x512, .f32⟩
  | .hbm, ⟨69, _⟩ => ⟨S8x4352x512, .f32⟩
  | .hbm, ⟨70, _⟩ => ⟨S8x4352x512, .f32⟩
  | .hbm, ⟨71, _⟩ => ⟨S8x4352x512, .f32⟩
  | .hbm, ⟨72, _⟩ => ⟨S8x4352x512, .f32⟩
  | .hbm, ⟨73, _⟩ => ⟨S8x4352x512, .f32⟩
  | .hbm, ⟨74, _⟩ => ⟨S8x4352x512, .f32⟩
  | .hbm, ⟨75, _⟩ => ⟨S8x4352x512, .f32⟩
  | .hbm, ⟨76, _⟩ => ⟨S_, .f32⟩
  | .hbm, ⟨77, _⟩ => ⟨S8x4352x512, .f32⟩
  | .hbm, ⟨78, _⟩ => ⟨S8x4352x512, .f32⟩
  | .hbm, ⟨79, _⟩ => ⟨S8x4352x512, .f32⟩
  | .hbm, ⟨80, _⟩ => ⟨S1x1x512, .f32⟩
  | .hbm, ⟨81, _⟩ => ⟨S8x4352x512, .f32⟩
  | .hbm, ⟨82, _⟩ => ⟨S8x4352x512, .f32⟩
  | .hbm, ⟨83, _⟩ => ⟨S8x4352x512, .f32⟩
  | .hbm, ⟨84, _⟩ => ⟨S_, .f32⟩
  | .hbm, ⟨85, _⟩ => ⟨S8x4352x512, .f32⟩
  | .hbm, ⟨86, _⟩ => ⟨S8x4352x512, .f32⟩
  | .hbm, ⟨87, _⟩ => ⟨S8x4352x512, .f32⟩
  | .hbm, ⟨88, _⟩ => ⟨S8x4352x512, .f32⟩
  | .hbm, ⟨89, _⟩ => ⟨S8x4352x512, .i1⟩
  | .hbm, ⟨90, _⟩ => ⟨S8x4352x512, .f32⟩
  | .hbm, ⟨91, _⟩ => ⟨S8x4352x512, .f32⟩
  | .hbm, ⟨92, _⟩ => ⟨S8x4352x512, .f32⟩
  | .hbm, ⟨93, _⟩ => ⟨S8x4352x512, .f32⟩
  | .hbm, ⟨94, _⟩ => ⟨S8x4352x512, .f32⟩
  | .hbm, ⟨95, _⟩ => ⟨S8x4352x512, .f32⟩
  | .hbm, ⟨96, _⟩ => ⟨S8x4352x512, .f32⟩
  | .hbm, ⟨97, _⟩ => ⟨S8x4352x512, .f32⟩
  | .hbm, ⟨98, _⟩ => ⟨S8x4352x512, .f32⟩
  | .hbm, ⟨99, _⟩ => ⟨S_, .f32⟩
  | .hbm, ⟨100, _⟩ => ⟨S8x4352x512, .f32⟩
  | .hbm, ⟨101, _⟩ => ⟨S8x4352x512, .f32⟩
  | .hbm, ⟨102, _⟩ => ⟨S_, .f32⟩
  | .hbm, ⟨103, _⟩ => ⟨S8x4352x512, .f32⟩
  | .hbm, ⟨104, _⟩ => ⟨S8x4352x512, .f32⟩
  | .hbm, ⟨105, _⟩ => ⟨S8x4352x512, .bf16⟩
  | .hbm, ⟨106, _⟩ => ⟨S8x4352x512, .bf16⟩
  | .hbm, ⟨107, _⟩ => ⟨S8x4352x1024, .bf16⟩
  | .hbm, ⟨108, _⟩ => ⟨S8x4352x1024, .bf16⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call0_v0 : Ref sig .tc := ⟨.hbm, 60, rfl⟩
abbrev main_call0_call0_cst : Ref sig .tc := ⟨.hbm, 61, rfl⟩
abbrev main_call0_call0_v0 : Ref sig .tc := ⟨.hbm, 62, rfl⟩
abbrev main_call0_call0_v1 : Ref sig .tc := ⟨.hbm, 63, rfl⟩
abbrev main_call0_call0_v2 : Ref sig .tc := ⟨.hbm, 64, rfl⟩
abbrev main_call0_call0_v3 : Ref sig .tc := ⟨.hbm, 65, rfl⟩
abbrev main_call0_call0_v4 : Ref sig .tc := ⟨.hbm, 66, rfl⟩
abbrev main_call0_call0_v5 : Ref sig .tc := ⟨.hbm, 67, rfl⟩
abbrev main_call0_call0_v6 : Ref sig .tc := ⟨.hbm, 68, rfl⟩
abbrev main_call0_call0_v7 : Ref sig .tc := ⟨.hbm, 69, rfl⟩
abbrev main_call0_call0_v8 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_v1 : Ref sig .tc := ⟨.hbm, 74, rfl⟩
abbrev main_v47 : Ref sig .tc := ⟨.hbm, 75, rfl⟩
abbrev main_cst_4 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call1_v0 : Ref sig .tc := ⟨.hbm, 83, rfl⟩
abbrev main_call1_call0_cst : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_call0_v2 : Ref sig .tc := ⟨.hbm, 87, rfl⟩
abbrev main_call1_call0_v3 : Ref sig .tc := ⟨.hbm, 88, rfl⟩
abbrev main_call1_call0_v4 : Ref sig .tc := ⟨.hbm, 89, rfl⟩
abbrev main_call1_call0_v5 : Ref sig .tc := ⟨.hbm, 90, rfl⟩
abbrev main_call1_call0_v6 : Ref sig .tc := ⟨.hbm, 91, rfl⟩
abbrev main_call1_call0_v7 : Ref sig .tc := ⟨.hbm, 92, rfl⟩
abbrev main_call1_call0_v8 : Ref sig .tc := ⟨.hbm, 93, rfl⟩
abbrev main_call1_call0_v9 : Ref sig .tc := ⟨.hbm, 94, rfl⟩
abbrev main_call1_call0_v10 : Ref sig .tc := ⟨.hbm, 95, rfl⟩
abbrev main_call1_call0_v11 : Ref sig .tc := ⟨.hbm, 96, rfl⟩
abbrev main_call1_v1 : Ref sig .tc := ⟨.hbm, 97, rfl⟩
abbrev main_v54 : Ref sig .tc := ⟨.hbm, 98, rfl⟩
abbrev main_cst_5 : Ref sig .tc := ⟨.hbm, 99, rfl⟩
abbrev main_v55 : Ref sig .tc := ⟨.hbm, 100, rfl⟩
abbrev main_v56 : Ref sig .tc := ⟨.hbm, 101, rfl⟩
abbrev main_cst_6 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩

abbrev nD : Nat := 1
abbrev τ : Topo := Topo.v7x

variable {F : FTy → Type} [FloatOps F]
-- ==== Kernel6.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S8x4352x512 : Shape := ⟨3, ![8, 4352, 512]⟩
abbrev S8x4352x1024 : Shape := ⟨3, ![8, 4352, 1024]⟩
abbrev S1x256x128 : Shape := ⟨3, ![1, 256, 128]⟩
abbrev S1x256x256 : Shape := ⟨3, ![1, 256, 256]⟩
abbrev S256x128 : Shape := ⟨2, ![256, 128]⟩
abbrev S64x64 : Shape := ⟨2, ![64, 64]⟩
abbrev S1x64x128 : Shape := ⟨3, ![1, 64, 128]⟩
abbrev S64x128 : Shape := ⟨2, ![64, 128]⟩
abbrev S1x128 : Shape := ⟨2, ![1, 128]⟩
abbrev S1x64x256 : Shape := ⟨3, ![1, 64, 256]⟩
abbrev S64x256 : Shape := ⟨2, ![64, 256]⟩
abbrev S256x64 : Shape := ⟨2, ![256, 64]⟩

abbrev nBuf : Space → Nat
  | .hbm => 5
  | .vmem => 11
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .bf16⟩
  | .hbm, ⟨3, _⟩ => ⟨S8x4352x512, .f32⟩
  | .hbm, ⟨4, _⟩ => ⟨S8x4352x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x128, .f32⟩
  | .local _ .vmem, ⟨7, _⟩ => ⟨S1x256x128, .f32⟩
  | .local _ .vmem, ⟨8, _⟩ => ⟨S1x256x256, .f32⟩
  | .local _ .vmem, ⟨9, _⟩ => ⟨S1x256x256, .f32⟩
  | .local _ .vmem, ⟨10, _⟩ => ⟨S256x128, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 17], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference7Ideal.lean ====
abbrev S8x4352x512 : Shape := ⟨3, ![8, 4352, 512]⟩
abbrev S8x4352x1024 : Shape := ⟨3, ![8, 4352, 1024]⟩
abbrev S8x4352x4x128 : Shape := ⟨4, ![8, 4352, 4, 128]⟩
abbrev S8x4352x4x256 : Shape := ⟨4, ![8, 4352, 4, 256]⟩
abbrev S_ : Shape := ⟨0, ![]⟩
abbrev S4352x4352 : Shape := ⟨2, ![4352, 4352]⟩
abbrev S1x4352x4352x1x1 : Shape := ⟨5, ![1, 4352, 4352, 1, 1]⟩
abbrev S8x4352x1x4x128 : Shape := ⟨5, ![8, 4352, 1, 4, 128]⟩
abbrev S8x1x4352x4x128 : Shape := ⟨5, ![8, 1, 4352, 4, 128]⟩
abbrev S8x4352x4352x4x128 : Shape := ⟨5, ![8, 4352, 4352, 4, 128]⟩
abbrev S8x4352x4352x4 : Shape := ⟨4, ![8, 4352, 4352, 4]⟩
abbrev S8x4x256x4352 : Shape := ⟨4, ![8, 4, 256, 4352]⟩

abbrev nBuf : Space → Nat
  | .hbm => 48
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .bf16⟩
  | .hbm, ⟨3, _⟩ => ⟨S8x4352x512, .f32⟩
  | .hbm, ⟨4, _⟩ => ⟨S8x4352x512, .f32⟩
  | .hbm, ⟨5, _⟩ => ⟨S8x4352x4x128, .f32⟩
  | .hbm, ⟨6, _⟩ => ⟨S8x4352x512, .f32⟩
  | .hbm, ⟨7, _⟩ => ⟨S8x4352x4x128, .f32⟩
  | .hbm, ⟨8, _⟩ => ⟨S8x4352x1024, .f32⟩
  | .hbm, ⟨9, _⟩ => ⟨S8x4352x4x256, .f32⟩
  | .hbm, ⟨10, _⟩ => ⟨S8x4352x4x128, .f32⟩
  | .hbm, ⟨11, _⟩ => ⟨S_, .f32⟩
  | .hbm, ⟨12, _⟩ => ⟨S_, .f32⟩
  | .hbm, ⟨13, _⟩ => ⟨S8x4352x4x128, .f32⟩
  | .hbm, ⟨14, _⟩ => ⟨S_, .i1⟩
  | .hbm, ⟨15, _⟩ => ⟨S4352x4352, .i1⟩
  | .hbm, ⟨16, _⟩ => ⟨S4352x4352, .i32⟩
  | .hbm, ⟨17, _⟩ => ⟨S_, .i32⟩
  | .hbm, ⟨18, _⟩ => ⟨S4352x4352, .i32⟩
  | .hbm, ⟨19, _⟩ => ⟨S4352x4352, .i32⟩
  | .hbm, ⟨20, _⟩ => ⟨S4352x4352, .i32⟩
  | .hbm, ⟨21, _⟩ => ⟨S4352x4352, .i1⟩
  | .hbm, ⟨22, _⟩ => ⟨S_, .i1⟩
  | .hbm, ⟨23, _⟩ => ⟨S4352x4352, .i1⟩
  | .hbm, ⟨24, _⟩ => ⟨S4352x4352, .i1⟩
  | .hbm, ⟨25, _⟩ => ⟨S1x4352x4352x1x1, .i1⟩
  | .hbm, ⟨26, _⟩ => ⟨S8x4352x1x4x128, .f32⟩
  | .hbm, ⟨27, _⟩ => ⟨S8x1x4352x4x128, .f32⟩
  | .hbm, ⟨28, _⟩ => ⟨S8x4352x4352x4x128, .f32⟩
  | .hbm, ⟨29, _⟩ => ⟨S8x4352x4352x4x128, .f32⟩
  | .hbm, ⟨30, _⟩ => ⟨S8x4352x4352x4x128, .f32⟩
  | .hbm, ⟨31, _⟩ => ⟨S_, .f32⟩
  | .hbm, ⟨32, _⟩ => ⟨S_, .f32⟩
  | .hbm, ⟨33, _⟩ => ⟨S8x4352x4352x4x128, .i1⟩
  | .hbm, ⟨34, _⟩ => ⟨S8x4352x4352x4x128, .f32⟩
  | .hbm, ⟨35, _⟩ => ⟨S8x4352x4352x4x128, .f32⟩
  | .hbm, ⟨36, _⟩ => ⟨S8x4352x4352x4x128, .f32⟩
  | .hbm, ⟨37, _⟩ => ⟨S8x4352x1x4x128, .f32⟩
  | .hbm, ⟨38, _⟩ => ⟨S8x1x4352x4x128, .f32⟩
  | .hbm, ⟨39, _⟩ => ⟨S8x4352x4352x4x128, .f32⟩
  | .hbm, ⟨40, _⟩ => ⟨S8x4352x4352x4x128, .f32⟩
  | .hbm, ⟨41, _⟩ => ⟨S8x4352x4352x4x128, .f32⟩
  | .hbm, ⟨42, _⟩ => ⟨S8x4352x4352x4x128, .f32⟩
  | .hbm, ⟨43, _⟩ => ⟨S_, .f32⟩
  | .hbm, ⟨44, _⟩ => ⟨S8x4352x4352x4, .f32⟩
  | .hbm, ⟨45, _⟩ => ⟨S8x4x256x4352, .f32⟩
  | .hbm, ⟨46, _⟩ => ⟨S8x4352x4x256, .f32⟩
  | .hbm, ⟨47, _⟩ => ⟨S8x4352x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_call0_cst : Ref sig .tc := ⟨.hbm, 11, rfl⟩
abbrev main_call0_call0_v0 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_0 : Ref sig .tc := ⟨.hbm, 22, rfl⟩
abbrev main_call1_v5 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_0 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel8.lean ====
abbrev S8x4352x512 : Shape := ⟨3, ![8, 4352, 512]⟩
abbrev S8x4352x1024 : Shape := ⟨3, ![8, 4352, 1024]⟩
abbrev S1x256x128 : Shape := ⟨3, ![1, 256, 128]⟩
abbrev S1x256x256 : Shape := ⟨3, ![1, 256, 256]⟩
abbrev S256x128 : Shape := ⟨2, ![256, 128]⟩
abbrev S64x64 : Shape := ⟨2, ![64, 64]⟩
abbrev S1x64x128 : Shape := ⟨3, ![1, 64, 128]⟩
abbrev S64x128 : Shape := ⟨2, ![64, 128]⟩
abbrev S1x128 : Shape := ⟨2, ![1, 128]⟩
abbrev S1x64x256 : Shape := ⟨3, ![1, 64, 256]⟩
abbrev S64x256 : Shape := ⟨2, ![64, 256]⟩
abbrev S256x64 : Shape := ⟨2, ![256, 64]⟩

abbrev nBuf : Space → Nat
  | .hbm => 5
  | .vmem => 11
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .bf16⟩
  | .hbm, ⟨3, _⟩ => ⟨S8x4352x512, .f32⟩
  | .hbm, ⟨4, _⟩ => ⟨S8x4352x1024, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x128, .f32⟩
  | .local _ .vmem, ⟨7, _⟩ => ⟨S1x256x128, .f32⟩
  | .local _ .vmem, ⟨8, _⟩ => ⟨S1x256x256, .f32⟩
  | .local _ .vmem, ⟨9, _⟩ => ⟨S1x256x256, .f32⟩
  | .local _ .vmem, ⟨10, _⟩ => ⟨S256x128, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 17], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c16_i32 : BitVec 32 := 16#32
  let v3 : BitVec 32 := Scalar.subi c16_i32 v2
  let v4 : BitVec 32 := Scalar.select v0 v1 v3
  let c0_i32_1 : BitVec 32 := 0#32
  ![arg0.toNat, v4.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c16_i32 : BitVec 32 := 16#32
  let v3 : BitVec 32 := Scalar.subi c16_i32 v2
  let v4 : BitVec 32 := Scalar.select v0 v1 v3
  let c0_i32_1 : BitVec 32 := 0#32
  ![arg0.toNat, v4.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c16_i32 : BitVec 32 := 16#32
  let v3 : BitVec 32 := Scalar.subi c16_i32 v2
  let v4 : BitVec 32 := Scalar.select v0 v1 v3
  let c0_i32_1 : BitVec 32 := 0#32
  ![arg0.toNat, v4.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c16_i32 : BitVec 32 := 16#32
  let v3 : BitVec 32 := Scalar.subi c16_i32 v2
  let v4 : BitVec 32 := Scalar.select v0 v1 v3
  let c0_i32_1 : BitVec 32 := 0#32
  ![arg0.toNat, v4.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .slt arg2 c1_i32
  let c0_i32 : BitVec 32 := 0#32
  let v1 : BitVec 32 := Scalar.subi c0_i32 arg2
  let c1_i32_0 : BitVec 32 := 1#32
  let v2 : BitVec 32 := Scalar.subi arg2 c1_i32_0
  let c16_i32 : BitVec 32 := 16#32
  let v3 : BitVec 32 := Scalar.subi c16_i32 v2
  let v4 : BitVec 32 := Scalar.select v0 v1 v3
  let c0_i32_1 : BitVec 32 := 0#32
  ![arg0.toNat, v4.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference8Ideal.lean ====
abbrev S8x4352x512 : Shape := ⟨3, ![8, 4352, 512]⟩
abbrev S8x4352x1024 : Shape := ⟨3, ![8, 4352, 1024]⟩
abbrev S8x256x512 : Shape := ⟨3, ![8, 256, 512]⟩
abbrev S8x4096x512 : Shape := ⟨3, ![8, 4096, 512]⟩
abbrev S8x256x1024 : Shape := ⟨3, ![8, 256, 1024]⟩
abbrev S8x4096x1024 : Shape := ⟨3, ![8, 4096, 1024]⟩
abbrev S8x4352x4x128 : Shape := ⟨4, ![8, 4352, 4, 128]⟩
abbrev S8x4352x4x256 : Shape := ⟨4, ![8, 4352, 4, 256]⟩
abbrev S_ : Shape := ⟨0, ![]⟩
abbrev S4352x4352 : Shape := ⟨2, ![4352, 4352]⟩
abbrev S1x4352x4352x1x1 : Shape := ⟨5, ![1, 4352, 4352, 1, 1]⟩
abbrev S8x4352x1x4x128 : Shape := ⟨5, ![8, 4352, 1, 4, 128]⟩
abbrev S8x1x4352x4x128 : Shape := ⟨5, ![8, 1, 4352, 4, 128]⟩
abbrev S8x4352x4352x4x128 : Shape := ⟨5, ![8, 4352, 4352, 4, 128]⟩
abbrev S8x4352x4352x4 : Shape := ⟨4, ![8, 4352, 4352, 4]⟩
abbrev S8x4x256x4352 : Shape := ⟨4, ![8, 4, 256, 4352]⟩

abbrev nBuf : Space → Nat
  | .hbm => 73
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .bf16⟩
  | .hbm, ⟨3, _⟩ => ⟨S8x4352x512, .f32⟩
  | .hbm, ⟨4, _⟩ => ⟨S8x256x512, .bf16⟩
  | .hbm, ⟨5, _⟩ => ⟨S8x256x512, .bf16⟩
  | .hbm, ⟨6, _⟩ => ⟨S8x4096x512, .bf16⟩
  | .hbm, ⟨7, _⟩ => ⟨S8x4096x512, .bf16⟩
  | .hbm, ⟨8, _⟩ => ⟨S8x4352x512, .bf16⟩
  | .hbm, ⟨9, _⟩ => ⟨S8x256x512, .bf16⟩
  | .hbm, ⟨10, _⟩ => ⟨S8x256x512, .bf16⟩
  | .hbm, ⟨11, _⟩ => ⟨S8x4096x512, .bf16⟩
  | .hbm, ⟨12, _⟩ => ⟨S8x4096x512, .bf16⟩
  | .hbm, ⟨13, _⟩ => ⟨S8x4352x512, .bf16⟩
  | .hbm, ⟨14, _⟩ => ⟨S8x256x1024, .bf16⟩
  | .hbm, ⟨15, _⟩ => ⟨S8x256x1024, .bf16⟩
  | .hbm, ⟨16, _⟩ => ⟨S8x4096x1024, .bf16⟩
  | .hbm, ⟨17, _⟩ => ⟨S8x4096x1024, .bf16⟩
  | .hbm, ⟨18, _⟩ => ⟨S8x4352x1024, .bf16⟩
  | .hbm, ⟨19, _⟩ => ⟨S8x256x512, .f32⟩
  | .hbm, ⟨20, _⟩ => ⟨S8x256x512, .f32⟩
  | .hbm, ⟨21, _⟩ => ⟨S8x4096x512, .f32⟩
  | .hbm, ⟨22, _⟩ => ⟨S8x4096x512, .f32⟩
  | .hbm, ⟨23, _⟩ => ⟨S8x4352x512, .f32⟩
  | .hbm, ⟨24, _⟩ => ⟨S8x4352x512, .f32⟩
  | .hbm, ⟨25, _⟩ => ⟨S8x4352x4x128, .f32⟩
  | .hbm, ⟨26, _⟩ => ⟨S8x4352x512, .f32⟩
  | .hbm, ⟨27, _⟩ => ⟨S8x4352x4x128, .f32⟩
  | .hbm, ⟨28, _⟩ => ⟨S8x4352x1024, .f32⟩
  | .hbm, ⟨29, _⟩ => ⟨S8x4352x4x256, .f32⟩
  | .hbm, ⟨30, _⟩ => ⟨S8x4352x4x128, .f32⟩
  | .hbm, ⟨31, _⟩ => ⟨S_, .f32⟩
  | .hbm, ⟨32, _⟩ => ⟨S_, .f32⟩
  | .hbm, ⟨33, _⟩ => ⟨S8x4352x4x128, .f32⟩
  | .hbm, ⟨34, _⟩ => ⟨S_, .i1⟩
  | .hbm, ⟨35, _⟩ => ⟨S4352x4352, .i1⟩
  | .hbm, ⟨36, _⟩ => ⟨S4352x4352, .i32⟩
  | .hbm, ⟨37, _⟩ => ⟨S_, .i32⟩
  | .hbm, ⟨38, _⟩ => ⟨S4352x4352, .i32⟩
  | .hbm, ⟨39, _⟩ => ⟨S4352x4352, .i32⟩
  | .hbm, ⟨40, _⟩ => ⟨S4352x4352, .i32⟩
  | .hbm, ⟨41, _⟩ => ⟨S4352x4352, .i1⟩
  | .hbm, ⟨42, _⟩ => ⟨S_, .i1⟩
  | .hbm, ⟨43, _⟩ => ⟨S4352x4352, .i1⟩
  | .hbm, ⟨44, _⟩ => ⟨S4352x4352, .i1⟩
  | .hbm, ⟨45, _⟩ => ⟨S1x4352x4352x1x1, .i1⟩
  | .hbm, ⟨46, _⟩ => ⟨S8x4352x1x4x128, .f32⟩
  | .hbm, ⟨47, _⟩ => ⟨S8x1x4352x4x128, .f32⟩
  | .hbm, ⟨48, _⟩ => ⟨S8x4352x4352x4x128, .f32⟩
  | .hbm, ⟨49, _⟩ => ⟨S8x4352x4352x4x128, .f32⟩
  | .hbm, ⟨50, _⟩ => ⟨S8x4352x4352x4x128, .f32⟩
  | .hbm, ⟨51, _⟩ => ⟨S_, .f32⟩
  | .hbm, ⟨52, _⟩ => ⟨S_, .f32⟩
  | .hbm, ⟨53, _⟩ => ⟨S8x4352x4352x4x128, .i1⟩
  | .hbm, ⟨54, _⟩ => ⟨S8x4352x4352x4x128, .f32⟩
  | .hbm, ⟨55, _⟩ => ⟨S8x4352x4352x4x128, .f32⟩
  | .hbm, ⟨56, _⟩ => ⟨S8x4352x4352x4x128, .f32⟩
  | .hbm, ⟨57, _⟩ => ⟨S8x4352x1x4x128, .f32⟩
  | .hbm, ⟨58, _⟩ => ⟨S8x1x4352x4x128, .f32⟩
  | .hbm, ⟨59, _⟩ => ⟨S8x4352x4352x4x128, .f32⟩
  | .hbm, ⟨60, _⟩ => ⟨S8x4352x4352x4x128, .f32⟩
  | .hbm, ⟨61, _⟩ => ⟨S8x4352x4352x4x128, .f32⟩
  | .hbm, ⟨62, _⟩ => ⟨S8x4352x4352x4x128, .f32⟩
  | .hbm, ⟨63, _⟩ => ⟨S_, .f32⟩
  | .hbm, ⟨64, _⟩ => ⟨S8x4352x4352x4, .f32⟩
  | .hbm, ⟨65, _⟩ => ⟨S8x4x256x4352, .f32⟩
  | .hbm, ⟨66, _⟩ => ⟨S8x4352x4x256, .f32⟩
  | .hbm, ⟨67, _⟩ => ⟨S8x4352x1024, .f32⟩
  | .hbm, ⟨68, _⟩ => ⟨S8x256x1024, .f32⟩
  | .hbm, ⟨69, _⟩ => ⟨S8x256x1024, .f32⟩
  | .hbm, ⟨70, _⟩ => ⟨S8x4096x1024, .f32⟩
  | .hbm, ⟨71, _⟩ => ⟨S8x4096x1024, .f32⟩
  | .hbm, ⟨72, _⟩ => ⟨S8x4352x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call8_call0_cst : Ref sig .tc := ⟨.hbm, 31, rfl⟩
abbrev main_call8_call0_v0 : Ref sig .tc := ⟨.hbm, 32, rfl⟩
abbrev main_v27 : Ref sig .tc := ⟨.hbm, 33, rfl⟩
abbrev main_c : Ref sig .tc := ⟨.hbm, 34, rfl⟩
abbrev main_v28 : Ref sig .tc := ⟨.hbm, 35, rfl⟩
abbrev main_call9_v0 : Ref sig .tc := ⟨.hbm, 36, rfl⟩
abbrev main_call9_c : Ref sig .tc := ⟨.hbm, 37, rfl⟩
abbrev main_call9_v1 : Ref sig .tc := ⟨.hbm, 38, rfl⟩
abbrev main_call9_v2 : Ref sig .tc := ⟨.hbm, 39, rfl⟩
abbrev main_call9_v3 : Ref sig .tc := ⟨.hbm, 40, rfl⟩
abbrev main_call9_v4 : Ref sig .tc := ⟨.hbm, 41, rfl⟩
abbrev main_call9_c_0 : Ref sig .tc := ⟨.hbm, 42, rfl⟩
abbrev main_call9_v5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst : Ref sig .tc := ⟨.hbm, 51, rfl⟩
abbrev main_call10_v0 : Ref sig .tc := ⟨.hbm, 52, rfl⟩
abbrev main_call10_v1 : Ref sig .tc := ⟨.hbm, 53, rfl⟩
abbrev main_call10_v2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.KernelIdeal.Trips.lean ====
/-
  The two head loops of the attention call, one trip at a time.

  A trip of either loop treats one query head: it lays the head's 64 query rows into a zeroed 256x256 buffer at the rows
  of its key head, multiplies the keys by that buffer, takes the softmax down the keys, multiplies by the head's values,
  and stores the 64 output rows. The trip's result depends on the three operands only, never on what the two scratch
  buffers held: `ctxHead` (the context tokens' loop, 256 keys) and `latHead` (all 4352 keys) say what it is.
-/
module

public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.Value
public import Idealize.ShloMosaic.Lib.WritesUnit
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Where a trip reads and writes -/

theorem off1_at : ∀ k, k0_off1 k = ![0, 64 * k.val, 0] := by decide +kernel
theorem off2_at : ∀ k, k0_off2 k = ![64 * (k.val / 4), 0] := by decide +kernel
theorem off3_at : ∀ k, k0_off3 k = ![0, 64 * (k.val / 4), 0] := by decide +kernel
theorem off4_at : ∀ k, k0_off4 k = ![64 * k.val, 0] := by decide +kernel
theorem off5_at : ∀ k, k0_off5 k = ![0, 64 * k.val, 0] := by decide +kernel
theorem off6_at : ∀ k, k0_off6 k = ![64 * (k.val / 4), 0] := by decide +kernel
theorem off7_at : ∀ k, k0_off7 k = ![0, 64 * (k.val / 4), 0] := by decide +kernel
theorem off8_at : ∀ k, k0_off8 k = ![64 * k.val, 0] := by decide +kernel

instance (k : Fin k0_t1_loop.trips) : ClosedOff (k0_off2 k) := ⟨_, off2_at k⟩
instance (k : Fin k0_t2_loop.trips) : ClosedOff (k0_off6 k) := ⟨_, off6_at k⟩

/-! ## What a trip computes -/

/-- Head `h`'s query rows of the block. -/
def qRows (x0 : Vec F S1x1024x256 .bf16) (h : Fin 16) : Vec F S1x64x256 .bf16 :=
  fun y => x0 (ix3 0 ⟨64 * h.val + (y 1).val, by have h1 : (y 1).val < 64 := (y 1).isLt; show _ < 1024; omega⟩ (y 2))

/-- The zeroed buffer with head `h`'s query rows laid at the rows of its key head. -/
def qPad (x0 : Vec F S1x1024x256 .bf16) (h : Fin 16) : Vec F S256x256 .bf16 := fun y =>
  if hy : 64 * (h.val / 4) ≤ (y 0).val ∧ (y 0).val < 64 * (h.val / 4) + 64 then
    k0_pay5 (qRows x0 h) (ix2 ⟨(y 0).val - 64 * (h.val / 4), by omega⟩ (y 1))
  else k0_pay4 y

/-- The context keys. -/
def ctxKeys (x1 : Vec F S1x4352x256 .bf16) : Vec F S1x256x256 .bf16 :=
  fun y => x1 (ix3 0 ⟨(y 1).val, by have h1 : (y 1).val < 256 := (y 1).isLt; show _ < 4352; omega⟩ (y 2))

/-- The context values of head `h`'s key head. -/
def ctxVals (x2 : Vec F S1x256x4352 .bf16) (h : Fin 16) : Vec F S1x64x256 .bf16 :=
  fun y => x2 (ix3 0 ⟨64 * (h.val / 4) + (y 1).val, by have h1 : (y 1).val < 64 := (y 1).isLt; show _ < 256; omega⟩
    ⟨(y 2).val, by have h1 : (y 2).val < 256 := (y 2).isLt; show _ < 4352; omega⟩)

/-- All values of head `h`'s key head. -/
def latVals (x2 : Vec F S1x256x4352 .bf16) (h : Fin 16) : Vec F S1x64x4352 .bf16 :=
  fun y => x2 (ix3 0 ⟨64 * (h.val / 4) + (y 1).val, by have h1 : (y 1).val < 64 := (y 1).isLt; show _ < 256; omega⟩ (y 2))

/-- The 64 output rows of head `h`, attending to the context keys. -/
def ctxHead (x0 : Vec F S1x1024x256 .bf16) (x1 : Vec F S1x4352x256 .bf16) (x2 : Vec F S1x256x4352 .bf16) (h : Fin 16) :
    FVec F S64x256 .f32 :=
  k0_pay1 (k0_pay6 (ctxKeys x1) (qPad x0 h)) (ctxVals x2 h)

/-- The 64 output rows of head `h`, attending to every key. -/
def latHead (x0 : Vec F S1x1024x256 .bf16) (x1 : Vec F S1x4352x256 .bf16) (x2 : Vec F S1x256x4352 .bf16) (h : Fin 16) :
    FVec F S64x256 .f32 :=
  k0_pay2 (k0_pay9 x1 (qPad x0 h)) (latVals x2 h)

/-- Sixteen heads of 64 rows, one under the other. -/
def stack (g : Fin 16 → FVec F S64x256 .f32) : Vec F S1024x256 .f32 := fun y =>
  g ⟨(y 0).val / 64, by have h0 : (y 0).val < 1024 := (y 0).isLt; omega⟩
    (ix2 ⟨(y 0).val % 64, Nat.mod_lt _ (by decide)⟩ (y 1))

/-- The rows of `f` above `64 k` hold the heads below `k`. -/
def Upto (g : Fin 16 → FVec F S64x256 .f32) (k : ℕ) (X : Vec F S1024x256 .f32) : Prop :=
  ∀ y : S1024x256.Idx, (y 0).val < 64 * k → X y = stack g y

theorem Upto.full {g : Fin 16 → FVec F S64x256 .f32} {k : ℕ} {X : Vec F S1024x256 .f32} (h : Upto g k X) (hk : 16 ≤ k) :
    X = stack g := funext fun y => h y (by have h0 : (y 0).val < 1024 := (y 0).isLt; omega)

theorem Upto.zero (g : Fin 16 → FVec F S64x256 .f32) (X : Vec F S1024x256 .f32) : Upto g 0 X := fun y hy => by omega

/-- One more head stored under the earlier ones. -/
theorem Upto.succ {g : Fin 16 → FVec F S64x256 .f32} {k : ℕ} (hk : k < 16) (v : View sig .tc .vmem S1024x256 .f32)
    (f : v.ty.Contents (Elt F)) {off : Fin 2 → ℕ} (hoff : off = ![64 * k, 0])
    (inb : ∀ a, off a + S64x256.size a ≤ S1024x256.size a) (P : (Rect.unit (s := S1024x256) off S64x256.size inb).shape.Idx → Elt F .f32)
    (hP : ∀ x, P x = g ⟨k, hk⟩ x) (h : Upto g k (v.read (Elt F) f)) :
    Upto g (k + 1) (v.read (Elt F) (v.writes (Elt F) f [⟨Rect.unit (s := S1024x256) off S64x256.size inb, P⟩])) := fun y hy => by
  rw [View.read_writes_cons_rows v f inb P [] y (o := 64 * k) (W := 64) hoff rfl rfl]
  have h0 : (y 0).val < 1024 := (y 0).isLt
  split
  · next hm =>
    rw [hP]
    unfold stack
    have e : (⟨(y 0).val / 64, by omega⟩ : Fin 16) = ⟨k, hk⟩ := Fin.ext (by show (y 0).val / 64 = k; omega)
    rw [e]
    congr 1
    funext a
    match a with
    | ⟨0, _⟩ => exact Fin.ext (by show (y 0).val - 64 * k = (y 0).val % 64; omega)
    | ⟨1, _⟩ => exact Fin.ext (by show (y 1).val - 0 = (y 1).val; omega)
  · next hm => exact h y (by omega)

/-- The padded buffer read back whole after the zero fill and the head's rows. -/
theorem qPad_read (x0 : Vec F S1x1024x256 .bf16) (h : Fin 16) (v : View sig .tc .vmem S256x256 .bf16)
    (f : v.ty.Contents (Elt F)) {off : Fin 2 → ℕ} (hoff : off = ![64 * (h.val / 4), 0])
    (inb : ∀ a, off a + S64x256.size a ≤ S256x256.size a)
    (inz : ∀ a, (![0, 0] : Fin 2 → ℕ) a + S256x256.size a ≤ S256x256.size a)
    (P : (Rect.unit (s := S256x256) off S64x256.size inb).shape.Idx → Elt F .bf16) (hP : ∀ x, P x = k0_pay5 (qRows x0 h) x)
    (y : S256x256.Idx) :
    v.read (Elt F) (v.writes (Elt F) f [⟨Rect.unit off S64x256.size inb, P⟩, ⟨Rect.unit ![0, 0] S256x256.size inz, k0_pay4⟩]) y
      = qPad x0 h y := by
  rw [View.read_writes_cons_rows v f inb P _ y (o := 64 * (h.val / 4)) (W := 64) hoff rfl rfl]
  unfold qPad
  split
  · next hm =>
    rw [hP]
    congr 1
    funext a
    match a with
    | ⟨0, _⟩ => rfl
    | ⟨1, _⟩ => exact Fin.ext (by show (y 1).val - 0 = (y 1).val; omega)
  · next hm =>
    exact View.read_writes_cons_rows_of_mem v f inz k0_pay4 [] y y rfl (Nat.zero_add _).symm rfl

/-- What the head's query rows load as. -/
theorem qRows_load (x0 : Vec F S1x1024x256 .bf16) (h : Fin 16) {off : Fin 3 → ℕ} (hoff : off = ![0, 64 * h.val, 0])
    (inb : ∀ a, off a + S1x64x256.size a ≤ S1x1024x256.size a) :
    View.ld x0 (Rect.unit off S1x64x256.size inb) = qRows x0 h := by
  subst hoff
  funext y
  unfold View.ld qRows
  congr 1
  funext a
  have h0 : (y 0).val < 1 := (y 0).isLt
  match a with
  | ⟨0, _⟩ => exact Fin.ext (by show 0 + 1 * (y 0).val = 0; omega)
  | ⟨1, _⟩ => exact Fin.ext (by show 64 * h.val + 1 * (y 1).val = 64 * h.val + (y 1).val; omega)
  | ⟨2, _⟩ => exact Fin.ext (by show 0 + 1 * (y 2).val = (y 2).val; omega)

theorem ctxKeys_load (x1 : Vec F S1x4352x256 .bf16)
    (inb : ∀ a, (![0, 0, 0] : Fin 3 → ℕ) a + S1x256x256.size a ≤ S1x4352x256.size a) :
    View.ld x1 (Rect.unit ![0, 0, 0] S1x256x256.size inb) = ctxKeys x1 := by
  funext y
  unfold View.ld ctxKeys
  congr 1
  funext a
  have h0 : (y 0).val < 1 := (y 0).isLt
  match a with
  | ⟨0, _⟩ => exact Fin.ext (by show 0 + 1 * (y 0).val = 0; omega)
  | ⟨1, _⟩ => exact Fin.ext (by show 0 + 1 * (y 1).val = (y 1).val; omega)
  | ⟨2, _⟩ => exact Fin.ext (by show 0 + 1 * (y 2).val = (y 2).val; omega)

theorem latKeys_load (x1 : Vec F S1x4352x256 .bf16)
    (inb : ∀ a, (![0, 0, 0] : Fin 3 → ℕ) a + S1x4352x256.size a ≤ S1x4352x256.size a) :
    View.ld x1 (Rect.unit ![0, 0, 0] S1x4352x256.size inb) = x1 :=
  View.ld_unit_zero (S := S1x4352x256) (funext fun a => by fin_cases a <;> rfl) inb x1

theorem ctxVals_load (x2 : Vec F S1x256x4352 .bf16) (h : Fin 16) {off : Fin 3 → ℕ} (hoff : off = ![0, 64 * (h.val / 4), 0])
    (inb : ∀ a, off a + S1x64x256.size a ≤ S1x256x4352.size a) :
    View.ld x2 (Rect.unit off S1x64x256.size inb) = ctxVals x2 h := by
  subst hoff
  funext y
  unfold View.ld ctxVals
  congr 1
  funext a
  have h0 : (y 0).val < 1 := (y 0).isLt
  match a with
  | ⟨0, _⟩ => exact Fin.ext (by show 0 + 1 * (y 0).val = 0; omega)
  | ⟨1, _⟩ => exact Fin.ext (by show 64 * (h.val / 4) + 1 * (y 1).val = 64 * (h.val / 4) + (y 1).val; omega)
  | ⟨2, _⟩ => exact Fin.ext (by show 0 + 1 * (y 2).val = (y 2).val; omega)

theorem latVals_load (x2 : Vec F S1x256x4352 .bf16) (h : Fin 16) {off : Fin 3 → ℕ} (hoff : off = ![0, 64 * (h.val / 4), 0])
    (inb : ∀ a, off a + S1x64x4352.size a ≤ S1x256x4352.size a) :
    View.ld x2 (Rect.unit off S1x64x4352.size inb) = latVals x2 h := by
  subst hoff
  funext y
  unfold View.ld latVals
  congr 1
  funext a
  have h0 : (y 0).val < 1 := (y 0).isLt
  match a with
  | ⟨0, _⟩ => exact Fin.ext (by show 0 + 1 * (y 0).val = 0; omega)
  | ⟨1, _⟩ => exact Fin.ext (by show 64 * (h.val / 4) + 1 * (y 1).val = 64 * (h.val / 4) + (y 1).val; omega)
  | ⟨2, _⟩ => exact Fin.ext (by show 0 + 1 * (y 2).val = (y 2).val; omega)

end Cert.KernelIdeal.Hand

end
-- ==== Proof.KernelIdeal.Loops.lean ====
/-
  The invariants of the two head loops: before trip `k` the operands are as they were, the padded buffer holds anything,
  and the output scratch's first `64 k` rows hold the heads below `k`.
-/
module

public import proofs.«01_k».proof.Proof.KernelIdeal.Trips

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Before trip `k` of loop 1. -/
abbrev inv1 (c : Dev nD) (arg2 : Memref sig .tc .vmem S1x1024x256 .bf16) (arg3 : Memref sig .tc .vmem S1x4352x256 .bf16) (arg4 : Memref sig .tc .vmem S1x256x4352 .bf16) (arg9 : Memref sig .tc .vmem S256x256 .bf16) (arg10 : Memref sig .tc .vmem S1024x256 .f32) (X2 : BufTy.Contents (Elt F) arg2.view.ty) (X3 : BufTy.Contents (Elt F) arg3.view.ty) (X4 : BufTy.Contents (Elt F) arg4.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, arg9.view.loc (c : Thread nD τ) ↦[arg9.view.set]{fullShare} f) ∗ (∃ f, (arg10.view.loc (c : Thread nD τ) ↦[arg10.view.set]{fullShare} f) ∗ ⌜Upto (ctxHead (arg2.view.read (Elt F) X2) (arg3.view.read (Elt F) X3) (arg4.view.read (Elt F) X4)) k (arg10.view.read (Elt F) f)⌝))

set_option warn.classDefReducibility false in
/-- One trip of loop 1 adds one head's rows. -/
@[sl_loop] def loop1 (𝒱 : Variants) (c : Dev nD) (bd : Option 𝒱.V) (E : Set ℕ) (i : grid0.Coords) (arg2 : Memref sig .tc .vmem S1x1024x256 .bf16) (harg2 : arg2.IsWhole) (arg3 : Memref sig .tc .vmem S1x4352x256 .bf16) (harg3 : arg3.IsWhole) (arg4 : Memref sig .tc .vmem S1x256x4352 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x256 .bf16) (harg9 : arg9.IsWhole) (arg10 : Memref sig .tc .vmem S1024x256 .f32) (harg10 : arg10.IsWhole) (hc : k0_cond1 i = 1#1) (X2 : BufTy.Contents (Elt F) arg2.view.ty) (X3 : BufTy.Contents (Elt F) arg3.view.ty) (X4 : BufTy.Contents (Elt F) arg4.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 hc where
  inv := inv1 (F := F) c arg2 arg3 arg4 arg9 arg10 X2 X3 X4
  step k acc := by
    have hk : k.val < 16 := Nat.lt_of_lt_of_le k.isLt k0_t1_abs.2.1
    unfold k0_t1_body
    iintro ⟨H2, H3, H4, ⟨%f9, H9⟩, ⟨%f10, H10, %h10⟩⟩
    sl_exec
    sl_step
    isplitl [H2]; · iexact H2
    isplitl [H3]; · iexact H3
    isplitl [H4]; · iexact H4
    isplitl [H9]; · iexists _; iexact H9
    iexists _; isplitl [H10]; · iexact H10
    ipureintro
    refine Upto.succ hk arg10.view f10 (off4_at k) _ _ (fun x => congrFun ?_ x) h10
    unfold ctxHead
    refine congrArg₂ k0_pay1 ?_ (ctxVals_load _ ⟨k.val, hk⟩ (off3_at k) _)
    refine congrArg₂ k0_pay6 (ctxKeys_load _ _) (funext fun y => ?_)
    refine (congrArg (arg9.view.read (Elt F) _) ?_).trans (qPad_read _ ⟨k.val, hk⟩ arg9.view arg9.view.junk (off2_at k) _ _ _ (fun x => congrFun (congrArg k0_pay5 (qRows_load _ ⟨k.val, hk⟩ (off1_at k) _)) x) y)
    funext a
    match a with
    | ⟨0, _⟩ => exact Fin.ext (by show 0 + 1 * (y 0).val = (y 0).val; omega)
    | ⟨1, _⟩ => exact Fin.ext (by show 0 + 1 * (y 1).val = (y 1).val; omega)

/-- Before trip `k` of loop 2. -/
abbrev inv2 (c : Dev nD) (arg2 : Memref sig .tc .vmem S1x1024x256 .bf16) (arg3 : Memref sig .tc .vmem S1x4352x256 .bf16) (arg4 : Memref sig .tc .vmem S1x256x4352 .bf16) (arg9 : Memref sig .tc .vmem S256x256 .bf16) (arg10 : Memref sig .tc .vmem S1024x256 .f32) (X2 : BufTy.Contents (Elt F) arg2.view.ty) (X3 : BufTy.Contents (Elt F) arg3.view.ty) (X4 : BufTy.Contents (Elt F) arg4.view.ty) (k : ℕ) (_u : PUnit) : sProp 𝕄 :=
  iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (∃ f, arg9.view.loc (c : Thread nD τ) ↦[arg9.view.set]{fullShare} f) ∗ (∃ f, (arg10.view.loc (c : Thread nD τ) ↦[arg10.view.set]{fullShare} f) ∗ ⌜Upto (latHead (arg2.view.read (Elt F) X2) (arg3.view.read (Elt F) X3) (arg4.view.read (Elt F) X4)) k (arg10.view.read (Elt F) f)⌝))

set_option warn.classDefReducibility false in
/-- One trip of loop 2 adds one head's rows. -/
@[sl_loop] def loop2 (𝒱 : Variants) (c : Dev nD) (bd : Option 𝒱.V) (E : Set ℕ) (i : grid0.Coords) (arg2 : Memref sig .tc .vmem S1x1024x256 .bf16) (harg2 : arg2.IsWhole) (arg3 : Memref sig .tc .vmem S1x4352x256 .bf16) (harg3 : arg3.IsWhole) (arg4 : Memref sig .tc .vmem S1x256x4352 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x256 .bf16) (harg9 : arg9.IsWhole) (arg10 : Memref sig .tc .vmem S1024x256 .f32) (harg10 : arg10.IsWhole) (hc : k0_cond2 i = 1#1) (X2 : BufTy.Contents (Elt F) arg2.view.ty) (X3 : BufTy.Contents (Elt F) arg3.view.ty) (X4 : BufTy.Contents (Elt F) arg4.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 hc where
  inv := inv2 (F := F) c arg2 arg3 arg4 arg9 arg10 X2 X3 X4
  step k acc := by
    have hk : k.val < 16 := Nat.lt_of_lt_of_le k.isLt k0_t2_abs.2.1
    unfold k0_t2_body
    iintro ⟨H2, H3, H4, ⟨%f9, H9⟩, ⟨%f10, H10, %h10⟩⟩
    sl_exec
    sl_step
    isplitl [H2]; · iexact H2
    isplitl [H3]; · iexact H3
    isplitl [H4]; · iexact H4
    isplitl [H9]; · iexists _; iexact H9
    iexists _; isplitl [H10]; · iexact H10
    ipureintro
    refine Upto.succ hk arg10.view f10 (off8_at k) _ _ (fun x => congrFun ?_ x) h10
    unfold latHead
    refine congrArg₂ k0_pay2 ?_ (latVals_load _ ⟨k.val, hk⟩ (off7_at k) _)
    refine congrArg₂ k0_pay9 (latKeys_load _ _) (funext fun y => ?_)
    refine (congrArg (arg9.view.read (Elt F) _) ?_).trans (qPad_read _ ⟨k.val, hk⟩ arg9.view arg9.view.junk (off6_at k) _ _ _ (fun x => congrFun (congrArg k0_pay5 (qRows_load _ ⟨k.val, hk⟩ (off5_at k) _)) x) y)
    funext a
    match a with
    | ⟨0, _⟩ => exact Fin.ext (by show 0 + 1 * (y 0).val = (y 0).val; omega)
    | ⟨1, _⟩ => exact Fin.ext (by show 0 + 1 * (y 1).val = (y 1).val; omega)

end Cert.KernelIdeal.Hand

end
-- ==== Proof.KernelIdeal.Body.lean ====
/-
  The kernel's body at a block of 256 query tokens: of the two `pl.when` branches exactly one runs; what it leaves in the
  output block is `ctxBlock` (the context tokens' block) or `latBlock` (a latent tokens' block) of the six operand blocks.
-/
module

public import proofs.«01_k».proof.Proof.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The output block of 256 context tokens. -/
def ctxBlock (x0 : Vec F S1x1024x256 .bf16) (x1 : Vec F S1x4352x256 .bf16) (x2 : Vec F S1x256x4352 .bf16) (x3 : Vec F S1024x1024 .bf16) (x4 : Vec F S1x256x1024 .f32) (x5 : Vec F S1x1x6x1024 .f32) : Vec F S1x256x1024 .f32 :=
  k0_pay3 (stack (ctxHead x0 x1 x2)) x3 x4 x5

/-- The output block of 256 latent tokens. -/
def latBlock (x0 : Vec F S1x1024x256 .bf16) (x1 : Vec F S1x4352x256 .bf16) (x2 : Vec F S1x256x4352 .bf16) (x3 : Vec F S1024x1024 .bf16) (x4 : Vec F S1x256x1024 .f32) (x5 : Vec F S1x1x6x1024 .f32) : Vec F S1x256x1024 .f32 :=
  k0_pay3 (stack (latHead x0 x1 x2)) x3 x4 x5

/-- Which branch a point of the grid takes: block 0 of a batch row is the context. -/
theorem cond1_at : ∀ t : Fin cfg0.N, k0_cond1 (grid0.coords t) = 1#1 ↔ t.val % 17 = 0 := by decide +kernel
theorem cond2_at : ∀ t : Fin cfg0.N, k0_cond2 (grid0.coords t) = 1#1 ↔ t.val % 17 ≠ 0 := by decide +kernel

/-- A buffer stored whole reads what was stored, its parts read from whole buffers. -/
theorem whole_store (v8 : View sig .tc .vmem S1x256x1024 .f32) (f6 : v8.ty.Contents (Elt F))
    (v10 : View sig .tc .vmem S1024x256 .f32) (f10 : v10.ty.Contents (Elt F)) (v5 : View sig .tc .vmem S1024x1024 .bf16)
    (f5 : v5.ty.Contents (Elt F)) (v6 : View sig .tc .vmem S1x256x1024 .f32) (g6 : v6.ty.Contents (Elt F))
    (v7 : View sig .tc .vmem S1x1x6x1024 .f32) (f7 : v7.ty.Contents (Elt F)) (b8) (b10) (b5) (b6) (b7) :
    v8.read (Elt F) (v8.writes (Elt F) f6 [⟨Rect.unit (s := S1x256x1024) ![0, 0, 0] S1x256x1024.size b8,
        k0_pay3 (v10.readAt (Elt F) (Rect.unit (s := S1024x256) ![0, 0] S1024x256.size b10).toLoadRect f10)
          (v5.readAt (Elt F) (Rect.unit (s := S1024x1024) ![0, 0] S1024x1024.size b5).toLoadRect f5)
          (v6.readAt (Elt F) (Rect.unit (s := S1x256x1024) ![0, 0, 0] S1x256x1024.size b6).toLoadRect g6)
          (v7.readAt (Elt F) (Rect.unit (s := S1x1x6x1024) ![0, 0, 0, 0] S1x1x6x1024.size b7).toLoadRect f7)⟩])
      = k0_pay3 (v10.read (Elt F) f10) (v5.read (Elt F) f5) (v6.read (Elt F) g6) (v7.read (Elt F) f7) := by
  have z2 : (![0, 0] : Fin 2 → ℕ) = fun _ => 0 := funext fun a => by fin_cases a <;> rfl
  have z3 : (![0, 0, 0] : Fin 3 → ℕ) = fun _ => 0 := funext fun a => by fin_cases a <;> rfl
  have z4 : (![0, 0, 0, 0] : Fin 4 → ℕ) = fun _ => 0 := funext fun a => by fin_cases a <;> rfl
  rw [View.readAt_eq_ld, View.readAt_eq_ld, View.readAt_eq_ld, View.readAt_eq_ld,
    View.ld_unit_zero (S := S1024x256) z2, View.ld_unit_zero (S := S1024x1024) z2, View.ld_unit_zero (S := S1x256x1024) z3,
    View.ld_unit_zero (S := S1x1x6x1024) z4]
  funext y
  exact View.read_writes_cons_unit_of_mem v8 f6 b8 _ [] y y z3 fun a => (Nat.zero_add _).symm

set_option maxHeartbeats 2000000 in
/-- The body at a block of context tokens. -/
theorem body_ctx (c : Dev nD) (i : grid0.Coords) (arg2 : Memref sig .tc .vmem S1x1024x256 .bf16) (harg2 : arg2.IsWhole) (arg3 : Memref sig .tc .vmem S1x4352x256 .bf16) (harg3 : arg3.IsWhole) (arg4 : Memref sig .tc .vmem S1x256x4352 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x256 .bf16) (harg9 : arg9.IsWhole) (arg10 : Memref sig .tc .vmem S1024x256 .f32) (harg10 : arg10.IsWhole) (hc1 : k0_cond1 i = 1#1) (hc2 : ¬k0_cond2 i = 1#1) (x0 : Vec F S1x1024x256 .bf16) (x1 : Vec F S1x4352x256 .bf16) (x2 : Vec F S1x256x4352 .bf16) (x3 : Vec F S1024x1024 .bf16) (x4 : Vec F S1x256x1024 .f32) (x5 : Vec F S1x1x6x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (ctxBlock x0 x1 x2 x3 x4 x5) ∗ (∃ d, owns (c : Thread nD τ) arg9 fullShare d) ∗ (∃ d, owns (c : Thread nD τ) arg10 fullShare d)) -∗ K ⟨⟩))
      ⊢ wp frame (wpE (defs₀ (F := F)) Variants.none c none) E (cc0_attn_core i arg2 harg2 arg3 harg3 arg4 harg4 arg5 harg5 arg6 harg6 arg7 harg7 arg8 harg8 arg9 harg9 arg10 harg10) K := by
  simp only [cc0_attn_core_eq_skeleton]; unfold cc0_attn_core_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  have hz := fun g => Upto.zero (F := F) g (arg10.view.read (Elt F) fs1)
  have hz' := hz (ctxHead (arg2.view.read (Elt F) (harg2.unread x0)) (arg3.view.read (Elt F) (harg3.unread x1)) (arg4.view.read (Elt F) (harg4.unread x2)))
  sl_exec (disch := first | sl_exact hc1 | sl_exact hc2)
  sl_step
  clear hz hz'
  have hL := Upto.full (F := F) ‹Upto _ (Scf.trips k0_t1_loop.lb k0_t1_loop.ub k0_t1_loop.st) _› (by decide +kernel)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [whole_store, hL, harg2.read_unread, harg3.read_unread, harg4.read_unread, harg5.read_unread, harg6.read_unread, harg7.read_unread]
    rfl
  isplitl [HS0]
  · iexists _, _; isplitr; swap; · iexact HS0
    ipureintro; rfl
  iexists _, _; isplitr; swap; · iexact HS1
  ipureintro; rfl

set_option maxHeartbeats 2000000 in
/-- The body at a block of latent tokens. -/
theorem body_lat (c : Dev nD) (i : grid0.Coords) (arg2 : Memref sig .tc .vmem S1x1024x256 .bf16) (harg2 : arg2.IsWhole) (arg3 : Memref sig .tc .vmem S1x4352x256 .bf16) (harg3 : arg3.IsWhole) (arg4 : Memref sig .tc .vmem S1x256x4352 .bf16) (harg4 : arg4.IsWhole) (arg5 : Memref sig .tc .vmem S1024x1024 .bf16) (harg5 : arg5.IsWhole) (arg6 : Memref sig .tc .vmem S1x256x1024 .f32) (harg6 : arg6.IsWhole) (arg7 : Memref sig .tc .vmem S1x1x6x1024 .f32) (harg7 : arg7.IsWhole) (arg8 : Memref sig .tc .vmem S1x256x1024 .f32) (harg8 : arg8.IsWhole) (arg9 : Memref sig .tc .vmem S256x256 .bf16) (harg9 : arg9.IsWhole) (arg10 : Memref sig .tc .vmem S1024x256 .f32) (harg10 : arg10.IsWhole) (hc1 : ¬k0_cond1 i = 1#1) (hc2 : k0_cond2 i = 1#1) (x0 : Vec F S1x1024x256 .bf16) (x1 : Vec F S1x4352x256 .bf16) (x2 : Vec F S1x256x4352 .bf16) (x3 : Vec F S1024x1024 .bf16) (x4 : Vec F S1x256x1024 .f32) (x5 : Vec F S1x1x6x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (latBlock x0 x1 x2 x3 x4 x5) ∗ (∃ d, owns (c : Thread nD τ) arg9 fullShare d) ∗ (∃ d, owns (c : Thread nD τ) arg10 fullShare d)) -∗ K ⟨⟩))
      ⊢ wp frame (wpE (defs₀ (F := F)) Variants.none c none) E (cc0_attn_core i arg2 harg2 arg3 harg3 arg4 harg4 arg5 harg5 arg6 harg6 arg7 harg7 arg8 harg8 arg9 harg9 arg10 harg10) K := by
  simp only [cc0_attn_core_eq_skeleton]; unfold cc0_attn_core_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  have hz := fun g => Upto.zero (F := F) g (arg10.view.read (Elt F) fs1)
  have hz' := hz (latHead (arg2.view.read (Elt F) (harg2.unread x0)) (arg3.view.read (Elt F) (harg3.unread x1)) (arg4.view.read (Elt F) (harg4.unread x2)))
  sl_exec (disch := first | sl_exact hc1 | sl_exact hc2)
  sl_step
  clear hz hz'
  have hL := Upto.full (F := F) ‹Upto _ (Scf.trips k0_t2_loop.lb k0_t2_loop.ub k0_t2_loop.st) _› (by decide +kernel)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro
    rw [whole_store, hL, harg2.read_unread, harg3.read_unread, harg4.read_unread, harg5.read_unread, harg6.read_unread, harg7.read_unread]
    rfl
  isplitl [HS0]
  · iexists _, _; isplitr; swap; · iexact HS0
    ipureintro; rfl
  iexists _, _; isplitr; swap; · iexact HS1
  ipureintro; rfl

end Cert.KernelIdeal.Hand

end
-- ==== Proof.KernelIdeal.Run.lean ====
/-
  The launch of the attention call: at every point of the grid the body turns the operand blocks into the output block, so
  every run of the program ends with its arguments unchanged, every semaphore counter at zero, and the result array as the
  pipeline's write-backs leave it.
-/
module

public import proofs.«01_k».proof.Proof.KernelIdeal.Body
public import Idealize.ShloMosaic.Lib.Quiescent
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output block at point `t`. -/
def outBlk (c : Dev nD) (t : Fin cfg0.N) : Vec F S1x256x1024 .f32 :=
  if t.val % 17 = 0 then
    ctxBlock (iblk m c 0 t) (iblk m c 1 t) (iblk m c 2 t) (iblk m c 3 t) (iblk m c 4 t) (iblk m c 5 t)
  else latBlock (iblk m c 0 t) (iblk m c 1 t) (iblk m c 2 t) (iblk m c 3 t) (iblk m c 4 t) (iblk m c 5 t)

/-- The pipeline's proof data: inputs stay at their blocks, the output at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ _ := Pipeline.ΦA spec0 c
  q _ := fullShare
  owed _ := 0

theorem arrays (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = outBlk m c t := by dsimp only [dats]

theorem found0 (c : Dev nD) (t : Fin cfg0.N) (d) : (dats m 0 c).before 0 t d = iblk m c 0 t :=
  before0_0_of m (dats m 0 c) (arrays m c 0) (left0 m c) t d
theorem found1 (c : Dev nD) (t : Fin cfg0.N) (d) : (dats m 0 c).before 1 t d = iblk m c 1 t :=
  before0_1_of m (dats m 0 c) (arrays m c 1) (left1 m c) t d
theorem found2 (c : Dev nD) (t : Fin cfg0.N) (d) : (dats m 0 c).before 2 t d = iblk m c 2 t :=
  before0_2_of m (dats m 0 c) (arrays m c 2) (left2 m c) t d
theorem found3 (c : Dev nD) (t : Fin cfg0.N) (d) : (dats m 0 c).before 3 t d = iblk m c 3 t :=
  before0_3_of m (dats m 0 c) (arrays m c 3) (left3 m c) t d
theorem found4 (c : Dev nD) (t : Fin cfg0.N) (d) : (dats m 0 c).before 4 t d = iblk m c 4 t :=
  before0_4_of m (dats m 0 c) (arrays m c 4) (left4 m c) t d
theorem found5 (c : Dev nD) (t : Fin cfg0.N) (d) : (dats m 0 c).before 5 t d = iblk m c 5 t :=
  before0_5_of m (dats m 0 c) (arrays m c 5) (left5 m c) t d

/-- The two scratch buffers, at anything, beside the generator register. -/
theorem scratches (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)) ∗ (∃ r, prngReg c r)) := by
  unfold Pipeline.ΦA; rw [scopedRest0_eq]; simp only [owns_whole]; try rfl

abbrev stg (w : Fin cfg0.W) (t : Fin cfg0.N) := (cfg0.win w).stage (cfg0.slots t w)

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d)))

/-- What it leaves. -/
def post (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t))

set_option maxHeartbeats 2000000 in
/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [found0, found1, found2, found3, found4, found5]
  rw [show (dats m 0 c).Φ t.succ = (dats m 0 c).Φ t.castSucc from rfl,
    show (dats m 0 c).owesAt () t.succ = (dats m 0 c).owesAt () t.castSucc from rfl,
    left0, left1, left2, left3, left4, left5, left6]
  rw [show (dats m 0 c).Φ t.castSucc = Pipeline.ΦA spec0 c from rfl, scratches]
  by_cases h : t.val % 17 = 0
  · rw [show outBlk m c t = _ from if_pos h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_ctx c (grid0.coords t) _ _ _ _ _ _ _ _ _ _ _ _ _ _ _ _ _ _ ((cond1_at t).mpr h) (fun h2 => (cond2_at t).mp h2 h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show outBlk m c t = _ from if_neg h]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (body_lat c (grid0.coords t) _ _ _ _ _ _ _ _ _ _ _ _ _ _ _ _ _ _ (fun h1 => h ((cond1_at t).mp h1)) ((cond2_at t).mpr h) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem row_at (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_at]
  exact Idealize.ShloMosaic.triple_restated (body_at m c t) rfl .rfl fun _ => .rfl

set_option backward.isDefEq.respectTransparency.types false in
/-- Every run ends, with the arrays at the pipeline's last contents and the counters at zero. -/
theorem run : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hΦ := fun _ _ => rfl)

/-- The arguments end unchanged and the counters at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (arrays m) ((θ_run defs _ _).mono (fun _ h => h.1) (run m ρ)))
    ((θ_run defs _ _).mono (fun _ h => h.2) (run m ρ))

end Cert.KernelIdeal.Hand

end
-- ==== Proof.Softmax.lean ====
/-
  One softmax-weighted sum over the extended reals, two ways: the weights divided by their sum before they meet the values
  (the reference), or the sum of products divided once (the kernel). With finite scores the two agree, whatever the values
  are. Beside it, the product of a row by a zero-padded column, which is the product over the unpadded rows.
-/
module

public import Idealize.ShloMosaic.PureOps.Ideal
public import Mathlib.Data.EReal.Operations

@[expose] public section

noncomputable section

namespace Cert.Softmax

open Idealize.ShloMosaic

variable {n : ℕ}

/-- A score's weight before normalization: the exponential of its distance to the largest score. -/
def weight (s : Fin n → EReal) (k : Fin n) : EReal := Ideal.exp (s k - Finset.univ.fold max ⊥ s)

/-- The products summed, then divided by the weights' sum. -/
def after (s v : Fin n → EReal) : EReal := Ideal.div (∑ k, v k * weight s k) (∑ k, weight s k)

/-- The softmax of the scores, applied to the values. -/
def before (s v : Fin n → EReal) : EReal := ∑ k, v k * Ideal.div (weight s k) (∑ k', weight s k')

theorem sum_mul_real {ι : Type*} (t : Finset ι) (f : ι → EReal) {c : ℝ} (hc : 0 ≤ c) :
    (∑ k ∈ t, f k) * (c : EReal) = ∑ k ∈ t, f k * (c : EReal) := by
  classical
  refine Finset.induction_on t (by simp) fun a s ha ih => ?_
  rw [Finset.sum_insert ha, Finset.sum_insert ha, ← ih]
  exact EReal.right_distrib_of_nonneg_of_ne_top (by exact_mod_cast hc) (EReal.coe_ne_top c) _ _

theorem coe_sum {ι : Type*} (t : Finset ι) (f : ι → ℝ) : ((∑ k ∈ t, f k : ℝ) : EReal) = ∑ k ∈ t, (f k : EReal) := by
  classical
  refine Finset.induction_on t (by simp) fun a s ha ih => ?_
  rw [Finset.sum_insert ha, Finset.sum_insert ha, ← ih, EReal.coe_add]

/-- The two orders of division agree. -/
theorem after_eq_before (hn : 0 < n) (s v : Fin n → EReal) (hs : ∀ k, ∃ r : ℝ, s k = r) : after s v = before s v := by
  choose r hr using hs
  haveI : Nonempty (Fin n) := ⟨⟨0, hn⟩⟩
  obtain ⟨k0, -, hk0⟩ := Finset.exists_mem_eq_sup (Finset.univ : Finset (Fin n)) Finset.univ_nonempty s
  have hM : Finset.univ.fold max ⊥ s = (r k0 : EReal) := by rw [← hr k0]; exact hk0
  have hw : ∀ k, weight s k = ((Real.exp (r k - r k0) : ℝ) : EReal) := fun k => by
    unfold weight
    rw [hM, hr k, ← EReal.coe_sub]
    rfl
  have hl : ∑ k, weight s k = ((∑ k, Real.exp (r k - r k0) : ℝ) : EReal) := by
    rw [coe_sum]; exact Finset.sum_congr rfl fun k _ => hw k
  have hpos : 0 < ∑ k, Real.exp (r k - r k0) := Finset.sum_pos (fun k _ => Real.exp_pos _) Finset.univ_nonempty
  unfold after before
  rw [hl, Ideal.div_coe hpos.ne', sum_mul_real _ _ (by positivity)]
  refine Finset.sum_congr rfl fun k _ => ?_
  rw [Ideal.div_coe hpos.ne', mul_assoc]

/-- A sum of products of finite entries is finite. -/
theorem real_dot {ι : Type*} (t : Finset ι) (a b : ι → EReal) (ha : ∀ k, ∃ r : ℝ, a k = r) (hb : ∀ k, ∃ r : ℝ, b k = r) :
    ∃ r : ℝ, ∑ k ∈ t, a k * b k = r := by
  choose ra hra using ha
  choose rb hrb using hb
  refine ⟨∑ k ∈ t, ra k * rb k, ?_⟩
  rw [coe_sum]
  exact Finset.sum_congr rfl fun k _ => by rw [hra, hrb, EReal.coe_mul]

/-- A row against a column that is zero outside 64 entries. -/
theorem padded_dot (g : ℕ) (hg : 64 * g + 64 ≤ 256) (a : Fin 256 → EReal) (b : Fin 64 → EReal) (P : Fin 256 → EReal)
    (hin : ∀ (d : Fin 64), P ⟨64 * g + d.val, by omega⟩ = b d)
    (hout : ∀ c : Fin 256, ¬(64 * g ≤ c.val ∧ c.val < 64 * g + 64) → P c = 0) :
    ∑ c, a c * P c = ∑ d : Fin 64, a ⟨64 * g + d.val, by omega⟩ * b d := by
  symm
  refine Finset.sum_of_injOn (fun d : Fin 64 => (⟨64 * g + d.val, by omega⟩ : Fin 256)) ?_ (fun _ _ => Finset.mem_coe.2 (Finset.mem_univ _)) ?_ ?_
  · intro d _ d' _ h
    have := congrArg Fin.val h
    exact Fin.ext (by simpa using this)
  · intro c _ hc
    rw [hout c, mul_zero]
    rintro ⟨h1, h2⟩
    exact hc ⟨⟨c.val - 64 * g, by omega⟩, Finset.mem_coe.2 (Finset.mem_univ _), Fin.ext (by show 64 * g + (c.val - 64 * g) = c.val; omega)⟩
  · intro d _
    rw [hin]

end Cert.Softmax

end
-- ==== Proof.KernelIdeal.Value.lean ====
/-
  What one block of the attention call holds, entry by entry, over the extended reals.
-/
module

public import proofs.«01_k».proof.Proof.KernelIdeal.Run
public import proofs.«01_k».proof.Proof.Softmax
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe
open Idealize.ShloMosaic.Pipeline (Window Dat)

theorem neg_top_bits : Ideal.ofBits .f32 0xFF800000#32 = ⊥ := by simp [Ideal.ofBits, Ideal.ieee]

/-- The context loop's softmax and product with the values. -/
theorem pay1_at (W : FVec Ideal S256x256 .f32) (X : Vec Ideal S1x64x256 .bf16) (d : Fin 64) (q : Fin 256) :
    k0_pay1 W X (ix2 d q) = Softmax.after (fun k : Fin 256 => W (ix2 k q)) (fun k => X (ix3 0 d k)) := by
  pointwise [k0_pay1]
  rw [neg_top_bits]
  rfl

theorem pay2_at (W : FVec Ideal S4352x256 .f32) (X : Vec Ideal S1x64x4352 .bf16) (d : Fin 64) (q : Fin 256) :
    k0_pay2 W X (ix2 d q) = Softmax.after (fun k : Fin 4352 => W (ix2 k q)) (fun k => X (ix3 0 d k)) := by
  pointwise [k0_pay2]
  rw [neg_top_bits]
  rfl

theorem pay6_at (K : Vec Ideal S1x256x256 .bf16) (Q : Vec Ideal S256x256 .bf16) (k q : Fin 256) :
    k0_pay6 K Q (ix2 k q) = ∑ c : Fin 256, K (ix3 0 k c) * Q (ix2 c q) := by
  pointwise [k0_pay6]

theorem pay9_at (K : Vec Ideal S1x4352x256 .bf16) (Q : Vec Ideal S256x256 .bf16) (k : Fin 4352) (q : Fin 256) :
    k0_pay9 K Q (ix2 k q) = ∑ c : Fin 256, K (ix3 0 k c) * Q (ix2 c q) := by
  pointwise [k0_pay9]

theorem pay3_at (O : Vec Ideal S1024x256 .f32) (W : Vec Ideal S1024x1024 .bf16) (X : Vec Ideal S1x256x1024 .f32)
    (M : Vec Ideal S1x1x6x1024 .f32) (q : Fin 256) (e : Fin 1024) :
    k0_pay3 O W X M (ix3 0 q e) = X (ix3 0 q e) + M (ix4 0 0 2 e) * ∑ r : Fin 1024, O (ix2 r q) * W (ix2 r e) := by
  pointwise [k0_pay3]

theorem pay4_at (c q : Fin 256) : k0_pay4 (F := Ideal) (ix2 c q) = 0 := by
  pointwise [k0_pay4]

theorem pay5_at (X : Vec Ideal S1x64x256 .bf16) (d : Fin 64) (q : Fin 256) : k0_pay5 X (ix2 d q) = X (ix3 0 d q) := by
  pointwise [k0_pay5]

/-! ## One head of one block -/

/-- The score of key `k` for query `q` of head `h`, within one batch. -/
def score (x0 : Vec Ideal S1x1024x256 .bf16) (x1 : Vec Ideal S1x4352x256 .bf16) (h : Fin 16) (q : Fin 256) (k : Fin 4352) : EReal :=
  ∑ d : Fin 64, x1 (ix3 0 k ⟨64 * (h.val / 4) + d.val, by omega⟩) * x0 (ix3 0 ⟨64 * h.val + d.val, by omega⟩ q)

theorem qPad_in (x0 : Vec Ideal S1x1024x256 .bf16) (h : Fin 16) (q : Fin 256) (d : Fin 64) :
    qPad x0 h (ix2 ⟨64 * (h.val / 4) + d.val, by omega⟩ q) = x0 (ix3 0 ⟨64 * h.val + d.val, by omega⟩ q) := by
  unfold qPad
  rw [dif_pos (by constructor <;> (show _ ; simp; try omega))]
  refine (pay5_at _ _ _).trans ?_
  unfold qRows
  congr 1
  idx_ext <;> simp

theorem qPad_out (x0 : Vec Ideal S1x1024x256 .bf16) (h : Fin 16) (q : Fin 256) (c : Fin 256)
    (hc : ¬(64 * (h.val / 4) ≤ c.val ∧ c.val < 64 * (h.val / 4) + 64)) : qPad x0 h (ix2 c q) = 0 := by
  unfold qPad
  rw [dif_neg (by simpa using hc)]
  exact pay4_at _ _

/-- The context head, entry by entry. -/
theorem ctxHead_at (x0 : Vec Ideal S1x1024x256 .bf16) (x1 : Vec Ideal S1x4352x256 .bf16) (x2 : Vec Ideal S1x256x4352 .bf16)
    (h : Fin 16) (d : Fin 64) (q : Fin 256) :
    ctxHead x0 x1 x2 h (ix2 d q)
      = Softmax.after (fun k : Fin 256 => score x0 x1 h q ⟨k.val, by omega⟩)
          (fun k => x2 (ix3 0 ⟨64 * (h.val / 4) + d.val, by omega⟩ ⟨k.val, by omega⟩)) := by
  unfold ctxHead
  rw [pay1_at]
  congr 1
  funext k
  rw [pay6_at]
  exact Softmax.padded_dot (h.val / 4) (by omega) (fun c => ctxKeys x1 (ix3 0 k c)) _ (fun c => qPad x0 h (ix2 c q))
    (qPad_in x0 h q) (qPad_out x0 h q)

/-- The latent head, entry by entry. -/
theorem latHead_at (x0 : Vec Ideal S1x1024x256 .bf16) (x1 : Vec Ideal S1x4352x256 .bf16) (x2 : Vec Ideal S1x256x4352 .bf16)
    (h : Fin 16) (d : Fin 64) (q : Fin 256) :
    latHead x0 x1 x2 h (ix2 d q)
      = Softmax.after (fun k : Fin 4352 => score x0 x1 h q k)
          (fun k => x2 (ix3 0 ⟨64 * (h.val / 4) + d.val, by omega⟩ k)) := by
  unfold latHead
  rw [pay2_at]
  congr 1
  funext k
  rw [pay9_at]
  exact Softmax.padded_dot (h.val / 4) (by omega) (fun c => x1 (ix3 0 k c)) _ (fun c => qPad x0 h (ix2 c q))
    (qPad_in x0 h q) (qPad_out x0 h q)

/-! ## The blocks a point reads -/

variable (m : (ℓ : Loc nD τ sig) → Buf (Elt Ideal) ℓ)

theorem at0 : ∀ t : Fin grid0.N, win0_0.index t = ![t.val / 17, 0, t.val % 17] := by decide +kernel
theorem at1 : ∀ t : Fin grid0.N, win0_1.index t = ![t.val / 17, 0, 0] := by decide +kernel
theorem at2 : ∀ t : Fin grid0.N, win0_2.index t = ![t.val / 17, 0, 0] := by decide +kernel
theorem at3 : ∀ t : Fin grid0.N, win0_3.index t = ![0, 0] := by decide +kernel
theorem at4 : ∀ t : Fin grid0.N, win0_4.index t = ![t.val / 17, t.val % 17, 0] := by decide +kernel
theorem at5 : ∀ t : Fin grid0.N, win0_5.index t = ![t.val / 17, if t.val % 17 = 0 then 0 else 1, 0, 0] := by decide +kernel
theorem at6 : ∀ t : Fin grid0.N, win0_6.index t = ![t.val / 17, t.val % 17, 0] := by decide +kernel

theorem lt_N (t : Fin cfg0.N) : t.val < 136 := by have h := t.isLt; exact lt_of_lt_of_eq h N_0

/-- The batch of a point. -/
def bat (t : Fin cfg0.N) : Fin 8 := ⟨t.val / 17, by have := lt_N t; omega⟩
/-- The token, in its batch, of row `q` of a point's block. -/
def tok (t : Fin cfg0.N) (q : Fin 256) : Fin 4352 := ⟨256 * (t.val % 17) + q.val, by omega⟩

theorem blk0_at (c : Dev nD) (t : Fin cfg0.N) (r : Fin 1024) (q : Fin 256) :
    iblk m c 0 t (ix3 0 r q) = m ((c : Thread nD τ).loc main_arg0) (ix3 (bat t) r (tok t q)) := by
  show V m c main_arg0 ((win0_0.rect t).emb (ix3 0 r q)) = _
  rw [V_main_arg0]
  congr 1
  funext a
  apply Fin.ext
  refine (Window.rect_emb_val win0_0 t _ a).trans ?_
  rw [at0 t]
  match a with
  | ⟨0, _⟩ => show t.val / 17 * 1 + 0 = t.val / 17; omega
  | ⟨1, _⟩ => show 0 * 1024 + r.val = r.val; omega
  | ⟨2, _⟩ => show t.val % 17 * 256 + q.val = 256 * (t.val % 17) + q.val; omega

theorem blk1_at (c : Dev nD) (t : Fin cfg0.N) (k : Fin 4352) (r : Fin 256) :
    iblk m c 1 t (ix3 0 k r) = m ((c : Thread nD τ).loc main_arg1) (ix3 (bat t) k r) := by
  show V m c main_arg1 ((win0_1.rect t).emb (ix3 0 k r)) = _
  rw [V_main_arg1]
  congr 1
  funext a
  apply Fin.ext
  refine (Window.rect_emb_val win0_1 t _ a).trans ?_
  rw [at1 t]
  match a with
  | ⟨0, _⟩ => show t.val / 17 * 1 + 0 = t.val / 17; omega
  | ⟨1, _⟩ => show 0 * 4352 + k.val = k.val; omega
  | ⟨2, _⟩ => show 0 * 256 + r.val = r.val; omega

theorem blk2_at (c : Dev nD) (t : Fin cfg0.N) (r : Fin 256) (k : Fin 4352) :
    iblk m c 2 t (ix3 0 r k) = m ((c : Thread nD τ).loc main_arg2) (ix3 (bat t) r k) := by
  show V m c main_arg2 ((win0_2.rect t).emb (ix3 0 r k)) = _
  rw [V_main_arg2]
  congr 1
  funext a
  apply Fin.ext
  refine (Window.rect_emb_val win0_2 t _ a).trans ?_
  rw [at2 t]
  match a with
  | ⟨0, _⟩ => show t.val / 17 * 1 + 0 = t.val / 17; omega
  | ⟨1, _⟩ => show 0 * 256 + r.val = r.val; omega
  | ⟨2, _⟩ => show 0 * 4352 + k.val = k.val; omega

/-- The output projection's weights as the call finds them: the host's cast changes no value. -/
theorem V_main_v0 (c : Dev nD) : V m c main_v0 = fun i => m ((c : Thread nD τ).loc main_arg3) i := by
  rfl

theorem blk3_at (c : Dev nD) (t : Fin cfg0.N) (r e : Fin 1024) :
    iblk m c 3 t (ix2 r e) = m ((c : Thread nD τ).loc main_arg3) (ix2 r e) := by
  show V m c main_v0 ((win0_3.rect t).emb (ix2 r e)) = _
  rw [V_main_v0]
  show m ((c : Thread nD τ).loc main_arg3) _ = _
  congr 1
  funext a
  apply Fin.ext
  refine (Window.rect_emb_val win0_3 t _ a).trans ?_
  rw [at3 t]
  match a with
  | ⟨0, _⟩ => show 0 * 1024 + r.val = r.val; omega
  | ⟨1, _⟩ => show 0 * 1024 + e.val = e.val; omega

theorem blk4_at (c : Dev nD) (t : Fin cfg0.N) (q : Fin 256) (e : Fin 1024) :
    iblk m c 4 t (ix3 0 q e) = m ((c : Thread nD τ).loc main_arg4) (ix3 (bat t) (tok t q) e) := by
  show V m c main_arg4 ((win0_4.rect t).emb (ix3 0 q e)) = _
  rw [V_main_arg4]
  congr 1
  funext a
  apply Fin.ext
  refine (Window.rect_emb_val win0_4 t _ a).trans ?_
  rw [at4 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk5_at (c : Dev nD) (t : Fin cfg0.N) (j : Fin 6) (e : Fin 1024) :
    iblk m c 5 t (ix4 0 0 j e)
      = m ((c : Thread nD τ).loc main_arg5) (ix4 (bat t) (if t.val % 17 = 0 then 0 else 1) j e) := by
  show V m c main_arg5 ((win0_5.rect t).emb (ix4 0 0 j e)) = _
  rw [V_main_arg5]
  congr 1
  funext a
  apply Fin.ext
  refine (Window.rect_emb_val win0_5 t _ a).trans ?_
  rw [at5 t]
  match a with
  | ⟨0, _⟩ => show t.val / 17 * 1 + 0 = t.val / 17; omega
  | ⟨1, _⟩ => show (if t.val % 17 = 0 then 0 else 1) * 1 + 0 = Fin.val (n := 2) (if t.val % 17 = 0 then 0 else 1); split <;> rfl
  | ⟨2, _⟩ => show 0 * 6 + j.val = j.val; omega
  | ⟨3, _⟩ => show 0 * 1024 + e.val = e.val; omega

/-! ## The result array -/

section Spec

variable (X0 : FVec Ideal S8x1024x4352 .bf16) (X1 : FVec Ideal S8x4352x256 .bf16) (X2 : FVec Ideal S8x256x4352 .bf16)
  (X3 : FVec Ideal S1024x1024 .f32) (X4 : FVec Ideal S8x4352x1024 .f32) (X5 : FVec Ideal S8x2x6x1024 .f32)

/-- The score of key `k` for query `q` of head `h` in batch `b`. -/
def gscore (b : Fin 8) (h : Fin 16) (q k : Fin 4352) : EReal :=
  ∑ d : Fin 64, X1 (ix3 b k ⟨64 * (h.val / 4) + d.val, by omega⟩) * X0 (ix3 b ⟨64 * h.val + d.val, by omega⟩ q)

/-- Output feature `r` (head `r / 64`) of a context query. -/
def ctxOut (b : Fin 8) (q : Fin 4352) (r : Fin 1024) : EReal :=
  Softmax.after (fun k : Fin 256 => gscore X0 X1 b ⟨r.val / 64, by omega⟩ q ⟨k.val, by omega⟩)
    (fun k => X2 (ix3 b ⟨64 * (r.val / 64 / 4) + r.val % 64, by omega⟩ ⟨k.val, by omega⟩))

/-- Output feature `r` (head `r / 64`) of a latent query. -/
def latOut (b : Fin 8) (q : Fin 4352) (r : Fin 1024) : EReal :=
  Softmax.after (fun k : Fin 4352 => gscore X0 X1 b ⟨r.val / 64, by omega⟩ q k)
    (fun k => X2 (ix3 b ⟨64 * (r.val / 64 / 4) + r.val % 64, by omega⟩ k))

/-- The result: the residual plus the gated projection of the heads' outputs. -/
def result : FVec Ideal S8x4352x1024 .f32 := fun i =>
  if (i 1).val < 256 then
    X4 (ix3 (i 0) (i 1) (i 2)) + X5 (ix4 (i 0) 0 2 (i 2)) * ∑ r : Fin 1024, ctxOut X0 X1 X2 (i 0) (i 1) r * X3 (ix2 r (i 2))
  else
    X4 (ix3 (i 0) (i 1) (i 2)) + X5 (ix4 (i 0) 1 2 (i 2)) * ∑ r : Fin 1024, latOut X0 X1 X2 (i 0) (i 1) r * X3 (ix2 r (i 2))

theorem result_ctx (b : Fin 8) (q : Fin 4352) (e : Fin 1024) (hq : q.val < 256) :
    result X0 X1 X2 X3 X4 X5 (ix3 b q e)
      = X4 (ix3 b q e) + X5 (ix4 b 0 2 e) * ∑ r : Fin 1024, ctxOut X0 X1 X2 b q r * X3 (ix2 r e) := if_pos hq

theorem result_lat (b : Fin 8) (q : Fin 4352) (e : Fin 1024) (hq : ¬q.val < 256) :
    result X0 X1 X2 X3 X4 X5 (ix3 b q e)
      = X4 (ix3 b q e) + X5 (ix4 b 1 2 e) * ∑ r : Fin 1024, latOut X0 X1 X2 b q r * X3 (ix2 r e) := if_neg hq

end Spec

/-- The result of device `c`'s arrays. -/
abbrev res (c : Dev nD) : FVec Ideal S8x4352x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem score_at (c : Dev nD) (t : Fin cfg0.N) (h : Fin 16) (q : Fin 256) (k : Fin 4352) :
    score (iblk m c 0 t) (iblk m c 1 t) h q k
      = gscore (m ((c : Thread nD τ).loc main_arg0)) (m ((c : Thread nD τ).loc main_arg1)) (bat t) h (tok t q) k := by
  unfold score gscore
  refine Finset.sum_congr rfl fun d _ => ?_
  exact congrArg₂ (· * ·) (blk1_at m c t k _) (blk0_at m c t _ q)

theorem outBlk_at (c : Dev nD) (t : Fin cfg0.N) (q : Fin 256) (e : Fin 1024) :
    outBlk m c t (ix3 0 q e) = res m c (ix3 (bat t) (tok t q) e) := by
  unfold outBlk res
  by_cases ht : t.val % 17 = 0
  · rw [if_pos ht, result_ctx _ _ _ _ _ _ _ _ _ (show (tok t q).val < 256 by unfold tok; show 256 * (t.val % 17) + q.val < 256; omega)]
    unfold ctxBlock
    refine (pay3_at _ _ _ _ q e).trans ?_
    refine congrArg₂ (· + ·) (blk4_at m c t q e) (congrArg₂ (· * ·) ((blk5_at m c t 2 e).trans (by rw [if_pos ht])) ?_)
    refine Finset.sum_congr rfl fun r _ => congrArg₂ (· * ·) ?_ (blk3_at m c t r e)
    refine (ctxHead_at (iblk m c 0 t) (iblk m c 1 t) (iblk m c 2 t) ⟨r.val / 64, by omega⟩ ⟨r.val % 64, by omega⟩ q).trans ?_
    exact congrArg₂ Softmax.after (funext fun k => score_at m c t _ q _) (funext fun k => blk2_at m c t _ _)
  · rw [if_neg ht, result_lat _ _ _ _ _ _ _ _ _ (show ¬(tok t q).val < 256 by unfold tok; show ¬256 * (t.val % 17) + q.val < 256; omega)]
    unfold latBlock
    refine (pay3_at _ _ _ _ q e).trans ?_
    refine congrArg₂ (· + ·) (blk4_at m c t q e) (congrArg₂ (· * ·) ((blk5_at m c t 2 e).trans (by rw [if_neg ht])) ?_)
    refine Finset.sum_congr rfl fun r _ => congrArg₂ (· * ·) ?_ (blk3_at m c t r e)
    refine (latHead_at (iblk m c 0 t) (iblk m c 1 t) (iblk m c 2 t) ⟨r.val / 64, by omega⟩ ⟨r.val % 64, by omega⟩ q).trans ?_
    exact congrArg₂ Softmax.after (funext fun k => score_at m c t _ q _) (funext fun k => blk2_at m c t _ _)

theorem flushed_eq (c : Dev nD) (t : Fin cfg0.N) :
    (dats m 0 c).flushed 6 t = ((cfg0.win 6).blk t).view.read (Elt Ideal) (res m c) := by
  unfold Pipeline.Dat.flushed
  rw [left6]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show outBlk m c t y = res m c ((win0_6.rect t).emb y)
  rw [hy]
  refine (outBlk_at m c t (y 1) (y 2)).trans ?_
  congr 1
  funext a
  apply Fin.ext
  refine Eq.trans ?_ (Window.rect_emb_val win0_6 t _ a).symm
  rw [at6 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 1024 + (y 2).val; omega

theorem cover (i : S8x4352x1024.Idx) : ∃ t : Fin cfg0.N, (cfg0.win 6).flush t = true ∧ i ∈ ((cfg0.win 6).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := lt_of_lt_of_eq (show _ < 136 by omega) N_0.symm
  refine ⟨⟨_, hN⟩, flush0_6 _, ?_⟩
  show i ∈ ((View.whole main_v1).slice (win0_6.rect ⟨_, hN⟩)).set
  rw [View.set_slice_whole, Rect.mem_set_unit]
  intro a
  show win0_6.index ⟨_, hN⟩ a * _ ≤ _ ∧ _ < win0_6.index ⟨_, hN⟩ a * _ + _
  rw [at6]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 1024 ≤ (i 2).val ∧ (i 2).val < 0 * 1024 + 1024; omega

/-- The result array after the launch. -/
theorem final (c : Dev nD) : (dats m 0 c).arrAt 6 cfg0.N = res m c :=
  (dats m 0 c).arrAt_eq_of_cover 6 (res m c) (fun t _ => flushed_eq m c t) cover

/-- The run's final state: the result array's contents, and the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final m c), h.2.1 c⟩)
    (θ_run_and ((θ_run defs _ _).mono (fun _ h => h.1) (run m ρ)) (quiet m ρ))

end Cert.KernelIdeal.Hand
end
-- ==== Proof.Reference.lean ====
/-
  The reference's result, entry by entry, over the extended reals: the softmax of the scores applied to the values,
  head by head, then the output projection, the gate and the residual.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.KernelIdeal.Value

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe
open Cert.KernelIdeal.Hand (gscore ctxOut latOut result neg_top_bits)

variable (x0 : FVec Ideal S8x1024x4352 .bf16) (x1 : FVec Ideal S8x4352x256 .bf16) (x2 : FVec Ideal S8x256x4352 .bf16)
  (x3 : FVec Ideal S1024x1024 .f32) (x4 : FVec Ideal S8x4352x1024 .f32) (x5 : FVec Ideal S8x2x6x1024 .f32)

/-- The head of group `g` and place `r`. -/
abbrev head (g r : Fin 4) : Fin 16 := ⟨4 * g.val + r.val, by omega⟩

theorem q_at (b : Fin 8) (q : Fin 4352) (g r : Fin 4) (d : Fin 64) :
    val_main_v2 (F := Ideal) x0 (ix5 b q g r d) = x0 (ix3 b ⟨64 * (4 * g.val + r.val) + d.val, by omega⟩ q) := by
  rw [val_main_v2_apply, val_main_v1_apply, val_main_v0_apply]
  show x0 _ = x0 _
  refine congrArg x0 (funext fun a => Fin.ext ?_)
  match a with
  | ⟨0, _⟩ => show ((((b.val * 4352 + q.val) * 4 + g.val) * 4 + r.val) * 64 + d.val) / 4456448 = b.val; omega
  | ⟨1, _⟩ => show ((((b.val * 4352 + q.val) * 4 + g.val) * 4 + r.val) * 64 + d.val) % 1024 = 64 * (4 * g.val + r.val) + d.val; omega
  | ⟨2, _⟩ => show ((((b.val * 4352 + q.val) * 4 + g.val) * 4 + r.val) * 64 + d.val) / 1024 % 4352 = q.val; omega

theorem k_at (b : Fin 8) (k : Fin 4352) (g : Fin 4) (d : Fin 64) :
    val_main_v4 (F := Ideal) x1 (ix4 b k g d) = x1 (ix3 b k ⟨64 * g.val + d.val, by omega⟩) := by
  rw [val_main_v4_apply, val_main_v3_apply]
  show x1 _ = x1 _
  refine congrArg x1 (funext fun a => Fin.ext ?_)
  match a with
  | ⟨0, _⟩ => show (((b.val * 4352 + k.val) * 4 + g.val) * 64 + d.val) / 1114112 = b.val; omega
  | ⟨1, _⟩ => show (((b.val * 4352 + k.val) * 4 + g.val) * 64 + d.val) / 256 % 4352 = k.val; omega
  | ⟨2, _⟩ => show (((b.val * 4352 + k.val) * 4 + g.val) * 64 + d.val) % 256 = 64 * g.val + d.val; omega

theorem v_at (b : Fin 8) (k : Fin 4352) (g : Fin 4) (d : Fin 64) :
    val_main_v7 (F := Ideal) x2 (ix4 b k g d) = x2 (ix3 b ⟨64 * g.val + d.val, by omega⟩ k) := by
  rw [val_main_v7_apply, val_main_v6_apply, val_main_v5_apply]
  show x2 _ = x2 _
  refine congrArg x2 (funext fun a => Fin.ext ?_)
  match a with
  | ⟨0, _⟩ => show (((b.val * 4352 + k.val) * 4 + g.val) * 64 + d.val) / 1114112 = b.val; omega
  | ⟨1, _⟩ => show (((b.val * 4352 + k.val) * 4 + g.val) * 64 + d.val) % 256 = 64 * g.val + d.val; omega
  | ⟨2, _⟩ => show (((b.val * 4352 + k.val) * 4 + g.val) * 64 + d.val) / 256 % 4352 = k.val; omega

theorem ctx_k (b : Fin 8) (k : Fin 256) (g : Fin 4) (d : Fin 64) :
    val_main_v9 (F := Ideal) x1 (ix4 b k g d) = x1 (ix3 b ⟨k.val, by omega⟩ ⟨64 * g.val + d.val, by omega⟩) := by
  rw [val_main_v9_apply]
  refine Eq.trans (congrArg _ (show _ = ix4 b (⟨k.val, by omega⟩ : Fin 4352) g d from ?_)) (k_at x1 b ⟨k.val, by omega⟩ g d)
  funext a; match a with | ⟨0, _⟩ => rfl | ⟨1, _⟩ => rfl | ⟨2, _⟩ => rfl | ⟨3, _⟩ => rfl

theorem ctx_v_at (b : Fin 8) (k : Fin 256) (g : Fin 4) (d : Fin 64) :
    val_main_v10 (F := Ideal) x2 (ix4 b k g d) = x2 (ix3 b ⟨64 * g.val + d.val, by omega⟩ ⟨k.val, by omega⟩) := by
  rw [val_main_v10_apply]
  refine Eq.trans (congrArg _ (show _ = ix4 b (⟨k.val, by omega⟩ : Fin 4352) g d from ?_)) (v_at x2 b ⟨k.val, by omega⟩ g d)
  funext a; match a with | ⟨0, _⟩ => rfl | ⟨1, _⟩ => rfl | ⟨2, _⟩ => rfl | ⟨3, _⟩ => rfl

/-- The group of a head. -/
theorem group (g r : Fin 4) (d : Fin 64) :
    (⟨64 * g.val + d.val, by omega⟩ : Fin 256) = ⟨64 * ((head g r).val / 4) + d.val, by show 64 * ((4 * g.val + r.val) / 4) + d.val < 256; omega⟩ :=
  Fin.ext (show 64 * g.val + d.val = 64 * ((4 * g.val + r.val) / 4) + d.val by omega)

/-! ## The context queries -/

theorem ctx_max (y : FVec Ideal S8x4x4x256x256 .f32) (b : Fin 8) (g r : Fin 4) (q : Fin 256) :
    Host.reduce FloatOps.maximumf y (constant (F := Ideal) S_ .f32 0xFF800000#32) reducesTo_S8x4x4x256x256_S8x4x4x256_d4 h_S_ (ix4 b g r q)
      = Finset.univ.fold max ⊥ fun k : Fin 256 => y (ix5 b g r q k) := by
  pointwise []
  rw [neg_top_bits]

theorem ctx_score (b : Fin 8) (g r : Fin 4) (q : Fin 256) (k : Fin 256) :
    val_main_v12 (F := Ideal) x0 x1 (ix5 b g r q k) = gscore x0 x1 b (head g r) ⟨q.val, by omega⟩ ⟨k.val, by omega⟩ := by
  rw [val_main_v12_apply, val_main_v11_apply]
  unfold gscore
  refine Finset.sum_congr rfl fun d _ => congrArg₂ (· * ·) ?_ ?_
  · refine Eq.trans (congrArg _ (show _ = ix4 b k g d from ?_)) ((ctx_k x1 b k g d).trans (congrArg (fun c => x1 (ix3 b _ c)) (group g r d)))
    funext a; match a with | ⟨0, _⟩ => rfl | ⟨1, _⟩ => rfl | ⟨2, _⟩ => rfl | ⟨3, _⟩ => rfl
  · rw [val_main_v8_apply]
    refine Eq.trans (congrArg _ (show _ = ix5 b ⟨q.val, by omega⟩ g r d from ?_)) (q_at x0 b ⟨q.val, by omega⟩ g r d)
    funext a; match a with | ⟨0, _⟩ => rfl | ⟨1, _⟩ => rfl | ⟨2, _⟩ => rfl | ⟨3, _⟩ => rfl | ⟨4, _⟩ => rfl

/-- The scores of one query. -/
abbrev ctx_scores (b : Fin 8) (g r : Fin 4) (q : Fin 256) : Fin 256 → EReal := fun k => gscore x0 x1 b (head g r) ⟨q.val, by omega⟩ ⟨k.val, by omega⟩

theorem ctx_top (b : Fin 8) (g r : Fin 4) (q : Fin 256) :
    val_main_v15 (F := Ideal) x0 x1 (ix4 b g r q) = Finset.univ.fold max ⊥ (ctx_scores x0 x1 b g r q) := by
  rw [val_main_v15_apply, val_main_v14_apply]
  show max (Ideal.ofBits .f32 0xFF800000#32) (val_main_v13 (F := Ideal) x0 x1 (ix4 b g r q)) = _
  rw [neg_top_bits, max_eq_right bot_le]
  refine (ctx_max (val_main_v12 (F := Ideal) x0 x1) b g r q).trans ?_
  exact congrArg (Finset.univ.fold max ⊥) (funext fun k => ctx_score x0 x1 b g r q k)

theorem ctx_weight (b : Fin 8) (g r : Fin 4) (q : Fin 256) (k : Fin 256) :
    val_main_v19 (F := Ideal) x0 x1 (ix5 b g r q k) = Softmax.weight (ctx_scores x0 x1 b g r q) k := by
  rw [val_main_v19_apply, val_main_v18_apply, val_main_v17_apply, val_main_v16_apply]
  refine congrArg Ideal.exp (congrArg₂ (· - ·) (ctx_score x0 x1 b g r q k) ?_)
  refine Eq.trans (congrArg _ (show _ = ix4 b g r q from ?_)) (ctx_top x0 x1 b g r q)
  funext a; match a with | ⟨0, _⟩ => rfl | ⟨1, _⟩ => rfl | ⟨2, _⟩ => rfl | ⟨3, _⟩ => rfl

theorem ctx_total (b : Fin 8) (g r : Fin 4) (q : Fin 256) :
    val_main_v20 (F := Ideal) x0 x1 (ix4 b g r q) = ∑ k : Fin 256, Softmax.weight (ctx_scores x0 x1 b g r q) k := by
  rw [val_main_v20_apply]
  have h0 : val_main_cst_1 (F := Ideal) (Shape.Idx.first h_S_) = (0 : EReal) := by
    show Ideal.ofBits .f32 0x00000000#32 = 0
    simp [Ideal.ofBits, Ideal.ieee]
  rw [h0, zero_add]
  refine Finset.sum_congr rfl fun k _ => ?_
  refine Eq.trans (congrArg _ (show _ = ix5 b g r q k from ?_)) (ctx_weight x0 x1 b g r q k)
  funext a; match a with | ⟨0, _⟩ => rfl | ⟨1, _⟩ => rfl | ⟨2, _⟩ => rfl | ⟨3, _⟩ => rfl | ⟨4, _⟩ => rfl

theorem ctx_prob (b : Fin 8) (g r : Fin 4) (q : Fin 256) (k : Fin 256) :
    val_main_v23 (F := Ideal) x0 x1 (ix5 b g r q k)
      = Ideal.div (Softmax.weight (ctx_scores x0 x1 b g r q) k) (∑ k' : Fin 256, Softmax.weight (ctx_scores x0 x1 b g r q) k') := by
  rw [val_main_v23_apply, val_main_v22_apply, val_main_v21_apply]
  refine congrArg₂ Ideal.div (ctx_weight x0 x1 b g r q k) ?_
  refine Eq.trans (congrArg _ (show _ = ix4 b g r q from ?_)) (ctx_total x0 x1 b g r q)
  funext a; match a with | ⟨0, _⟩ => rfl | ⟨1, _⟩ => rfl | ⟨2, _⟩ => rfl | ⟨3, _⟩ => rfl

theorem ctx_mix (b : Fin 8) (g : Fin 4) (d : Fin 64) (r : Fin 4) (q : Fin 256) :
    val_main_v24 (F := Ideal) x0 x1 x2 (ix5 b g d r q)
      = Softmax.before (ctx_scores x0 x1 b g r q) (fun k => x2 (ix3 b ⟨64 * g.val + d.val, by omega⟩ ⟨k.val, by omega⟩)) := by
  rw [val_main_v24_apply]
  unfold Softmax.before
  refine Finset.sum_congr rfl fun k _ => congrArg₂ (· * ·) ?_ ?_
  · refine Eq.trans (congrArg _ (show _ = ix4 b k g d from ?_)) (ctx_v_at x2 b k g d)
    funext a; match a with | ⟨0, _⟩ => rfl | ⟨1, _⟩ => rfl | ⟨2, _⟩ => rfl | ⟨3, _⟩ => rfl
  · refine Eq.trans (congrArg _ (show _ = ix5 b g r q k from ?_)) (ctx_prob x0 x1 b g r q k)
    funext a; match a with | ⟨0, _⟩ => rfl | ⟨1, _⟩ => rfl | ⟨2, _⟩ => rfl | ⟨3, _⟩ => rfl | ⟨4, _⟩ => rfl

/-- Feature `f` of the heads' outputs, side by side: head `f / 64`, component `f % 64`. -/
theorem ctx_heads (b : Fin 8) (q : Fin 256) (f : Fin 1024) :
    val_main_v26 (F := Ideal) x0 x1 x2 (ix3 b q f)
      = Softmax.before (fun k : Fin 256 => gscore x0 x1 b ⟨f.val / 64, by omega⟩ ⟨q.val, by omega⟩ ⟨k.val, by omega⟩)
          (fun k => x2 (ix3 b ⟨64 * (f.val / 64 / 4) + f.val % 64, by omega⟩ ⟨k.val, by omega⟩)) := by
  rw [val_main_v26_apply, val_main_v25_apply]
  refine Eq.trans (congrArg _ (show _ = ix5 b (⟨f.val / 256, by omega⟩ : Fin 4) (⟨f.val % 64, by omega⟩ : Fin 64) (⟨f.val / 64 % 4, by omega⟩ : Fin 4) q from ?_))
    ((ctx_mix x0 x1 x2 b ⟨f.val / 256, by omega⟩ ⟨f.val % 64, by omega⟩ ⟨f.val / 64 % 4, by omega⟩ q).trans ?_)
  · funext a
    apply Fin.ext
    match a with
    | ⟨0, _⟩ => show ((b.val * 256 + q.val) * 1024 + f.val) / 262144 = b.val; omega
    | ⟨1, _⟩ => show ((b.val * 256 + q.val) * 1024 + f.val) / 256 % 4 = f.val / 256; omega
    | ⟨2, _⟩ => show ((b.val * 256 + q.val) * 1024 + f.val) % 64 = f.val % 64; omega
    | ⟨3, _⟩ => show ((b.val * 256 + q.val) * 1024 + f.val) / 64 % 4 = f.val / 64 % 4; omega
    | ⟨4, _⟩ => show ((b.val * 256 + q.val) * 1024 + f.val) / 1024 % 256 = q.val; omega
  · have hh : head (⟨f.val / 256, by omega⟩ : Fin 4) (⟨f.val / 64 % 4, by omega⟩ : Fin 4) = ⟨f.val / 64, by omega⟩ :=
      Fin.ext (show 4 * (f.val / 256) + f.val / 64 % 4 = f.val / 64 by omega)
    have hv : (⟨64 * (f.val / 256) + f.val % 64, by omega⟩ : Fin 256) = ⟨64 * (f.val / 64 / 4) + f.val % 64, by omega⟩ :=
      Fin.ext (show 64 * (f.val / 256) + f.val % 64 = 64 * (f.val / 64 / 4) + f.val % 64 by omega)
    exact congrArg₂ Softmax.before (funext fun k => congrArg (fun h => gscore x0 x1 b h ⟨q.val, by omega⟩ ⟨k.val, by omega⟩) hh)
      (funext fun k => congrArg (fun c => x2 (ix3 b c ⟨k.val, by omega⟩)) hv)

/-- The residual plus the gated projection. -/
theorem ctx_out (b : Fin 8) (q : Fin 256) (e : Fin 1024) :
    val_main_v51 (F := Ideal) x0 x1 x2 x3 x4 x5 (ix3 b q e)
      = x4 (ix3 b ⟨q.val, by omega⟩ e) + x5 (ix4 b 0 2 e) * ∑ f : Fin 1024,
          Softmax.before (fun k : Fin 256 => gscore x0 x1 b ⟨f.val / 64, by omega⟩ ⟨q.val, by omega⟩ ⟨k.val, by omega⟩)
            (fun k => x2 (ix3 b ⟨64 * (f.val / 64 / 4) + f.val % 64, by omega⟩ ⟨k.val, by omega⟩)) * x3 (ix2 f e) := by
  rw [val_main_v51_apply, val_main_v46_apply, val_main_v50_apply, val_main_v49_apply, val_main_v48_apply, val_main_v47_apply, val_main_v27_apply]
  refine congrArg₂ (· + ·) (congrArg x4 ?_) (congrArg₂ (· * ·) (congrArg x5 (funext fun a => Fin.ext ?_)) ?_)
  · funext a; match a with | ⟨0, _⟩ => rfl | ⟨1, _⟩ => rfl | ⟨2, _⟩ => rfl
  · match a with
    | ⟨0, _⟩ => show ((b.val * 1 + 0) * 1024 + e.val) / 1024 = b.val; omega
    | ⟨1, _⟩ => rfl
    | ⟨2, _⟩ => rfl
    | ⟨3, _⟩ => show ((b.val * 1 + 0) * 1024 + e.val) % 1024 = e.val; omega
  · refine Finset.sum_congr rfl fun f _ => congrArg₂ (· * ·) ?_ (congrArg x3 ?_)
    · refine Eq.trans (congrArg _ (show _ = ix3 b q f from ?_)) (ctx_heads x0 x1 x2 b q f)
      funext a; match a with | ⟨0, _⟩ => rfl | ⟨1, _⟩ => rfl | ⟨2, _⟩ => rfl
    · funext a; match a with | ⟨0, _⟩ => rfl | ⟨1, _⟩ => rfl

/-! ## The latent queries -/

theorem lat_max (y : FVec Ideal S8x4x4x4096x4352 .f32) (b : Fin 8) (g r : Fin 4) (q : Fin 4096) :
    Host.reduce FloatOps.maximumf y (constant (F := Ideal) S_ .f32 0xFF800000#32) reducesTo_S8x4x4x4096x4352_S8x4x4x4096_d4 h_S_ (ix4 b g r q)
      = Finset.univ.fold max ⊥ fun k : Fin 4352 => y (ix5 b g r q k) := by
  pointwise []
  rw [neg_top_bits]

theorem lat_score (b : Fin 8) (g r : Fin 4) (q : Fin 4096) (k : Fin 4352) :
    val_main_v30 (F := Ideal) x0 x1 (ix5 b g r q k) = gscore x0 x1 b (head g r) ⟨256 + q.val, by omega⟩ k := by
  rw [val_main_v30_apply, val_main_v29_apply]
  unfold gscore
  refine Finset.sum_congr rfl fun d _ => congrArg₂ (· * ·) ?_ ?_
  · refine Eq.trans (congrArg _ (show _ = ix4 b k g d from ?_)) ((k_at x1 b k g d).trans (congrArg (fun c => x1 (ix3 b _ c)) (group g r d)))
    funext a; match a with | ⟨0, _⟩ => rfl | ⟨1, _⟩ => rfl | ⟨2, _⟩ => rfl | ⟨3, _⟩ => rfl
  · rw [val_main_v28_apply]
    refine Eq.trans (congrArg _ (show _ = ix5 b ⟨256 + q.val, by omega⟩ g r d from ?_)) (q_at x0 b ⟨256 + q.val, by omega⟩ g r d)
    funext a; match a with | ⟨0, _⟩ => rfl | ⟨1, _⟩ => rfl | ⟨2, _⟩ => rfl | ⟨3, _⟩ => rfl | ⟨4, _⟩ => rfl

/-- The scores of one query. -/
abbrev lat_scores (b : Fin 8) (g r : Fin 4) (q : Fin 4096) : Fin 4352 → EReal := fun k => gscore x0 x1 b (head g r) ⟨256 + q.val, by omega⟩ k

theorem lat_top (b : Fin 8) (g r : Fin 4) (q : Fin 4096) :
    val_main_v33 (F := Ideal) x0 x1 (ix4 b g r q) = Finset.univ.fold max ⊥ (lat_scores x0 x1 b g r q) := by
  rw [val_main_v33_apply, val_main_v32_apply]
  show max (Ideal.ofBits .f32 0xFF800000#32) (val_main_v31 (F := Ideal) x0 x1 (ix4 b g r q)) = _
  rw [neg_top_bits, max_eq_right bot_le]
  refine (lat_max (val_main_v30 (F := Ideal) x0 x1) b g r q).trans ?_
  exact congrArg (Finset.univ.fold max ⊥) (funext fun k => lat_score x0 x1 b g r q k)

theorem lat_weight (b : Fin 8) (g r : Fin 4) (q : Fin 4096) (k : Fin 4352) :
    val_main_v37 (F := Ideal) x0 x1 (ix5 b g r q k) = Softmax.weight (lat_scores x0 x1 b g r q) k := by
  rw [val_main_v37_apply, val_main_v36_apply, val_main_v35_apply, val_main_v34_apply]
  refine congrArg Ideal.exp (congrArg₂ (· - ·) (lat_score x0 x1 b g r q k) ?_)
  refine Eq.trans (congrArg _ (show _ = ix4 b g r q from ?_)) (lat_top x0 x1 b g r q)
  funext a; match a with | ⟨0, _⟩ => rfl | ⟨1, _⟩ => rfl | ⟨2, _⟩ => rfl | ⟨3, _⟩ => rfl

theorem lat_total (b : Fin 8) (g r : Fin 4) (q : Fin 4096) :
    val_main_v38 (F := Ideal) x0 x1 (ix4 b g r q) = ∑ k : Fin 4352, Softmax.weight (lat_scores x0 x1 b g r q) k := by
  rw [val_main_v38_apply]
  have h0 : val_main_cst_4 (F := Ideal) (Shape.Idx.first h_S_) = (0 : EReal) := by
    show Ideal.ofBits .f32 0x00000000#32 = 0
    simp [Ideal.ofBits, Ideal.ieee]
  rw [h0, zero_add]
  refine Finset.sum_congr rfl fun k _ => ?_
  refine Eq.trans (congrArg _ (show _ = ix5 b g r q k from ?_)) (lat_weight x0 x1 b g r q k)
  funext a; match a with | ⟨0, _⟩ => rfl | ⟨1, _⟩ => rfl | ⟨2, _⟩ => rfl | ⟨3, _⟩ => rfl | ⟨4, _⟩ => rfl

theorem lat_prob (b : Fin 8) (g r : Fin 4) (q : Fin 4096) (k : Fin 4352) :
    val_main_v41 (F := Ideal) x0 x1 (ix5 b g r q k)
      = Ideal.div (Softmax.weight (lat_scores x0 x1 b g r q) k) (∑ k' : Fin 4352, Softmax.weight (lat_scores x0 x1 b g r q) k') := by
  rw [val_main_v41_apply, val_main_v40_apply, val_main_v39_apply]
  refine congrArg₂ Ideal.div (lat_weight x0 x1 b g r q k) ?_
  refine Eq.trans (congrArg _ (show _ = ix4 b g r q from ?_)) (lat_total x0 x1 b g r q)
  funext a; match a with | ⟨0, _⟩ => rfl | ⟨1, _⟩ => rfl | ⟨2, _⟩ => rfl | ⟨3, _⟩ => rfl

theorem lat_mix (b : Fin 8) (g : Fin 4) (d : Fin 64) (r : Fin 4) (q : Fin 4096) :
    val_main_v42 (F := Ideal) x0 x1 x2 (ix5 b g d r q)
      = Softmax.before (lat_scores x0 x1 b g r q) (fun k => x2 (ix3 b ⟨64 * g.val + d.val, by omega⟩ k)) := by
  rw [val_main_v42_apply]
  unfold Softmax.before
  refine Finset.sum_congr rfl fun k _ => congrArg₂ (· * ·) ?_ ?_
  · refine Eq.trans (congrArg _ (show _ = ix4 b k g d from ?_)) (v_at x2 b k g d)
    funext a; match a with | ⟨0, _⟩ => rfl | ⟨1, _⟩ => rfl | ⟨2, _⟩ => rfl | ⟨3, _⟩ => rfl
  · refine Eq.trans (congrArg _ (show _ = ix5 b g r q k from ?_)) (lat_prob x0 x1 b g r q k)
    funext a; match a with | ⟨0, _⟩ => rfl | ⟨1, _⟩ => rfl | ⟨2, _⟩ => rfl | ⟨3, _⟩ => rfl | ⟨4, _⟩ => rfl

/-- Feature `f` of the heads' outputs, side by side: head `f / 64`, component `f % 64`. -/
theorem lat_heads (b : Fin 8) (q : Fin 4096) (f : Fin 1024) :
    val_main_v44 (F := Ideal) x0 x1 x2 (ix3 b q f)
      = Softmax.before (fun k : Fin 4352 => gscore x0 x1 b ⟨f.val / 64, by omega⟩ ⟨256 + q.val, by omega⟩ k)
          (fun k => x2 (ix3 b ⟨64 * (f.val / 64 / 4) + f.val % 64, by omega⟩ k)) := by
  rw [val_main_v44_apply, val_main_v43_apply]
  refine Eq.trans (congrArg _ (show _ = ix5 b (⟨f.val / 256, by omega⟩ : Fin 4) (⟨f.val % 64, by omega⟩ : Fin 64) (⟨f.val / 64 % 4, by omega⟩ : Fin 4) q from ?_))
    ((lat_mix x0 x1 x2 b ⟨f.val / 256, by omega⟩ ⟨f.val % 64, by omega⟩ ⟨f.val / 64 % 4, by omega⟩ q).trans ?_)
  · funext a
    apply Fin.ext
    match a with
    | ⟨0, _⟩ => show ((b.val * 4096 + q.val) * 1024 + f.val) / 4194304 = b.val; omega
    | ⟨1, _⟩ => show ((b.val * 4096 + q.val) * 1024 + f.val) / 256 % 4 = f.val / 256; omega
    | ⟨2, _⟩ => show ((b.val * 4096 + q.val) * 1024 + f.val) % 64 = f.val % 64; omega
    | ⟨3, _⟩ => show ((b.val * 4096 + q.val) * 1024 + f.val) / 64 % 4 = f.val / 64 % 4; omega
    | ⟨4, _⟩ => show ((b.val * 4096 + q.val) * 1024 + f.val) / 1024 % 4096 = q.val; omega
  · have hh : head (⟨f.val / 256, by omega⟩ : Fin 4) (⟨f.val / 64 % 4, by omega⟩ : Fin 4) = ⟨f.val / 64, by omega⟩ :=
      Fin.ext (show 4 * (f.val / 256) + f.val / 64 % 4 = f.val / 64 by omega)
    have hv : (⟨64 * (f.val / 256) + f.val % 64, by omega⟩ : Fin 256) = ⟨64 * (f.val / 64 / 4) + f.val % 64, by omega⟩ :=
      Fin.ext (show 64 * (f.val / 256) + f.val % 64 = 64 * (f.val / 64 / 4) + f.val % 64 by omega)
    exact congrArg₂ Softmax.before (funext fun k => congrArg (fun h => gscore x0 x1 b h ⟨256 + q.val, by omega⟩ k) hh)
      (funext fun k => congrArg (fun c => x2 (ix3 b c k)) hv)

/-- The residual plus the gated projection. -/
theorem lat_out (b : Fin 8) (q : Fin 4096) (e : Fin 1024) :
    val_main_v57 (F := Ideal) x0 x1 x2 x3 x4 x5 (ix3 b q e)
      = x4 (ix3 b ⟨256 + q.val, by omega⟩ e) + x5 (ix4 b 1 2 e) * ∑ f : Fin 1024,
          Softmax.before (fun k : Fin 4352 => gscore x0 x1 b ⟨f.val / 64, by omega⟩ ⟨256 + q.val, by omega⟩ k)
            (fun k => x2 (ix3 b ⟨64 * (f.val / 64 / 4) + f.val % 64, by omega⟩ k)) * x3 (ix2 f e) := by
  rw [val_main_v57_apply, val_main_v52_apply, val_main_v56_apply, val_main_v55_apply, val_main_v54_apply, val_main_v53_apply, val_main_v45_apply]
  refine congrArg₂ (· + ·) (congrArg x4 ?_) (congrArg₂ (· * ·) (congrArg x5 (funext fun a => Fin.ext ?_)) ?_)
  · funext a; match a with | ⟨0, _⟩ => rfl | ⟨1, _⟩ => rfl | ⟨2, _⟩ => rfl
  · match a with
    | ⟨0, _⟩ => show ((b.val * 1 + 0) * 1024 + e.val) / 1024 = b.val; omega
    | ⟨1, _⟩ => rfl
    | ⟨2, _⟩ => rfl
    | ⟨3, _⟩ => show ((b.val * 1 + 0) * 1024 + e.val) % 1024 = e.val; omega
  · refine Finset.sum_congr rfl fun f _ => congrArg₂ (· * ·) ?_ (congrArg x3 ?_)
    · refine Eq.trans (congrArg _ (show _ = ix3 b q f from ?_)) (lat_heads x0 x1 x2 b q f)
      funext a; match a with | ⟨0, _⟩ => rfl | ⟨1, _⟩ => rfl | ⟨2, _⟩ => rfl
    · funext a; match a with | ⟨0, _⟩ => rfl | ⟨1, _⟩ => rfl

/-! ## The whole result -/

theorem whole_ctx (b : Fin 8) (q : Fin 4352) (e : Fin 1024) (hq : q.val < 256) :
    val_main_v58 (F := Ideal) x0 x1 x2 x3 x4 x5 (ix3 b q e) = val_main_v51 (F := Ideal) x0 x1 x2 x3 x4 x5 (ix3 b ⟨q.val, hq⟩ e) := by
  unfold val_main_v58
  refine concatenate_pair_apply_left (t := S8x4352x1024) (s₁ := S8x256x1024) (s₂ := S8x4096x1024) 1 (val_main_v51 (F := Ideal) x0 x1 x2 x3 x4 x5) (val_main_v57 (F := Ideal) x0 x1 x2 x3 x4 x5)
    concatenates_S8x256x1024_S8x4096x1024_S8x4352x1024_d1 (ix3 b q e) rfl (ix3 b ⟨q.val, hq⟩ e) fun a => ?_
  match a with | ⟨0, _⟩ => rfl | ⟨1, _⟩ => rfl | ⟨2, _⟩ => rfl

theorem whole_lat (b : Fin 8) (q : Fin 4352) (e : Fin 1024) (hq : ¬q.val < 256) :
    val_main_v58 (F := Ideal) x0 x1 x2 x3 x4 x5 (ix3 b q e)
      = val_main_v57 (F := Ideal) x0 x1 x2 x3 x4 x5 (ix3 b ⟨q.val - 256, by omega⟩ e) := by
  unfold val_main_v58
  refine concatenate_pair_apply_right (t := S8x4352x1024) (s₁ := S8x256x1024) (s₂ := S8x4096x1024) 1 (val_main_v51 (F := Ideal) x0 x1 x2 x3 x4 x5) (val_main_v57 (F := Ideal) x0 x1 x2 x3 x4 x5)
    concatenates_S8x256x1024_S8x4096x1024_S8x4352x1024_d1 (ix3 b q e) rfl rfl (ix3 b ⟨q.val - 256, by omega⟩ e) (fun a ha => ?_) ?_
  · match a with
    | ⟨0, _⟩ => rfl
    | ⟨1, _⟩ => exact absurd rfl ha
    | ⟨2, _⟩ => rfl
  · show q.val - 256 + 256 = q.val
    omega

/-- With every query and key component a real number, the reference's result is the kernel's. -/
theorem val_eq (h0 : ∀ i, ∃ r : ℝ, x0 i = r) (h1 : ∀ i, ∃ r : ℝ, x1 i = r) :
    val_main_v58 (F := Ideal) x0 x1 x2 x3 x4 x5 = result x0 x1 x2 x3 x4 x5 := by
  have hs : ∀ b h q k, ∃ r : ℝ, gscore x0 x1 b h q k = r := fun b h q k => by
    unfold gscore
    exact Softmax.real_dot _ _ _ (fun d => h1 _) (fun d => h0 _)
  funext i
  have hi : i = ix3 (i 0) (i 1) (i 2) := by
    funext a; match a with | ⟨0, _⟩ => rfl | ⟨1, _⟩ => rfl | ⟨2, _⟩ => rfl
  generalize hb : i 0 = b at hi
  obtain ⟨q, hq'⟩ : ∃ q : Fin 4352, i 1 = q := ⟨_, rfl⟩
  rw [hq'] at hi
  generalize he : i 2 = e at hi
  subst hi
  by_cases hq : q.val < 256
  · refine (whole_ctx x0 x1 x2 x3 x4 x5 b q e hq).trans ((ctx_out x0 x1 x2 x3 x4 x5 b ⟨q.val, hq⟩ e).trans ?_)
    refine Eq.trans ?_ (Cert.KernelIdeal.Hand.result_ctx x0 x1 x2 x3 x4 x5 b q e hq).symm
    refine congrArg (fun z => x4 (ix3 b q e) + x5 (ix4 b 0 2 e) * z) (Finset.sum_congr rfl fun f _ => congrArg (· * x3 (ix2 f e)) ?_)
    exact (Softmax.after_eq_before (by omega) _ _ (fun k => hs _ _ _ _)).symm
  · have hqq : (⟨256 + (q.val - 256), by omega⟩ : Fin 4352) = q := Fin.ext (show 256 + (q.val - 256) = q.val by omega)
    refine (whole_lat x0 x1 x2 x3 x4 x5 b q e hq).trans ((lat_out x0 x1 x2 x3 x4 x5 b ⟨q.val - 256, by omega⟩ e).trans ?_)
    refine Eq.trans ?_ (Cert.KernelIdeal.Hand.result_lat x0 x1 x2 x3 x4 x5 b q e hq).symm
    simp only [hqq]
    refine congrArg (fun z => x4 (ix3 b q e) + x5 (ix4 b 1 2 e) * z) (Finset.sum_congr rfl fun f _ => congrArg (· * x3 (ix2 f e)) ?_)
    exact (Softmax.after_eq_before (by omega) _ _ (fun k => hs _ _ _ _)).symm

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2, sem_eq_zero_of_no_sems (by decide) r.2⟩) (Cert.ReferenceIdeal.Value.run m ρ)

end Cert.ReferenceIdeal.Hand

end
-- ==== Proof.Finite.lean ====
/-
  What the precondition says: every component of the queries and of the keys is a real number.
-/
module

public import proofs.«01_k».proof.Defs
public import proofs.«01_k».proof.Proof.Gen.Pre_finite_scores
public import Idealize.ShloMosaic.Lib.ReduceAll
public import Idealize.ShloMosaic.Lib.Pointwise

@[expose] public section

noncomputable section

namespace Cert.Finite

open Idealize.ShloMosaic Cert.Pre_finite_scores Cert.Pre_finite_scores.Facts

instance : Subsingleton S_.Idx := ⟨fun a b => funext fun d => d.elim0⟩

theorem top_bits : Ideal.ofBits .bf16 0x7F80#16 = ⊤ := by simp [Ideal.ofBits, Ideal.ieee]

/-- A value whose absolute value is below infinity is a real number. -/
theorem real_of_abs {x : EReal} (h : Ideal.cmp .olt (max x (-x)) (Ideal.ofBits .bf16 0x7F80#16) = 1#1) : ∃ r : ℝ, x = r := by
  rw [top_bits] at h
  have hlt : max x (-x) < ⊤ := by
    by_contra hn
    have h' : Ideal.cmp .olt (max x (-x)) ⊤ = 0#1 := by
      show BitVec.ofBool (decide (max x (-x) < ⊤)) = 0#1
      rw [decide_eq_false hn]; rfl
    rw [h'] at h
    exact absurd h (by decide)
  obtain ⟨h1, h2⟩ := max_lt_iff.1 hlt
  induction x with
  | bot => simp at h2
  | top => simp at h1
  | coe r => exact ⟨r, rfl⟩

theorem of_fn [Cert.Pre_finite_scores.Facts] (x0 : FVec Ideal S8x1024x4352 .bf16) (x1 : FVec Ideal S8x4352x256 .bf16)
    (x2 : FVec Ideal S8x256x4352 .bf16) (x3 : FVec Ideal S1024x1024 .f32) (x4 : FVec Ideal S8x4352x1024 .f32)
    (x5 : FVec Ideal S8x2x6x1024 .f32) (h : fn x0 x1 x2 x3 x4 x5 (fun d => d.elim0) = 1#1) :
    (∀ i, ∃ r : ℝ, x0 i = r) ∧ ∀ i, ∃ r : ℝ, x1 i = r := by
  obtain ⟨ha, hb⟩ := IntOp.andi_eq_one.1 h
  refine ⟨fun i => ?_, fun i => ?_⟩
  · have := Host.reduce_andi_all _ _ _ _ _ ha i
    exact real_of_abs this
  · have := Host.reduce_andi_all _ _ _ _ _ hb i
    exact real_of_abs this

end Cert.Finite

end
-- ==== Proof.Kernel2Ideal.Entry.lean ====
/-
  The experts call up to its grid: what the host operations before it leave in the buffers, the two prefetched tables (each
  tile's expert and the count of used tiles) as read off the launch memory, and the blocks of the operands, which the tables
  choose.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Frame
public import Idealize.ShloMosaic.Lib.Pipeline.FrameBody
public import Idealize.ShloMosaic.Lib.Exec

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A core's buffers when the grid starts: the host operations' results over the launch memory. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The program up to the grid. -/
theorem entry (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub host_fresh main_chain

theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))
theorem V_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-- The tables when the grid starts (there is one device). -/
def tab : pre0.Contents (Elt F) := fun j => V m (0 : Dev nD) (pre0.ref j)

theorem V_tab (c : Dev nD) (j : Fin 2) : V m c (pre0.ref j) = tab m j := by
  obtain rfl : c = 0 := Subsingleton.elim _ _
  rfl

/-- Every block the tables choose lies inside its array. -/
abbrev Ok : Prop := ok0 (F := F) (tab m)

/-- The tables as admissible contents, and the pipeline at them. -/
abbrev at0 (hO : Ok m) : (pcfg0 (F := F)).Adm := ⟨tab m, hO⟩
abbrev cfgT (hO : Ok m) : Pipeline.Cfg sig Λ₀ := cfg0 (at0 m hO)

/-- The tables as the body is handed them. -/
abbrev tm0 : Memref sig .tc .smem S575 .i32 := Memref.whole main_arg0
abbrev htm0 : tm0.IsWhole := Memref.isWhole_whole _
abbrev tm1 : Memref sig .tc .smem S1 .i32 := Memref.whole main_arg1
abbrev htm1 : tm1.IsWhole := Memref.isWhole_whole _

/-- A table's contents on core `c`, and half of the table held at them. -/
abbrev TabBuf (c : Dev nD) {S : Shape} {e : EltTy} (M : Memref sig .tc .smem S e) : Type := Buf (Elt F) (M.view.loc (c : Thread nD τ))
abbrev tabHalf (c : Dev nD) {S : Shape} {e : EltTy} (M : Memref sig .tc .smem S e) (f : TabBuf (F := F) c M) : sProp 𝕄 :=
  M.view.loc (c : Thread nD τ) ↦{fullShare.right} f

theorem halves_eq (c : Dev nD) :
    (Pipeline.ΦT pre0 (tab m) c : sProp 𝕄) = iprop(tabHalf c tm0 (tab m 0) ∗ tabHalf c tm1 (tab m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block at point `t`, read off its array as the grid finds it. -/
def iblk (hO : Ok m) (c : Dev nD) (w : Fin (cfgT m hO).W) (t : Fin (cfgT m hO).N) :
    (((cfgT m hO).win w).xblock ((cfgT m hO).grid.coords t)).Idx → Elt F ((cfgT m hO).win w).elt :=
  (((cfgT m hO).win w).blk t).view.read (Elt F) (V m c (Pipeline.arrRef spec0 w))

theorem found0_of (hO : Ok m) {c : Dev nD} (dat : Dat τ (Elt F) Unit ℕ (UR sig nD τ) ℕ (cfgT m hO) c)
    (hA : dat.A 0 = V m c (Pipeline.arrRef spec0 0)) (hafter : ∀ t, dat.after 0 t = iblk m hO c 0 t) (t : Fin (cfgT m hO).N) (d) :
    dat.before 0 t d = iblk m hO c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)
theorem found1_of (hO : Ok m) {c : Dev nD} (dat : Dat τ (Elt F) Unit ℕ (UR sig nD τ) ℕ (cfgT m hO) c)
    (hA : dat.A 1 = V m c (Pipeline.arrRef spec0 1)) (hafter : ∀ t, dat.after 1 t = iblk m hO c 1 t) (t : Fin (cfgT m hO).N) (d) :
    dat.before 1 t d = iblk m hO c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)
theorem found2_of (hO : Ok m) {c : Dev nD} (dat : Dat τ (Elt F) Unit ℕ (UR sig nD τ) ℕ (cfgT m hO) c)
    (hA : dat.A 2 = V m c (Pipeline.arrRef spec0 2)) (hafter : ∀ t, dat.after 2 t = iblk m hO c 2 t) (t : Fin (cfgT m hO).N) (d) :
    dat.before 2 t d = iblk m hO c 2 t :=
  (dat.before_in_eq_fetched 2 rfl (fun _ => rfl) (fun _ _ _ => rfl)
    (fun t => by rw [hafter]; unfold Dat.blockOf iblk; rw [hA]; try rfl) t d).trans
    (by unfold Dat.fetched Dat.blockOf iblk; rw [hA]; try rfl)
theorem found3_of (hO : Ok m) {c : Dev nD} (dat : Dat τ (Elt F) Unit ℕ (UR sig nD τ) ℕ (cfgT m hO) c)
    (hA : dat.A 3 = V m c (Pipeline.arrRef spec0 3)) (hafter : ∀ t, dat.after 3 t = iblk m hO c 3 t) (t : Fin (cfgT m hO).N) (d) :
    dat.before 3 t d = iblk m hO c 3 t :=
  (dat.before_in_eq_fetched 3 rfl (fun _ => rfl) (fun _ _ _ => rfl)
    (fun t => by rw [hafter]; unfold Dat.blockOf iblk; rw [hA]; try rfl) t d).trans
    (by unfold Dat.fetched Dat.blockOf iblk; rw [hA]; try rfl)
theorem found4_of (hO : Ok m) {c : Dev nD} (dat : Dat τ (Elt F) Unit ℕ (UR sig nD τ) ℕ (cfgT m hO) c)
    (hA : dat.A 4 = V m c (Pipeline.arrRef spec0 4)) (hafter : ∀ t, dat.after 4 t = iblk m hO c 4 t) (t : Fin (cfgT m hO).N) (d) :
    dat.before 4 t d = iblk m hO c 4 t :=
  (dat.before_in_eq_fetched 4 rfl (fun _ => rfl) (fun _ _ _ => rfl)
    (fun t => by rw [hafter]; unfold Dat.blockOf iblk; rw [hA]; try rfl) t d).trans
    (by unfold Dat.fetched Dat.blockOf iblk; rw [hA]; try rfl)

/-- A run that ends with the arrays as the pipeline leaves them ends with the arguments unchanged. -/
theorem args_of (ρ : Dev nD → PrngReg) (hO : Ok m)
    (dats : (p : Fin 1) → (c : Dev nD) → Dat τ (Elt F) Unit ℕ (UR sig nD τ) ℕ ((Pipeline.pin pcfgs fun _ => at0 m hO) p) c)
    (hA : ∀ c w, (dats 0 c).A w = V m c (Pipeline.arrRef spec0 w))
    (h : θ_run defs (onTc (τ := τ) (main (F := F))) (s₀ m ρ) (Pipeline.FramePost (Pipeline.pin pcfgs fun _ => at0 m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (by decide : main_arg0 ∈ Pipeline.restRefs sig spec0)).trans (V_arg0 m c),
      ((h c).2 main_arg1 (by decide : main_arg1 ∈ Pipeline.restRefs sig spec0)).trans (V_arg1 m c),
      ((h c).1 0).trans (((dats 0 c).arrAt_in 0 rfl _).trans ((hA c 0).trans (V_arg2 m c))),
      ((h c).2 main_arg3 (by decide : main_arg3 ∈ Pipeline.restRefs sig spec0)).trans (V_arg3 m c),
      ((h c).2 main_arg4 (by decide : main_arg4 ∈ Pipeline.restRefs sig spec0)).trans (V_arg4 m c),
      ((h c).2 main_arg5 (by decide : main_arg5 ∈ Pipeline.restRefs sig spec0)).trans (V_arg5 m c),
      ((h c).2 main_arg6 (by decide : main_arg6 ∈ Pipeline.restRefs sig spec0)).trans (V_arg6 m c)⟩) h

end Cert.Kernel2Ideal.Hand

end
-- ==== Proof.Kernel2Ideal.Body.lean ====
/-
  The experts kernel's body at a tile of 256 rows: a used tile (below the count) leaves the expert's two layers of the rows,
  an unused one leaves zeros. Exactly one of the two `pl.when` branches runs.
-/
module

public import proofs.«01_k».proof.Proof.Kernel2Ideal.Entry
public import Idealize.ShloMosaic.Lib.Pipeline.Value
public import Idealize.ShloMosaic.Lib.WritesUnit
public import Idealize.ShloMosaic.Lib.Ring
public import Idealize.ShloMosaic.Lib.Tactic
public import Idealize.ShloMosaic.Lib.WordCmp

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The branches exclude each other and one of them runs. -/
theorem cond2_iff (i : grid0.Coords) (w : BitVec 32) : k0_cond2 i w = 1#1 ↔ ¬ k0_cond1 i w = 1#1 := by
  unfold k0_cond1 k0_cond2
  generalize BitVec.ofNat 32 (i 0).val = a
  dsimp only
  rw [show Scalar.cmpi .sge a w = BitVec.ofBool (decide (w.toInt ≤ a.toInt)) from rfl,
    show Scalar.cmpi .slt a w = BitVec.ofBool (decide (a.toInt < w.toInt)) from BitVec.eq_of_toNat_eq (by
      simp [Scalar.cmpi, IntOp.cmpi, BitVec.slt])]
  by_cases h : a.toInt < w.toInt
  · rw [decide_eq_true h, decide_eq_false (not_le.mpr h)]; decide
  · rw [decide_eq_false h, decide_eq_true (not_lt.mp h)]; decide

/-- The count of used tiles, off the table that holds it. -/
abbrev cnt (c : Dev nD) (xt1 : TabBuf (F := F) c tm1) : BitVec 32 :=
  xt1 ((Rect.unit (s := S1) ![0] S1.size inb_S1_S1_0).emb (Shape.Idx.first (numel1_S1.symm ▸ Nat.one_pos)))

/-- The output tile of a used tile. -/
def usedTile (x0 : Vec F S256x1024 .f32) (x1 : Vec F S1x1024x2048 .bf16) (x2 : Vec F S1x1x2048 .f32) (x3 : Vec F S1x1024x1024 .bf16) (x4 : Vec F S1x1x1024 .f32) : Vec F S256x1024 .f32 :=
  k0_pay1 (k0_pay3 x0 x1 x2 x3) (k0_pay4 x4)

/-- The output tile at point `i`, the count of used tiles being `w`. -/
def tileOut (i : grid0.Coords) (w : BitVec 32) (x0 : Vec F S256x1024 .f32) (x1 : Vec F S1x1024x2048 .bf16) (x2 : Vec F S1x1x2048 .f32) (x3 : Vec F S1x1024x1024 .bf16) (x4 : Vec F S1x1x1024 .f32) : Vec F S256x1024 .f32 :=
  if k0_cond1 i w = 1#1 then usedTile x0 x1 x2 x3 x4 else k0_pay2

/-- A tile stored whole reads what was stored. -/
theorem stored (v : View sig .tc .vmem S256x1024 .f32) (f : v.ty.Contents (Elt F)) (b) (x : Vec F S256x1024 .f32) :
    v.read (Elt F) (v.writes (Elt F) f [⟨Rect.unit (s := S256x1024) ![0, 0] S256x1024.size b, x⟩]) = x := by
  have z2 : (![0, 0] : Fin 2 → ℕ) = fun _ => 0 := funext fun a => by fin_cases a <;> rfl
  funext y
  exact View.read_writes_cons_unit_of_mem v f b _ [] y y z2 fun a => (Nat.zero_add _).symm

/-- A buffer of any shape loaded whole. -/
theorem loaded {S : Shape} {e : EltTy} (v : View sig .tc .vmem S e) (f : v.ty.Contents (Elt F)) {o : Fin S.rank → ℕ} (ho : o = fun _ => 0) (b) :
    v.readAt (Elt F) (Rect.unit (s := S) o S.size b).toLoadRect f = v.read (Elt F) f := by
  rw [View.readAt_eq_ld, View.ld_unit_zero ho]

set_option maxHeartbeats 2000000 in
/-- The body at any point of the grid. -/
theorem body (c : Dev nD) (i : grid0.Coords) (arg3 : Memref sig .tc .vmem S256x1024 .f32) (harg3 : arg3.IsWhole) (arg4 : Memref sig .tc .vmem S1x1024x2048 .bf16) (harg4 : arg4.IsWhole) (arg5 : Memref sig .tc .vmem S1x1x2048 .f32) (harg5 : arg5.IsWhole) (arg6 : Memref sig .tc .vmem S1x1024x1024 .bf16) (harg6 : arg6.IsWhole) (arg7 : Memref sig .tc .vmem S1x1x1024 .f32) (harg7 : arg7.IsWhole) (arg8 : Memref sig .tc .vmem S256x1024 .f32) (harg8 : arg8.IsWhole)
    (x0 : Vec F S256x1024 .f32) (x1 : Vec F S1x1024x2048 .bf16) (x2 : Vec F S1x1x2048 .f32) (x3 : Vec F S1x1024x1024 .bf16) (x4 : Vec F S1x1x1024 .f32) (xt0 : TabBuf (F := F) c tm0) (xt1 : TabBuf (F := F) c tm1)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tabHalf c tm0 xt0 ∗ tabHalf c tm1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (tileOut i (cnt c xt1) x0 x1 x2 x3 x4) ∗ tabHalf c tm0 xt0 ∗ tabHalf c tm1 xt1) -∗ K ⟨⟩))
      ⊢ wp frame (wpE (defs₀ (F := F)) Variants.none c none) E (cc0_moe_experts i tm0 htm0 tm1 htm1 arg3 harg3 arg4 harg4 arg5 harg5 arg6 harg6 arg7 harg7 arg8 harg8) K := by
  simp only [cc0_moe_experts_eq_skeleton]; unfold cc0_moe_experts_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  obtain rfl := harg3.eq_unread hf0; obtain rfl := harg4.eq_unread hf1; obtain rfl := harg5.eq_unread hf2; obtain rfl := harg6.eq_unread hf3; obtain rfl := harg7.eq_unread hf4
  sl_exec
  sl_step
  have hw : body.sl.r c xt1 = cnt c xt1 := by rfl
  have z2 : (![0, 0] : Fin 2 → ℕ) = fun _ => 0 := funext fun a => by fin_cases a <;> rfl
  have z3 : (![0, 0, 0] : Fin 3 → ℕ) = fun _ => 0 := funext fun a => by fin_cases a <;> rfl
  have h1 : body.sl.r_1 c arg3 harg3 arg4 harg4 arg5 harg5 arg6 harg6 x0 x1 x2 x3 = k0_pay3 x0 x1 x2 x3 := by
    unfold body.sl.r_1
    rw [loaded (S := S256x1024) _ _ z2, loaded (S := S1x1024x2048) _ _ z3, loaded (S := S1x1x2048) _ _ z3, loaded (S := S1x1024x1024) _ _ z3]
    rw [harg3.read_unread, harg4.read_unread, harg5.read_unread, harg6.read_unread]
  have h2 : body.sl.r_2 c arg7 harg7 x4 = k0_pay4 x4 := by
    unfold body.sl.r_2
    rw [loaded (S := S1x1x1024) _ _ z3, harg7.read_unread]
  rw [hw, h1, h2]
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    unfold tileOut
    by_cases hc : k0_cond1 i (cnt c xt1) = 1#1
    · rw [dif_neg fun h => (cond2_iff i _).mp h hc, dif_pos hc, if_pos hc]
      exact stored _ _ _ _
    · rw [dif_pos ((cond2_iff i _).mpr hc), if_neg hc]
      exact stored _ _ _ _
  isplitl [HT0]; · iexact HT0
  iexact HT1

end Cert.Kernel2Ideal.Hand

end
-- ==== Proof.Kernel2Ideal.Run.lean ====
/-
  The launch of the experts call: at every point of the grid the body turns the operand blocks into the output tile, so every
  run of the program ends with its arguments unchanged, every semaphore counter at zero, and the result array as the
  pipeline's write-backs leave it, provided the blocks that the tables choose lie inside their arrays.
-/
module

public import proofs.«01_k».proof.Proof.Kernel2Ideal.Body
public import Idealize.ShloMosaic.Lib.Quiescent
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the tables stay folded: the pipeline is read at any contents of them
attribute [local irreducible] tab

/-- The count of used tiles. -/
def used : BitVec 32 := cnt (F := F) 0 (tab m 1)

/-- What the body leaves in the output tile at point `t`. -/
def outBlk (hO : Ok m) (c : Dev nD) (t : Fin (cfgT m hO).N) : Vec F S256x1024 .f32 :=
  tileOut (grid0.coords t) (used m) (iblk m hO c 0 t) (iblk m hO c 1 t) (iblk m hO c 2 t) (iblk m hO c 3 t) (iblk m hO c 4 t)

/-- The pipeline's proof data: inputs stay at their blocks, the output at `outBlk`. -/
def dats (hO : Ok m) (_ : Fin 1) (c : Dev nD) : Dat τ (Elt F) Unit ℕ (UR sig nD τ) ℕ (cfgT m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlk m hO c t
  Φ _ := iprop(Pipeline.ΦA spec0 c ∗ Pipeline.ΦT pre0 (tab m) c)
  q _ := fullShare
  owed _ := 0

theorem arrays (hO : Ok m) (c : Dev nD) (w : Fin (cfgT m hO).W) : (dats m hO 0 c).A w = V m c (Pipeline.arrRef spec0 w) := by
  dsimp only [dats]

theorem left0 (hO : Ok m) (c : Dev nD) (t : Fin (cfgT m hO).N) : (dats m hO 0 c).after 0 t = iblk m hO c 0 t := by dsimp only [dats]; try rfl
theorem left1 (hO : Ok m) (c : Dev nD) (t : Fin (cfgT m hO).N) : (dats m hO 0 c).after 1 t = iblk m hO c 1 t := by dsimp only [dats]; try rfl
theorem left2 (hO : Ok m) (c : Dev nD) (t : Fin (cfgT m hO).N) : (dats m hO 0 c).after 2 t = iblk m hO c 2 t := by dsimp only [dats]; try rfl
theorem left3 (hO : Ok m) (c : Dev nD) (t : Fin (cfgT m hO).N) : (dats m hO 0 c).after 3 t = iblk m hO c 3 t := by dsimp only [dats]; try rfl
theorem left4 (hO : Ok m) (c : Dev nD) (t : Fin (cfgT m hO).N) : (dats m hO 0 c).after 4 t = iblk m hO c 4 t := by dsimp only [dats]; try rfl
theorem left5 (hO : Ok m) (c : Dev nD) (t : Fin (cfgT m hO).N) : (dats m hO 0 c).after 5 t = outBlk m hO c t := by dsimp only [dats]; try rfl

theorem found0 (hO : Ok m) (c : Dev nD) (t : Fin (cfgT m hO).N) (d) : (dats m hO 0 c).before 0 t d = iblk m hO c 0 t :=
  found0_of m hO (dats m hO 0 c) (arrays m hO c 0) (left0 m hO c) t d
theorem found1 (hO : Ok m) (c : Dev nD) (t : Fin (cfgT m hO).N) (d) : (dats m hO 0 c).before 1 t d = iblk m hO c 1 t :=
  found1_of m hO (dats m hO 0 c) (arrays m hO c 1) (left1 m hO c) t d
theorem found2 (hO : Ok m) (c : Dev nD) (t : Fin (cfgT m hO).N) (d) : (dats m hO 0 c).before 2 t d = iblk m hO c 2 t :=
  found2_of m hO (dats m hO 0 c) (arrays m hO c 2) (left2 m hO c) t d
theorem found3 (hO : Ok m) (c : Dev nD) (t : Fin (cfgT m hO).N) (d) : (dats m hO 0 c).before 3 t d = iblk m hO c 3 t :=
  found3_of m hO (dats m hO 0 c) (arrays m hO c 3) (left3 m hO c) t d
theorem found4 (hO : Ok m) (c : Dev nD) (t : Fin (cfgT m hO).N) (d) : (dats m hO 0 c).before 4 t d = iblk m hO c 4 t :=
  found4_of m hO (dats m hO 0 c) (arrays m hO c 4) (left4 m hO c) t d

/-- No point is idle for the output: one of the two branches always stores it. -/
theorem never_idle (pf : pre0.Contents (Elt F)) (i : grid0.Coords) : idle0 pf 5 i = false := by
  show (!(k0_cond1 i (pf.atD 1 ![0]) == 1#1) && !(k0_cond2 i (pf.atD 1 ![0]) == 1#1)) = false
  by_cases h : k0_cond1 i (pf.atD 1 ![0]) = 1#1
  · rw [beq_iff_eq.mpr h]; rfl
  · rw [beq_iff_eq.mpr ((cond2_iff i _).mpr h), Bool.not_true, Bool.and_false]

abbrev stg (hO : Ok m) (w : Fin (cfgT m hO).W) (t : Fin (cfgT m hO).N) := ((cfgT m hO).win w).stage ((cfgT m hO).slots t w)

theorem leaves_live {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) :
    dat.leavesExact w t = owns (c : Thread nD τ) ((cfg.win w).stage (cfg.slots t w)) fullShare (dat.after w t) := by
  unfold Dat.leavesExact; rw [hi]

theorem idle_at (a : (pcfg0 (F := F)).Adm) (i : grid0.Coords) : (cfg0 a).idle 5 i = false := never_idle a.1 i

theorem leaves5 (hO : Ok m) (c : Dev nD) (t : Fin (cfgT m hO).N) :
    (dats m hO 0 c).leavesExact 5 t = owns (c : Thread nD τ) (stg m hO 5 t) fullShare ((dats m hO 0 c).after 5 t) :=
  leaves_live (dats m hO 0 c) 5 t (idle_at (at0 m hO) _)

/-- The kernel body at point `t`, on what the pipeline calls it with. -/
abbrev bodyAt (hO : Ok m) (t : Fin (cfgT m hO).N) : Prog (TpuEff nD τ sig (Elt F) Λ₀ .tc) PUnit :=
  cc0_moe_experts (grid0.coords t) tm0 htm0 tm1 htm1
    (spec0_0.stage ((cfgT m hO).slots t 0)) (hstage0_0 (((cfgT m hO).slots t 0).cast nbuf0_0))
    (spec0_1.stage ((cfgT m hO).slots t 1)) (hstage0_1 (((cfgT m hO).slots t 1).cast nbuf0_1))
    (spec0_2.stage ((cfgT m hO).slots t 2)) (hstage0_2 (((cfgT m hO).slots t 2).cast nbuf0_2))
    (spec0_3.stage ((cfgT m hO).slots t 3)) (hstage0_3 (((cfgT m hO).slots t 3).cast nbuf0_3))
    (spec0_4.stage ((cfgT m hO).slots t 4)) (hstage0_4 (((cfgT m hO).slots t 4).cast nbuf0_4))
    (spec0_5.stage ((cfgT m hO).slots t 5)) (hstage0_5 (((cfgT m hO).slots t 5).cast nbuf0_5))

/-- What the body is called with at point `t`. -/
def pre (hO : Ok m) (c : Dev nD) (t : Fin (cfgT m hO).N) : sProp 𝕄 :=
  iprop((dats m hO 0 c).Φ t.castSucc ∗ (dats m hO 0 c).owesAt () t.castSucc
    ∗ (∃ d, owns (c : Thread nD τ) (stg m hO 0 t) fullShare ((dats m hO 0 c).before 0 t d))
    ∗ (∃ d, owns (c : Thread nD τ) (stg m hO 1 t) fullShare ((dats m hO 0 c).before 1 t d))
    ∗ (∃ d, owns (c : Thread nD τ) (stg m hO 2 t) fullShare ((dats m hO 0 c).before 2 t d))
    ∗ (∃ d, owns (c : Thread nD τ) (stg m hO 3 t) fullShare ((dats m hO 0 c).before 3 t d))
    ∗ (∃ d, owns (c : Thread nD τ) (stg m hO 4 t) fullShare ((dats m hO 0 c).before 4 t d))
    ∗ (∃ d, owns (c : Thread nD τ) (stg m hO 5 t) fullShare ((dats m hO 0 c).before 5 t d)))

/-- What it leaves. -/
def post (hO : Ok m) (c : Dev nD) (t : Fin (cfgT m hO).N) : sProp 𝕄 :=
  iprop((dats m hO 0 c).Φ t.succ ∗ (dats m hO 0 c).owesAt () t.succ
    ∗ owns (c : Thread nD τ) (stg m hO 0 t) fullShare ((dats m hO 0 c).after 0 t)
    ∗ owns (c : Thread nD τ) (stg m hO 1 t) fullShare ((dats m hO 0 c).after 1 t)
    ∗ owns (c : Thread nD τ) (stg m hO 2 t) fullShare ((dats m hO 0 c).after 2 t)
    ∗ owns (c : Thread nD τ) (stg m hO 3 t) fullShare ((dats m hO 0 c).after 3 t)
    ∗ owns (c : Thread nD τ) (stg m hO 4 t) fullShare ((dats m hO 0 c).after 4 t)
    ∗ (dats m hO 0 c).leavesExact 5 t)

/-- The body at any point. -/
theorem body_at (hO : Ok m) (c : Dev nD) (t : Fin (cfgT m hO).N) :
    pre m hO c t ⊢ wp frame (wpE (defs₀ (F := F)) Variants.none c none) Set.univ (bodyAt m hO t) (fun _ => post m hO c t) := by
  obtain rfl : c = 0 := Subsingleton.elim _ _
  unfold pre post bodyAt
  simp only [found0, found1, found2, found3, found4]
  rw [show (dats m hO 0 0).Φ t.succ = (dats m hO 0 0).Φ t.castSucc from rfl,
    show (dats m hO 0 0).owesAt () t.succ = (dats m hO 0 0).owesAt () t.castSucc from rfl,
    left0, left1, left2, left3, left4, leaves5, left5]
  rw [show (dats m hO 0 0).Φ t.castSucc = iprop(Pipeline.ΦA spec0 0 ∗ Pipeline.ΦT pre0 (tab m) 0) from rfl, halves_eq]
  unfold outBlk
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body 0 (grid0.coords t) _ _ _ _ _ _ _ _ _ _ _ _ (iblk m hO 0 0 t) (iblk m hO 0 1 t) (iblk m hO 0 2 t) (iblk m hO 0 3 t) (iblk m hO 0 4 t) (tab m 0) (tab m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

theorem row_at (hO : Ok m) (t : Fin (cfgT m hO).N) :
    defs₀ (F := F) .tc (cfgT m hO).body ((cfgT m hO).bodyArgs t ((cfgT m hO).slots t)) = bodyAt m hO t := by
  unfold defs₀; rw [Defs.onTc_tc]

theorem obligation (hO : Ok m) (c : Dev nD) : BodyObligation (dats (F := F) m hO 0 c) (defs₀ (F := F)) Variants.none () Set.univ := fun t => by
  rw [bigSep_W0, bigSep_W0, row_at m hO]
  exact Idealize.ShloMosaic.triple_restated (body_at m hO c t) rfl .rfl fun _ => .rfl

set_option backward.isDefEq.respectTransparency.types false in
/-- Every run ends, with the arrays at the pipeline's last contents and the counters at zero. -/
theorem run (hO : Ok m) : θ_run defs (onTc (τ := τ) (main (F := F))) (s₀ m ρ)
    (fun r => Pipeline.FramePost (Pipeline.pin pcfgs fun _ => at0 m hO) (dats m hO) 0 (V m) r ∧ r.2.sem = fun _ => 0) :=
  Pipeline.θ_run_frameP (Q' := _) pcfgs (fun _ => at0 m hO) (dats m hO) (0 : Fin 1) launch0 defs₀ Variants.none m ρ main
    (hbody := fun c => (obligation m hO c).loose) (hshare := fun c => (dats m hO 0 c).share_full fun _ => rfl)
    (howed := fun _ _ => rfl) (V := V m) (hmain := entry m Variants.none) (hA := arrays m hO) (hpf := V_tab m)
    (hΦ := fun _ _ => rfl)

/-- The arguments end unchanged and the counters at zero. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (args_of m ρ hO (dats m hO) (arrays m hO) ((θ_run defs _ _).mono (fun _ h => h.1) (run m ρ hO)))
    ((θ_run defs _ _).mono (fun _ h => h.2) (run m ρ hO))

end Cert.Kernel2Ideal.Hand

end
-- ==== Proof.Kernel2Ideal.Tables.lean ====
/-
  The index maps of the experts call: a tile's weights and biases are those of the expert the table names, its rows are its
  own below the count of used tiles; under the precondition every block lies inside its array.
-/
module

public import proofs.«01_k».proof.Proof.Kernel2Ideal.Entry
public import Idealize.ShloMosaic.Lib.Affine

@[expose] public section

set_option maxRecDepth 16384

noncomputable section

namespace Cert.Kernel2Ideal.Hand

open Cert.Kernel2Ideal Cert.Kernel2Ideal.Gen
open Idealize.ShloMosaic Idealize.ShloMosaic.TcCoe

variable {F : FTy → Type} [FloatOps F]

/-- Tile `i`'s place in the table of experts. -/
abbrev at575 (i : grid0.Coords) : S575.Idx := fun a => match a with | ⟨0, _⟩ => (⟨(i 0).val, (i 0).isLt⟩ : Fin 575)
abbrev at1 : S1.Idx := fun a => match a with | ⟨0, _⟩ => (⟨0, by decide⟩ : Fin 1)

/-- The expert of tile `i`, and the count of used tiles, as the tables hold them. -/
abbrev expertW (pf : pre0.Contents (Elt F)) (i : grid0.Coords) : BitVec 32 := pf 0 (at575 i)
abbrev countW (pf : pre0.Contents (Elt F)) : BitVec 32 := pf 1 at1

theorem one_lt (j : S1.Idx) : (j 0).val = 0 := by have : (j 0).val < 1 := (j 0).isLt; omega

theorem emb575 (i : grid0.Coords) (h) (j : S1.Idx) :
    (Rect.unit (s := S575) ![(Scalar.indexCast (BitVec.ofNat 32 (i 0).val)).toNat] S1.size h).emb j = at575 i := by
  funext a
  match a with
  | ⟨0, _⟩ =>
    apply Fin.ext
    have hi : (i 0).val < 575 := (i 0).isLt
    have hj := one_lt j
    show (Scalar.indexCast (BitVec.ofNat 32 (i 0).val)).toNat + 1 * (j 0).val = (i 0).val
    rw [hj]
    show (BitVec.ofNat 32 (i 0).val).toNat + 1 * 0 = (i 0).val
    rw [BitVec.toNat_ofNat]
    omega

theorem emb1 (h) (j : S1.Idx) : (Rect.unit (s := S1) ![0] S1.size h).emb j = at1 := by
  funext a
  match a with
  | ⟨0, _⟩ =>
    apply Fin.ext
    have hj := one_lt j
    show 0 + 1 * (j 0).val = 0
    omega

theorem map1 (pf : pre0.Contents (Elt F)) (i : grid0.Coords) :
    cc0_transform_1 k0_off1_inb numel1_S1 pf i = ![(expertW pf i).toNat, 0, 0] :=
  congrArg (fun e : S575.Idx => ![(pf 0 e : BitVec 32).toNat, 0, 0]) (emb575 i _ _)
theorem map2 (pf : pre0.Contents (Elt F)) (i : grid0.Coords) :
    cc0_transform_2 k0_off1_inb numel1_S1 pf i = ![(expertW pf i).toNat, 0, 0] := map1 pf i
theorem map3 (pf : pre0.Contents (Elt F)) (i : grid0.Coords) :
    cc0_transform_3 k0_off1_inb numel1_S1 pf i = ![(expertW pf i).toNat, 0, 0] := map1 pf i
theorem map4 (pf : pre0.Contents (Elt F)) (i : grid0.Coords) :
    cc0_transform_4 k0_off1_inb numel1_S1 pf i = ![(expertW pf i).toNat, 0, 0] := map1 pf i

theorem toInt_small {x : BitVec 32} (h : x.toNat < 2 ^ 31) : x.toInt = (x.toNat : ℤ) := by
  have := BitVec.toInt_eq_toNat_cond x
  split at this <;> omega

/-- The rows of tile `i` are its own below the count of used tiles, else the last used tile's. -/
theorem min_last {w : BitVec 32} (h1 : 1 ≤ w.toNat) (h2 : w.toNat < 2 ^ 31) {a : ℕ} (ha : a < 575) :
    (Scalar.minsi (BitVec.ofNat 32 a) (Scalar.subi w 1#32)).toNat = min a (w.toNat - 1) := by
  have hs : (w - 1#32).toNat = w.toNat - 1 := by
    rw [BitVec.toNat_sub]
    rw [show (1#32).toNat = 1 from rfl]
    have := w.isLt
    omega
  have ha' : (BitVec.ofNat 32 a).toNat = a := by rw [BitVec.toNat_ofNat]; omega
  show (if (BitVec.ofNat 32 a).slt (w - 1#32) then BitVec.ofNat 32 a else w - 1#32).toNat = _
  by_cases h : (BitVec.ofNat 32 a).slt (w - 1#32) = true
  · rw [if_pos h, ha']
    rw [BitVec.slt_iff_toInt_lt, toInt_small (by omega), toInt_small (by omega), hs, ha'] at h
    omega
  · rw [if_neg h, hs]
    rw [BitVec.slt_iff_toInt_lt, toInt_small (by omega), toInt_small (by omega), hs, ha'] at h
    omega

theorem map0 (pf : pre0.Contents (Elt F)) (i : grid0.Coords) (h1 : 1 ≤ (countW pf).toNat) (h2 : (countW pf).toNat < 2 ^ 31) :
    cc0_transform_0 inb_S1_S1_0 numel1_S1 pf i = ![min (i 0).val ((countW pf).toNat - 1), 0] := by
  refine (congrArg (fun e : S1.Idx => ![(Scalar.minsi (BitVec.ofNat 32 (i 0).val) (Scalar.subi (pf 1 e : BitVec 32) 1#32)).toNat, 0]) (emb1 _ _)).trans ?_
  rw [min_last h1 h2 (i 0).isLt]

/-- Under the precondition every block lies inside its array and its transfers move whole words. -/
theorem ok_of (pf : pre0.Contents (Elt F)) (he : ∀ i, (expertW pf i).toNat < 32) (h1 : 1 ≤ (countW pf).toNat) (h2 : (countW pf).toNat < 2 ^ 31) :
    ok0 pf := by
  refine ⟨fun i => ⟨?_, .inl rfl⟩, fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · intro a
    rw [map0 pf i h1 h2]
    have hi : (i 0).val < 575 := (i 0).isLt
    match a with
    | ⟨0, _⟩ => show (min (i 0).val ((countW pf).toNat - 1) + 1) * 256 ≤ 147200; omega
    | ⟨1, _⟩ => show (0 + 1) * 1024 ≤ 1024; omega
  · intro a
    rw [map1]
    have := he i
    match a with
    | ⟨0, _⟩ => show ((expertW pf i).toNat + 1) * 1 ≤ 32; omega
    | ⟨1, _⟩ => show (0 + 1) * 1024 ≤ 1024; omega
    | ⟨2, _⟩ => show (0 + 1) * 2048 ≤ 2048; omega
  · intro a
    rw [map2]
    have := he i
    match a with
    | ⟨0, _⟩ => show ((expertW pf i).toNat + 1) * 1 ≤ 32; omega
    | ⟨1, _⟩ => show (0 + 1) * 1 ≤ 1; omega
    | ⟨2, _⟩ => show (0 + 1) * 2048 ≤ 2048; omega
  · intro a
    rw [map3]
    have := he i
    match a with
    | ⟨0, _⟩ => show ((expertW pf i).toNat + 1) * 1 ≤ 32; omega
    | ⟨1, _⟩ => show (0 + 1) * 1024 ≤ 1024; omega
    | ⟨2, _⟩ => show (0 + 1) * 1024 ≤ 1024; omega
  · intro a
    rw [map4]
    have := he i
    match a with
    | ⟨0, _⟩ => show ((expertW pf i).toNat + 1) * 1 ≤ 32; omega
    | ⟨1, _⟩ => show (0 + 1) * 1 ≤ 1; omega
    | ⟨2, _⟩ => show (0 + 1) * 1024 ≤ 1024; omega

/-! ## What the tables hold -/

variable (m : (ℓ : Loc nD τ sig) → Buf (Elt F) ℓ)

/-- The tables' range on device `c`: every expert exists and a tile at least is used. -/
def Range : Prop := ∀ c : Dev nD, (∀ i, (m ((c : Thread nD τ).loc main_arg0) i : BitVec 32).toNat < 32)
  ∧ ∀ i, 1 ≤ (m ((c : Thread nD τ).loc main_arg1) i : BitVec 32).toNat ∧ (m ((c : Thread nD τ).loc main_arg1) i : BitVec 32).toNat < 2 ^ 31

theorem tab0 (c : Dev nD) : tab m 0 = m ((c : Thread nD τ).loc main_arg0) := (V_tab m c 0).symm.trans (V_arg0 m c)
theorem tab1 (c : Dev nD) : tab m 1 = m ((c : Thread nD τ).loc main_arg1) := (V_tab m c 1).symm.trans (V_arg1 m c)

theorem expertW_eq (c : Dev nD) (i : grid0.Coords) : expertW (tab m) i = m ((c : Thread nD τ).loc main_arg0) (at575 i) :=
  congrFun (tab0 m c) _
theorem countW_eq (c : Dev nD) : countW (tab m) = m ((c : Thread nD τ).loc main_arg1) at1 := congrFun (tab1 m c) _

theorem ok {m : (ℓ : Loc nD τ sig) → Buf (Elt F) ℓ} (h : Range m) : Ok m :=
  ok_of (tab m) (fun i => by rw [expertW_eq m 0]; exact (h 0).1 _) (by rw [countW_eq m 0]; exact ((h 0).2 _).1)
    (by rw [countW_eq m 0]; exact ((h 0).2 _).2)

end Cert.Kernel2Ideal.Hand

end
-- ==== Proof.Kernel2Ideal.Value.lean ====
/-
  What the experts call leaves in the result array, entry by entry, over the extended reals: below the count of used tiles
  each row through its expert's two layers, beyond it zeros.
-/
module

public import proofs.«01_k».proof.Proof.Kernel2Ideal.Run
public import proofs.«01_k».proof.Proof.Kernel2Ideal.Tables
public import Idealize.ShloMosaic.Lib.Pointwise

@[expose] public section

set_option maxRecDepth 16384

noncomputable section

namespace Cert.Kernel2Ideal.Hand

open Cert.Kernel2Ideal Cert.Kernel2Ideal.Gen
open Idealize.ShloMosaic Idealize.ShloMosaic.TcCoe
open Idealize.ShloMosaic.Pipeline (Window Dat)

/-! ## One tile -/

/-- The gated activation of a gate and an up value: both clipped at 7, the up value from below too. -/
def glu (g u : EReal) : EReal :=
  (min (Ideal.ofBits .f32 0x40E00000#32) (max (Ideal.ofBits .f32 0xC0E00000#32) u) + 1)
    * (min g (Ideal.ofBits .f32 0x40E00000#32)
      * Ideal.div 1 (1 + Ideal.exp (0 - Ideal.ofBits .f32 0x3FD9DB23#32 * min g (Ideal.ofBits .f32 0x40E00000#32))))

theorem pay3_at (x0 : Vec Ideal S256x1024 .f32) (x1 : Vec Ideal S1x1024x2048 .bf16) (x2 : Vec Ideal S1x1x2048 .f32)
    (x3 : Vec Ideal S1x1024x1024 .bf16) (q : Fin 256) (e : Fin 1024) :
    k0_pay3 x0 x1 x2 x3 (ix2 q e)
      = ∑ f : Fin 1024, glu (∑ d : Fin 1024, x0 (ix2 q d) * x1 (ix3 0 d ⟨f.val, by omega⟩) + x2 (ix3 0 0 ⟨f.val, by omega⟩))
          (∑ d : Fin 1024, x0 (ix2 q d) * x1 (ix3 0 d ⟨1024 + f.val, by omega⟩) + x2 (ix3 0 0 ⟨1024 + f.val, by omega⟩))
            * x3 (ix3 0 f e) := by
  pointwise [k0_pay3]
  rfl

theorem pay1_at (x : FVec Ideal S256x1024 .f32) (x4 : Vec Ideal S1x1x1024 .f32) (q : Fin 256) (e : Fin 1024) :
    k0_pay1 x (k0_pay4 x4) (ix2 q e) = x (ix2 q e) + x4 (ix3 0 0 e) := by
  pointwise [k0_pay1, k0_pay4]

theorem pay2_at (q : Fin 256) (e : Fin 1024) : k0_pay2 (F := Ideal) (ix2 q e) = 0 := by
  pointwise [k0_pay2]

/-! ## The result array -/

section Spec

variable (X0 : Vec Ideal S575 .i32) (X1 : Vec Ideal S1 .i32) (X2 : FVec Ideal S147200x1024 .f32)
  (X3 : FVec Ideal S32x1024x2048 .f32) (X4 : FVec Ideal S32x2048 .f32) (X5 : FVec Ideal S32x1024x1024 .f32)
  (X6 : FVec Ideal S32x1024 .f32)

/-- The expert of tile `t`, read off its table. -/
def expert (t : Fin 575) : Fin 32 := ⟨min (X0 (ix1 t)).toNat 31, by omega⟩

/-- Hidden feature `f` of row `p` at expert `e`. -/
def hiddenAt (e : Fin 32) (p : Fin 147200) (f : Fin 2048) : EReal :=
  ∑ d : Fin 1024, X2 (ix2 p d) * X3 (ix3 e d f) + X4 (ix2 e f)

/-- Output feature `n` of row `p` at expert `e`. -/
def outRow (e : Fin 32) (p : Fin 147200) (n : Fin 1024) : EReal :=
  ∑ f : Fin 1024, glu (hiddenAt X2 X3 X4 e p ⟨f.val, by omega⟩) (hiddenAt X2 X3 X4 e p ⟨1024 + f.val, by omega⟩) * X5 (ix3 e f n)
    + X6 (ix2 e n)

/-- The result: a row of a used tile through the tile's expert, a row of an unused tile zero. -/
def result : FVec Ideal S147200x1024 .f32 := fun i =>
  if (i 0).val / 256 < (X1 (ix1 0)).toNat then
    outRow X2 X3 X4 X5 X6 (expert X0 ⟨(i 0).val / 256, by have h : (i 0).val < 147200 := (i 0).isLt; omega⟩) (i 0) (i 1)
  else 0

/-- A used tile's row, its blocks being the expert's weights and the row's own entries. -/
theorem usedTile_at (x0 : Vec Ideal S256x1024 .f32) (x1 : Vec Ideal S1x1024x2048 .bf16) (x2 : Vec Ideal S1x1x2048 .f32)
    (x3 : Vec Ideal S1x1024x1024 .bf16) (x4 : Vec Ideal S1x1x1024 .f32) {e : Fin 32} {p : Fin 147200} (q : Fin 256)
    (h0 : ∀ d : Fin 1024, x0 (ix2 q d) = X2 (ix2 p d)) (h1 : ∀ (d : Fin 1024) (f : Fin 2048), x1 (ix3 0 d f) = X3 (ix3 e d f))
    (h2 : ∀ f : Fin 2048, x2 (ix3 0 0 f) = X4 (ix2 e f)) (h3 : ∀ f n : Fin 1024, x3 (ix3 0 f n) = X5 (ix3 e f n))
    (h4 : ∀ n : Fin 1024, x4 (ix3 0 0 n) = X6 (ix2 e n)) (n : Fin 1024) :
    usedTile x0 x1 x2 x3 x4 (ix2 q n) = outRow X2 X3 X4 X5 X6 e p n := by
  unfold usedTile
  rw [pay1_at, pay3_at]
  unfold outRow hiddenAt
  simp only [h0, h1, h2, h3, h4]

end Spec

variable (m : (ℓ : Loc nD τ sig) → Buf (Elt Ideal) ℓ)

-- the tables stay folded: the pipeline is read at any contents of them
attribute [local irreducible] tab

/-- The result of device `c`'s arrays. -/
abbrev res (c : Dev nD) : FVec Ideal S147200x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ## The blocks a point reads -/

theorem lt_N (t : Fin grid0.N) : t.val < 575 := lt_of_lt_of_eq t.isLt N_0

/-- The tile of a point. -/
def tile (t : Fin grid0.N) : Fin 575 := ⟨t.val, lt_N t⟩

theorem coord (t : Fin grid0.N) : (grid0.coords t 0).val = t.val := by
  have h := lt_N t
  show t.val / 1 % 575 = t.val
  omega

theorem at_eq (t : Fin grid0.N) : at575 (grid0.coords t) = ix1 (tile t) := by
  funext a
  match a with
  | ⟨0, _⟩ => exact Fin.ext (coord t)

section Generic

variable (a : (pcfg0 (F := Ideal)).Adm)

theorem idx1 (t : Fin (cfg0 a).N) : ((cfg0 a).win 1).index t = ![(expertW a.1 (grid0.coords t)).toNat, 0, 0] := map1 a.1 _
theorem idx2 (t : Fin (cfg0 a).N) : ((cfg0 a).win 2).index t = ![(expertW a.1 (grid0.coords t)).toNat, 0, 0] := map2 a.1 _
theorem idx3 (t : Fin (cfg0 a).N) : ((cfg0 a).win 3).index t = ![(expertW a.1 (grid0.coords t)).toNat, 0, 0] := map3 a.1 _
theorem idx4 (t : Fin (cfg0 a).N) : ((cfg0 a).win 4).index t = ![(expertW a.1 (grid0.coords t)).toNat, 0, 0] := map4 a.1 _
theorem idx0 (t : Fin (cfg0 a).N) (h1 : 1 ≤ (countW a.1).toNat) (h2 : (countW a.1).toNat < 2 ^ 31) :
    ((cfg0 a).win 0).index t = ![min (grid0.coords t 0).val ((countW a.1).toNat - 1), 0] := map0 a.1 _ h1 h2
theorem idx5 (t : Fin (cfg0 a).N) : ((cfg0 a).win 5).index t = ![t.val, 0] := by
  have h := lt_N t
  show cc0_transform_5 (grid0.coords t) = _
  funext b
  match b with
  | ⟨0, _⟩ =>
    show (BitVec.ofNat 32 (grid0.coords t 0).val).toNat = t.val
    rw [coord, BitVec.toNat_ofNat]
    omega
  | ⟨1, _⟩ => rfl

/-- Every point writes its own tile of the result back. -/
theorem flush5 (t : Fin (cfg0 a).N) : ((cfg0 a).win 5).flush t = true :=
  (fun t => (Pipeline.Window.flushOf_reads cc0_transform_5 reads0_5 hreads0_5 0 (by decide) (by decide)
    (Pipeline.Window.sep_of_coord cc0_transform_5 0 0 (fun _ => rfl) (by decide)) (P := 1) (m := 0) (by decide) rfl t).mpr
      (Nat.mod_one _) : ∀ t : Fin grid0.N, Pipeline.Window.flushOf grid0 true cc0_transform_5 t = true) t

/-- The weights as the call finds them: the host's casts change no value. -/
theorem V_v0 (c : Dev nD) : V m c main_v0 = fun i => m ((c : Thread nD τ).loc main_arg3) i := by
  rfl
theorem V_v1 (c : Dev nD) : V m c main_v1 = fun i => m ((c : Thread nD τ).loc main_arg5) i := by
  rfl
/-- The biases as the call finds them: a unit axis more. -/
theorem V_v2 (c : Dev nD) : V m c main_v2
    = shapeCast S32x1x2048 (m ((c : Thread nD τ).loc main_arg4)) shapeCasts_S32x2048_S32x1x2048 := by
  rfl
theorem V_v3 (c : Dev nD) : V m c main_v3
    = shapeCast S32x1x1024 (m ((c : Thread nD τ).loc main_arg6)) shapeCasts_S32x1024_S32x1x1024 := by
  rfl

theorem V_v2_at (c : Dev nD) (e : Fin 32) (f : Fin 2048) : V m c main_v2 (ix3 e 0 f) = m ((c : Thread nD τ).loc main_arg4) (ix2 e f) := by
  rw [V_v2]
  exact shapeCast_apply (s := S32x2048) (t := S32x1x2048) _ _ _ _ (by
    rw [Shape.rowMajor_val_two, Shape.rowMajor_val_three]
    show e.val * 2048 + f.val = (e.val * 1 + 0) * 2048 + f.val
    omega)
theorem V_v3_at (c : Dev nD) (e : Fin 32) (f : Fin 1024) : V m c main_v3 (ix3 e 0 f) = m ((c : Thread nD τ).loc main_arg6) (ix2 e f) := by
  rw [V_v3]
  exact shapeCast_apply (s := S32x1024) (t := S32x1x1024) _ _ _ _ (by
    rw [Shape.rowMajor_val_two, Shape.rowMajor_val_three]
    show e.val * 1024 + f.val = (e.val * 1 + 0) * 1024 + f.val
    omega)

/-- Row `q` of tile `t`. -/
def row (t : Fin grid0.N) (q : Fin 256) : Fin 147200 := ⟨256 * t.val + q.val, by have := lt_N t; omega⟩

theorem gblk0 (c : Dev nD) (t : Fin (cfg0 a).N) (h1 : 1 ≤ (countW a.1).toNat) (h2 : (countW a.1).toNat < 2 ^ 31)
    (ht : t.val < (countW a.1).toNat) (q : Fin 256) (d : Fin 1024) :
    (((cfg0 a).win 0).blk t).view.read (Elt Ideal) (V m c main_arg2) (ix2 q d)
      = m ((c : Thread nD τ).loc main_arg2) (ix2 (row t q) d) := by
  show V m c main_arg2 ((((cfg0 a).win 0).rect t).emb (ix2 q d)) = _
  rw [V_arg2]
  congr 1
  funext b
  apply Fin.ext
  refine (Window.rect_emb_val ((cfg0 a).win 0) t _ b).trans ?_
  rw [idx0 a t h1 h2, coord]
  match b with
  | ⟨0, _⟩ => show min t.val ((countW a.1).toNat - 1) * 256 + q.val = 256 * t.val + q.val; omega
  | ⟨1, _⟩ => show 0 * 1024 + d.val = d.val; omega

theorem gblk1 (c : Dev nD) (t : Fin (cfg0 a).N) (e : Fin 32) (he : (expertW a.1 (grid0.coords t)).toNat = e.val) (d : Fin 1024) (f : Fin 2048) :
    (((cfg0 a).win 1).blk t).view.read (Elt Ideal) (V m c main_v0) (ix3 0 d f)
      = m ((c : Thread nD τ).loc main_arg3) (ix3 e d f) := by
  show V m c main_v0 ((((cfg0 a).win 1).rect t).emb (ix3 0 d f)) = _
  rw [V_v0]
  show m ((c : Thread nD τ).loc main_arg3) _ = _
  congr 1
  funext b
  apply Fin.ext
  refine (Window.rect_emb_val ((cfg0 a).win 1) t _ b).trans ?_
  rw [idx1 a t, he]
  match b with
  | ⟨0, _⟩ => show e.val * 1 + 0 = e.val; omega
  | ⟨1, _⟩ => show 0 * 1024 + d.val = d.val; omega
  | ⟨2, _⟩ => show 0 * 2048 + f.val = f.val; omega

theorem gblk2 (c : Dev nD) (t : Fin (cfg0 a).N) (e : Fin 32) (he : (expertW a.1 (grid0.coords t)).toNat = e.val) (f : Fin 2048) :
    (((cfg0 a).win 2).blk t).view.read (Elt Ideal) (V m c main_v2) (ix3 0 0 f)
      = m ((c : Thread nD τ).loc main_arg4) (ix2 e f) := by
  refine Eq.trans ?_ (V_v2_at m c e f)
  show V m c main_v2 ((((cfg0 a).win 2).rect t).emb (ix3 0 0 f)) = _
  congr 1
  funext b
  apply Fin.ext
  refine (Window.rect_emb_val ((cfg0 a).win 2) t _ b).trans ?_
  rw [idx2 a t, he]
  match b with
  | ⟨0, _⟩ => show e.val * 1 + 0 = e.val; omega
  | ⟨1, _⟩ => show 0 * 1 + 0 = 0; omega
  | ⟨2, _⟩ => show 0 * 2048 + f.val = f.val; omega

theorem gblk3 (c : Dev nD) (t : Fin (cfg0 a).N) (e : Fin 32) (he : (expertW a.1 (grid0.coords t)).toNat = e.val) (d n : Fin 1024) :
    (((cfg0 a).win 3).blk t).view.read (Elt Ideal) (V m c main_v1) (ix3 0 d n)
      = m ((c : Thread nD τ).loc main_arg5) (ix3 e d n) := by
  show V m c main_v1 ((((cfg0 a).win 3).rect t).emb (ix3 0 d n)) = _
  rw [V_v1]
  show m ((c : Thread nD τ).loc main_arg5) _ = _
  congr 1
  funext b
  apply Fin.ext
  refine (Window.rect_emb_val ((cfg0 a).win 3) t _ b).trans ?_
  rw [idx3 a t, he]
  match b with
  | ⟨0, _⟩ => show e.val * 1 + 0 = e.val; omega
  | ⟨1, _⟩ => show 0 * 1024 + d.val = d.val; omega
  | ⟨2, _⟩ => show 0 * 1024 + n.val = n.val; omega

theorem gblk4 (c : Dev nD) (t : Fin (cfg0 a).N) (e : Fin 32) (he : (expertW a.1 (grid0.coords t)).toNat = e.val) (n : Fin 1024) :
    (((cfg0 a).win 4).blk t).view.read (Elt Ideal) (V m c main_v3) (ix3 0 0 n)
      = m ((c : Thread nD τ).loc main_arg6) (ix2 e n) := by
  refine Eq.trans ?_ (V_v3_at m c e n)
  show V m c main_v3 ((((cfg0 a).win 4).rect t).emb (ix3 0 0 n)) = _
  congr 1
  funext b
  apply Fin.ext
  refine (Window.rect_emb_val ((cfg0 a).win 4) t _ b).trans ?_
  rw [idx4 a t, he]
  match b with
  | ⟨0, _⟩ => show e.val * 1 + 0 = e.val; omega
  | ⟨1, _⟩ => show 0 * 1 + 0 = 0; omega
  | ⟨2, _⟩ => show 0 * 1024 + n.val = n.val; omega

end Generic

/-! ## The tile a point leaves -/

/-- A used tile is one whose number lies below the count. -/
theorem cond1_iff (i : grid0.Coords) (w : BitVec 32) (hw : w.toNat < 2 ^ 31) : k0_cond1 i w = 1#1 ↔ (i 0).val < w.toNat := by
  have hi : (i 0).val < 575 := (i 0).isLt
  have ha : (BitVec.ofNat 32 (i 0).val).toNat = (i 0).val := by rw [BitVec.toNat_ofNat]; omega
  have e : k0_cond1 i w = BitVec.ofBool ((BitVec.ofNat 32 (i 0).val).slt w) := by
    unfold k0_cond1
    have hc : Scalar.cmpi .slt (BitVec.ofNat 32 (i 0).val) w = BitVec.ofBool ((BitVec.ofNat 32 (i 0).val).slt w) :=
      BitVec.eq_of_toNat_eq (by simp [Scalar.cmpi, IntOp.cmpi])
    dsimp only
    rw [hc]
    cases (BitVec.ofNat 32 (i 0).val).slt w <;> decide
  have hs : (BitVec.ofNat 32 (i 0).val).slt w = true ↔ (i 0).val < w.toNat := by
    rw [BitVec.slt_iff_toInt_lt, toInt_small (by omega), toInt_small hw, ha]
    omega
  rw [e, ← hs]
  cases (BitVec.ofNat 32 (i 0).val).slt w <;> decide

theorem used_eq (c : Dev nD) : used m = m ((c : Thread nD τ).loc main_arg1) (ix1 0) := by
  have e1 : (Rect.unit (s := S1) ![0] S1.size inb_S1_S1_0).emb (Shape.Idx.first (numel1_S1.symm ▸ Nat.one_pos)) = ix1 (0 : Fin 1) := by
    rw [emb1]
    funext a
    match a with
    | ⟨0, _⟩ => rfl
  exact (congrArg (fun e : S1.Idx => (tab m 1 e : BitVec 32)) e1).trans (congrFun (tab1 m c) _)

theorem outBlk_at (h : Range m) (c : Dev nD) (t : Fin (cfgT m (ok h)).N) (q : Fin 256) (n : Fin 1024) :
    outBlk m (ok h) c t (ix2 q n) = res m c (ix2 (row t q) n) := by
  have hc1 : at1 = ix1 (0 : Fin 1) := by
    funext a
    match a with
    | ⟨0, _⟩ => rfl
  have hu := used_eq m c
  have hcw : countW (tab m) = m ((c : Thread nD τ).loc main_arg1) (ix1 0) := (countW_eq m c).trans (congrArg _ hc1)
  have hw1 : 1 ≤ (used m).toNat := by rw [hu]; exact ((h c).2 _).1
  have hw2 : (used m).toNat < 2 ^ 31 := by rw [hu]; exact ((h c).2 _).2
  have hcu : countW (tab m) = used m := hcw.trans hu.symm
  have hdiv : (row t q).val / 256 = t.val := by show (256 * t.val + q.val) / 256 = t.val; omega
  have hiff : k0_cond1 (grid0.coords t) (used m) = 1#1 ↔ t.val < (used m).toNat := by
    rw [cond1_iff _ _ hw2, coord]
  unfold outBlk tileOut res result
  by_cases ht : t.val < (used m).toNat
  · rw [if_pos (hiff.mpr ht)]
    have ht' : (row t q).val / 256 < (m ((c : Thread nD τ).loc main_arg1) (ix1 0) : BitVec 32).toNat := by rw [hdiv, ← hu]; exact ht
    refine Eq.trans ?_ (if_pos ht').symm
    have hex : expert (m ((c : Thread nD τ).loc main_arg0)) ⟨(row t q).val / 256, by have h := (row t q).isLt; omega⟩
        = expert (m ((c : Thread nD τ).loc main_arg0)) (tile t) := congrArg _ (Fin.ext hdiv)
    refine Eq.trans ?_ (congrArg (fun e => outRow (m ((c : Thread nD τ).loc main_arg2)) (m ((c : Thread nD τ).loc main_arg3)) (m ((c : Thread nD τ).loc main_arg4)) (m ((c : Thread nD τ).loc main_arg5)) (m ((c : Thread nD τ).loc main_arg6)) e (row t q) n) hex.symm)
    have he : (expertW (tab m) (grid0.coords t)).toNat = (expert (m ((c : Thread nD τ).loc main_arg0)) (tile t)).val := by
      rw [expertW_eq m c, at_eq]
      have := (h c).1 (ix1 (tile t))
      show _ = min _ 31
      omega
    exact usedTile_at _ _ _ _ _ (iblk m (ok h) c 0 t) (iblk m (ok h) c 1 t) (iblk m (ok h) c 2 t) (iblk m (ok h) c 3 t) (iblk m (ok h) c 4 t) q
      (gblk0 m (at0 m (ok h)) c t (by rw [hcu]; exact hw1) (by rw [hcu]; exact hw2) (by rw [hcu]; exact ht) q)
      (gblk1 m (at0 m (ok h)) c t _ he) (gblk2 m (at0 m (ok h)) c t _ he) (gblk3 m (at0 m (ok h)) c t _ he)
      (gblk4 m (at0 m (ok h)) c t _ he) n
  · rw [if_neg (fun hc => ht (hiff.mp hc))]
    have ht' : ¬(row t q).val / 256 < (m ((c : Thread nD τ).loc main_arg1) (ix1 0) : BitVec 32).toNat := by rw [hdiv, ← hu]; exact ht
    exact (pay2_at q n).trans (if_neg ht').symm

theorem flushed_eq (h : Range m) (c : Dev nD) (t : Fin (cfgT m (ok h)).N) :
    (dats m (ok h) 0 c).flushed 5 t = (((cfgT m (ok h)).win 5).blk t).view.read (Elt Ideal) (res m c) := by
  unfold Pipeline.Dat.flushed
  rw [left5]
  refine funext fun (y : S256x1024.Idx) => ?_
  have hy : y = ix2 (y 0) (y 1) := by
    funext b
    match b with
    | ⟨0, _⟩ => rfl
    | ⟨1, _⟩ => rfl
  show outBlk m (ok h) c t y = res m c ((((cfgT m (ok h)).win 5).rect t).emb y)
  rw [hy]
  refine (outBlk_at m h c t (y 0) (y 1)).trans ?_
  congr 1
  funext b
  apply Fin.ext
  refine Eq.trans ?_ (Window.rect_emb_val ((cfgT m (ok h)).win 5) t _ b).symm
  rw [idx5 (at0 m (ok h)) t]
  match b with
  | ⟨0, _⟩ => show 256 * t.val + (y 0).val = t.val * 256 + (y 0).val; omega
  | ⟨1, _⟩ => show (y 1).val = 0 * 1024 + (y 1).val; omega

theorem mem_rect {G : Pipeline.Grid} (w : Window sig G) (t : Fin G.N) (i : w.shape.Idx)
    (h : ∀ b, w.kind.off (w.index t b) (w.size b) ≤ (i b).val
      ∧ (i b).val < w.kind.off (w.index t b) (w.size b) + w.xsize (G.coords t) b) : i ∈ (w.rect t).set := by
  unfold Window.rect
  rw [Rect.mem_set_unit]
  exact h

theorem cover (a : (pcfg0 (F := Ideal)).Adm) (i : S147200x1024.Idx) :
    ∃ t : Fin (cfg0 a).N, ((cfg0 a).win 5).flush t = true ∧ i ∈ (((cfg0 a).win 5).blk t).view.set := by
  have h0 : (i 0).val < 147200 := (i 0).isLt
  have h1 : (i 1).val < 1024 := (i 1).isLt
  have hN : (i 0).val / 256 < grid0.N := lt_of_lt_of_eq (show _ < 575 by omega) N_0.symm
  refine ⟨⟨_, hN⟩, flush5 a _, ?_⟩
  have hr : i ∈ (((cfg0 a).win 5).rect ⟨(i 0).val / 256, hN⟩).set := by
    refine mem_rect ((cfg0 a).win 5) ⟨(i 0).val / 256, hN⟩ i fun b => ?_
    show ((cfg0 a).win 5).index ⟨_, hN⟩ b * _ ≤ _ ∧ _ < ((cfg0 a).win 5).index ⟨_, hN⟩ b * _ + _
    rw [idx5 a]
    match b with
    | ⟨0, _⟩ => show (i 0).val / 256 * 256 ≤ (i 0).val ∧ (i 0).val < (i 0).val / 256 * 256 + 256; omega
    | ⟨1, _⟩ => show 0 * 1024 ≤ (i 1).val ∧ (i 1).val < 0 * 1024 + 1024; omega
  have hs := View.set_slice_whole main_v4 (((cfg0 a).win 5).rect ⟨(i 0).val / 256, hN⟩)
  exact (congrArg (fun S : Finset S147200x1024.Idx => i ∈ S) hs).mpr hr

/-- The result array after the launch. -/
theorem final (h : Range m) (c : Dev nD) : (dats m (ok h) 0 c).arrAt 5 (cfgT m (ok h)).N = res m c :=
  (dats m (ok h) 0 c).arrAt_eq_of_cover 5 (res m c) (fun t _ => flushed_eq m h c t) (cover (at0 m (ok h)))

/-- The run's final state: the result array's contents, and the arguments unchanged. -/
theorem value (h : Range m) (ρ : Dev nD → PrngReg) : θ_run defs (onTc (τ := τ) (main (F := Ideal))) ⟨m, fun _ => 0, ρ⟩ (fun r => ∀ c : Dev nD,
      r.2.mem ((c.tc : Thread nD τ).loc main_v4) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r hr c => ⟨((hr.1 c).1 5).trans (final m h c), hr.2.1 c⟩)
    (θ_run_and ((θ_run defs _ _).mono (fun _ hr => hr.1) (run m ρ (ok h))) (quiet m ρ (ok h)))

end Cert.Kernel2Ideal.Hand
end
-- ==== Proof.Gathers.lean ====
/-
  Picking blocks of an array by a table of numbers: entry `(t, …)` of the picked array is the array's own entry of the
  block that the table names at `t`.
-/
module

public import Idealize.ShloMosaic.Lib.Pipeline.Value
public import Idealize.ShloMosaic.Lib.Pointwise

@[expose] public section

noncomputable section

namespace Cert.Gathers

open Idealize.ShloMosaic Idealize.ShloMosaic.TcCoe

variable {α : Type}

/-- Blocks `[A, B]` of an array `[N, A, B]`, one per entry of the table. -/
abbrev blocks (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

theorem block_at {N A B n : Nat} (wf) (x : (⟨3, ![N, A, B]⟩ : Shape).Idx → α) (idx : IVec ⟨2, ![n, 1]⟩ 32)
    (t : Fin n) (i : Fin A) (j : Fin B) (e : Fin N) (he : (idx (ix2 t 0)).toInt = e.val) :
    Host.gather (blocks N A B n wf) x idx (ix3 t i j) = x (ix3 e i j) := by
  unfold Host.gather
  refine congrArg x (funext fun a => Fin.ext ?_)
  show (blocks N A B n wf).start (ix3 t i j) idx a + (blocks N A B n wf).batchCoord (ix3 t i j) a
    + (blocks N A B n wf).offCoord (ix3 t i j) a = _
  rw [GatherDims.batchCoord_eq_zero _ _ _ List.not_mem_nil]
  have ha : a = 0 ∨ a = 1 ∨ a = 2 := by
    match a with
    | ⟨0, _⟩ => exact .inl rfl
    | ⟨1, _⟩ => exact .inr (.inl rfl)
    | ⟨2, _⟩ => exact .inr (.inr rfl)
  rcases ha with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (blocks N A B n wf).startIndexMap from List.mem_singleton.mpr rfl)]
    have hsi : (blocks N A B n wf).siIdx (ix3 t i j) ⟨List.idxOf (0 : Fin 3) (blocks N A B n wf).startIndexMap,
        List.idxOf_lt_length_iff.2 (List.mem_singleton.mpr rfl)⟩ = ix2 t 0 := by
      funext b
      refine Fin.ext ?_
      match b with
      | ⟨0, _⟩ => rfl
      | ⟨1, _⟩ => rfl
    rw [hsi, he]
    show min e.val (N - 1) + 0 + 0 = e.val
    have := e.isLt
    omega
  · unfold GatherDims.start GatherDims.offCoord
    rw [dif_neg (show (1 : Fin 3) ∉ [(0 : Fin 3)] by decide), dif_pos ((GatherDims.mem_sKept _ _).mpr ⟨show (1 : Fin 3) ∉ [(0 : Fin 3)] by decide, List.not_mem_nil⟩)]
    show 0 + 0 + i.val = i.val
    omega
  · unfold GatherDims.start GatherDims.offCoord
    rw [dif_neg (show (2 : Fin 3) ∉ [(0 : Fin 3)] by decide), dif_pos ((GatherDims.mem_sKept _ _).mpr ⟨show (2 : Fin 3) ∉ [(0 : Fin 3)] by decide, List.not_mem_nil⟩)]
    show 0 + 0 + j.val = j.val
    omega

/-- Rows `[B]` of an array `[N, B]`, one per entry of the table. -/
abbrev rows (N B n : Nat) (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

theorem row_at {N B n : Nat} (wf) (x : (⟨2, ![N, B]⟩ : Shape).Idx → α) (idx : IVec ⟨2, ![n, 1]⟩ 32)
    (t : Fin n) (j : Fin B) (e : Fin N) (he : (idx (ix2 t 0)).toInt = e.val) :
    Host.gather (rows N B n wf) x idx (ix2 t j) = x (ix2 e j) := by
  unfold Host.gather
  refine congrArg x (funext fun a => Fin.ext ?_)
  show (rows N B n wf).start (ix2 t j) idx a + (rows N B n wf).batchCoord (ix2 t j) a
    + (rows N B n wf).offCoord (ix2 t j) a = _
  rw [GatherDims.batchCoord_eq_zero _ _ _ List.not_mem_nil]
  have ha : a = 0 ∨ a = 1 := by
    match a with
    | ⟨0, _⟩ => exact .inl rfl
    | ⟨1, _⟩ => exact .inr rfl
  rcases ha with rfl | rfl
  · rw [GatherDims.offCoord_eq_zero _ _ _ (fun h => ((GatherDims.mem_sKept _ _).mp h).1 (List.mem_singleton.mpr rfl))]
    unfold GatherDims.start
    rw [dif_pos (show (0 : Fin 2) ∈ (rows N B n wf).startIndexMap from List.mem_singleton.mpr rfl)]
    have hsi : (rows N B n wf).siIdx (ix2 t j) ⟨List.idxOf (0 : Fin 2) (rows N B n wf).startIndexMap,
        List.idxOf_lt_length_iff.2 (List.mem_singleton.mpr rfl)⟩ = ix2 t 0 := by
      funext b
      refine Fin.ext ?_
      match b with
      | ⟨0, _⟩ => rfl
      | ⟨1, _⟩ => rfl
    rw [hsi, he]
    show min e.val (N - 1) + 0 + 0 = e.val
    have := e.isLt
    omega
  · unfold GatherDims.start GatherDims.offCoord
    rw [dif_neg (show (1 : Fin 2) ∉ [(0 : Fin 2)] by decide), dif_pos ((GatherDims.mem_sKept _ _).mpr ⟨show (1 : Fin 2) ∉ [(0 : Fin 2)] by decide, List.not_mem_nil⟩)]
    show 0 + 0 + j.val = j.val
    omega

end Cert.Gathers
end
-- ==== Proof.Reference2.lean ====
/-
  The reference's experts, entry by entry, over the extended reals: each row through its tile's expert, rows of unused
  tiles zero.
-/
module

public import proofs.«01_k».proof.Proof.Gen.Reference2Ideal
public import proofs.«01_k».proof.Proof.Gen.Reference2Ideal.Run
public import proofs.«01_k».proof.Proof.Gen.Reference2Ideal.Read
public import proofs.«01_k».proof.Proof.Kernel2Ideal.Value
public import proofs.«01_k».proof.Proof.Gathers

@[expose] public section

set_option maxRecDepth 16384

noncomputable section

namespace Cert.Reference2Ideal.Hand

open Cert.Reference2Ideal Cert.Reference2Ideal.Gen Cert.Reference2Ideal.Read
open Idealize.ShloMosaic Idealize.ShloMosaic.TcCoe
open Cert.Kernel2Ideal.Hand (glu expert hiddenAt outRow result toInt_small)

variable (x0 : Vec Ideal S575 .i32) (x1 : Vec Ideal S1 .i32) (x2 : FVec Ideal S147200x1024 .f32)
  (x3 : FVec Ideal S32x1024x2048 .f32) (x4 : FVec Ideal S32x2048 .f32) (x5 : FVec Ideal S32x1024x1024 .f32)
  (x6 : FVec Ideal S32x1024 .f32)

theorem one_bits : Ideal.ofBits .f32 0x3F800000#32 = 1 := by
  simp [Ideal.ofBits, Ideal.ieee]
  rw [← EReal.coe_mul]
  norm_num
theorem zero_bits : Ideal.ofBits .f32 0x00000000#32 = 0 := by simp [Ideal.ofBits, Ideal.ieee]

/-- Row `q` of tile `t`. -/
abbrev rowOf (t : Fin 575) (q : Fin 256) : Fin 147200 := ⟨256 * t.val + q.val, by omega⟩

/-- A table entry in range is not wrapped. -/
theorem unwrapped (w : BitVec 32) (h : w.toNat < 32) : (Scalar.select (IntOp.cmpi .slt w 0#32) (IntOp.addi w 32#32) w).toInt = (w.toNat : ℤ) := by
  have hw := toInt_small (x := w) (by omega)
  have hs : w.slt 0#32 = false := by
    rw [Bool.eq_false_iff]
    intro hc
    rw [BitVec.slt_iff_toInt_lt, hw] at hc
    have : (0#32 : BitVec 32).toInt = 0 := by decide
    omega
  have hc : ¬ IntOp.cmpi .slt w 0#32 = 1#1 := by
    show ¬ BitVec.ofBool (w.slt 0#32) = 1#1
    rw [hs]
    decide
  exact (congrArg BitVec.toInt (if_neg hc)).trans hw

variable (h0 : ∀ i, (x0 i : BitVec 32).toNat < 32)
include h0

theorem expert_val (t : Fin 575) : ((expert x0 t).val : ℤ) = ((x0 (ix1 t) : BitVec 32).toNat : ℤ) := by
  have := h0 (ix1 t)
  show ((min (x0 (ix1 t) : BitVec 32).toNat 31 : ℕ) : ℤ) = _
  omega

theorem te6 (t : Fin 575) : (val_main_v6 (F := Ideal) x0 (ix2 t 0)).toInt = (expert x0 t).val := by
  rw [val_main_v6_apply, show idx_main_v6 (ix2 t 0) = ix1 t from by funext a; match a with | ⟨0, _⟩ => rfl, val_main_v5_apply, val_main_v2_apply, val_main_v4_apply, val_main_v1_apply, val_main_v3_apply, expert_val x0 h0]
  exact unwrapped _ (h0 _)
theorem te14 (t : Fin 575) : (val_main_v14 (F := Ideal) x0 (ix2 t 0)).toInt = (expert x0 t).val := te6 x0 h0 t
theorem te41 (t : Fin 575) : (val_main_v41 (F := Ideal) x0 (ix2 t 0)).toInt = (expert x0 t).val := te6 x0 h0 t
theorem te49 (t : Fin 575) : (val_main_v49 (F := Ideal) x0 (ix2 t 0)).toInt = (expert x0 t).val := te6 x0 h0 t

theorem v7_at (t : Fin 575) (d : Fin 1024) (f : Fin 2048) : val_main_v7 (F := Ideal) x0 x3 (ix3 t d f) = x3 (ix3 (expert x0 t) d f) :=
  Gathers.block_at gather_S32x1024x2048_S575x1_S575x1024x2048_12_0_n_n_0_1_110242048_wf x3 _ t d f _ (te6 x0 h0 t)
theorem v15_at (t : Fin 575) (f : Fin 2048) : val_main_v15 (F := Ideal) x0 x4 (ix2 t f) = x4 (ix2 (expert x0 t) f) :=
  Gathers.row_at gather_S32x2048_S575x1_S575x2048_1_0_n_n_0_1_12048_wf x4 _ t f _ (te14 x0 h0 t)
theorem v42_at (t : Fin 575) (d f : Fin 1024) : val_main_v42 (F := Ideal) x0 x5 (ix3 t d f) = x5 (ix3 (expert x0 t) d f) :=
  Gathers.block_at gather_S32x1024x1024_S575x1_S575x1024x1024_12_0_n_n_0_1_110241024_wf x5 _ t d f _ (te41 x0 h0 t)
theorem v50_at (t : Fin 575) (f : Fin 1024) : val_main_v50 (F := Ideal) x0 x6 (ix2 t f) = x6 (ix2 (expert x0 t) f) :=
  Gathers.row_at gather_S32x1024_S575x1_S575x1024_1_0_n_n_0_1_11024_wf x6 _ t f _ (te49 x0 h0 t)

omit h0 in
theorem v0_at (t : Fin 575) (q : Fin 256) (d : Fin 1024) : val_main_v0 (F := Ideal) x2 (ix3 t q d) = x2 (ix2 (rowOf t q) d) := by
  rw [val_main_v0_apply]
  refine congrArg x2 (funext fun a => Fin.ext ?_)
  match a with
  | ⟨0, _⟩ => show ((t.val * 256 + q.val) * 1024 + d.val) / 1024 = 256 * t.val + q.val; omega
  | ⟨1, _⟩ => show ((t.val * 256 + q.val) * 1024 + d.val) % 1024 = d.val; omega

/-- The hiddenAt layer before the activation. -/
theorem v18_at (t : Fin 575) (q : Fin 256) (f : Fin 2048) :
    val_main_v18 (F := Ideal) x0 x2 x3 x4 (ix3 t q f) = hiddenAt x2 x3 x4 (expert x0 t) (rowOf t q) f := by
  rw [val_main_v18_apply, val_main_v8_apply, val_main_v17_apply, val_main_v16_apply]
  unfold hiddenAt
  refine congrArg₂ (fun a b : EReal => a + b) (Finset.sum_congr rfl fun d _ => congrArg₂ (fun a b : EReal => a * b) ?_ ?_) ?_
  · refine Eq.trans (congrArg _ (show _ = ix3 t q d from ?_)) (v0_at x2 t q d)
    funext a; match a with | ⟨0, _⟩ => rfl | ⟨1, _⟩ => rfl | ⟨2, _⟩ => rfl
  · refine Eq.trans (congrArg _ (show _ = ix3 t d f from ?_)) (v7_at x0 x3 h0 t d f)
    funext a; match a with | ⟨0, _⟩ => rfl | ⟨1, _⟩ => rfl | ⟨2, _⟩ => rfl
  · refine Eq.trans (congrArg _ (show _ = ix2 t f from ?_)) (v15_at x0 x4 h0 t f)
    funext a; match a with | ⟨0, _⟩ => rfl | ⟨1, _⟩ => rfl

theorem v19_at (t : Fin 575) (q : Fin 256) (f : Fin 1024) :
    val_main_v19 (F := Ideal) x0 x2 x3 x4 (ix3 t q f) = hiddenAt x2 x3 x4 (expert x0 t) (rowOf t q) ⟨f.val, by omega⟩ := by
  rw [val_main_v19_apply]
  refine Eq.trans (congrArg _ (show _ = ix3 t q ⟨f.val, by omega⟩ from ?_)) (v18_at x0 x2 x3 x4 h0 t q _)
  funext a; match a with | ⟨0, _⟩ => rfl | ⟨1, _⟩ => rfl | ⟨2, _⟩ => rfl
theorem v22_at (t : Fin 575) (q : Fin 256) (f : Fin 1024) :
    val_main_v22 (F := Ideal) x0 x2 x3 x4 (ix3 t q f) = hiddenAt x2 x3 x4 (expert x0 t) (rowOf t q) ⟨1024 + f.val, by omega⟩ := by
  rw [val_main_v22_apply]
  refine Eq.trans (congrArg _ (show _ = ix3 t q ⟨1024 + f.val, by omega⟩ from ?_)) (v18_at x0 x2 x3 x4 h0 t q _)
  funext a; match a with | ⟨0, _⟩ => rfl | ⟨1, _⟩ => rfl | ⟨2, _⟩ => rfl

/-- The activation. -/
theorem v35_at (t : Fin 575) (q : Fin 256) (f : Fin 1024) :
    val_main_v35 (F := Ideal) x0 x2 x3 x4 (ix3 t q f)
      = glu (hiddenAt x2 x3 x4 (expert x0 t) (rowOf t q) ⟨f.val, by omega⟩) (hiddenAt x2 x3 x4 (expert x0 t) (rowOf t q) ⟨1024 + f.val, by omega⟩) := by
  rw [val_main_v35_apply, val_main_v25_apply, val_main_v34_apply, val_main_v33_apply, val_main_v31_apply, val_main_v29_apply,
    val_main_v28_apply, val_main_v27_apply, val_main_v23_apply, val_main_v21_apply, val_main_call0_v2_apply, v19_at x0 x2 x3 x4 h0, v22_at x0 x2 x3 x4 h0]
  generalize hiddenAt x2 x3 x4 (expert x0 t) (rowOf t q) ⟨f.val, by omega⟩ = g
  generalize hiddenAt x2 x3 x4 (expert x0 t) (rowOf t q) ⟨1024 + f.val, by omega⟩ = u
  rw [val_main_v20_apply, val_main_v24_apply, val_main_v26_apply, val_main_v30_apply, val_main_v32_apply, val_main_call0_v1_apply, val_main_call0_v4_apply]
  show (min (Ideal.ofBits .f32 0x40E00000#32) (max (Ideal.ofBits .f32 0xC0E00000#32) u) + Ideal.ofBits .f32 0x3F800000#32)
    * (min g (Ideal.ofBits .f32 0x40E00000#32)
      * Ideal.div (Ideal.ofBits .f32 0x3F800000#32) (Ideal.ofBits .f32 0x3F800000#32 + Ideal.exp (-(Ideal.ofBits .f32 0x3FD9DB23#32 * min g (Ideal.ofBits .f32 0x40E00000#32))))) = _
  rw [one_bits]
  unfold glu
  rw [zero_sub]

/-- The two layers of a row. -/
theorem v53_at (t : Fin 575) (q : Fin 256) (n : Fin 1024) :
    val_main_v53 (F := Ideal) x0 x2 x3 x4 x5 x6 (ix3 t q n) = outRow x2 x3 x4 x5 x6 (expert x0 t) (rowOf t q) n := by
  rw [val_main_v53_apply, val_main_v43_apply, val_main_v52_apply, val_main_v51_apply]
  unfold outRow
  refine congrArg₂ (fun a b : EReal => a + b) (Finset.sum_congr rfl fun f _ => congrArg₂ (fun a b : EReal => a * b) ?_ ?_) ?_
  · refine Eq.trans (congrArg _ (show _ = ix3 t q f from ?_)) (v35_at x0 x2 x3 x4 h0 t q f)
    funext a; match a with | ⟨0, _⟩ => rfl | ⟨1, _⟩ => rfl | ⟨2, _⟩ => rfl
  · refine Eq.trans (congrArg _ (show _ = ix3 t f n from ?_)) (v42_at x0 x5 h0 t f n)
    funext a; match a with | ⟨0, _⟩ => rfl | ⟨1, _⟩ => rfl | ⟨2, _⟩ => rfl
  · refine Eq.trans (congrArg _ (show _ = ix2 t n from ?_)) (v50_at x0 x6 h0 t n)
    funext a; match a with | ⟨0, _⟩ => rfl | ⟨1, _⟩ => rfl

omit h0

/-- The count of used tiles. -/
theorem v55_at (i : S_.Idx) : val_main_v55 (F := Ideal) x1 i = x1 (ix1 0) := by
  unfold val_main_v55 shapeCast
  refine congrArg x1 (funext fun a => ?_)
  match a with
  | ⟨0, _⟩ => exact Subsingleton.elim (α := Fin 1) _ _

/-- A tile's comparison with the count. -/
theorem v57_at (hn : (x1 (ix1 0) : BitVec 32).toNat < 2 ^ 31) (t : Fin 575) :
    val_main_v57 (F := Ideal) x1 (ix1 t) = 1#1 ↔ t.val < (x1 (ix1 0) : BitVec 32).toNat := by
  rw [val_main_v57_apply, val_main_v54_apply, val_main_v56_apply, v55_at]
  have ha : (BitVec.ofNat 32 t.val).toNat = t.val := by rw [BitVec.toNat_ofNat]; omega
  have hs : (BitVec.ofNat 32 t.val).slt (x1 (ix1 0) : BitVec 32) = true ↔ t.val < (x1 (ix1 0) : BitVec 32).toNat := by
    rw [BitVec.slt_iff_toInt_lt, toInt_small (by omega), toInt_small hn, ha]
    omega
  rw [← hs]
  show BitVec.ofBool ((BitVec.ofNat 32 t.val).slt (x1 (ix1 0) : BitVec 32)) = 1#1 ↔ _
  cases (BitVec.ofNat 32 t.val).slt (x1 (ix1 0) : BitVec 32) <;> decide

theorem v59_at (h0 : ∀ i, (x0 i : BitVec 32).toNat < 32) (hn : (x1 (ix1 0) : BitVec 32).toNat < 2 ^ 31)
    (t : Fin 575) (q : Fin 256) (n : Fin 1024) :
    val_main_v59 (F := Ideal) x0 x1 x2 x3 x4 x5 x6 (ix3 t q n)
      = if t.val < (x1 (ix1 0) : BitVec 32).toNat then outRow x2 x3 x4 x5 x6 (expert x0 t) (rowOf t q) n else 0 := by
  rw [val_main_v59_apply, v53_at x0 x2 x3 x4 x5 x6 h0, val_main_call1_v1_apply, val_main_v58_apply, val_main_call1_v2_apply]
  have hc : val_main_v57 (F := Ideal) x1 (idx_main_v58 (idx_main_call1_v1 (ix3 t q n))) = 1#1 ↔ t.val < (x1 (ix1 0) : BitVec 32).toNat := by
    refine Iff.trans (Eq.to_iff (congrArg (fun k => val_main_v57 (F := Ideal) x1 k = 1#1) (show _ = ix1 t from ?_))) (v57_at x1 hn t)
    funext a
    match a with
    | ⟨0, _⟩ => rfl
  by_cases ht : t.val < (x1 (ix1 0) : BitVec 32).toNat
  · exact (if_pos (hc.mpr ht)).trans (if_pos ht).symm
  · exact (if_neg (fun h => ht (hc.mp h))).trans (zero_bits.trans (if_neg ht).symm)

/-- The reference's result is the experts' result. -/
theorem reference_eq (h0 : ∀ i, (x0 i : BitVec 32).toNat < 32) (hn : (x1 (ix1 0) : BitVec 32).toNat < 2 ^ 31) :
    val_main_v60 (F := Ideal) x0 x1 x2 x3 x4 x5 x6 = result x0 x1 x2 x3 x4 x5 x6 := by
  refine funext fun (i : S147200x1024.Idx) => ?_
  obtain ⟨p, n, rfl⟩ : ∃ (p : Fin 147200) (n : Fin 1024), i = ix2 p n := ⟨i 0, i 1, by
    funext a
    match a with
    | ⟨0, _⟩ => rfl
    | ⟨1, _⟩ => rfl⟩
  have hrow : rowOf ⟨p.val / 256, by omega⟩ ⟨p.val % 256, by omega⟩ = p :=
    Fin.ext (by show 256 * (p.val / 256) + p.val % 256 = p.val; omega)
  rw [val_main_v60_apply]
  refine (congrArg (val_main_v59 (F := Ideal) x0 x1 x2 x3 x4 x5 x6) (show _ = ix3 (⟨p.val / 256, by omega⟩ : Fin 575) (⟨p.val % 256, by omega⟩ : Fin 256) n from ?_)).trans ?_
  · funext a
    apply Fin.ext
    match a with
    | ⟨0, _⟩ => show (p.val * 1024 + n.val) / 262144 = p.val / 256; omega
    | ⟨1, _⟩ => show (p.val * 1024 + n.val) / 1024 % 256 = p.val % 256; omega
    | ⟨2, _⟩ => show (p.val * 1024 + n.val) % 1024 = n.val; omega
  · refine (v59_at x0 x1 x2 x3 x4 x5 x6 h0 hn _ _ n).trans ?_
    rw [hrow]
    rfl

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems (by decide) r.2⟩) (Cert.Reference2Ideal.Value.run m ρ)

end Cert.Reference2Ideal.Hand
end
-- ==== Proof.Tiles.lean ====
/-
  What the precondition of the experts says: every tile names one of the 32 experts, and at least one tile is used.
-/
module

public import proofs.«01_k».proof.Defs
public import proofs.«01_k».proof.Proof.Gen.Pre_tiles_ok
public import Idealize.ShloMosaic.Lib.ReduceAll
public import Idealize.ShloMosaic.Lib.WordCmp

@[expose] public section

noncomputable section

namespace Cert.Tiles

open Idealize.ShloMosaic Cert.Pre_tiles_ok Cert.Pre_tiles_ok.Facts

instance : Subsingleton S_.Idx := ⟨fun a b => funext fun d => d.elim0⟩

instance : Subsingleton S1.Idx :=
  ⟨fun a b => funext fun d => match d with | ⟨0, _⟩ => Subsingleton.elim (α := Fin 1) _ _⟩

theorem of_bool {p : Prop} [Decidable p] (h : BitVec.ofBool (decide p) = 1#1) : p := by
  by_contra hn
  rw [decide_eq_false hn] at h
  exact absurd h (by decide)

/-- A word between 0 and 32 as a signed integer is below 32 as a natural number. -/
theorem nat_lt {x : BitVec 32} (h0 : (0#32).toInt ≤ x.toInt) (h1 : x.toInt < (32#32).toInt) : x.toNat < 32 := by
  rw [show (0#32).toInt = 0 from by decide] at h0
  rw [show (32#32).toInt = 32 from by decide] at h1
  have := BitVec.toInt_eq_toNat_cond x
  have := x.isLt
  split at * <;> omega

/-- A word at least 1 as a signed integer is positive, and below the sign bit, as a natural number. -/
theorem nat_pos {x : BitVec 32} (h : (1#32).toInt ≤ x.toInt) : 1 ≤ x.toNat ∧ x.toNat < 2 ^ 31 := by
  rw [show (1#32).toInt = 1 from by decide] at h
  have := BitVec.toInt_eq_toNat_cond x
  have := x.isLt
  split at * <;> omega

theorem of_fn [Cert.Pre_tiles_ok.Facts] {F : FTy → Type} [FloatOps F] (x0 : IVec S575 32) (x1 : IVec S1 32)
    (x2 : FVec F S147200x1024 .f32) (x3 : FVec F S32x1024x2048 .f32) (x4 : FVec F S32x2048 .f32)
    (x5 : FVec F S32x1024x1024 .f32) (x6 : FVec F S32x1024 .f32) (h : fn x0 x1 x2 x3 x4 x5 x6 (fun d => d.elim0) = 1#1) :
    (∀ i, (x0 i).toNat < 32) ∧ ∀ i, 1 ≤ (x1 i).toNat ∧ (x1 i).toNat < 2 ^ 31 := by
  obtain ⟨ha, hb⟩ := IntOp.andi_eq_one.1 h
  refine ⟨fun i => ?_, fun i => ?_⟩
  · have hi := Host.reduce_andi_all _ _ _ _ _ ha i
    obtain ⟨h0, h1⟩ := IntOp.andi_eq_one.1 hi
    exact nat_lt (of_bool h0) (of_bool h1)
  · have hi : (1#32).toInt ≤ (shapeCast S_ x1 shapeCasts_S1_S_ (fun d => d.elim0)).toInt := of_bool hb
    rw [show shapeCast S_ x1 shapeCasts_S1_S_ (fun d => d.elim0) = x1 i from
      congrArg x1 (Subsingleton.elim _ _)] at hi
    exact nat_pos hi

end Cert.Tiles

end
-- ==== Proof.Kernel3Ideal.Value.lean ====
/-
  What the readout call of the gated linear attention leaves, entry by entry, over the extended reals.
-/
module

public import proofs.«01_k».proof.Proof.Gen.Kernel3Ideal.Frame
public import Idealize.ShloMosaic.Lib.Pointwise
public import Idealize.ShloMosaic.Lib.Quiescent
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe
open Idealize.ShloMosaic.Pipeline (Window Dat)

/-! ## One block -/

/-- Feature `r` of a token's row, normed over the 256 features of its head. -/
def headNorm (O : Fin 1024 → EReal) (g : Fin 256 → EReal) (r : Fin 1024) : EReal :=
  O r * Ideal.rsqrt (Ideal.div (∑ x : Fin 256, O ⟨256 * (r.val / 256) + x.val, by omega⟩ * O ⟨256 * (r.val / 256) + x.val, by omega⟩)
      (Ideal.ofBits .f32 0x43800000#32) + Ideal.ofBits .f32 0x358637BD#32) * g ⟨r.val % 256, by omega⟩

theorem headNorm_at (O : Fin 1024 → EReal) (g : Fin 256 → EReal) (r : Fin 1024) (k : Fin 4) (j : Fin 256) (h : r.val = 256 * k.val + j.val) :
    headNorm O g r = O r * Ideal.rsqrt (Ideal.div (∑ x : Fin 256, O ⟨256 * k.val + x.val, by omega⟩ * O ⟨256 * k.val + x.val, by omega⟩)
      (Ideal.ofBits .f32 0x43800000#32) + Ideal.ofBits .f32 0x358637BD#32) * g j := by
  have hk : r.val / 256 = k.val := by omega
  have hj : (⟨r.val % 256, by omega⟩ : Fin 256) = j := Fin.ext (show r.val % 256 = j.val by omega)
  unfold headNorm
  simp only [hk, hj]

/-- The gate `r * sigmoid r`. -/
def silu (r : EReal) : EReal := r * Ideal.div 1 (1 + Ideal.exp (0 - r))

section Block

variable (x0 x1 : Vec Ideal S1x256x1024 .f32) (x2 : Vec Ideal S1x256x1024 .bf16) (x3 : Vec Ideal S1x256 .f32)
  (x4 : Vec Ideal S1024x1024 .bf16) (x5 : Vec Ideal S1x256x1024 .f32) (x6 : Vec Ideal S1x1x6x1024 .f32)

/-- The two directions' sum at row `q`. -/
def both (q : Fin 256) (f : Fin 1024) : EReal := x0 (ix3 0 q f) + x1 (ix3 0 q f)

theorem pay2_at (q : Fin 256) (f : Fin 1024) : k0_pay2 x0 x1 (ix2 q f) = both x0 x1 q f := by
  pointwise [k0_pay2]
  rfl

theorem pay4_at (q n : Fin 256) : k0_pay4 x0 x1 x3 (ix2 q n) = headNorm (both x0 x1 q) (fun n => x3 (ix2 0 n)) ⟨n.val, by omega⟩ := by
  rw [headNorm_at _ _ _ 0 n (by simp)]
  pointwise [k0_pay4, k0_pay2, k0_pay3]
  simp [both]

theorem pay5_at (q n : Fin 256) : k0_pay5 x0 x1 x3 (ix2 q n) = headNorm (both x0 x1 q) (fun n => x3 (ix2 0 n)) ⟨256 + n.val, by omega⟩ := by
  rw [headNorm_at _ _ _ 1 n (by simp)]
  pointwise [k0_pay5, k0_pay2, k0_pay3]
  rfl

theorem pay8_at (q : Fin 256) (e : Fin 1024) :
    k0_pay8 (k0_pay2 x0 x1) (k0_pay3 x3) (k0_pay4 x0 x1 x3) (k0_pay5 x0 x1 x3) (k0_pay6 x0 x1) (k0_pay7 x0 x1) x2 x4 (ix2 q e)
      = ∑ r : Fin 1024, headNorm (both x0 x1 q) (fun n => x3 (ix2 0 n)) r * silu (x2 (ix3 0 q r)) * x4 (ix2 r e) := by
  have h2 := pay2_at x0 x1 q
  have h4 := pay4_at x0 x1 x3 q
  have h5 := pay5_at x0 x1 x3 q
  simp only [k0_pay6, k0_pay7]
  generalize k0_pay4 x0 x1 x3 = v19 at h4 ⊢
  generalize k0_pay5 x0 x1 x3 = v32 at h5 ⊢
  generalize k0_pay2 x0 x1 = v4 at h2 ⊢
  generalize both x0 x1 q = O at h2 h4 h5 ⊢
  pointwise [k0_pay8, k0_pay3]
  refine Finset.sum_congr rfl fun r _ => congrArg (· * _) (congrArg₂ (· * ·) ?_ rfl)
  by_cases h1 : r.val < 256
  · rw [dif_pos h1]
    exact h4 _
  rw [dif_neg h1]
  by_cases h1' : r.val - 256 < 256
  · rw [dif_pos h1']
    exact (h5 _).trans (congrArg _ (Fin.ext (show 256 + (r.val - 256) = r.val by omega)))
  rw [dif_neg h1']
  by_cases h1'' : r.val - 256 - 256 < 256
  · rw [dif_pos h1'', headNorm_at _ _ r 2 ⟨r.val - 256 - 256, by omega⟩ (show r.val = 256 * 2 + (r.val - 256 - 256) by omega)]
    have hr : (⟨512 + (r.val - 256 - 256), by omega⟩ : Fin 1024) = r := Fin.ext (show 512 + (r.val - 256 - 256) = r.val by omega)
    simp only [h2, hr]
    rfl
  · rw [dif_neg h1'', headNorm_at _ _ r 3 ⟨r.val - 256 - 256 - 256, by omega⟩ (show r.val = 256 * 3 + (r.val - 256 - 256 - 256) by omega)]
    have hr : (⟨768 + (r.val - 256 - 256 - 256), by omega⟩ : Fin 1024) = r := Fin.ext (show 768 + (r.val - 256 - 256 - 256) = r.val by omega)
    simp only [h2, hr]
    rfl

theorem pay1_at (a b : FVec Ideal S256x1024 .f32) (q : Fin 256) (e : Fin 1024) :
    k0_pay1 a b (k0_pay10 x6) (ix3 0 q e) = b (ix2 q e) + x6 (ix4 0 0 2 e) * a (ix2 q e) := by
  pointwise [k0_pay10, k0_pay1]

theorem pay9_at (q : Fin 256) (e : Fin 1024) : k0_pay9 x5 (ix2 q e) = x5 (ix3 0 q e) := by
  pointwise [k0_pay9]

/-- The output block. -/
theorem out_at (q : Fin 256) (e : Fin 1024) :
    out0_7 x0 x1 x2 x3 x4 x5 x6 (ix3 0 q e)
      = x5 (ix3 0 q e) + x6 (ix4 0 0 2 e)
        * ∑ r : Fin 1024, headNorm (both x0 x1 q) (fun n => x3 (ix2 0 n)) r * silu (x2 (ix3 0 q r)) * x4 (ix2 r e) := by
  have z2 : (![0, 0] : Fin 2 → ℕ) = fun _ => 0 := funext fun a => by fin_cases a <;> rfl
  have z3 : (![0, 0, 0] : Fin 3 → ℕ) = fun _ => 0 := funext fun a => by fin_cases a <;> rfl
  have z4 : (![0, 0, 0, 0] : Fin 4 → ℕ) = fun _ => 0 := funext fun a => by fin_cases a <;> rfl
  unfold out0_7
  rw [View.canon_cons_unit_zero z3]
  simp only [View.ld_unit_zero (S := S1x256) z2, View.ld_unit_zero (S := S1024x1024) z2, View.ld_unit_zero (S := S1x256x1024) z3,
    View.ld_unit_zero (S := S1x1x6x1024) z4]
  rw [pay1_at, pay8_at, pay9_at]

end Block

/-! ## The blocks a point reads -/

variable (m : (ℓ : Loc nD τ sig) → Buf (Elt Ideal) ℓ)

theorem at0 : ∀ t : Fin grid0.N, win0_0.index t = ![t.val / 17, t.val % 17, 0] := by decide +kernel
theorem at1 : ∀ t : Fin grid0.N, win0_1.index t = ![t.val / 17, t.val % 17, 0] := by decide +kernel
theorem at2 : ∀ t : Fin grid0.N, win0_2.index t = ![t.val / 17, t.val % 17, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![t.val / 17, t.val % 17, 0] := by decide +kernel
theorem at6 : ∀ t : Fin grid0.N, win0_6.index t = ![t.val / 17, if t.val % 17 = 0 then 0 else 1, 0, 0] := by decide +kernel
theorem at7 : ∀ t : Fin grid0.N, win0_7.index t = ![t.val / 17, t.val % 17, 0] := by decide +kernel

theorem lt_N (t : Fin cfg0.N) : t.val < 136 := by have h := t.isLt; exact lt_of_lt_of_eq h N_0

/-- The batch of a point. -/
def bat (t : Fin cfg0.N) : Fin 8 := ⟨t.val / 17, by have := lt_N t; omega⟩
/-- The token, in its batch, of row `q` of a point's block. -/
def tok (t : Fin cfg0.N) (q : Fin 256) : Fin 4352 := ⟨256 * (t.val % 17) + q.val, by omega⟩

theorem blk0_at (c : Dev nD) (t : Fin cfg0.N) (q : Fin 256) (e : Fin 1024) :
    iblk m c 0 t (ix3 0 q e) = m ((c : Thread nD τ).loc main_arg0) (ix3 (bat t) (tok t q) e) := by
  show V m c main_arg0 ((win0_0.rect t).emb (ix3 0 q e)) = _
  rw [V_main_arg0]
  congr 1
  funext a
  apply Fin.ext
  refine (Window.rect_emb_val win0_0 t _ a).trans ?_
  rw [at0 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk1_at (c : Dev nD) (t : Fin cfg0.N) (q : Fin 256) (e : Fin 1024) :
    iblk m c 1 t (ix3 0 q e) = m ((c : Thread nD τ).loc main_arg1) (ix3 (bat t) (tok t q) e) := by
  show V m c main_arg1 ((win0_1.rect t).emb (ix3 0 q e)) = _
  rw [V_main_arg1]
  congr 1
  funext a
  apply Fin.ext
  refine (Window.rect_emb_val win0_1 t _ a).trans ?_
  rw [at1 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk2_at (c : Dev nD) (t : Fin cfg0.N) (q : Fin 256) (e : Fin 1024) :
    iblk m c 2 t (ix3 0 q e) = m ((c : Thread nD τ).loc main_arg2) (ix3 (bat t) (tok t q) e) := by
  show V m c main_arg2 ((win0_2.rect t).emb (ix3 0 q e)) = _
  rw [V_main_arg2]
  congr 1
  funext a
  apply Fin.ext
  refine (Window.rect_emb_val win0_2 t _ a).trans ?_
  rw [at2 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk5_at (c : Dev nD) (t : Fin cfg0.N) (q : Fin 256) (e : Fin 1024) :
    iblk m c 5 t (ix3 0 q e) = m ((c : Thread nD τ).loc main_arg5) (ix3 (bat t) (tok t q) e) := by
  show V m c main_arg5 ((win0_5.rect t).emb (ix3 0 q e)) = _
  rw [V_main_arg5]
  congr 1
  funext a
  apply Fin.ext
  refine (Window.rect_emb_val win0_5 t _ a).trans ?_
  rw [at5 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

/-- The gain as the call finds it: a unit axis more. -/
theorem V_main_v0_at (c : Dev nD) (n : Fin 256) : V m c main_v0 (ix2 0 n) = m ((c : Thread nD τ).loc main_arg3) (ix1 n) := by
  rw [show V m c main_v0 = shapeCast S1x256 (m ((c : Thread nD τ).loc main_arg3)) shapeCasts_S256_S1x256 from rfl]
  exact shapeCast_apply (s := S256) (t := S1x256) _ _ _ _ (by
    rw [Shape.rowMajor_val_one, Shape.rowMajor_val_two]
    show n.val = 0 * 256 + n.val
    omega)

/-- The projection's weights as the call finds them: the host's cast changes no value. -/
theorem V_main_v1 (c : Dev nD) : V m c main_v1 = fun i => m ((c : Thread nD τ).loc main_arg4) i := by
  rfl

theorem blk3_at (c : Dev nD) (t : Fin cfg0.N) (n : Fin 256) :
    iblk m c 3 t (ix2 0 n) = m ((c : Thread nD τ).loc main_arg3) (ix1 n) := by
  refine Eq.trans ?_ (V_main_v0_at m c n)
  show V m c main_v0 ((win0_3.rect t).emb (ix2 0 n)) = _
  congr 1
  funext a
  apply Fin.ext
  refine (Window.rect_emb_val win0_3 t _ a).trans ?_
  rw [at3 t]
  match a with
  | ⟨0, _⟩ => show 0 * 1 + 0 = 0; omega
  | ⟨1, _⟩ => show 0 * 256 + n.val = n.val; omega

theorem blk4_at (c : Dev nD) (t : Fin cfg0.N) (r e : Fin 1024) :
    iblk m c 4 t (ix2 r e) = m ((c : Thread nD τ).loc main_arg4) (ix2 r e) := by
  show V m c main_v1 ((win0_4.rect t).emb (ix2 r e)) = _
  rw [V_main_v1]
  show m ((c : Thread nD τ).loc main_arg4) _ = _
  congr 1
  funext a
  apply Fin.ext
  refine (Window.rect_emb_val win0_4 t _ a).trans ?_
  rw [at4 t]
  match a with
  | ⟨0, _⟩ => show 0 * 1024 + r.val = r.val; omega
  | ⟨1, _⟩ => show 0 * 1024 + e.val = e.val; omega

theorem blk6_at (c : Dev nD) (t : Fin cfg0.N) (j : Fin 6) (e : Fin 1024) :
    iblk m c 6 t (ix4 0 0 j e) = m ((c : Thread nD τ).loc main_arg6) (ix4 (bat t) (if t.val % 17 = 0 then 0 else 1) j e) := by
  show V m c main_arg6 ((win0_6.rect t).emb (ix4 0 0 j e)) = _
  rw [V_main_arg6]
  congr 1
  funext a
  apply Fin.ext
  refine (Window.rect_emb_val win0_6 t _ a).trans ?_
  rw [at6 t]
  match a with
  | ⟨0, _⟩ => show t.val / 17 * 1 + 0 = t.val / 17; omega
  | ⟨1, _⟩ => show (if t.val % 17 = 0 then 0 else 1) * 1 + 0 = Fin.val (n := 2) (if t.val % 17 = 0 then 0 else 1); split <;> rfl
  | ⟨2, _⟩ => show 0 * 6 + j.val = j.val; omega
  | ⟨3, _⟩ => show 0 * 1024 + e.val = e.val; omega

/-! ## The result array -/

section Spec

variable (X0 X1 : FVec Ideal S8x4352x1024 .f32) (X2 : FVec Ideal S8x4352x1024 .bf16) (X3 : FVec Ideal S256 .f32)
  (X4 : FVec Ideal S1024x1024 .f32) (X5 : FVec Ideal S8x4352x1024 .f32) (X6 : FVec Ideal S8x2x6x1024 .f32)

/-- The projected feature `e` of token `q` in batch `b`. -/
def readout (b : Fin 8) (q : Fin 4352) (e : Fin 1024) : EReal :=
  ∑ r : Fin 1024, headNorm (fun f => X0 (ix3 b q f) + X1 (ix3 b q f)) (fun n => X3 (ix1 n)) r * silu (X2 (ix3 b q r)) * X4 (ix2 r e)

/-- The result: the residual plus the gated projection; the gate is the context's or the latent tokens'. -/
def result : FVec Ideal S8x4352x1024 .f32 := fun i =>
  X5 (ix3 (i 0) (i 1) (i 2)) + X6 (ix4 (i 0) (if (i 1).val < 256 then 0 else 1) 2 (i 2)) * readout X0 X1 X2 X3 X4 (i 0) (i 1) (i 2)

end Spec

/-- The result of device `c`'s arrays. -/
abbrev res (c : Dev nD) : FVec Ideal S8x4352x1024 .f32 :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

theorem seg_eq (t : Fin cfg0.N) (q : Fin 256) :
    (if t.val % 17 = 0 then 0 else 1 : Fin 2) = if (tok t q).val < 256 then 0 else 1 := by
  have h : (tok t q).val < 256 ↔ t.val % 17 = 0 := by
    show 256 * (t.val % 17) + q.val < 256 ↔ _
    omega
  by_cases ht : t.val % 17 = 0
  · rw [if_pos ht, if_pos (h.2 ht)]
  · rw [if_neg ht, if_neg (fun hh => ht (h.1 hh))]

theorem outBlk_at (c : Dev nD) (t : Fin cfg0.N) (q : Fin 256) (e : Fin 1024) :
    out0_7 (iblk m c 0 t) (iblk m c 1 t) (iblk m c 2 t) (iblk m c 3 t) (iblk m c 4 t) (iblk m c 5 t) (iblk m c 6 t) (ix3 0 q e)
      = res m c (ix3 (bat t) (tok t q) e) := by
  refine (out_at _ _ _ _ _ _ _ q e).trans ?_
  refine congrArg₂ (· + ·) (blk5_at m c t q e) (congrArg₂ (· * ·) ((blk6_at m c t 2 e).trans (by rw [seg_eq t q]; rfl)) ?_)
  refine Finset.sum_congr rfl fun r _ => congrArg₂ (· * ·) (congrArg₂ (· * ·) (congrArg₂ (fun a b => headNorm a b r) (funext fun f => ?_) (funext fun n => ?_)) ?_) ?_
  · exact congrArg₂ (· + ·) (blk0_at m c t q f) (blk1_at m c t q f)
  · exact blk3_at m c t n
  · exact congrArg silu (blk2_at m c t q r)
  · exact blk4_at m c t r e

theorem flushed_eq (c : Dev nD) (t : Fin cfg0.N) :
    (dats m 0 c).flushed 7 t = ((cfg0.win 7).blk t).view.read (Elt Ideal) (res m c) := by
  unfold Pipeline.Dat.flushed
  rw [after0_7]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_7 (F := Ideal) _ _ _ _ _ _ _ y = res m c ((win0_7.rect t).emb y)
  rw [hy]
  refine (outBlk_at m c t (y 1) (y 2)).trans ?_
  congr 1
  funext a
  apply Fin.ext
  refine Eq.trans ?_ (Window.rect_emb_val win0_7 t _ a).symm
  rw [at7 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 1024 + (y 2).val; omega

theorem cover (i : S8x4352x1024.Idx) : ∃ t : Fin cfg0.N, (cfg0.win 7).flush t = true ∧ i ∈ ((cfg0.win 7).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := lt_of_lt_of_eq (show _ < 136 by omega) N_0.symm
  refine ⟨⟨_, hN⟩, flush0_7 _, ?_⟩
  show i ∈ ((View.whole main_v2).slice (win0_7.rect ⟨_, hN⟩)).set
  rw [View.set_slice_whole, Rect.mem_set_unit]
  intro a
  show win0_7.index ⟨_, hN⟩ a * _ ≤ _ ∧ _ < win0_7.index ⟨_, hN⟩ a * _ + _
  rw [at7]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 1024 ≤ (i 2).val ∧ (i 2).val < 0 * 1024 + 1024; omega

/-- The result array after the launch. -/
theorem final (c : Dev nD) : (dats m 0 c).arrAt 7 cfg0.N = res m c :=
  (dats m 0 c).arrAt_eq_of_cover 7 (res m c) (fun t _ => flushed_eq m c t) cover

/-- The run's final state: the result array's contents, and the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v2) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c), h.2 c⟩)
    (θ_run_and (run_main m ρ) (unchanged m ρ))

end Cert.Kernel3Ideal.Hand
end
-- ==== Proof.Reference3.lean ====
/-
  The reference's readout of the gated linear attention, entry by entry, over the extended reals.
-/
module

public import proofs.«01_k».proof.Proof.Gen.Reference3Ideal
public import proofs.«01_k».proof.Proof.Gen.Reference3Ideal.Run
public import proofs.«01_k».proof.Proof.Gen.Reference3Ideal.Read
public import proofs.«01_k».proof.Proof.Kernel3Ideal.Value
public import proofs.«01_k».proof.Proof.Reference2

@[expose] public section

set_option maxRecDepth 16384

noncomputable section

namespace Cert.Reference3Ideal.Hand

open Cert.Reference3Ideal Cert.Reference3Ideal.Gen Cert.Reference3Ideal.Read
open Idealize.ShloMosaic Idealize.ShloMosaic.TcCoe
open Cert.Kernel3Ideal.Hand (headNorm headNorm_at silu readout result)
open Cert.Reference2Ideal.Hand (one_bits zero_bits)

variable (x0 x1 : FVec Ideal S8x4352x1024 .f32) (x2 : FVec Ideal S8x4352x1024 .bf16) (x3 : FVec Ideal S256 .f32)
  (x4 : FVec Ideal S1024x1024 .f32) (x5 : FVec Ideal S8x4352x1024 .f32) (x6 : FVec Ideal S8x2x6x1024 .f32)

/-- The two directions' sum at token `q` of batch `b`. -/
abbrev row (b : Fin 8) (q : Fin 4352) (f : Fin 1024) : EReal := x0 (ix3 b q f) + x1 (ix3 b q f)

theorem v1_at (b : Fin 8) (q : Fin 4352) (k : Fin 4) (n : Fin 256) :
    val_main_v1 (F := Ideal) x0 x1 (ix4 b q k n) = row x0 x1 b q ⟨256 * k.val + n.val, by omega⟩ := by
  rw [val_main_v1_apply, val_main_v0_apply]
  have h : idx_main_v1 (ix4 b q k n) = ix3 b q ⟨256 * k.val + n.val, by omega⟩ := by
    funext a
    apply Fin.ext
    match a with
    | ⟨0, _⟩ => show (((b.val * 4352 + q.val) * 4 + k.val) * 256 + n.val) / 4456448 = b.val; omega
    | ⟨1, _⟩ => show (((b.val * 4352 + q.val) * 4 + k.val) * 256 + n.val) / 1024 % 4352 = q.val; omega
    | ⟨2, _⟩ => show (((b.val * 4352 + q.val) * 4 + k.val) * 256 + n.val) % 1024 = 256 * k.val + n.val; omega
  rw [h]
  rfl

theorem v3_at (b : Fin 8) (q : Fin 4352) (k : Fin 4) :
    val_main_v3 (F := Ideal) x0 x1 (ix3 b q k)
      = ∑ n : Fin 256, row x0 x1 b q ⟨256 * k.val + n.val, by omega⟩ * row x0 x1 b q ⟨256 * k.val + n.val, by omega⟩ := by
  rw [val_main_v3_apply]
  have h0 : val_main_cst (F := Ideal) (Shape.Idx.first h_S_) = (0 : EReal) := zero_bits
  rw [h0, zero_add]
  refine Finset.sum_congr rfl fun n _ => ?_
  have h : idx_main_v3 (ix3 b q k) n = ix4 b q k n := by
    funext a; match a with | ⟨0, _⟩ => rfl | ⟨1, _⟩ => rfl | ⟨2, _⟩ => rfl | ⟨3, _⟩ => rfl
  rw [h, val_main_v2_apply, v1_at]
  rfl

/-- The normed heads. -/
theorem v14_at (b : Fin 8) (q : Fin 4352) (k : Fin 4) (n : Fin 256) (r : Fin 1024) (hr : r.val = 256 * k.val + n.val) :
    val_main_v14 (F := Ideal) x0 x1 x3 (ix4 b q k n) = headNorm (row x0 x1 b q) (fun n => x3 (ix1 n)) r := by
  rw [val_main_v14_apply, val_main_v11_apply, val_main_v10_apply, val_main_v9_apply, val_main_v8_apply, val_main_v6_apply,
    val_main_v4_apply, val_main_v5_apply, val_main_v7_apply, val_main_v13_apply, val_main_v12_apply, v1_at]
  have h3 : idx_main_v4 (idx_main_v10 (ix4 b q k n)) = ix3 b q k := by
    funext a; match a with | ⟨0, _⟩ => rfl | ⟨1, _⟩ => rfl | ⟨2, _⟩ => rfl
  have hg : idx_main_v12 (idx_main_v13 (ix4 b q k n)) = ix1 n := by
    funext a; match a with | ⟨0, _⟩ => rfl
  have hrr : (⟨256 * k.val + n.val, by omega⟩ : Fin 1024) = r := Fin.ext hr.symm
  rw [h3, hg, v3_at, headNorm_at _ _ r k n hr, hrr]
  rfl

theorem v15_at (b : Fin 8) (q : Fin 4352) (r : Fin 1024) :
    val_main_v15 (F := Ideal) x0 x1 x3 (ix3 b q r) = headNorm (row x0 x1 b q) (fun n => x3 (ix1 n)) r := by
  rw [val_main_v15_apply]
  refine Eq.trans (congrArg _ (show _ = ix4 b q (⟨r.val / 256, by omega⟩ : Fin 4) (⟨r.val % 256, by omega⟩ : Fin 256) from ?_))
    (v14_at x0 x1 x3 b q _ _ r (show r.val = 256 * (r.val / 256) + r.val % 256 by omega))
  funext a
  apply Fin.ext
  match a with
  | ⟨0, _⟩ => show ((b.val * 4352 + q.val) * 1024 + r.val) / 4456448 = b.val; omega
  | ⟨1, _⟩ => show ((b.val * 4352 + q.val) * 1024 + r.val) / 1024 % 4352 = q.val; omega
  | ⟨2, _⟩ => show ((b.val * 4352 + q.val) * 1024 + r.val) / 256 % 4 = r.val / 256; omega
  | ⟨3, _⟩ => show ((b.val * 4352 + q.val) * 1024 + r.val) % 256 = r.val % 256; omega

/-- The gate. -/
theorem v17_at (i : S8x4352x1024.Idx) : val_main_v17 (F := Ideal) x2 i = silu (x2 i) := by
  rw [val_main_v17_apply, val_main_call0_v5_apply, val_main_call0_v3_apply, val_main_call0_v2_apply, val_main_call0_v4_apply,
    val_main_call0_v1_apply, val_main_call0_v0_apply, val_main_v16_apply]
  show (x2 i : EReal) * Ideal.div (Ideal.ofBits .f32 0x3F800000#32) (Ideal.ofBits .f32 0x3F800000#32 + Ideal.exp (-(x2 i : EReal))) = _
  rw [one_bits]
  unfold silu
  rw [zero_sub]

/-- The projection. -/
theorem v19_at (b : Fin 8) (q : Fin 4352) (e : Fin 1024) :
    val_main_v19 (F := Ideal) x0 x1 x2 x3 x4 (ix3 b q e) = readout x0 x1 x2 x3 x4 b q e := by
  rw [val_main_v19_apply]
  unfold readout
  refine Finset.sum_congr rfl fun r _ => congrArg₂ (fun a b : EReal => a * b) ?_ (congrArg x4 ?_)
  · have h : lidx_main_v19 (ix3 b q e) r = ix3 b q r := by
      funext a; match a with | ⟨0, _⟩ => rfl | ⟨1, _⟩ => rfl | ⟨2, _⟩ => rfl
    rw [h, val_main_v18_apply, v15_at, v17_at]
    rfl
  · funext a; match a with | ⟨0, _⟩ => rfl | ⟨1, _⟩ => rfl

/-- The context's tokens. -/
theorem ctx_out (b : Fin 8) (q : Fin 256) (e : Fin 1024) :
    val_main_v26 (F := Ideal) x0 x1 x2 x3 x4 x5 x6 (ix3 b q e)
      = x5 (ix3 b ⟨q.val, by omega⟩ e) + x6 (ix4 b 0 2 e) * readout x0 x1 x2 x3 x4 b ⟨q.val, by omega⟩ e := by
  rw [val_main_v26_apply, val_main_v20_apply, val_main_v25_apply, val_main_v24_apply, val_main_v22_apply, val_main_v21_apply, val_main_v23_apply]
  refine congrArg₂ (fun a b : EReal => a + b) (congrArg x5 ?_) (congrArg₂ (fun a b : EReal => a * b) (congrArg x6 (funext fun a => Fin.ext ?_)) ?_)
  · funext a; match a with | ⟨0, _⟩ => rfl | ⟨1, _⟩ => rfl | ⟨2, _⟩ => rfl
  · match a with
    | ⟨0, _⟩ => show ((b.val * 1 + 0) * 1024 + e.val) / 1024 = b.val; omega
    | ⟨1, _⟩ => rfl
    | ⟨2, _⟩ => rfl
    | ⟨3, _⟩ => show ((b.val * 1 + 0) * 1024 + e.val) % 1024 = e.val; omega
  · refine Eq.trans (congrArg _ (show _ = ix3 b ⟨q.val, by omega⟩ e from ?_)) (v19_at x0 x1 x2 x3 x4 b _ e)
    funext a; match a with | ⟨0, _⟩ => rfl | ⟨1, _⟩ => rfl | ⟨2, _⟩ => rfl

/-- The latent tokens. -/
theorem lat_out (b : Fin 8) (q : Fin 4096) (e : Fin 1024) :
    val_main_v33 (F := Ideal) x0 x1 x2 x3 x4 x5 x6 (ix3 b q e)
      = x5 (ix3 b ⟨256 + q.val, by omega⟩ e) + x6 (ix4 b 1 2 e) * readout x0 x1 x2 x3 x4 b ⟨256 + q.val, by omega⟩ e := by
  rw [val_main_v33_apply, val_main_v27_apply, val_main_v32_apply, val_main_v31_apply, val_main_v29_apply, val_main_v28_apply, val_main_v30_apply]
  refine congrArg₂ (fun a b : EReal => a + b) (congrArg x5 ?_) (congrArg₂ (fun a b : EReal => a * b) (congrArg x6 (funext fun a => Fin.ext ?_)) ?_)
  · funext a; match a with | ⟨0, _⟩ => rfl | ⟨1, _⟩ => rfl | ⟨2, _⟩ => rfl
  · match a with
    | ⟨0, _⟩ => show ((b.val * 1 + 0) * 1024 + e.val) / 1024 = b.val; omega
    | ⟨1, _⟩ => rfl
    | ⟨2, _⟩ => rfl
    | ⟨3, _⟩ => show ((b.val * 1 + 0) * 1024 + e.val) % 1024 = e.val; omega
  · refine Eq.trans (congrArg _ (show _ = ix3 b ⟨256 + q.val, by omega⟩ e from ?_)) (v19_at x0 x1 x2 x3 x4 b _ e)
    funext a; match a with | ⟨0, _⟩ => rfl | ⟨1, _⟩ => rfl | ⟨2, _⟩ => rfl

/-- The reference's result is the kernel's. -/
theorem reference_eq : val_main_v34 (F := Ideal) x0 x1 x2 x3 x4 x5 x6 = result x0 x1 x2 x3 x4 x5 x6 := by
  funext i
  have hi : i = ix3 (i 0) (i 1) (i 2) := by
    funext a; match a with | ⟨0, _⟩ => rfl | ⟨1, _⟩ => rfl | ⟨2, _⟩ => rfl
  generalize hb : i 0 = b at hi
  obtain ⟨q, hq'⟩ : ∃ q : Fin 4352, i 1 = q := ⟨_, rfl⟩
  rw [hq'] at hi
  generalize he : i 2 = e at hi
  subst hi
  show _ = x5 (ix3 b q e) + x6 (ix4 b (if q.val < 256 then 0 else 1) 2 e) * readout x0 x1 x2 x3 x4 b q e
  by_cases hq : q.val < 256
  · rw [if_pos hq]
    refine Eq.trans ?_ (ctx_out x0 x1 x2 x3 x4 x5 x6 b ⟨q.val, hq⟩ e)
    unfold val_main_v34
    refine concatenate_pair_apply_left (t := S8x4352x1024) (s₁ := S8x256x1024) (s₂ := S8x4096x1024) 1 (val_main_v26 (F := Ideal) x0 x1 x2 x3 x4 x5 x6) (val_main_v33 (F := Ideal) x0 x1 x2 x3 x4 x5 x6)
      concatenates_S8x256x1024_S8x4096x1024_S8x4352x1024_d1 (ix3 b q e) rfl (ix3 b ⟨q.val, hq⟩ e) fun a => ?_
    match a with | ⟨0, _⟩ => rfl | ⟨1, _⟩ => rfl | ⟨2, _⟩ => rfl
  · have hqq : (⟨256 + (q.val - 256), by omega⟩ : Fin 4352) = q := Fin.ext (show 256 + (q.val - 256) = q.val by omega)
    rw [if_neg hq]
    have hl := lat_out x0 x1 x2 x3 x4 x5 x6 b ⟨q.val - 256, by omega⟩ e
    simp only [hqq] at hl
    refine Eq.trans ?_ hl
    unfold val_main_v34
    refine concatenate_pair_apply_right (t := S8x4352x1024) (s₁ := S8x256x1024) (s₂ := S8x4096x1024) 1 (val_main_v26 (F := Ideal) x0 x1 x2 x3 x4 x5 x6) (val_main_v33 (F := Ideal) x0 x1 x2 x3 x4 x5 x6)
      concatenates_S8x256x1024_S8x4096x1024_S8x4352x1024_d1 (ix3 b q e) rfl rfl (ix3 b ⟨q.val - 256, by omega⟩ e) (fun a ha => ?_) ?_
    · match a with
      | ⟨0, _⟩ => rfl
      | ⟨1, _⟩ => exact absurd rfl ha
      | ⟨2, _⟩ => rfl
    · show q.val - 256 + 256 = q.val
      omega

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => (h c).2, sem_eq_zero_of_no_sems (by decide) r.2⟩) (Cert.Reference3Ideal.Value.run m ρ)

end Cert.Reference3Ideal.Hand

end
-- ==== Proof.Kernel4Ideal.Heads.lean ====
/-
  The heads of the attention's projection, entry by entry, over the extended reals: each is normed over its 64
  components, its two halves rotated against each other.
-/
module

public import proofs.«01_k».proof.Proof.Gen.Kernel4Ideal.Frame
public import Idealize.ShloMosaic.Lib.Pointwise

@[expose] public section

set_option maxRecDepth 16384

noncomputable section

namespace Cert.Kernel4Ideal.Hand

open Cert.Kernel4Ideal Cert.Kernel4Ideal.Gen
open Idealize.ShloMosaic Idealize.ShloMosaic.TcCoe

/-- Component `d` of a head, normed over the head's 64 components. -/
def normed (A g : Fin 64 → EReal) (d : Fin 64) : EReal :=
  A d * Ideal.rsqrt (Ideal.div (∑ x : Fin 64, A x * A x) (Ideal.ofBits .f32 0x42800000#32) + Ideal.ofBits .f32 0x358637BD#32) * g d

/-- Component `d` of a head after the rotation of its halves by a token's angles. -/
def rotated (N : Fin 64 → EReal) (c s : Fin 32 → EReal) (d : Fin 64) : EReal :=
  if h : d.val < 32 then N ⟨d.val, by omega⟩ * c ⟨d.val, h⟩ - N ⟨32 + d.val, by omega⟩ * s ⟨d.val, h⟩
  else N ⟨d.val - 32, by omega⟩ * s ⟨d.val - 32, by omega⟩ + N ⟨32 + (d.val - 32), by omega⟩ * c ⟨d.val - 32, by omega⟩

/-- Feature `d` of a token's row, normed over its 1024 features and modulated. -/
def modulated (X g shift scale : Fin 1024 → EReal) (d : Fin 1024) : EReal :=
  X d * Ideal.rsqrt (Ideal.div (∑ x : Fin 1024, X x * X x) (Ideal.ofBits .f32 0x44800000#32) + Ideal.ofBits .f32 0x358637BD#32) * g d
    * (1 + scale d) + shift d

/-- The 64 rows from row `o` of the projection's column `t`. -/
abbrev rowsAt (V : FVec Ideal S1536x256 .f32) (o : ℕ) (ho : o ≤ 1472) (t : Fin 256) (d : Fin 64) : EReal := V (ix2 ⟨o + d.val, by omega⟩ t)

/-- A head of the projection's column `t`, normed and rotated. -/
abbrev headAt (V : FVec Ideal S1536x256 .f32) (g : FVec Ideal S64x1 .f32) (C S : Vec Ideal S32x256 .f32) (o : ℕ) (ho : o ≤ 1472) (t : Fin 256) (d : Fin 64) : EReal :=
  rotated (normed (rowsAt V o ho t) (fun d => g (ix2 d 0))) (fun j => C (ix2 j t)) (fun j => S (ix2 j t)) d

variable (V : FVec Ideal S1536x256 .f32) (C S : Vec Ideal S32x256 .f32) (g : FVec Ideal S64x1 .f32)

theorem q0_at (d : Fin 64) (t : Fin 256) :
    k0_pay5 V C S g (ix3 0 d t) = headAt V g C S 0 (by omega) t d * Ideal.ofBits .f32 0x3E000000#32 := by
  pointwise [k0_pay5]
  simp only [headAt, rotated, normed, rowsAt, Nat.zero_add]

theorem q1_at (d : Fin 64) (t : Fin 256) :
    k0_pay10 C S (k0_pay7 V g) (k0_pay8 V g) (k0_pay9 V C S g) (ix3 0 d t) = headAt V g C S 64 (by omega) t d * Ideal.ofBits .f32 0x3E000000#32 := by
  pointwise [k0_pay10, k0_pay7, k0_pay8, k0_pay9, k0_pay6]
  rfl

theorem q2_at (d : Fin 64) (t : Fin 256) :
    k0_pay11 V C S g (ix3 0 d t) = headAt V g C S 128 (by omega) t d * Ideal.ofBits .f32 0x3E000000#32 := by
  pointwise [k0_pay11]
  rfl

theorem q3_at (d : Fin 64) (t : Fin 256) :
    k0_pay14 C S g (k0_pay12 V) (k0_pay13 V) (Scalar.ofBits .f32 0x358637BD#32) (ix3 0 d t) = headAt V g C S 192 (by omega) t d * Ideal.ofBits .f32 0x3E000000#32 := by
  pointwise [k0_pay14, k0_pay12, k0_pay13]
  rfl

theorem q4_at (d : Fin 64) (t : Fin 256) :
    k0_pay16 (k0_pay15 V C S g) (ix3 0 d t) = headAt V g C S 256 (by omega) t d * Ideal.ofBits .f32 0x3E000000#32 := by
  pointwise [k0_pay16, k0_pay15]
  rfl

theorem q5_at (d : Fin 64) (t : Fin 256) :
    k0_pay17 V C S g (ix3 0 d t) = headAt V g C S 320 (by omega) t d * Ideal.ofBits .f32 0x3E000000#32 := by
  pointwise [k0_pay17]
  rfl

theorem q6_at (d : Fin 64) (t : Fin 256) :
    k0_pay22 C S (k0_pay19 V g) (k0_pay20 V g) (k0_pay21 V C S g) (ix3 0 d t) = headAt V g C S 384 (by omega) t d * Ideal.ofBits .f32 0x3E000000#32 := by
  pointwise [k0_pay22, k0_pay19, k0_pay20, k0_pay21, k0_pay18]
  rfl

theorem q7_at (d : Fin 64) (t : Fin 256) :
    k0_pay23 V C S g (ix3 0 d t) = headAt V g C S 448 (by omega) t d * Ideal.ofBits .f32 0x3E000000#32 := by
  pointwise [k0_pay23]
  rfl

theorem q8_at (d : Fin 64) (t : Fin 256) :
    k0_pay26 C S g (k0_pay24 V) (k0_pay25 V) (Scalar.ofBits .f32 0x358637BD#32) (ix3 0 d t) = headAt V g C S 512 (by omega) t d * Ideal.ofBits .f32 0x3E000000#32 := by
  pointwise [k0_pay26, k0_pay24, k0_pay25]
  rfl

theorem q9_at (d : Fin 64) (t : Fin 256) :
    k0_pay28 (k0_pay27 V C S g) (ix3 0 d t) = headAt V g C S 576 (by omega) t d * Ideal.ofBits .f32 0x3E000000#32 := by
  pointwise [k0_pay28, k0_pay27]
  rfl

theorem q10_at (d : Fin 64) (t : Fin 256) :
    k0_pay29 V C S g (ix3 0 d t) = headAt V g C S 640 (by omega) t d * Ideal.ofBits .f32 0x3E000000#32 := by
  pointwise [k0_pay29]
  rfl

theorem q11_at (d : Fin 64) (t : Fin 256) :
    k0_pay34 C S (k0_pay31 V g) (k0_pay32 V g) (k0_pay33 V C S g) (ix3 0 d t) = headAt V g C S 704 (by omega) t d * Ideal.ofBits .f32 0x3E000000#32 := by
  pointwise [k0_pay34, k0_pay31, k0_pay32, k0_pay33, k0_pay30]
  rfl

theorem q12_at (d : Fin 64) (t : Fin 256) :
    k0_pay35 V C S g (ix3 0 d t) = headAt V g C S 768 (by omega) t d * Ideal.ofBits .f32 0x3E000000#32 := by
  pointwise [k0_pay35]
  rfl

theorem q13_at (d : Fin 64) (t : Fin 256) :
    k0_pay38 C S g (k0_pay36 V) (k0_pay37 V) (Scalar.ofBits .f32 0x358637BD#32) (ix3 0 d t) = headAt V g C S 832 (by omega) t d * Ideal.ofBits .f32 0x3E000000#32 := by
  pointwise [k0_pay38, k0_pay36, k0_pay37]
  rfl

theorem q14_at (d : Fin 64) (t : Fin 256) :
    k0_pay40 (k0_pay39 V C S g) (ix3 0 d t) = headAt V g C S 896 (by omega) t d * Ideal.ofBits .f32 0x3E000000#32 := by
  pointwise [k0_pay40, k0_pay39]
  rfl

theorem q15_at (d : Fin 64) (t : Fin 256) :
    k0_pay41 V C S g (ix3 0 d t) = headAt V g C S 960 (by omega) t d * Ideal.ofBits .f32 0x3E000000#32 := by
  pointwise [k0_pay41]
  rfl

theorem k0_at (d : Fin 64) (t : Fin 256) :
    k0_pay46 C S (k0_pay43 V g) (k0_pay44 V g) (k0_pay45 V C S g) (ix2 d t) = headAt V g C S 1024 (by omega) t d * Ideal.ofBits .f32 0x3F800000#32 := by
  pointwise [k0_pay46, k0_pay43, k0_pay44, k0_pay45, k0_pay42]
  rfl

theorem k1_at (d : Fin 64) (t : Fin 256) :
    k0_pay47 V C S g (ix2 d t) = headAt V g C S 1088 (by omega) t d * Ideal.ofBits .f32 0x3F800000#32 := by
  pointwise [k0_pay47]
  rfl

theorem k2_at (d : Fin 64) (t : Fin 256) :
    k0_pay48 V C S g (ix2 d t) = headAt V g C S 1152 (by omega) t d := by
  pointwise [k0_pay48]
  rfl

/-- The value rows, as projected. -/
theorem v_at (d t : Fin 256) : k0_pay1 (k0_pay50 V) (ix3 0 d t) = V (ix2 ⟨1280 + d.val, by omega⟩ t) := by
  pointwise [k0_pay1, k0_pay50]

/-- The key heads side by side, tokens down. -/
theorem keys_at (a b c : FVec Ideal S64x256 .f32) (t r : Fin 256) :
    k0_pay49 V C S g a b c (ix3 0 t r)
      = if h : r.val < 64 then a (ix2 ⟨r.val, h⟩ t)
        else if h1 : r.val - 64 < 64 then b (ix2 ⟨r.val - 64, h1⟩ t)
        else if h2 : r.val - 64 - 64 < 64 then c (ix2 ⟨r.val - 64 - 64, h2⟩ t) * Ideal.ofBits .f32 0x3F800000#32
        else headAt V g C S 1216 (by omega) t ⟨r.val - 64 - 64 - 64, by omega⟩ * Ideal.ofBits .f32 0x3F800000#32 := by
  pointwise [k0_pay49]
  rfl

/-- The projection's block: the modulated tokens against the weights' rows. -/
theorem qkv_at (x0 : Vec Ideal S1x256x1024 .f32) (x1 : Vec Ideal S1x1x6x1024 .f32) (x2 : Vec Ideal S1x1024 .f32) (x3 : Vec Ideal S1536x1024 .bf16)
    (n : Fin 1536) (t : Fin 256) :
    k0_pay2 x1 x0 x2 x3 (ix2 n t)
      = ∑ d : Fin 1024, x3 (ix2 n d) * modulated (fun d => x0 (ix3 0 t d)) (fun d => x2 (ix2 0 d)) (fun d => x1 (ix4 0 0 0 d)) (fun d => x1 (ix4 0 0 1 d)) d := by
  pointwise [k0_pay2]
  rfl

end Cert.Kernel4Ideal.Hand
end
-- ==== Proof.Kernel4Ideal.Value.lean ====
/-
  What the attention's projection leaves, entry by entry, over the extended reals: queries, keys and values.
-/
module

public import proofs.«01_k».proof.Proof.Kernel4Ideal.Heads
public import Idealize.ShloMosaic.Lib.Quiescent
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe
open Idealize.ShloMosaic.Pipeline (Window Dat)

/-! ## One block -/

section Block

variable (x0 : Vec Ideal S1x256x1024 .f32) (x1 : Vec Ideal S1x1x6x1024 .f32) (x2 : Vec Ideal S1x1024 .f32) (x3 : Vec Ideal S1536x1024 .bf16)
  (x4 x5 : Vec Ideal S64x1 .f32) (x6 x7 : Vec Ideal S32x256 .f32)

theorem z2 : (![0, 0] : Fin 2 → ℕ) = fun _ => 0 := funext fun a => by fin_cases a <;> rfl
theorem z3 : (![0, 0, 0] : Fin 3 → ℕ) = fun _ => 0 := funext fun a => by fin_cases a <;> rfl
theorem z4 : (![0, 0, 0, 0] : Fin 4 → ℕ) = fun _ => 0 := funext fun a => by fin_cases a <;> rfl

theorem pay51_eq : k0_pay51 x0 x1 x2 x3 x4 x5 x6 x7 = k0_pay2 x1 x0 x2 x3 := by
  unfold k0_pay51
  simp only [View.ld_unit_zero (S := S1x1024) z2, View.ld_unit_zero (S := S1536x1024) z2, View.ld_unit_zero (S := S1x256x1024) z3,
    View.ld_unit_zero (S := S1x1x6x1024) z4]

theorem pay52_eq : k0_pay52 x0 x1 x2 x3 x4 x5 x6 x7 = x4 := by
  unfold k0_pay52 k0_pay3
  simp only [View.ld_unit_zero (S := S64x1) z2]
  exact shapeCast_id _ _

theorem pay53_eq : k0_pay53 x0 x1 x2 x3 x4 x5 x6 x7 = x5 := by
  unfold k0_pay53 k0_pay4
  simp only [View.ld_unit_zero (S := S64x1) z2]
  exact shapeCast_id _ _

/-- The query block: row `r` is component `r % 64` of head `r / 64`. -/
def qBlk (V : FVec Ideal S1536x256 .f32) (C S : Vec Ideal S32x256 .f32) (g : FVec Ideal S64x1 .f32) (y : S1x1024x256.Idx) : EReal :=
  headAt V g C S (64 * ((y 1).val / 64)) (by have h : (y 1).val < 1024 := (y 1).isLt; omega) (y 2) ⟨(y 1).val % 64, by omega⟩ * Ideal.ofBits .f32 0x3E000000#32

theorem piece_eq (V : FVec Ideal S1536x256 .f32) (C S : Vec Ideal S32x256 .f32) (g : FVec Ideal S64x1 .f32) (o : ℕ) (ho : o ≤ 1472) (k : ℕ) (hk : o = 64 * k)
    (P : FVec Ideal S1x64x256 .bf16) (hP : ∀ (d : Fin 64) (t : Fin 256), P (ix3 0 d t) = headAt V g C S o ho t d * Ideal.ofBits .f32 0x3E000000#32)
    (y : S1x1024x256.Idx) (x : S1x64x256.Idx) (h1 : (y 1).val = o + 1 * (x 1).val) (h2 : (y 2).val = 0 + 1 * (x 2).val) : P x = qBlk V C S g y := by
  have hx : x = ix3 (0 : Fin 1) (x 1) (x 2) := by
    funext a
    match a with
    | ⟨0, _⟩ => exact Fin.ext (by have h : (x 0).val < 1 := (x 0).isLt; show (x 0).val = 0; omega)
    | ⟨1, _⟩ => rfl
    | ⟨2, _⟩ => rfl
  have hd : (x 1).val < 64 := (x 1).isLt
  have e1 : o = 64 * ((y 1).val / 64) := by omega
  have e2 : (x 1 : Fin 64) = ⟨(y 1).val % 64, by omega⟩ := Fin.ext (show (x 1).val = (y 1).val % 64 by omega)
  have e3 : (x 2 : Fin 256) = y 2 := Fin.ext (show (x 2).val = (y 2).val by omega)
  rw [hx]
  refine (hP (x 1) (x 2)).trans ?_
  unfold qBlk
  rw [e2, e3]
  subst e1
  rfl

theorem out8_at (y : S1x1024x256.Idx) : out0_8 x0 x1 x2 x3 x4 x5 x6 x7 y = qBlk (k0_pay2 x1 x0 x2 x3) x6 x7 x4 y := by
  unfold out0_8
  simp only [pay51_eq, pay52_eq, View.ld_unit_zero (S := S32x256) z2]
  generalize k0_pay2 x1 x0 x2 x3 = V
  refine View.canon_apply_of_pieces (Val := Elt Ideal) (S := S1x1024x256) (e := .bf16) (qBlk V x6 x7 x4) _ ?_ y (cover0_8 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => piece_eq V x6 x7 x4 960 (by omega) 15 rfl _ (q15_at V x6 x7 x4) _ x rfl rfl
  · exact fun x => piece_eq V x6 x7 x4 896 (by omega) 14 rfl _ (q14_at V x6 x7 x4) _ x rfl rfl
  · exact fun x => piece_eq V x6 x7 x4 832 (by omega) 13 rfl _ (q13_at V x6 x7 x4) _ x rfl rfl
  · exact fun x => piece_eq V x6 x7 x4 768 (by omega) 12 rfl _ (q12_at V x6 x7 x4) _ x rfl rfl
  · exact fun x => piece_eq V x6 x7 x4 704 (by omega) 11 rfl _ (q11_at V x6 x7 x4) _ x rfl rfl
  · exact fun x => piece_eq V x6 x7 x4 640 (by omega) 10 rfl _ (q10_at V x6 x7 x4) _ x rfl rfl
  · exact fun x => piece_eq V x6 x7 x4 576 (by omega) 9 rfl _ (q9_at V x6 x7 x4) _ x rfl rfl
  · exact fun x => piece_eq V x6 x7 x4 512 (by omega) 8 rfl _ (q8_at V x6 x7 x4) _ x rfl rfl
  · exact fun x => piece_eq V x6 x7 x4 448 (by omega) 7 rfl _ (q7_at V x6 x7 x4) _ x rfl rfl
  · exact fun x => piece_eq V x6 x7 x4 384 (by omega) 6 rfl _ (q6_at V x6 x7 x4) _ x rfl rfl
  · exact fun x => piece_eq V x6 x7 x4 320 (by omega) 5 rfl _ (q5_at V x6 x7 x4) _ x rfl rfl
  · exact fun x => piece_eq V x6 x7 x4 256 (by omega) 4 rfl _ (q4_at V x6 x7 x4) _ x rfl rfl
  · exact fun x => piece_eq V x6 x7 x4 192 (by omega) 3 rfl _ (q3_at V x6 x7 x4) _ x rfl rfl
  · exact fun x => piece_eq V x6 x7 x4 128 (by omega) 2 rfl _ (q2_at V x6 x7 x4) _ x rfl rfl
  · exact fun x => piece_eq V x6 x7 x4 64 (by omega) 1 rfl _ (q1_at V x6 x7 x4) _ x rfl rfl
  · exact fun x => piece_eq V x6 x7 x4 0 (by omega) 0 rfl _ (q0_at V x6 x7 x4) _ x rfl rfl

theorem kappa (r : Fin 256) (k : ℕ) (j : Fin 64) (h : r.val = 64 * k + j.val) (V : FVec Ideal S1536x256 .f32) (C S : Vec Ideal S32x256 .f32)
    (g : FVec Ideal S64x1 .f32) (t : Fin 256) (o : ℕ) (ho : o ≤ 1472) (hk : o = 1024 + 64 * k) :
    headAt V g C S o ho t j = headAt V g C S (1024 + 64 * (r.val / 64)) (by omega) t ⟨r.val % 64, by omega⟩ := by
  have e1 : o = 1024 + 64 * (r.val / 64) := by omega
  have e2 : j = ⟨r.val % 64, by omega⟩ := Fin.ext (show j.val = r.val % 64 by omega)
  subst e1
  rw [← e2]

/-- The key block: column `r` is component `r % 64` of key head `r / 64`. -/
theorem out9_at (t r : Fin 256) :
    out0_9 x0 x1 x2 x3 x4 x5 x6 x7 (ix3 0 t r)
      = headAt (k0_pay2 x1 x0 x2 x3) x5 x6 x7 (1024 + 64 * (r.val / 64)) (by omega) t ⟨r.val % 64, by omega⟩ := by
  unfold out0_9
  simp only [pay51_eq, pay53_eq, View.ld_unit_zero (S := S32x256) z2]
  generalize k0_pay2 x1 x0 x2 x3 = V
  rw [View.canon_unit_zero z3, keys_at]
  have one : Ideal.ofBits .f32 0x3F800000#32 = 1 := by
    simp [Ideal.ofBits, Ideal.ieee]
    rw [← EReal.coe_mul]
    norm_num
  by_cases h : r.val < 64
  · rw [dif_pos h, k0_at, one, mul_one]
    exact kappa r 0 ⟨r.val, h⟩ (by simp) _ _ _ _ _ _ _ rfl
  rw [dif_neg h]
  by_cases h1 : r.val - 64 < 64
  · rw [dif_pos h1, k1_at, one, mul_one]
    exact kappa r 1 ⟨r.val - 64, h1⟩ (show r.val = 64 * 1 + (r.val - 64) by omega) _ _ _ _ _ _ _ rfl
  rw [dif_neg h1]
  by_cases h2 : r.val - 64 - 64 < 64
  · rw [dif_pos h2, k2_at, one, mul_one]
    exact kappa r 2 ⟨r.val - 64 - 64, h2⟩ (show r.val = 64 * 2 + (r.val - 64 - 64) by omega) _ _ _ _ _ _ _ rfl
  rw [dif_neg h2, one, mul_one]
  exact kappa r 3 ⟨r.val - 64 - 64 - 64, by omega⟩ (show r.val = 64 * 3 + (r.val - 64 - 64 - 64) by omega) _ _ _ _ _ _ _ rfl

/-- The value block. -/
theorem out10_at (d t : Fin 256) :
    out0_10 x0 x1 x2 x3 x4 x5 x6 x7 (ix3 0 d t) = k0_pay2 x1 x0 x2 x3 (ix2 ⟨1280 + d.val, by omega⟩ t) := by
  unfold out0_10
  simp only [pay51_eq]
  rw [View.canon_unit_zero z3, v_at]

end Block

/-! ## The blocks a point reads -/

variable (m : (ℓ : Loc nD τ sig) → Buf (Elt Ideal) ℓ)

theorem at0 : ∀ t : Fin grid0.N, win0_0.index t = ![t.val / 17, t.val % 17, 0] := by decide +kernel
theorem at1 : ∀ t : Fin grid0.N, win0_1.index t = ![t.val / 17, if t.val % 17 = 0 then 0 else 1, 0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, t.val % 17] := by decide +kernel
theorem at7 : ∀ t : Fin grid0.N, win0_7.index t = ![0, t.val % 17] := by decide +kernel
theorem at8 : ∀ t : Fin grid0.N, win0_8.index t = ![t.val / 17, 0, t.val % 17] := by decide +kernel
theorem at9 : ∀ t : Fin grid0.N, win0_9.index t = ![t.val / 17, t.val % 17, 0] := by decide +kernel
theorem at10 : ∀ t : Fin grid0.N, win0_10.index t = ![t.val / 17, 0, t.val % 17] := by decide +kernel

theorem lt_N (t : Fin cfg0.N) : t.val < 136 := by have h := t.isLt; exact lt_of_lt_of_eq h N_0

/-- The batch of a point. -/
def bat (t : Fin cfg0.N) : Fin 8 := ⟨t.val / 17, by have := lt_N t; omega⟩
/-- The token, in its batch, of row `q` of a point's block. -/
def tok (t : Fin cfg0.N) (q : Fin 256) : Fin 4352 := ⟨256 * (t.val % 17) + q.val, by omega⟩

theorem blk0_at (c : Dev nD) (t : Fin cfg0.N) (q : Fin 256) (e : Fin 1024) :
    iblk m c 0 t (ix3 0 q e) = m ((c : Thread nD τ).loc main_arg0) (ix3 (bat t) (tok t q) e) := by
  show V m c main_arg0 ((win0_0.rect t).emb (ix3 0 q e)) = _
  rw [V_main_arg0]
  congr 1
  funext a
  apply Fin.ext
  refine (Window.rect_emb_val win0_0 t _ a).trans ?_
  rw [at0 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk1_at (c : Dev nD) (t : Fin cfg0.N) (j : Fin 6) (e : Fin 1024) :
    iblk m c 1 t (ix4 0 0 j e) = m ((c : Thread nD τ).loc main_arg1) (ix4 (bat t) (if t.val % 17 = 0 then 0 else 1) j e) := by
  show V m c main_arg1 ((win0_1.rect t).emb (ix4 0 0 j e)) = _
  rw [V_main_arg1]
  congr 1
  funext a
  apply Fin.ext
  refine (Window.rect_emb_val win0_1 t _ a).trans ?_
  rw [at1 t]
  match a with
  | ⟨0, _⟩ => show t.val / 17 * 1 + 0 = t.val / 17; omega
  | ⟨1, _⟩ => show (if t.val % 17 = 0 then 0 else 1) * 1 + 0 = Fin.val (n := 2) (if t.val % 17 = 0 then 0 else 1); split <;> rfl
  | ⟨2, _⟩ => show 0 * 6 + j.val = j.val; omega
  | ⟨3, _⟩ => show 0 * 1024 + e.val = e.val; omega

/-- The norm's gain as the call finds it: a unit axis more. -/
theorem V_main_v0_at (c : Dev nD) (n : Fin 1024) : V m c main_v0 (ix2 0 n) = m ((c : Thread nD τ).loc main_arg2) (ix1 n) := by
  rw [show V m c main_v0 = shapeCast S1x1024 (m ((c : Thread nD τ).loc main_arg2)) shapeCasts_S1024_S1x1024 from rfl]
  exact shapeCast_apply (s := S1024) (t := S1x1024) _ _ _ _ (by
    rw [Shape.rowMajor_val_one, Shape.rowMajor_val_two]
    show n.val = 0 * 1024 + n.val
    omega)

theorem blk2_at (c : Dev nD) (t : Fin cfg0.N) (n : Fin 1024) :
    iblk m c 2 t (ix2 0 n) = m ((c : Thread nD τ).loc main_arg2) (ix1 n) := by
  refine Eq.trans ?_ (V_main_v0_at m c n)
  show V m c main_v0 ((win0_2.rect t).emb (ix2 0 n)) = _
  congr 1
  funext a
  apply Fin.ext
  refine (Window.rect_emb_val win0_2 t _ a).trans ?_
  rw [at2 t]
  match a with
  | ⟨0, _⟩ => show 0 * 1 + 0 = 0; omega
  | ⟨1, _⟩ => show 0 * 1024 + n.val = n.val; omega

/-- The weights as the call finds them: the host's cast changes no value. -/
theorem V_main_v1 (c : Dev nD) : V m c main_v1 = fun i => m ((c : Thread nD τ).loc main_arg3) i := by
  rfl

theorem blk3_at (c : Dev nD) (t : Fin cfg0.N) (r : Fin 1536) (e : Fin 1024) :
    iblk m c 3 t (ix2 r e) = m ((c : Thread nD τ).loc main_arg3) (ix2 r e) := by
  show V m c main_v1 ((win0_3.rect t).emb (ix2 r e)) = _
  rw [V_main_v1]
  show m ((c : Thread nD τ).loc main_arg3) _ = _
  congr 1
  funext a
  apply Fin.ext
  refine (Window.rect_emb_val win0_3 t _ a).trans ?_
  rw [at3 t]
  match a with
  | ⟨0, _⟩ => show 0 * 1536 + r.val = r.val; omega
  | ⟨1, _⟩ => show 0 * 1024 + e.val = e.val; omega

theorem V_main_v2_at (c : Dev nD) (n : Fin 64) : V m c main_v2 (ix2 n 0) = m ((c : Thread nD τ).loc main_arg4) (ix1 n) := by
  rw [show V m c main_v2 = shapeCast S64x1 (m ((c : Thread nD τ).loc main_arg4)) shapeCasts_S64_S64x1 from rfl]
  exact shapeCast_apply (s := S64) (t := S64x1) _ _ _ _ (by
    rw [Shape.rowMajor_val_one, Shape.rowMajor_val_two]
    show n.val = n.val * 1 + 0
    omega)

theorem blk4_at (c : Dev nD) (t : Fin cfg0.N) (n : Fin 64) :
    iblk m c 4 t (ix2 n 0) = m ((c : Thread nD τ).loc main_arg4) (ix1 n) := by
  refine Eq.trans ?_ (V_main_v2_at m c n)
  show V m c main_v2 ((win0_4.rect t).emb (ix2 n 0)) = _
  congr 1
  funext a
  apply Fin.ext
  refine (Window.rect_emb_val win0_4 t _ a).trans ?_
  rw [at4 t]
  match a with
  | ⟨0, _⟩ => show 0 * 64 + n.val = n.val; omega
  | ⟨1, _⟩ => show 0 * 1 + 0 = 0; omega

theorem V_main_v3_at (c : Dev nD) (n : Fin 64) : V m c main_v3 (ix2 n 0) = m ((c : Thread nD τ).loc main_arg5) (ix1 n) := by
  rw [show V m c main_v3 = shapeCast S64x1 (m ((c : Thread nD τ).loc main_arg5)) shapeCasts_S64_S64x1 from rfl]
  exact shapeCast_apply (s := S64) (t := S64x1) _ _ _ _ (by
    rw [Shape.rowMajor_val_one, Shape.rowMajor_val_two]
    show n.val = n.val * 1 + 0
    omega)

theorem blk5_at (c : Dev nD) (t : Fin cfg0.N) (n : Fin 64) :
    iblk m c 5 t (ix2 n 0) = m ((c : Thread nD τ).loc main_arg5) (ix1 n) := by
  refine Eq.trans ?_ (V_main_v3_at m c n)
  show V m c main_v3 ((win0_5.rect t).emb (ix2 n 0)) = _
  congr 1
  funext a
  apply Fin.ext
  refine (Window.rect_emb_val win0_5 t _ a).trans ?_
  rw [at5 t]
  match a with
  | ⟨0, _⟩ => show 0 * 64 + n.val = n.val; omega
  | ⟨1, _⟩ => show 0 * 1 + 0 = 0; omega

theorem blk6_at (c : Dev nD) (t : Fin cfg0.N) (j : Fin 32) (q : Fin 256) :
    iblk m c 6 t (ix2 j q) = m ((c : Thread nD τ).loc main_arg6) (ix2 j (tok t q)) := by
  show V m c main_arg6 ((win0_6.rect t).emb (ix2 j q)) = _
  rw [V_main_arg6]
  congr 1
  funext a
  apply Fin.ext
  refine (Window.rect_emb_val win0_6 t _ a).trans ?_
  rw [at6 t]
  match a with
  | ⟨0, _⟩ => show 0 * 32 + j.val = j.val; omega
  | ⟨1, _⟩ => show t.val % 17 * 256 + q.val = 256 * (t.val % 17) + q.val; omega

theorem blk7_at (c : Dev nD) (t : Fin cfg0.N) (j : Fin 32) (q : Fin 256) :
    iblk m c 7 t (ix2 j q) = m ((c : Thread nD τ).loc main_arg7) (ix2 j (tok t q)) := by
  show V m c main_arg7 ((win0_7.rect t).emb (ix2 j q)) = _
  rw [V_main_arg7]
  congr 1
  funext a
  apply Fin.ext
  refine (Window.rect_emb_val win0_7 t _ a).trans ?_
  rw [at7 t]
  match a with
  | ⟨0, _⟩ => show 0 * 32 + j.val = j.val; omega
  | ⟨1, _⟩ => show t.val % 17 * 256 + q.val = 256 * (t.val % 17) + q.val; omega

/-! ## The result arrays -/

section Spec

variable (X0 : FVec Ideal S8x4352x1024 .f32) (X1 : FVec Ideal S8x2x6x1024 .f32) (X2 : FVec Ideal S1024 .f32) (X3 : FVec Ideal S1536x1024 .f32)
  (X4 X5 : FVec Ideal S64 .f32) (X6 X7 : FVec Ideal S32x4352 .f32)

/-- Row `n` of the projection at token `q` of batch `b`; the modulation is the context's or the latent tokens'. -/
def proj (b : Fin 8) (q : Fin 4352) (n : Fin 1536) : EReal :=
  ∑ d : Fin 1024, X3 (ix2 n d) * modulated (fun d => X0 (ix3 b q d)) (fun d => X2 (ix1 d))
    (fun d => X1 (ix4 b (if q.val < 256 then 0 else 1) 0 d)) (fun d => X1 (ix4 b (if q.val < 256 then 0 else 1) 1 d)) d

/-- Component `d` of the head at row `o` of the projection, normed with gain `g` and rotated. -/
def headOf (g : Fin 64 → EReal) (o : ℕ) (ho : o ≤ 1472) (b : Fin 8) (q : Fin 4352) (d : Fin 64) : EReal :=
  rotated (normed (fun d => proj X0 X1 X2 X3 b q ⟨o + d.val, by omega⟩) g) (fun j => X6 (ix2 j q)) (fun j => X7 (ix2 j q)) d

/-- The queries, scaled, tokens across. -/
def queries : FVec Ideal S8x1024x4352 .bf16 := fun i =>
  headOf X0 X1 X2 X3 X6 X7 (fun d => X4 (ix1 d)) (64 * ((i 1).val / 64)) (by have h : (i 1).val < 1024 := (i 1).isLt; omega) (i 0) (i 2)
    ⟨(i 1).val % 64, by omega⟩ * Ideal.ofBits .f32 0x3E000000#32

/-- The keys, tokens down. -/
def keys : FVec Ideal S8x4352x256 .bf16 := fun i =>
  headOf X0 X1 X2 X3 X6 X7 (fun d => X5 (ix1 d)) (1024 + 64 * ((i 2).val / 64)) (by have h : (i 2).val < 256 := (i 2).isLt; omega) (i 0) (i 1)
    ⟨(i 2).val % 64, by omega⟩

/-- The values, tokens across. -/
def values : FVec Ideal S8x256x4352 .bf16 := fun i =>
  proj X0 X1 X2 X3 (i 0) (i 2) ⟨1280 + (i 1).val, by have h : (i 1).val < 256 := (i 1).isLt; omega⟩

end Spec

/-- The queries of device `c`'s arrays. -/
abbrev resQ (c : Dev nD) : FVec Ideal S8x1024x4352 .bf16 :=
  queries (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7))
/-- The keys of device `c`'s arrays. -/
abbrev resK (c : Dev nD) : FVec Ideal S8x4352x256 .bf16 :=
  keys (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))
/-- The values of device `c`'s arrays. -/
abbrev resV (c : Dev nD) : FVec Ideal S8x256x4352 .bf16 :=
  values (m ((c : Thread nD τ).loc main_arg0)) (m ((c : Thread nD τ).loc main_arg1)) (m ((c : Thread nD τ).loc main_arg2)) (m ((c : Thread nD τ).loc main_arg3))

theorem seg_eq (t : Fin cfg0.N) (q : Fin 256) :
    (if t.val % 17 = 0 then 0 else 1 : Fin 2) = if (tok t q).val < 256 then 0 else 1 := by
  have h : (tok t q).val < 256 ↔ t.val % 17 = 0 := by
    show 256 * (t.val % 17) + q.val < 256 ↔ _
    omega
  by_cases ht : t.val % 17 = 0
  · rw [if_pos ht, if_pos (h.2 ht)]
  · rw [if_neg ht, if_neg (fun hh => ht (h.1 hh))]

theorem projBlk (c : Dev nD) (t : Fin cfg0.N) (q : Fin 256) (n : Fin 1536) :
    k0_pay2 (iblk m c 1 t) (iblk m c 0 t) (iblk m c 2 t) (iblk m c 3 t) (ix2 n q)
      = proj (m ((c : Thread nD τ).loc main_arg0)) (m ((c : Thread nD τ).loc main_arg1)) (m ((c : Thread nD τ).loc main_arg2)) (m ((c : Thread nD τ).loc main_arg3)) (bat t) (tok t q) n := by
  refine (qkv_at _ _ _ _ n q).trans ?_
  unfold proj
  refine Finset.sum_congr rfl fun d _ => congrArg₂ (fun a b : EReal => a * b) (blk3_at m c t n d) ?_
  rw [← seg_eq t q]
  have h0 : (fun d => iblk m c 0 t (ix3 0 q d)) = fun d => m ((c : Thread nD τ).loc main_arg0) (ix3 (bat t) (tok t q) d) := funext fun d => blk0_at m c t q d
  have h2 : (fun d => iblk m c 2 t (ix2 0 d)) = fun d => m ((c : Thread nD τ).loc main_arg2) (ix1 d) := funext fun d => blk2_at m c t d
  have h10 := funext fun d => blk1_at m c t 0 d
  have h11 := funext fun d => blk1_at m c t 1 d
  exact congrFun (congr (congr (congrArg₂ modulated h0 h2) h10) h11) d

theorem headBlk (c : Dev nD) (t : Fin cfg0.N) (g : Vec Ideal S64x1 .f32) (g' : Fin 64 → EReal) (hg : ∀ d, g (ix2 d 0) = g' d) (o : ℕ) (ho : o ≤ 1472) (q : Fin 256) (d : Fin 64) :
    headAt (k0_pay2 (iblk m c 1 t) (iblk m c 0 t) (iblk m c 2 t) (iblk m c 3 t)) g (iblk m c 6 t) (iblk m c 7 t) o ho q d
      = headOf (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) g' o ho (bat t) (tok t q) d := by
  unfold headOf
  have hr : rowsAt (k0_pay2 (iblk m c 1 t) (iblk m c 0 t) (iblk m c 2 t) (iblk m c 3 t)) o ho q
      = fun d => proj (m ((c : Thread nD τ).loc main_arg0)) (m ((c : Thread nD τ).loc main_arg1)) (m ((c : Thread nD τ).loc main_arg2)) (m ((c : Thread nD τ).loc main_arg3)) (bat t) (tok t q) ⟨o + d.val, by omega⟩ := funext fun d => projBlk m c t q _
  exact congrFun (congr (congrArg₂ rotated (congrArg₂ normed hr (funext hg)) (funext fun j => blk6_at m c t j q)) (funext fun j => blk7_at m c t j q)) d

theorem flushed8_eq (c : Dev nD) (t : Fin cfg0.N) :
    (dats m 0 c).flushed 8 t = ((cfg0.win 8).blk t).view.read (Elt Ideal) (resQ m c) := by
  unfold Pipeline.Dat.flushed
  rw [after0_8]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_8 (F := Ideal) (iblk m c 0 t) (iblk m c 1 t) (iblk m c 2 t) (iblk m c 3 t) (iblk m c 4 t) (iblk m c 5 t) (iblk m c 6 t) (iblk m c 7 t) y = resQ m c ((win0_8.rect t).emb y)
  rw [hy]
  have hb : out0_8 (F := Ideal) (iblk m c 0 t) (iblk m c 1 t) (iblk m c 2 t) (iblk m c 3 t) (iblk m c 4 t) (iblk m c 5 t) (iblk m c 6 t) (iblk m c 7 t) (ix3 (0 : Fin 1) (y 1) (y 2)) = resQ m c (ix3 (bat t) (y 1) (tok t (y 2))) :=
    (out8_at _ _ _ _ _ _ _ _ _).trans (congrArg (· * Ideal.ofBits .f32 0x3E000000#32) (headBlk m c t _ _ (blk4_at m c t) _ _ _ _))
  refine hb.trans ?_
  congr 1
  funext a
  apply Fin.ext
  refine Eq.trans ?_ (Window.rect_emb_val win0_8 t _ a).symm
  rw [at8 t]
  match a with
  | ⟨0, _⟩ => show t.val / 17 = t.val / 17 * 1 + 0; omega
  | ⟨1, _⟩ => show (y 1).val = 0 * 1024 + (y 1).val; omega
  | ⟨2, _⟩ => show 256 * (t.val % 17) + (y 2).val = t.val % 17 * 256 + (y 2).val; omega

theorem cover8 (i : S8x1024x4352.Idx) : ∃ t : Fin cfg0.N, (cfg0.win 8).flush t = true ∧ i ∈ ((cfg0.win 8).blk t).view.set := by
  have h0 : (i 0).val < 8 := (i 0).isLt
  have h1 : (i 1).val < 1024 := (i 1).isLt
  have h2 : (i 2).val < 4352 := (i 2).isLt
  have hN : 17 * (i 0).val + (i 2).val / 256 < cfg0.N := lt_of_lt_of_eq (show _ < 136 by omega) N_0.symm
  refine ⟨⟨_, hN⟩, flush0_8 _, ?_⟩
  show i ∈ ((View.whole main_v4_0).slice (win0_8.rect ⟨_, hN⟩)).set
  rw [View.set_slice_whole, Rect.mem_set_unit]
  intro a
  show win0_8.index ⟨_, hN⟩ a * _ ≤ _ ∧ _ < win0_8.index ⟨_, hN⟩ a * _ + _
  rw [at8]
  match a with
  | ⟨0, _⟩ => show (17 * (i 0).val + (i 2).val / 256) / 17 * 1 ≤ (i 0).val ∧ (i 0).val < (17 * (i 0).val + (i 2).val / 256) / 17 * 1 + 1; omega
  | ⟨1, _⟩ => show 0 * 1024 ≤ (i 1).val ∧ (i 1).val < 0 * 1024 + 1024; omega
  | ⟨2, _⟩ => show (17 * (i 0).val + (i 2).val / 256) % 17 * 256 ≤ (i 2).val ∧ (i 2).val < (17 * (i 0).val + (i 2).val / 256) % 17 * 256 + 256; omega

theorem final8 (c : Dev nD) : (dats m 0 c).arrAt 8 cfg0.N = resQ m c :=
  (dats m 0 c).arrAt_eq_of_cover 8 (resQ m c) (fun t _ => flushed8_eq m c t) cover8

theorem flushed9_eq (c : Dev nD) (t : Fin cfg0.N) :
    (dats m 0 c).flushed 9 t = ((cfg0.win 9).blk t).view.read (Elt Ideal) (resK m c) := by
  unfold Pipeline.Dat.flushed
  rw [after0_9]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_9 (F := Ideal) (iblk m c 0 t) (iblk m c 1 t) (iblk m c 2 t) (iblk m c 3 t) (iblk m c 4 t) (iblk m c 5 t) (iblk m c 6 t) (iblk m c 7 t) y = resK m c ((win0_9.rect t).emb y)
  rw [hy]
  have hb : out0_9 (F := Ideal) (iblk m c 0 t) (iblk m c 1 t) (iblk m c 2 t) (iblk m c 3 t) (iblk m c 4 t) (iblk m c 5 t) (iblk m c 6 t) (iblk m c 7 t) (ix3 (0 : Fin 1) (y 1) (y 2)) = resK m c (ix3 (bat t) (tok t (y 1)) (y 2)) :=
    (out9_at _ _ _ _ _ _ _ _ _ _).trans (headBlk m c t _ _ (blk5_at m c t) _ _ _ _)
  refine hb.trans ?_
  congr 1
  funext a
  apply Fin.ext
  refine Eq.trans ?_ (Window.rect_emb_val win0_9 t _ a).symm
  rw [at9 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 256 + (y 2).val; omega

theorem cover9 (i : S8x4352x256.Idx) : ∃ t : Fin cfg0.N, (cfg0.win 9).flush t = true ∧ i ∈ ((cfg0.win 9).blk t).view.set := by
  have h0 : (i 0).val < 8 := (i 0).isLt
  have h1 : (i 1).val < 4352 := (i 1).isLt
  have h2 : (i 2).val < 256 := (i 2).isLt
  have hN : 17 * (i 0).val + (i 1).val / 256 < cfg0.N := lt_of_lt_of_eq (show _ < 136 by omega) N_0.symm
  refine ⟨⟨_, hN⟩, flush0_9 _, ?_⟩
  show i ∈ ((View.whole main_v4_1).slice (win0_9.rect ⟨_, hN⟩)).set
  rw [View.set_slice_whole, Rect.mem_set_unit]
  intro a
  show win0_9.index ⟨_, hN⟩ a * _ ≤ _ ∧ _ < win0_9.index ⟨_, hN⟩ a * _ + _
  rw [at9]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 256 ≤ (i 2).val ∧ (i 2).val < 0 * 256 + 256; omega

theorem final9 (c : Dev nD) : (dats m 0 c).arrAt 9 cfg0.N = resK m c :=
  (dats m 0 c).arrAt_eq_of_cover 9 (resK m c) (fun t _ => flushed9_eq m c t) cover9

theorem flushed10_eq (c : Dev nD) (t : Fin cfg0.N) :
    (dats m 0 c).flushed 10 t = ((cfg0.win 10).blk t).view.read (Elt Ideal) (resV m c) := by
  unfold Pipeline.Dat.flushed
  rw [after0_10]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_10 (F := Ideal) (iblk m c 0 t) (iblk m c 1 t) (iblk m c 2 t) (iblk m c 3 t) (iblk m c 4 t) (iblk m c 5 t) (iblk m c 6 t) (iblk m c 7 t) y = resV m c ((win0_10.rect t).emb y)
  rw [hy]
  have hb : out0_10 (F := Ideal) (iblk m c 0 t) (iblk m c 1 t) (iblk m c 2 t) (iblk m c 3 t) (iblk m c 4 t) (iblk m c 5 t) (iblk m c 6 t) (iblk m c 7 t) (ix3 (0 : Fin 1) (y 1) (y 2)) = resV m c (ix3 (bat t) (y 1) (tok t (y 2))) :=
    (out10_at _ _ _ _ _ _ _ _ _ _).trans (projBlk m c t _ _)
  refine hb.trans ?_
  congr 1
  funext a
  apply Fin.ext
  refine Eq.trans ?_ (Window.rect_emb_val win0_10 t _ a).symm
  rw [at10 t]
  match a with
  | ⟨0, _⟩ => show t.val / 17 = t.val / 17 * 1 + 0; omega
  | ⟨1, _⟩ => show (y 1).val = 0 * 256 + (y 1).val; omega
  | ⟨2, _⟩ => show 256 * (t.val % 17) + (y 2).val = t.val % 17 * 256 + (y 2).val; omega

theorem cover10 (i : S8x256x4352.Idx) : ∃ t : Fin cfg0.N, (cfg0.win 10).flush t = true ∧ i ∈ ((cfg0.win 10).blk t).view.set := by
  have h0 : (i 0).val < 8 := (i 0).isLt
  have h1 : (i 1).val < 256 := (i 1).isLt
  have h2 : (i 2).val < 4352 := (i 2).isLt
  have hN : 17 * (i 0).val + (i 2).val / 256 < cfg0.N := lt_of_lt_of_eq (show _ < 136 by omega) N_0.symm
  refine ⟨⟨_, hN⟩, flush0_10 _, ?_⟩
  show i ∈ ((View.whole main_v4_2).slice (win0_10.rect ⟨_, hN⟩)).set
  rw [View.set_slice_whole, Rect.mem_set_unit]
  intro a
  show win0_10.index ⟨_, hN⟩ a * _ ≤ _ ∧ _ < win0_10.index ⟨_, hN⟩ a * _ + _
  rw [at10]
  match a with
  | ⟨0, _⟩ => show (17 * (i 0).val + (i 2).val / 256) / 17 * 1 ≤ (i 0).val ∧ (i 0).val < (17 * (i 0).val + (i 2).val / 256) / 17 * 1 + 1; omega
  | ⟨1, _⟩ => show 0 * 256 ≤ (i 1).val ∧ (i 1).val < 0 * 256 + 256; omega
  | ⟨2, _⟩ => show (17 * (i 0).val + (i 2).val / 256) % 17 * 256 ≤ (i 2).val ∧ (i 2).val < (17 * (i 0).val + (i 2).val / 256) % 17 * 256 + 256; omega

theorem final10 (c : Dev nD) : (dats m 0 c).arrAt 10 cfg0.N = resV m c :=
  (dats m 0 c).arrAt_eq_of_cover 10 (resV m c) (fun t _ => flushed10_eq m c t) cover10

/-- The run's final state: the result arrays' contents, and the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v4_0) = resQ m c
      ∧ r.2.mem ((c.tc : Thread nD τ).loc main_v4_1) = resK m c
      ∧ r.2.mem ((c.tc : Thread nD τ).loc main_v4_2) = resV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final8 m c), ((h.1 c).1 9).trans (final9 m c), ((h.1 c).1 10).trans (final10 m c), h.2 c⟩)
    (θ_run_and (run_main m ρ) (unchanged m ρ))

end Cert.Kernel4Ideal.Hand
end
-- ==== Proof.Reference4.lean ====
/-
  The reference's projection of the attention, entry by entry, over the extended reals.
-/
module

public import proofs.«01_k».proof.Proof.Gen.Reference4Ideal
public import proofs.«01_k».proof.Proof.Gen.Reference4Ideal.Run
public import proofs.«01_k».proof.Proof.Gen.Reference4Ideal.Read
public import proofs.«01_k».proof.Proof.Kernel4Ideal.Value
public import proofs.«01_k».proof.Proof.Reference2

@[expose] public section

set_option maxRecDepth 16384

noncomputable section

namespace Cert.Reference4Ideal.Hand

open Cert.Reference4Ideal Cert.Reference4Ideal.Gen Cert.Reference4Ideal.Read
open Idealize.ShloMosaic Idealize.ShloMosaic.TcCoe
open Cert.Kernel4Ideal.Hand (modulated normed rotated proj headOf queries keys values)
open Cert.Reference2Ideal.Hand (one_bits zero_bits)

variable (x0 : FVec Ideal S8x4352x1024 .f32) (x1 : FVec Ideal S8x2x6x1024 .f32) (x2 : FVec Ideal S1024 .f32) (x3 : FVec Ideal S1536x1024 .f32)
  (x4 x5 : FVec Ideal S64 .f32) (x6 x7 : FVec Ideal S32x4352 .f32)

theorem v1_at (b : Fin 8) (q : Fin 4352) :
    val_main_v1 (F := Ideal) x0 (ix2 b q) = ∑ n : Fin 1024, x0 (ix3 b q n) * x0 (ix3 b q n) := by
  rw [val_main_v1_apply]
  have h0 : val_main_cst (F := Ideal) (Shape.Idx.first h_S_) = (0 : EReal) := zero_bits
  rw [h0, zero_add]
  refine Finset.sum_congr rfl fun n _ => ?_
  have h : idx_main_v1 (ix2 b q) n = ix3 b q n := by
    funext a; match a with | ⟨0, _⟩ => rfl | ⟨1, _⟩ => rfl | ⟨2, _⟩ => rfl
  rw [h, val_main_v0_apply]
  rfl

/-- The normed tokens. -/
theorem v12_at (b : Fin 8) (q : Fin 4352) (d : Fin 1024) :
    val_main_v12 (F := Ideal) x0 x2 (ix3 b q d)
      = x0 (ix3 b q d) * Ideal.rsqrt (Ideal.div (∑ n : Fin 1024, x0 (ix3 b q n) * x0 (ix3 b q n)) (Ideal.ofBits .f32 0x44800000#32) + Ideal.ofBits .f32 0x358637BD#32) * x2 (ix1 d) := by
  rw [val_main_v12_apply, val_main_v9_apply, val_main_v8_apply, val_main_v7_apply, val_main_v6_apply, val_main_v4_apply,
    val_main_v2_apply, val_main_v3_apply, val_main_v5_apply, val_main_v11_apply, val_main_v10_apply]
  have h3 : idx_main_v2 (idx_main_v8 (ix3 b q d)) = ix2 b q := by
    funext a; match a with | ⟨0, _⟩ => rfl | ⟨1, _⟩ => rfl
  have hg : idx_main_v10 (idx_main_v11 (ix3 b q d)) = ix1 d := by
    funext a; match a with | ⟨0, _⟩ => rfl
  rw [h3, hg, v1_at]
  rfl

/-- The context's tokens, modulated. -/
theorem ctx_at (b : Fin 8) (q : Fin 256) (d : Fin 1024) :
    val_main_v23 (F := Ideal) x0 x1 x2 (ix3 b q d)
      = modulated (fun d => x0 (ix3 b ⟨q.val, by omega⟩ d)) (fun d => x2 (ix1 d)) (fun d => x1 (ix4 b 0 0 d)) (fun d => x1 (ix4 b 0 1 d)) d := by
  rw [val_main_v23_apply, val_main_v19_apply, val_main_v13_apply, val_main_v18_apply, val_main_v17_apply, val_main_v16_apply,
    val_main_v15_apply, val_main_v14_apply, val_main_v22_apply, val_main_v21_apply, val_main_v20_apply]
  refine congrArg₂ (fun a b : EReal => a + b) (congrArg₂ (fun a b : EReal => a * b) ?_ (congrArg₂ (fun a b : EReal => a + b) one_bits ?_)) ?_
  · refine Eq.trans (congrArg _ (show _ = ix3 b ⟨q.val, by omega⟩ d from ?_)) (v12_at x0 x2 b _ d)
    funext a; match a with | ⟨0, _⟩ => rfl | ⟨1, _⟩ => rfl | ⟨2, _⟩ => rfl
  · refine congrArg x1 (funext fun a => Fin.ext ?_)
    match a with
    | ⟨0, _⟩ => show ((b.val * 1 + 0) * 1024 + d.val) / 1024 = b.val; omega
    | ⟨1, _⟩ => rfl
    | ⟨2, _⟩ => rfl
    | ⟨3, _⟩ => show ((b.val * 1 + 0) * 1024 + d.val) % 1024 = d.val; omega
  · refine congrArg x1 (funext fun a => Fin.ext ?_)
    match a with
    | ⟨0, _⟩ => show ((b.val * 1 + 0) * 1024 + d.val) / 1024 = b.val; omega
    | ⟨1, _⟩ => rfl
    | ⟨2, _⟩ => rfl
    | ⟨3, _⟩ => show ((b.val * 1 + 0) * 1024 + d.val) % 1024 = d.val; omega

/-- The latent tokens, modulated. -/
theorem lat_at (b : Fin 8) (q : Fin 4096) (d : Fin 1024) :
    val_main_v34 (F := Ideal) x0 x1 x2 (ix3 b q d)
      = modulated (fun d => x0 (ix3 b ⟨256 + q.val, by omega⟩ d)) (fun d => x2 (ix1 d)) (fun d => x1 (ix4 b 1 0 d)) (fun d => x1 (ix4 b 1 1 d)) d := by
  rw [val_main_v34_apply, val_main_v30_apply, val_main_v24_apply, val_main_v29_apply, val_main_v28_apply, val_main_v27_apply,
    val_main_v26_apply, val_main_v25_apply, val_main_v33_apply, val_main_v32_apply, val_main_v31_apply]
  refine congrArg₂ (fun a b : EReal => a + b) (congrArg₂ (fun a b : EReal => a * b) ?_ (congrArg₂ (fun a b : EReal => a + b) one_bits ?_)) ?_
  · refine Eq.trans (congrArg _ (show _ = ix3 b ⟨256 + q.val, by omega⟩ d from ?_)) (v12_at x0 x2 b _ d)
    funext a; match a with | ⟨0, _⟩ => rfl | ⟨1, _⟩ => rfl | ⟨2, _⟩ => rfl
  · refine congrArg x1 (funext fun a => Fin.ext ?_)
    match a with
    | ⟨0, _⟩ => show ((b.val * 1 + 0) * 1024 + d.val) / 1024 = b.val; omega
    | ⟨1, _⟩ => rfl
    | ⟨2, _⟩ => rfl
    | ⟨3, _⟩ => show ((b.val * 1 + 0) * 1024 + d.val) % 1024 = d.val; omega
  · refine congrArg x1 (funext fun a => Fin.ext ?_)
    match a with
    | ⟨0, _⟩ => show ((b.val * 1 + 0) * 1024 + d.val) / 1024 = b.val; omega
    | ⟨1, _⟩ => rfl
    | ⟨2, _⟩ => rfl
    | ⟨3, _⟩ => show ((b.val * 1 + 0) * 1024 + d.val) % 1024 = d.val; omega

/-- The modulated tokens. -/
theorem v35_at (b : Fin 8) (q : Fin 4352) (d : Fin 1024) :
    val_main_v35 (F := Ideal) x0 x1 x2 (ix3 b q d)
      = modulated (fun d => x0 (ix3 b q d)) (fun d => x2 (ix1 d)) (fun d => x1 (ix4 b (if q.val < 256 then 0 else 1) 0 d))
          (fun d => x1 (ix4 b (if q.val < 256 then 0 else 1) 1 d)) d := by
  by_cases hq : q.val < 256
  · rw [if_pos hq]
    refine Eq.trans ?_ (ctx_at x0 x1 x2 b ⟨q.val, hq⟩ d)
    unfold val_main_v35
    refine concatenate_pair_apply_left (t := S8x4352x1024) (s₁ := S8x256x1024) (s₂ := S8x4096x1024) 1 (val_main_v23 (F := Ideal) x0 x1 x2) (val_main_v34 (F := Ideal) x0 x1 x2)
      concatenates_S8x256x1024_S8x4096x1024_S8x4352x1024_d1 (ix3 b q d) rfl (ix3 b ⟨q.val, hq⟩ d) fun a => ?_
    match a with | ⟨0, _⟩ => rfl | ⟨1, _⟩ => rfl | ⟨2, _⟩ => rfl
  · have hqq : (⟨256 + (q.val - 256), by omega⟩ : Fin 4352) = q := Fin.ext (show 256 + (q.val - 256) = q.val by omega)
    rw [if_neg hq]
    have hl := lat_at x0 x1 x2 b ⟨q.val - 256, by omega⟩ d
    simp only [hqq] at hl
    refine Eq.trans ?_ hl
    unfold val_main_v35
    refine concatenate_pair_apply_right (t := S8x4352x1024) (s₁ := S8x256x1024) (s₂ := S8x4096x1024) 1 (val_main_v23 (F := Ideal) x0 x1 x2) (val_main_v34 (F := Ideal) x0 x1 x2)
      concatenates_S8x256x1024_S8x4096x1024_S8x4352x1024_d1 (ix3 b q d) rfl rfl (ix3 b ⟨q.val - 256, by omega⟩ d) (fun a ha => ?_) ?_
    · match a with
      | ⟨0, _⟩ => rfl
      | ⟨1, _⟩ => exact absurd rfl ha
      | ⟨2, _⟩ => rfl
    · show q.val - 256 + 256 = q.val
      omega

/-- The projection. -/
theorem v36_at (b : Fin 8) (q : Fin 4352) (n : Fin 1536) :
    val_main_v36 (F := Ideal) x0 x1 x2 x3 (ix3 b q n) = proj x0 x1 x2 x3 b q n := by
  rw [val_main_v36_apply]
  unfold proj
  refine Finset.sum_congr rfl fun d _ => ?_
  have hl : lidx_main_v36 (ix3 b q n) d = ix3 b q d := by
    funext a; match a with | ⟨0, _⟩ => rfl | ⟨1, _⟩ => rfl | ⟨2, _⟩ => rfl
  have hr : ridx_main_v36 (ix3 b q n) d = ix2 n d := by
    funext a; match a with | ⟨0, _⟩ => rfl | ⟨1, _⟩ => rfl
  rw [hl, hr, v35_at]
  exact mul_comm _ _

/-! ## The queries -/

theorem v38_at (b : Fin 8) (q : Fin 4352) (k : Fin 16) (d : Fin 64) :
    val_main_v38 (F := Ideal) x0 x1 x2 x3 (ix4 b q k d) = proj x0 x1 x2 x3 b q ⟨64 * k.val + d.val, by omega⟩ := by
  rw [val_main_v38_apply, val_main_v37_apply]
  refine Eq.trans (congrArg _ (show _ = ix3 b q ⟨64 * k.val + d.val, by omega⟩ from ?_)) (v36_at x0 x1 x2 x3 b q _)
  funext a
  apply Fin.ext
  match a with
  | ⟨0, _⟩ => show (((b.val * 4352 + q.val) * 16 + k.val) * 64 + d.val) / 4456448 = b.val; omega
  | ⟨1, _⟩ => show (((b.val * 4352 + q.val) * 16 + k.val) * 64 + d.val) / 1024 % 4352 = q.val; omega
  | ⟨2, _⟩ => show (((b.val * 4352 + q.val) * 16 + k.val) * 64 + d.val) % 1024 = 64 * k.val + d.val; omega

theorem v40_at (b : Fin 8) (q : Fin 4352) (k : Fin 16) :
    val_main_v40 (F := Ideal) x0 x1 x2 x3 (ix3 b q k)
      = ∑ d : Fin 64, proj x0 x1 x2 x3 b q ⟨64 * k.val + d.val, by omega⟩ * proj x0 x1 x2 x3 b q ⟨64 * k.val + d.val, by omega⟩ := by
  rw [val_main_v40_apply]
  have h0 : val_main_cst_4 (F := Ideal) (Shape.Idx.first h_S_) = (0 : EReal) := zero_bits
  rw [h0, zero_add]
  refine Finset.sum_congr rfl fun d _ => ?_
  have h : idx_main_v40 (ix3 b q k) d = ix4 b q k d := by
    funext a; match a with | ⟨0, _⟩ => rfl | ⟨1, _⟩ => rfl | ⟨2, _⟩ => rfl | ⟨3, _⟩ => rfl
  rw [h, val_main_v39_apply, v38_at]
  rfl

theorem v51_at (b : Fin 8) (q : Fin 4352) (k : Fin 16) (d : Fin 64) :
    val_main_v51 (F := Ideal) x0 x1 x2 x3 x4 (ix4 b q k d)
      = normed (fun d => proj x0 x1 x2 x3 b q ⟨64 * k.val + d.val, by omega⟩) (fun d => x4 (ix1 d)) d := by
  rw [val_main_v51_apply, val_main_v48_apply, val_main_v47_apply, val_main_v46_apply, val_main_v45_apply, val_main_v43_apply,
    val_main_v41_apply, val_main_v42_apply, val_main_v44_apply, val_main_v50_apply, val_main_v49_apply, v38_at]
  have h3 : idx_main_v41 (idx_main_v47 (ix4 b q k d)) = ix3 b q k := by
    funext a; match a with | ⟨0, _⟩ => rfl | ⟨1, _⟩ => rfl | ⟨2, _⟩ => rfl
  have hg : idx_main_v49 (idx_main_v50 (ix4 b q k d)) = ix1 d := by
    funext a; match a with | ⟨0, _⟩ => rfl
  rw [h3, hg, v40_at]
  rfl

theorem v79_at (b : Fin 8) (q : Fin 4352) (k : Fin 16) (j : Fin 32) :
    val_main_v79 (F := Ideal) x0 x1 x2 x3 x4 x6 x7 (ix4 b q k j)
      = normed (fun d => proj x0 x1 x2 x3 b q ⟨64 * k.val + d.val, by omega⟩) (fun d => x4 (ix1 d)) ⟨j.val, by omega⟩ * x6 (ix2 j q)
        - normed (fun d => proj x0 x1 x2 x3 b q ⟨64 * k.val + d.val, by omega⟩) (fun d => x4 (ix1 d)) ⟨32 + j.val, by omega⟩ * x7 (ix2 j q) := by
  rw [val_main_v79_apply, val_main_v75_apply, val_main_v78_apply, val_main_v71_apply, val_main_v72_apply,
    val_main_v74_apply, val_main_v73_apply, val_main_v69_apply, val_main_v67_apply,
    val_main_v77_apply, val_main_v76_apply, val_main_v70_apply, val_main_v68_apply]
  have hlo : idx_main_v71 (ix4 b q k j) = ix4 b q k ⟨j.val, by omega⟩ := by
    funext a; match a with | ⟨0, _⟩ => rfl | ⟨1, _⟩ => rfl | ⟨2, _⟩ => rfl | ⟨3, _⟩ => rfl
  have hhi : idx_main_v72 (ix4 b q k j) = ix4 b q k ⟨32 + j.val, by omega⟩ := by
    funext a; match a with | ⟨0, _⟩ => rfl | ⟨1, _⟩ => rfl | ⟨2, _⟩ => rfl | ⟨3, _⟩ => rfl
  have hc : idx_main_v67 (idx_main_v69 (idx_main_v73 (idx_main_v74 (ix4 b q k j)))) = ix2 j q := by
    funext a; match a with | ⟨0, _⟩ => rfl | ⟨1, _⟩ => rfl
  have hs : idx_main_v68 (idx_main_v70 (idx_main_v76 (idx_main_v77 (ix4 b q k j)))) = ix2 j q := by
    funext a; match a with | ⟨0, _⟩ => rfl | ⟨1, _⟩ => rfl
  rw [hlo, hhi, hc, hs, v51_at, v51_at]
  rfl

theorem v86_at (b : Fin 8) (q : Fin 4352) (k : Fin 16) (j : Fin 32) :
    val_main_v86 (F := Ideal) x0 x1 x2 x3 x4 x6 x7 (ix4 b q k j)
      = normed (fun d => proj x0 x1 x2 x3 b q ⟨64 * k.val + d.val, by omega⟩) (fun d => x4 (ix1 d)) ⟨j.val, by omega⟩ * x7 (ix2 j q)
        + normed (fun d => proj x0 x1 x2 x3 b q ⟨64 * k.val + d.val, by omega⟩) (fun d => x4 (ix1 d)) ⟨32 + j.val, by omega⟩ * x6 (ix2 j q) := by
  rw [val_main_v86_apply, val_main_v82_apply, val_main_v85_apply, val_main_v71_apply, val_main_v72_apply,
    val_main_v81_apply, val_main_v80_apply, val_main_v70_apply, val_main_v68_apply,
    val_main_v84_apply, val_main_v83_apply, val_main_v69_apply, val_main_v67_apply]
  have hlo : idx_main_v71 (ix4 b q k j) = ix4 b q k ⟨j.val, by omega⟩ := by
    funext a; match a with | ⟨0, _⟩ => rfl | ⟨1, _⟩ => rfl | ⟨2, _⟩ => rfl | ⟨3, _⟩ => rfl
  have hhi : idx_main_v72 (ix4 b q k j) = ix4 b q k ⟨32 + j.val, by omega⟩ := by
    funext a; match a with | ⟨0, _⟩ => rfl | ⟨1, _⟩ => rfl | ⟨2, _⟩ => rfl | ⟨3, _⟩ => rfl
  have hc : idx_main_v68 (idx_main_v70 (idx_main_v80 (idx_main_v81 (ix4 b q k j)))) = ix2 j q := by
    funext a; match a with | ⟨0, _⟩ => rfl | ⟨1, _⟩ => rfl
  have hs : idx_main_v67 (idx_main_v69 (idx_main_v83 (idx_main_v84 (ix4 b q k j)))) = ix2 j q := by
    funext a; match a with | ⟨0, _⟩ => rfl | ⟨1, _⟩ => rfl
  rw [hlo, hhi, hc, hs, v51_at, v51_at]
  rfl

theorem v87_at (b : Fin 8) (q : Fin 4352) (k : Fin 16) (d : Fin 64) :
    val_main_v87 (F := Ideal) x0 x1 x2 x3 x4 x6 x7 (ix4 b q k d)
      = headOf x0 x1 x2 x3 x6 x7 (fun d => x4 (ix1 d)) (64 * k.val) (by omega) b q d := by
  unfold headOf rotated
  by_cases h : d.val < 32
  · rw [dif_pos h]
    refine Eq.trans ?_ (v79_at x0 x1 x2 x3 x4 x6 x7 b q k ⟨d.val, h⟩)
    unfold val_main_v87
    refine concatenate_pair_apply_left (t := S8x4352x16x64) (s₁ := S8x4352x16x32) (s₂ := S8x4352x16x32) 3 (val_main_v79 (F := Ideal) x0 x1 x2 x3 x4 x6 x7) (val_main_v86 (F := Ideal) x0 x1 x2 x3 x4 x6 x7)
      concatenates_S8x4352x16x32_S8x4352x16x32_S8x4352x16x64_d3 (ix4 b q k d) rfl (ix4 b q k ⟨d.val, h⟩) fun a => ?_
    match a with | ⟨0, _⟩ => rfl | ⟨1, _⟩ => rfl | ⟨2, _⟩ => rfl | ⟨3, _⟩ => rfl
  · rw [dif_neg h]
    refine Eq.trans ?_ (v86_at x0 x1 x2 x3 x4 x6 x7 b q k ⟨d.val - 32, by omega⟩)
    unfold val_main_v87
    refine concatenate_pair_apply_right (t := S8x4352x16x64) (s₁ := S8x4352x16x32) (s₂ := S8x4352x16x32) 3 (val_main_v79 (F := Ideal) x0 x1 x2 x3 x4 x6 x7) (val_main_v86 (F := Ideal) x0 x1 x2 x3 x4 x6 x7)
      concatenates_S8x4352x16x32_S8x4352x16x32_S8x4352x16x64_d3 (ix4 b q k d) rfl rfl (ix4 b q k ⟨d.val - 32, by omega⟩) (fun a ha => ?_) ?_
    · match a with
      | ⟨0, _⟩ => rfl
      | ⟨1, _⟩ => rfl
      | ⟨2, _⟩ => rfl
      | ⟨3, _⟩ => exact absurd rfl ha
    · show d.val - 32 + 32 = d.val
      omega

theorem v88_at (b : Fin 8) (q : Fin 4352) (r : Fin 1024) :
    val_main_v88 (F := Ideal) x0 x1 x2 x3 x4 x6 x7 (ix3 b q r)
      = headOf x0 x1 x2 x3 x6 x7 (fun d => x4 (ix1 d)) (64 * (r.val / 64)) (by omega) b q ⟨r.val % 64, by omega⟩ := by
  rw [val_main_v88_apply]
  refine Eq.trans (congrArg _ (show _ = ix4 b q (⟨r.val / 64, by omega⟩ : Fin 16) (⟨r.val % 64, by omega⟩ : Fin 64) from ?_))
    (v87_at x0 x1 x2 x3 x4 x6 x7 b q _ _)
  funext a
  apply Fin.ext
  match a with
  | ⟨0, _⟩ => show ((b.val * 4352 + q.val) * 1024 + r.val) / 4456448 = b.val; omega
  | ⟨1, _⟩ => show ((b.val * 4352 + q.val) * 1024 + r.val) / 1024 % 4352 = q.val; omega
  | ⟨2, _⟩ => show ((b.val * 4352 + q.val) * 1024 + r.val) / 64 % 16 = r.val / 64; omega
  | ⟨3, _⟩ => show ((b.val * 4352 + q.val) * 1024 + r.val) % 64 = r.val % 64; omega

/-! ## The keys -/

theorem v53_at (b : Fin 8) (q : Fin 4352) (k : Fin 4) (d : Fin 64) :
    val_main_v53 (F := Ideal) x0 x1 x2 x3 (ix4 b q k d) = proj x0 x1 x2 x3 b q ⟨1024 + 64 * k.val + d.val, by omega⟩ := by
  rw [val_main_v53_apply, val_main_v52_apply]
  refine Eq.trans (congrArg _ (show _ = ix3 b q ⟨1024 + 64 * k.val + d.val, by omega⟩ from ?_)) (v36_at x0 x1 x2 x3 b q _)
  funext a
  apply Fin.ext
  match a with
  | ⟨0, _⟩ => show (((b.val * 4352 + q.val) * 4 + k.val) * 64 + d.val) / 1114112 = b.val; omega
  | ⟨1, _⟩ => show (((b.val * 4352 + q.val) * 4 + k.val) * 64 + d.val) / 256 % 4352 = q.val; omega
  | ⟨2, _⟩ => show 1024 + (((b.val * 4352 + q.val) * 4 + k.val) * 64 + d.val) % 256 = 1024 + 64 * k.val + d.val; omega

theorem v55_at (b : Fin 8) (q : Fin 4352) (k : Fin 4) :
    val_main_v55 (F := Ideal) x0 x1 x2 x3 (ix3 b q k)
      = ∑ d : Fin 64, proj x0 x1 x2 x3 b q ⟨1024 + 64 * k.val + d.val, by omega⟩ * proj x0 x1 x2 x3 b q ⟨1024 + 64 * k.val + d.val, by omega⟩ := by
  rw [val_main_v55_apply]
  have h0 : val_main_cst_7 (F := Ideal) (Shape.Idx.first h_S_) = (0 : EReal) := zero_bits
  rw [h0, zero_add]
  refine Finset.sum_congr rfl fun d _ => ?_
  have h : idx_main_v55 (ix3 b q k) d = ix4 b q k d := by
    funext a; match a with | ⟨0, _⟩ => rfl | ⟨1, _⟩ => rfl | ⟨2, _⟩ => rfl | ⟨3, _⟩ => rfl
  rw [h, val_main_v54_apply, v53_at]
  rfl

theorem v66_at (b : Fin 8) (q : Fin 4352) (k : Fin 4) (d : Fin 64) :
    val_main_v66 (F := Ideal) x0 x1 x2 x3 x5 (ix4 b q k d)
      = normed (fun d => proj x0 x1 x2 x3 b q ⟨1024 + 64 * k.val + d.val, by omega⟩) (fun d => x5 (ix1 d)) d := by
  rw [val_main_v66_apply, val_main_v63_apply, val_main_v62_apply, val_main_v61_apply, val_main_v60_apply, val_main_v58_apply,
    val_main_v56_apply, val_main_v57_apply, val_main_v59_apply, val_main_v65_apply, val_main_v64_apply, v53_at]
  have h3 : idx_main_v56 (idx_main_v62 (ix4 b q k d)) = ix3 b q k := by
    funext a; match a with | ⟨0, _⟩ => rfl | ⟨1, _⟩ => rfl | ⟨2, _⟩ => rfl
  have hg : idx_main_v64 (idx_main_v65 (ix4 b q k d)) = ix1 d := by
    funext a; match a with | ⟨0, _⟩ => rfl
  rw [h3, hg, v55_at]
  rfl

theorem v103_at (b : Fin 8) (q : Fin 4352) (k : Fin 4) (j : Fin 32) :
    val_main_v103 (F := Ideal) x0 x1 x2 x3 x5 x6 x7 (ix4 b q k j)
      = normed (fun d => proj x0 x1 x2 x3 b q ⟨1024 + 64 * k.val + d.val, by omega⟩) (fun d => x5 (ix1 d)) ⟨j.val, by omega⟩ * x6 (ix2 j q)
        - normed (fun d => proj x0 x1 x2 x3 b q ⟨1024 + 64 * k.val + d.val, by omega⟩) (fun d => x5 (ix1 d)) ⟨32 + j.val, by omega⟩ * x7 (ix2 j q) := by
  rw [val_main_v103_apply, val_main_v99_apply, val_main_v102_apply, val_main_v95_apply, val_main_v96_apply,
    val_main_v98_apply, val_main_v97_apply, val_main_v93_apply, val_main_v91_apply,
    val_main_v101_apply, val_main_v100_apply, val_main_v94_apply, val_main_v92_apply]
  have hlo : idx_main_v95 (ix4 b q k j) = ix4 b q k ⟨j.val, by omega⟩ := by
    funext a; match a with | ⟨0, _⟩ => rfl | ⟨1, _⟩ => rfl | ⟨2, _⟩ => rfl | ⟨3, _⟩ => rfl
  have hhi : idx_main_v96 (ix4 b q k j) = ix4 b q k ⟨32 + j.val, by omega⟩ := by
    funext a; match a with | ⟨0, _⟩ => rfl | ⟨1, _⟩ => rfl | ⟨2, _⟩ => rfl | ⟨3, _⟩ => rfl
  have hc : idx_main_v91 (idx_main_v93 (idx_main_v97 (idx_main_v98 (ix4 b q k j)))) = ix2 j q := by
    funext a; match a with | ⟨0, _⟩ => rfl | ⟨1, _⟩ => rfl
  have hs : idx_main_v92 (idx_main_v94 (idx_main_v100 (idx_main_v101 (ix4 b q k j)))) = ix2 j q := by
    funext a; match a with | ⟨0, _⟩ => rfl | ⟨1, _⟩ => rfl
  rw [hlo, hhi, hc, hs, v66_at, v66_at]
  rfl

theorem v110_at (b : Fin 8) (q : Fin 4352) (k : Fin 4) (j : Fin 32) :
    val_main_v110 (F := Ideal) x0 x1 x2 x3 x5 x6 x7 (ix4 b q k j)
      = normed (fun d => proj x0 x1 x2 x3 b q ⟨1024 + 64 * k.val + d.val, by omega⟩) (fun d => x5 (ix1 d)) ⟨j.val, by omega⟩ * x7 (ix2 j q)
        + normed (fun d => proj x0 x1 x2 x3 b q ⟨1024 + 64 * k.val + d.val, by omega⟩) (fun d => x5 (ix1 d)) ⟨32 + j.val, by omega⟩ * x6 (ix2 j q) := by
  rw [val_main_v110_apply, val_main_v106_apply, val_main_v109_apply, val_main_v95_apply, val_main_v96_apply,
    val_main_v105_apply, val_main_v104_apply, val_main_v94_apply, val_main_v92_apply,
    val_main_v108_apply, val_main_v107_apply, val_main_v93_apply, val_main_v91_apply]
  have hlo : idx_main_v95 (ix4 b q k j) = ix4 b q k ⟨j.val, by omega⟩ := by
    funext a; match a with | ⟨0, _⟩ => rfl | ⟨1, _⟩ => rfl | ⟨2, _⟩ => rfl | ⟨3, _⟩ => rfl
  have hhi : idx_main_v96 (ix4 b q k j) = ix4 b q k ⟨32 + j.val, by omega⟩ := by
    funext a; match a with | ⟨0, _⟩ => rfl | ⟨1, _⟩ => rfl | ⟨2, _⟩ => rfl | ⟨3, _⟩ => rfl
  have hc : idx_main_v92 (idx_main_v94 (idx_main_v104 (idx_main_v105 (ix4 b q k j)))) = ix2 j q := by
    funext a; match a with | ⟨0, _⟩ => rfl | ⟨1, _⟩ => rfl
  have hs : idx_main_v91 (idx_main_v93 (idx_main_v107 (idx_main_v108 (ix4 b q k j)))) = ix2 j q := by
    funext a; match a with | ⟨0, _⟩ => rfl | ⟨1, _⟩ => rfl
  rw [hlo, hhi, hc, hs, v66_at, v66_at]
  rfl

theorem v111_at (b : Fin 8) (q : Fin 4352) (k : Fin 4) (d : Fin 64) :
    val_main_v111 (F := Ideal) x0 x1 x2 x3 x5 x6 x7 (ix4 b q k d)
      = headOf x0 x1 x2 x3 x6 x7 (fun d => x5 (ix1 d)) (1024 + 64 * k.val) (by omega) b q d := by
  unfold headOf rotated
  by_cases h : d.val < 32
  · rw [dif_pos h]
    refine Eq.trans ?_ (v103_at x0 x1 x2 x3 x5 x6 x7 b q k ⟨d.val, h⟩)
    unfold val_main_v111
    refine concatenate_pair_apply_left (t := S8x4352x4x64) (s₁ := S8x4352x4x32) (s₂ := S8x4352x4x32) 3 (val_main_v103 (F := Ideal) x0 x1 x2 x3 x5 x6 x7) (val_main_v110 (F := Ideal) x0 x1 x2 x3 x5 x6 x7)
      concatenates_S8x4352x4x32_S8x4352x4x32_S8x4352x4x64_d3 (ix4 b q k d) rfl (ix4 b q k ⟨d.val, h⟩) fun a => ?_
    match a with | ⟨0, _⟩ => rfl | ⟨1, _⟩ => rfl | ⟨2, _⟩ => rfl | ⟨3, _⟩ => rfl
  · rw [dif_neg h]
    refine Eq.trans ?_ (v110_at x0 x1 x2 x3 x5 x6 x7 b q k ⟨d.val - 32, by omega⟩)
    unfold val_main_v111
    refine concatenate_pair_apply_right (t := S8x4352x4x64) (s₁ := S8x4352x4x32) (s₂ := S8x4352x4x32) 3 (val_main_v103 (F := Ideal) x0 x1 x2 x3 x5 x6 x7) (val_main_v110 (F := Ideal) x0 x1 x2 x3 x5 x6 x7)
      concatenates_S8x4352x4x32_S8x4352x4x32_S8x4352x4x64_d3 (ix4 b q k d) rfl rfl (ix4 b q k ⟨d.val - 32, by omega⟩) (fun a ha => ?_) ?_
    · match a with
      | ⟨0, _⟩ => rfl
      | ⟨1, _⟩ => rfl
      | ⟨2, _⟩ => rfl
      | ⟨3, _⟩ => exact absurd rfl ha
    · show d.val - 32 + 32 = d.val
      omega

theorem v112_at (b : Fin 8) (q : Fin 4352) (r : Fin 256) :
    val_main_v112 (F := Ideal) x0 x1 x2 x3 x5 x6 x7 (ix3 b q r)
      = headOf x0 x1 x2 x3 x6 x7 (fun d => x5 (ix1 d)) (1024 + 64 * (r.val / 64)) (by omega) b q ⟨r.val % 64, by omega⟩ := by
  rw [val_main_v112_apply]
  refine Eq.trans (congrArg _ (show _ = ix4 b q (⟨r.val / 64, by omega⟩ : Fin 4) (⟨r.val % 64, by omega⟩ : Fin 64) from ?_))
    (v111_at x0 x1 x2 x3 x5 x6 x7 b q _ _)
  funext a
  apply Fin.ext
  match a with
  | ⟨0, _⟩ => show ((b.val * 4352 + q.val) * 256 + r.val) / 1114112 = b.val; omega
  | ⟨1, _⟩ => show ((b.val * 4352 + q.val) * 256 + r.val) / 256 % 4352 = q.val; omega
  | ⟨2, _⟩ => show ((b.val * 4352 + q.val) * 256 + r.val) / 64 % 4 = r.val / 64; omega
  | ⟨3, _⟩ => show ((b.val * 4352 + q.val) * 256 + r.val) % 64 = r.val % 64; omega

/-! ## The results -/

theorem queries_eq : val_main_v115 (F := Ideal) x0 x1 x2 x3 x4 x6 x7 = queries x0 x1 x2 x3 x4 x6 x7 := by
  funext i
  rw [val_main_v115_apply, val_main_v114_apply, val_main_v90_apply, val_main_v89_apply]
  have h : idx_main_v114 i = ix3 (i 0) (i 2) (i 1) := by
    funext a; match a with | ⟨0, _⟩ => rfl | ⟨1, _⟩ => rfl | ⟨2, _⟩ => rfl
  exact congrArg (fun z : EReal => z * Ideal.ofBits .f32 0x3E000000#32)
    ((congrArg (val_main_v88 (F := Ideal) x0 x1 x2 x3 x4 x6 x7) h).trans (v88_at x0 x1 x2 x3 x4 x6 x7 (i 0) (i 2) (i 1)))

theorem keys_eq : val_main_v116 (F := Ideal) x0 x1 x2 x3 x5 x6 x7 = keys x0 x1 x2 x3 x5 x6 x7 := by
  funext i
  rw [val_main_v116_apply]
  have h : i = ix3 (i 0) (i 1) (i 2) := by
    funext a; match a with | ⟨0, _⟩ => rfl | ⟨1, _⟩ => rfl | ⟨2, _⟩ => rfl
  exact (congrArg (val_main_v112 (F := Ideal) x0 x1 x2 x3 x5 x6 x7) h).trans (v112_at x0 x1 x2 x3 x5 x6 x7 (i 0) (i 1) (i 2))

theorem values_eq : val_main_v118 (F := Ideal) x0 x1 x2 x3 = values x0 x1 x2 x3 := by
  funext i
  rw [val_main_v118_apply, val_main_v117_apply, val_main_v113_apply]
  have hi : (i 1).val < 256 := (i 1).isLt
  have h : idx_main_v113 (idx_main_v117 i) = ix3 (i 0) (i 2) ⟨1280 + (i 1).val, by omega⟩ := by
    funext a; match a with | ⟨0, _⟩ => rfl | ⟨1, _⟩ => rfl | ⟨2, _⟩ => rfl
  exact (congrArg (val_main_v36 (F := Ideal) x0 x1 x2 x3) h).trans (v36_at x0 x1 x2 x3 _ _ _)

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun r h => ⟨fun c => (h c).2.2.2, sem_eq_zero_of_no_sems (by decide) r.2⟩) (Cert.Reference4Ideal.Value.run m ρ)

end Cert.Reference4Ideal.Hand

end
-- ==== Proof.Gates.lean ====
/-
  What the gates of the gated linear attention rest on: a block set into a matrix, the modulated token of finite parameters
  is finite, a product of split factors is the product, and the two ways of writing the logarithm of the sigmoid agree.
-/
module

public import proofs.«01_k».proof.Proof.Kernel4Ideal.Heads
public import proofs.«01_k».proof.Proof.Softmax
public import Idealize.ShloMosaic.Lib.Routing.OpsSet

@[expose] public section

noncomputable section

namespace Cert.Gates

open Idealize.ShloMosaic Idealize.ShloMosaic.Routing
open Cert.Kernel4Ideal.Hand (modulated)

/-! ## A block set into a matrix -/

/-- The matrix `x0` with the block `u` set at row `s0` and column `s1`, at one entry. -/
theorem set_block {R C A B w : ℕ} {si : Shape} (d : ScatterDims (shape2 R C) si (shape2 A B)) (idx : IVec si w) (s0 s1 : ℕ)
    (h0 : ∀ k, d.start k idx 0 + (d.window k 0 : Int) = ((s0 + (k 0).val : ℕ) : Int))
    (h1 : ∀ k, d.start k idx 1 + (d.window k 1 : Int) = ((s1 + (k 1).val : ℕ) : Int))
    (x0 : (shape2 R C).Idx → EReal) (u : (shape2 A B).Idx → EReal) (r : Fin R) (c : Fin C) :
    Host.scatter d (fun _ b => b) x0 idx u (ix2 r c)
      = if h : (s0 ≤ r.val ∧ r.val - s0 < A) ∧ (s1 ≤ c.val ∧ c.val - s1 < B) then u (ix2 ⟨r.val - s0, h.1.2⟩ ⟨c.val - s1, h.2.2⟩) else x0 (ix2 r c) := by
  have key : ∀ k, d.resultIdx? k idx = some (ix2 r c) ↔ s0 + (k 0).val = r.val ∧ s1 + (k 1).val = c.val := by
    intro k
    rw [resultIdx?_eq_some]
    constructor
    · intro h
      have e0 := (h0 k).symm.trans (h 0)
      have e1 := (h1 k).symm.trans (h 1)
      exact ⟨by exact_mod_cast e0, by exact_mod_cast e1⟩
    · intro h a
      match a with
      | ⟨0, _⟩ => exact (h0 k).trans (by exact_mod_cast h.1)
      | ⟨1, _⟩ => exact (h1 k).trans (by exact_mod_cast h.2)
  by_cases h : (s0 ≤ r.val ∧ r.val - s0 < A) ∧ (s1 ≤ c.val ∧ c.val - s1 < B)
  · rw [dif_pos h]
    refine scatter_set_hit d x0 idx u _ _ (fun k hk => ?_) (ix2 ⟨r.val - s0, h.1.2⟩ ⟨c.val - s1, h.2.2⟩)
      ((key _).2 ⟨show s0 + (r.val - s0) = r.val by omega, show s1 + (c.val - s1) = c.val by omega⟩)
    obtain ⟨e0, e1⟩ := (key k).1 hk
    refine congrArg u (funext fun a => Fin.ext ?_)
    match a with
    | ⟨0, _⟩ => show (k 0).val = r.val - s0; omega
    | ⟨1, _⟩ => show (k 1).val = c.val - s1; omega
  · rw [dif_neg h]
    refine scatter_set_miss d x0 idx u _ fun k hk => h ?_
    obtain ⟨e0, e1⟩ := (key k).1 hk
    have l0 : (k 0).val < A := (k 0).isLt
    have l1 : (k 1).val < B := (k 1).isLt
    omega

/-! ## Real values -/

/-- The value is a real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.zero : IsReal 0 := ⟨0, rfl⟩
theorem IsReal.one : IsReal 1 := ⟨1, rfl⟩

theorem IsReal.sum {n : ℕ} {f : Fin n → EReal} (h : ∀ i, IsReal (f i)) : IsReal (∑ i, f i) := by
  choose g hg using h
  refine ⟨∑ i, g i, ?_⟩
  rw [Cert.Softmax.coe_sum]
  exact Finset.sum_congr rfl fun i _ => hg i

theorem IsReal.sub_self {x : EReal} (hx : IsReal x) : x - x = 0 := by
  obtain ⟨a, rfl⟩ := hx
  rw [← EReal.coe_sub, _root_.sub_self]; rfl

/-- The product of split factors, without the part that is dropped, is the product: nothing is left of a real value. -/
theorem split_product {n : ℕ} (l w : Fin n → EReal) (hl : ∀ i, IsReal (l i)) (hw : ∀ i, IsReal (w i)) :
    (∑ i, l i * w i) + (∑ i, l i * (w i - w i)) + (∑ i, (l i - l i) * w i) = ∑ i, l i * w i := by
  have h1 : (∑ i, l i * (w i - w i)) = 0 := Finset.sum_eq_zero fun i _ => by rw [(hw i).sub_self, mul_zero]
  have h2 : (∑ i, (l i - l i) * w i) = 0 := Finset.sum_eq_zero fun i _ => by rw [(hl i).sub_self, zero_mul]
  rw [h1, h2, add_zero, add_zero]

/-! ## The modulated token -/

theorem zero_word : Ideal.ofBits .f32 0x00000000#32 = 0 := by simp [Ideal.ofBits, Ideal.ieee]

theorem eps_bits : ∃ e : ℝ, 0 < e ∧ Ideal.ofBits .f32 0x358637BD#32 = (e : EReal) := by
  refine ⟨_, ?_, by simp only [Ideal.ofBits, Ideal.ieee]; rw [if_neg (by decide), if_neg (by decide)]⟩
  rw [if_neg (by decide)]
  positivity

theorem width_bits : ∃ w : ℝ, 0 < w ∧ Ideal.ofBits .f32 0x44800000#32 = (w : EReal) := by
  refine ⟨_, ?_, by simp only [Ideal.ofBits, Ideal.ieee]; rw [if_neg (by decide), if_neg (by decide)]⟩
  rw [if_neg (by decide)]
  positivity

theorem square_nonneg (x : EReal) : 0 ≤ x * x := by
  induction x with
  | bot => simp
  | top => simp
  | coe r => rw [← EReal.coe_mul]; exact_mod_cast mul_self_nonneg r

/-- A normed token's feature is real, whatever the token. -/
theorem normed_real (X : Fin 1024 → EReal) (d : Fin 1024) :
    IsReal (X d * Ideal.rsqrt (Ideal.div (∑ x : Fin 1024, X x * X x) (Ideal.ofBits .f32 0x44800000#32) + Ideal.ofBits .f32 0x358637BD#32)) := by
  obtain ⟨e, he, hb⟩ := eps_bits
  obtain ⟨w, hw, hv⟩ := width_bits
  rw [hb, hv]
  have hw0 : (w : EReal) ≠ 0 := by exact_mod_cast hw.ne'
  by_cases hS : (∑ x : Fin 1024, X x * X x) = ⊤
  · have : Ideal.rsqrt (Ideal.div (∑ x : Fin 1024, X x * X x) (w : EReal) + (e : EReal)) = 0 := by
      rw [hS]
      unfold Ideal.div
      rw [if_neg hw0, ← EReal.coe_inv, EReal.top_mul_coe_of_pos (inv_pos.2 hw), EReal.top_add_coe]
      rfl
    rw [this, mul_zero]
    exact IsReal.zero
  · have hX : ∀ x, IsReal (X x) := by
      intro x
      have hle : X x * X x ≤ ∑ x : Fin 1024, X x * X x :=
        Finset.single_le_sum (f := fun x => X x * X x) (fun i _ => square_nonneg (X i)) (Finset.mem_univ x)
      generalize hx : X x = y at hle
      induction y with
      | bot => exact absurd (top_le_iff.1 (by simpa using hle)) hS
      | top => exact absurd (top_le_iff.1 (by simpa using hle)) hS
      | coe r => exact ⟨r, rfl⟩
    choose r hr using hX
    have hs : (∑ x : Fin 1024, X x * X x) = ((∑ x : Fin 1024, r x * r x : ℝ) : EReal) := by
      rw [Cert.Softmax.coe_sum]
      exact Finset.sum_congr rfl fun x _ => by rw [hr x, EReal.coe_mul]
    have hn : 0 ≤ ∑ x : Fin 1024, r x * r x := Finset.sum_nonneg fun x _ => mul_self_nonneg _
    refine IsReal.mul ⟨r d, hr d⟩ ⟨(Real.sqrt ((∑ x : Fin 1024, r x * r x) * w⁻¹ + e))⁻¹, ?_⟩
    rw [hs]
    unfold Ideal.div
    rw [if_neg hw0, ← EReal.coe_inv, ← EReal.coe_mul, ← EReal.coe_add]
    have hp : 0 < (∑ x : Fin 1024, r x * r x) * w⁻¹ + e := by positivity
    show (if _ < (0 : ℝ) then (⊥ : EReal) else if _ = (0 : ℝ) then ⊤ else _) = _
    rw [if_neg (not_lt.2 hp.le), if_neg hp.ne']

theorem modulated_real (X g shift scale : Fin 1024 → EReal) (hg : ∀ d, IsReal (g d)) (hh : ∀ d, IsReal (shift d)) (hc : ∀ d, IsReal (scale d)) (d : Fin 1024) :
    IsReal (modulated X g shift scale d) :=
  (((normed_real X d).mul (hg d)).mul (IsReal.one.add (hc d))).add (hh d)

/-! ## The logarithm of the sigmoid -/

/-- The logarithm of the sigmoid: of the smaller of `p` and zero, the logarithm of one more than the exponential of `-|p|` is taken off. -/
def logSig (p : EReal) : EReal := min p 0 - Ideal.log (1 + Ideal.exp (0 - max p (-p)))

theorem log_one_add_exp_real (x : EReal) (hx : x ≠ ⊤) : IsReal (Ideal.log (1 + Ideal.exp x)) := by
  have key : ∀ t : ℝ, 0 ≤ t → IsReal (Ideal.log (1 + (t : EReal))) := by
    intro t ht
    refine ⟨Real.log (1 + t), ?_⟩
    rw [← EReal.coe_one, ← EReal.coe_add]
    show (if _ ≤ (0 : ℝ) then (⊥ : EReal) else _) = _
    rw [if_neg (by linarith)]
  induction x with
  | bot => exact key 0 le_rfl
  | top => exact absurd rfl hx
  | coe r => exact key (Real.exp r) (Real.exp_pos r).le

/-- It is the negated softplus of `-p`. -/
theorem logSig_eq (p : EReal) :
    -(max (-p) 0 + Ideal.log1p (Ideal.exp (-(max (-p - 0) (-(-p - 0)))))) = logSig p := by
  unfold logSig Ideal.log1p
  rw [sub_zero, neg_neg, max_comm (-p) p, zero_sub]
  have hne : -(max p (-p)) ≠ ⊤ := by
    induction p with
    | bot => simp
    | top => simp
    | coe r =>
      intro h
      rw [EReal.neg_eq_top_iff] at h
      exact absurd h (ne_of_gt (lt_of_lt_of_le (EReal.bot_lt_coe r) (le_max_left _ _)))
  obtain ⟨L, hL⟩ := log_one_add_exp_real _ hne
  rw [hL, EReal.neg_add (Or.inr (EReal.coe_ne_top L)) (Or.inr (EReal.coe_ne_bot L))]
  congr 1
  rcases le_total p 0 with h | h
  · rw [min_eq_left h, max_eq_left (by simpa using h), neg_neg]
  · rw [min_eq_right h, max_eq_right (by simpa using h), neg_zero]

end Cert.Gates

end
-- ==== Proof.Kernel5Ideal.Blocks.lean ====
/-
  The projection of the gated linear attention, one block of tokens, entry by entry, over the extended reals.
-/
module

public import proofs.«01_k».proof.Proof.Gen.Kernel5Ideal.Frame
public import proofs.«01_k».proof.Proof.Gates
public import Idealize.ShloMosaic.Lib.Pointwise

@[expose] public section

set_option maxRecDepth 16384

noncomputable section

namespace Cert.Kernel5Ideal.Hand

open Cert.Kernel5Ideal Cert.Kernel5Ideal.Gen
open Idealize.ShloMosaic Idealize.ShloMosaic.TcCoe
open Cert.Kernel4Ideal.Hand (modulated)
open Cert.Gates (logSig)

variable (x0 : Vec Ideal S1x256x1024 .f32) (x1 : Vec Ideal S1x1x6x1024 .f32) (x2 : Vec Ideal S1x1024 .f32) (x3 : Vec Ideal S1024x3072 .bf16)
  (x4 : Vec Ideal S1024x128 .bf16) (x5 : Vec Ideal S128x1024 .f32) (x6 : Vec Ideal S1x1024 .f32)

/-- Feature `d` of the modulated token `t` of the block. -/
abbrev hAt (t : Fin 256) (d : Fin 1024) : EReal :=
  modulated (fun d => x0 (ix3 0 t d)) (fun d => x2 (ix2 0 d)) (fun d => x1 (ix4 0 0 0 d)) (fun d => x1 (ix4 0 0 1 d)) d

/-- Column `n` of a product of token features with a weight matrix. -/
abbrev dotAt {K : ℕ} (a : Fin K → EReal) (w : Fin K → EReal) : EReal := ∑ k : Fin K, a k * w k

/-- The gates' first product, at token `t`. -/
abbrev lowAt (t : Fin 256) (l : Fin 128) : EReal := dotAt (hAt x0 x1 x2 t) (fun d => x4 (ix2 d l))

/-- The gates' second product, of split factors. -/
abbrev splitDot {K : ℕ} (a : Fin K → EReal) (w : Fin K → EReal) : EReal :=
  dotAt a w + dotAt a (fun k => w k - w k) + dotAt (fun k => a k - a k) w

theorem h_at (t : Fin 256) (d : Fin 1024) : k0_pay4 x1 x0 x2 (ix2 t d) = hAt x0 x1 x2 t d := by
  pointwise [k0_pay4]
  rfl

theorem main_at (t : Fin 256) (n : Fin 3072) : k0_pay5 x1 x0 x2 x3 (ix2 t n) = dotAt (hAt x0 x1 x2 t) (fun d => x3 (ix2 d n)) := by
  pointwise [k0_pay5]
  exact Finset.sum_congr rfl fun d _ => congrArg (· * x3 (ix2 d n)) (h_at x0 x1 x2 t d)

theorem q_at (t : Fin 256) (n : Fin 512) :
    k0_pay6 x1 x0 x2 x3 (ix3 0 t n) = dotAt (hAt x0 x1 x2 t) (fun d => x3 (ix2 d ⟨n.val, by omega⟩)) * Ideal.ofBits .f32 0x3DB504F3#32 := by
  pointwise [k0_pay6]
  exact congrArg (· * Ideal.ofBits .f32 0x3DB504F3#32) (main_at x0 x1 x2 x3 t _)

theorem k_at (t : Fin 256) (n : Fin 512) :
    k0_pay7 (k0_pay5 x1 x0 x2 x3) (ix3 0 t n) = dotAt (hAt x0 x1 x2 t) (fun d => x3 (ix2 d ⟨512 + n.val, by omega⟩)) := by
  pointwise [k0_pay7]
  exact main_at x0 x1 x2 x3 t _

theorem v_at (t : Fin 256) (n : Fin 1024) :
    k0_pay8 (k0_pay5 x1 x0 x2 x3) (ix3 0 t n) = dotAt (hAt x0 x1 x2 t) (fun d => x3 (ix2 d ⟨1024 + n.val, by omega⟩)) := by
  pointwise [k0_pay8]
  exact main_at x0 x1 x2 x3 t _

theorem r_at (t : Fin 256) (n : Fin 1024) :
    k0_pay9 (k0_pay5 x1 x0 x2 x3) (ix3 0 t n) = dotAt (hAt x0 x1 x2 t) (fun d => x3 (ix2 d ⟨2048 + n.val, by omega⟩)) := by
  pointwise [k0_pay9]
  exact main_at x0 x1 x2 x3 t _

theorem pre_at (h : FVec Ideal S256x1024 .bf16) (t : Fin 256) (n : Fin 1024) :
    k0_pay10 h x4 x5 x6 (ix2 t n)
      = splitDot (fun l => dotAt (fun d => h (ix2 t d)) (fun d => x4 (ix2 d l))) (fun l => x5 (ix2 l n)) + x6 (ix2 0 n) := by
  pointwise [k0_pay10]

theorem gate_at (p : FVec Ideal S256x1024 .f32) (t : Fin 256) (n : Fin 1024) :
    k0_pay1 p (Scalar.ofBits .f32 0x00000000#32) (ix2 t n) = Ideal.div (logSig (p (ix2 t n))) (Ideal.ofBits .f32 0x41800000#32) := by
  pointwise [k0_pay1]
  rfl

theorem gf_at (p : FVec Ideal S256x1024 .f32) (t : Fin 256) (n : Fin 512) :
    k0_pay2 p (Scalar.ofBits .f32 0x00000000#32) (ix3 0 t n) = Ideal.div (logSig (p (ix2 t ⟨n.val, by omega⟩))) (Ideal.ofBits .f32 0x41800000#32) := by
  refine Eq.trans ?_ (gate_at p t ⟨n.val, by omega⟩)
  generalize (Scalar.ofBits .f32 0x00000000#32 : Ideal .f32) = z
  pointwise [k0_pay2]

theorem gb_at (p : FVec Ideal S256x1024 .f32) (t : Fin 256) (n : Fin 512) :
    k0_pay3 p (Scalar.ofBits .f32 0x00000000#32) (ix3 0 t n) = Ideal.div (logSig (p (ix2 t ⟨512 + n.val, by omega⟩))) (Ideal.ofBits .f32 0x41800000#32) := by
  refine Eq.trans ?_ (gate_at p t ⟨512 + n.val, by omega⟩)
  generalize (Scalar.ofBits .f32 0x00000000#32 : Ideal .f32) = z
  pointwise [k0_pay3]

/-! ## The block's results -/

theorem z2 : (![0, 0] : Fin 2 → ℕ) = fun _ => 0 := funext fun a => by fin_cases a <;> rfl
theorem z3 : (![0, 0, 0] : Fin 3 → ℕ) = fun _ => 0 := funext fun a => by fin_cases a <;> rfl
theorem z4 : (![0, 0, 0, 0] : Fin 4 → ℕ) = fun _ => 0 := funext fun a => by fin_cases a <;> rfl

theorem pay11_eq : k0_pay11 x0 x1 x2 x3 x4 x5 x6 = k0_pay5 x1 x0 x2 x3 := by
  unfold k0_pay11
  simp only [View.ld_unit_zero (S := S1x1024) z2, View.ld_unit_zero (S := S1024x3072) z2, View.ld_unit_zero (S := S1x256x1024) z3,
    View.ld_unit_zero (S := S1x1x6x1024) z4]

theorem pay12_at (t : Fin 256) (n : Fin 1024) :
    k0_pay12 x0 x1 x2 x3 x4 x5 x6 (ix2 t n) = splitDot (lowAt x0 x1 x2 x4 t) (fun l => x5 (ix2 l n)) + x6 (ix2 0 n) := by
  unfold k0_pay12
  simp only [View.ld_unit_zero (S := S1x1024) z2, View.ld_unit_zero (S := S1024x128) z2, View.ld_unit_zero (S := S128x1024) z2,
    View.ld_unit_zero (S := S1x256x1024) z3, View.ld_unit_zero (S := S1x1x6x1024) z4]
  rw [pre_at]
  have h : (fun d => k0_pay4 x1 x0 x2 (ix2 t d)) = hAt x0 x1 x2 t := funext fun d => h_at x0 x1 x2 t d
  rw [h]

theorem out7_at (t : Fin 256) (n : Fin 512) :
    out0_7 x0 x1 x2 x3 x4 x5 x6 (ix3 0 t n) = dotAt (hAt x0 x1 x2 t) (fun d => x3 (ix2 d ⟨n.val, by omega⟩)) * Ideal.ofBits .f32 0x3DB504F3#32 := by
  unfold out0_7
  simp only [View.ld_unit_zero (S := S1x1024) z2, View.ld_unit_zero (S := S1024x3072) z2, View.ld_unit_zero (S := S1x256x1024) z3,
    View.ld_unit_zero (S := S1x1x6x1024) z4]
  rw [View.canon_unit_zero z3]
  exact q_at x0 x1 x2 x3 t n

theorem out8_at (t : Fin 256) (n : Fin 512) :
    out0_8 x0 x1 x2 x3 x4 x5 x6 (ix3 0 t n) = dotAt (hAt x0 x1 x2 t) (fun d => x3 (ix2 d ⟨512 + n.val, by omega⟩)) := by
  unfold out0_8
  rw [pay11_eq, View.canon_unit_zero z3]
  exact k_at x0 x1 x2 x3 t n

theorem out9_at (t : Fin 256) (n : Fin 1024) :
    out0_9 x0 x1 x2 x3 x4 x5 x6 (ix3 0 t n) = dotAt (hAt x0 x1 x2 t) (fun d => x3 (ix2 d ⟨1024 + n.val, by omega⟩)) := by
  unfold out0_9
  rw [pay11_eq, View.canon_unit_zero z3]
  exact v_at x0 x1 x2 x3 t n

theorem out10_at (t : Fin 256) (n : Fin 1024) :
    out0_10 x0 x1 x2 x3 x4 x5 x6 (ix3 0 t n) = dotAt (hAt x0 x1 x2 t) (fun d => x3 (ix2 d ⟨2048 + n.val, by omega⟩)) := by
  unfold out0_10
  rw [pay11_eq, View.canon_unit_zero z3]
  exact r_at x0 x1 x2 x3 t n

theorem out11_at (t : Fin 256) (n : Fin 512) :
    out0_11 x0 x1 x2 x3 x4 x5 x6 (ix3 0 t n)
      = Ideal.div (logSig (splitDot (lowAt x0 x1 x2 x4 t) (fun l => x5 (ix2 l ⟨n.val, by omega⟩)) + x6 (ix2 0 ⟨n.val, by omega⟩))) (Ideal.ofBits .f32 0x41800000#32) := by
  unfold out0_11
  rw [View.canon_unit_zero z3, gf_at, pay12_at]

theorem out12_at (t : Fin 256) (n : Fin 512) :
    out0_12 x0 x1 x2 x3 x4 x5 x6 (ix3 0 t n)
      = Ideal.div (logSig (splitDot (lowAt x0 x1 x2 x4 t) (fun l => x5 (ix2 l ⟨512 + n.val, by omega⟩)) + x6 (ix2 0 ⟨512 + n.val, by omega⟩))) (Ideal.ofBits .f32 0x41800000#32) := by
  unfold out0_12
  rw [View.canon_unit_zero z3, gb_at, pay12_at]

end Cert.Kernel5Ideal.Hand
end
-- ==== Proof.Kernel5Ideal.Reads.lean ====
/-
  The arrays the projection of the gated linear attention leaves, and what its blocks read, over the extended reals: queries,
  keys, values, the output gate's pre-activation, and the decay gates of both directions as the kernel computes them.
-/
module

public import proofs.«01_k».proof.Proof.Kernel5Ideal.Blocks
public import Idealize.ShloMosaic.Lib.StableHlo.RunRead
public import Idealize.ShloMosaic.Lib.Quiescent
public import Idealize.ShloMosaic.Lib.Claim

@[expose] public section

set_option maxRecDepth 16384

noncomputable section

namespace Cert.Kernel5Ideal.Hand

open Cert.Kernel5Ideal Cert.Kernel5Ideal.Gen
open Idealize.ShloMosaic Idealize.ShloMosaic.TcCoe
open Idealize.ShloMosaic.Pipeline (Window Dat)
open Cert.Kernel4Ideal.Hand (modulated)
open Cert.Gates (logSig set_block)

/-! ## The result arrays -/

section Spec

variable (X0 : FVec Ideal S8x4352x1024 .f32) (X1 : FVec Ideal S8x2x6x1024 .f32) (X2 : FVec Ideal S1024 .f32) (X3 : FVec Ideal S1024x3104 .f32)
  (X4 : FVec Ideal S16x512 .f32) (X5 : FVec Ideal S512 .f32) (X6 : FVec Ideal S16x512 .f32) (X7 : FVec Ideal S512 .f32)

/-- Feature `d` of the modulated token `q` of batch `b`; the modulation is the context's or the latent tokens'. -/
def feature (b : Fin 8) (q : Fin 4352) (d : Fin 1024) : EReal :=
  modulated (fun d => X0 (ix3 b q d)) (fun d => X2 (ix1 d)) (fun d => X1 (ix4 b (if q.val < 256 then 0 else 1) 0 d))
    (fun d => X1 (ix4 b (if q.val < 256 then 0 else 1) 1 d)) d

/-- Column `n` of the projection at token `q` of batch `b`. -/
def column (b : Fin 8) (q : Fin 4352) (n : Fin 3104) : EReal := dotAt (feature X0 X1 X2 b q) (fun d => X3 (ix2 d n))

/-- The weights of the gates' first product on 128 lanes: 32 columns of the projection, then zeros. -/
def lowW (d : Fin 1024) (l : Fin 128) : EReal := if h : l.val < 32 then X3 (ix2 d ⟨3072 + l.val, by omega⟩) else 0

/-- The weights of the gates' second product: the forward gate's in the upper left corner, the backward gate's next to it
    on the diagonal, zeros elsewhere. -/
def highW (l : Fin 128) (n : Fin 1024) : EReal :=
  if h : (16 ≤ l.val ∧ l.val - 16 < 16) ∧ 512 ≤ n.val then X6 (ix2 ⟨l.val - 16, h.1.2⟩ ⟨n.val - 512, by omega⟩)
  else if h : l.val < 16 ∧ n.val < 512 then X4 (ix2 ⟨l.val, h.1⟩ ⟨n.val, h.2⟩) else 0

/-- The gates' biases side by side. -/
def bias (n : Fin 1024) : EReal := if h : n.val < 512 then X5 (ix1 ⟨n.val, h⟩) else X7 (ix1 ⟨n.val - 512, by omega⟩)

/-- Column `n` of the gates as the kernel computes them. -/
def laneGate (b : Fin 8) (q : Fin 4352) (n : Fin 1024) : EReal :=
  Ideal.div (logSig (splitDot (fun l => dotAt (feature X0 X1 X2 b q) (fun d => lowW X3 d l)) (fun l => highW X4 X6 l n) + bias X5 X7 n)) (Ideal.ofBits .f32 0x41800000#32)

/-- The queries, scaled. -/
def queries : FVec Ideal S8x4352x512 .bf16 := fun i =>
  column X0 X1 X2 X3 (i 0) (i 1) ⟨(i 2).val, by have h : (i 2).val < 512 := (i 2).isLt; omega⟩ * Ideal.ofBits .f32 0x3DB504F3#32
/-- The keys. -/
def keys : FVec Ideal S8x4352x512 .bf16 := fun i =>
  column X0 X1 X2 X3 (i 0) (i 1) ⟨512 + (i 2).val, by have h : (i 2).val < 512 := (i 2).isLt; omega⟩
/-- The values. -/
def values : FVec Ideal S8x4352x1024 .bf16 := fun i =>
  column X0 X1 X2 X3 (i 0) (i 1) ⟨1024 + (i 2).val, by have h : (i 2).val < 1024 := (i 2).isLt; omega⟩
/-- The output gate before its activation. -/
def outGate : FVec Ideal S8x4352x1024 .bf16 := fun i =>
  column X0 X1 X2 X3 (i 0) (i 1) ⟨2048 + (i 2).val, by have h : (i 2).val < 1024 := (i 2).isLt; omega⟩
/-- The forward gate as the kernel computes it. -/
def laneF : FVec Ideal S8x4352x512 .f32 := fun i =>
  laneGate X0 X1 X2 X3 X4 X5 X6 X7 (i 0) (i 1) ⟨(i 2).val, by have h : (i 2).val < 512 := (i 2).isLt; omega⟩
/-- The backward gate as the kernel computes it. -/
def laneB : FVec Ideal S8x4352x512 .f32 := fun i =>
  laneGate X0 X1 X2 X3 X4 X5 X6 X7 (i 0) (i 1) ⟨512 + (i 2).val, by have h : (i 2).val < 512 := (i 2).isLt; omega⟩

end Spec

/-! ## The blocks a point reads -/

variable (m : (ℓ : Loc nD τ sig) → Buf (Elt Ideal) ℓ)

theorem at0 : ∀ t : Fin grid0.N, win0_0.index t = ![t.val / 17, t.val % 17, 0] := by decide +kernel
theorem at1 : ∀ t : Fin grid0.N, win0_1.index t = ![t.val / 17, if t.val % 17 = 0 then 0 else 1, 0, 0] := by decide +kernel
theorem at2 : ∀ t : Fin grid0.N, win0_2.index t = ![0, 0] := by decide +kernel
theorem at3 : ∀ t : Fin grid0.N, win0_3.index t = ![0, 0] := by decide +kernel
theorem at4 : ∀ t : Fin grid0.N, win0_4.index t = ![0, 0] := by decide +kernel
theorem at5 : ∀ t : Fin grid0.N, win0_5.index t = ![0, 0] := by decide +kernel
theorem at6 : ∀ t : Fin grid0.N, win0_6.index t = ![0, 0] := by decide +kernel
theorem at7 : ∀ t : Fin grid0.N, win0_7.index t = ![t.val / 17, t.val % 17, 0] := by decide +kernel
theorem at8 : ∀ t : Fin grid0.N, win0_8.index t = ![t.val / 17, t.val % 17, 0] := by decide +kernel
theorem at9 : ∀ t : Fin grid0.N, win0_9.index t = ![t.val / 17, t.val % 17, 0] := by decide +kernel
theorem at10 : ∀ t : Fin grid0.N, win0_10.index t = ![t.val / 17, t.val % 17, 0] := by decide +kernel
theorem at11 : ∀ t : Fin grid0.N, win0_11.index t = ![t.val / 17, t.val % 17, 0] := by decide +kernel
theorem at12 : ∀ t : Fin grid0.N, win0_12.index t = ![t.val / 17, t.val % 17, 0] := by decide +kernel

theorem lt_N (t : Fin cfg0.N) : t.val < 136 := by have h := t.isLt; exact lt_of_lt_of_eq h N_0

/-- The batch of a point. -/
def bat (t : Fin cfg0.N) : Fin 8 := ⟨t.val / 17, by have := lt_N t; omega⟩
/-- The token, in its batch, of row `q` of a point's block. -/
def tok (t : Fin cfg0.N) (q : Fin 256) : Fin 4352 := ⟨256 * (t.val % 17) + q.val, by omega⟩

theorem blk0_at (c : Dev nD) (t : Fin cfg0.N) (q : Fin 256) (e : Fin 1024) :
    iblk m c 0 t (ix3 0 q e) = m ((c : Thread nD τ).loc main_arg0) (ix3 (bat t) (tok t q) e) := by
  show V m c main_arg0 ((win0_0.rect t).emb (ix3 0 q e)) = _
  rw [V_main_arg0]
  congr 1
  funext a
  apply Fin.ext
  refine (Window.rect_emb_val win0_0 t _ a).trans ?_
  rw [at0 t]
  match a with
  | ⟨0, _⟩ => show t.val / 17 * 1 + 0 = t.val / 17; omega
  | ⟨1, _⟩ => show t.val % 17 * 256 + q.val = 256 * (t.val % 17) + q.val; omega
  | ⟨2, _⟩ => show 0 * 1024 + e.val = e.val; omega

theorem blk1_at (c : Dev nD) (t : Fin cfg0.N) (j : Fin 6) (e : Fin 1024) :
    iblk m c 1 t (ix4 0 0 j e) = m ((c : Thread nD τ).loc main_arg1) (ix4 (bat t) (if t.val % 17 = 0 then 0 else 1) j e) := by
  show V m c main_arg1 ((win0_1.rect t).emb (ix4 0 0 j e)) = _
  rw [V_main_arg1]
  congr 1
  funext a
  apply Fin.ext
  refine (Window.rect_emb_val win0_1 t _ a).trans ?_
  rw [at1 t]
  match a with
  | ⟨0, _⟩ => show t.val / 17 * 1 + 0 = t.val / 17; omega
  | ⟨1, _⟩ => show (if t.val % 17 = 0 then 0 else 1) * 1 + 0 = Fin.val (n := 2) (if t.val % 17 = 0 then 0 else 1); split <;> rfl
  | ⟨2, _⟩ => show 0 * 6 + j.val = j.val; omega
  | ⟨3, _⟩ => show 0 * 1024 + e.val = e.val; omega

/-- The norm's gain as the call finds it: a unit axis more. -/
theorem V18_at (c : Dev nD) (n : Fin 1024) : V m c main_v18 (ix2 0 n) = m ((c : Thread nD τ).loc main_arg2) (ix1 n) := by
  rw [show V m c main_v18 = shapeCast S1x1024 (m ((c : Thread nD τ).loc main_arg2)) shapeCasts_S1024_S1x1024 from rfl]
  exact shapeCast_apply (s := S1024) (t := S1x1024) _ _ _ _ (by
    rw [Shape.rowMajor_val_one, Shape.rowMajor_val_two]
    show n.val = 0 * 1024 + n.val
    omega)

/-- The main weights as the call finds them: the first 3072 columns; the host's cast changes no value. -/
theorem V1_at (c : Dev nD) (d : Fin 1024) (n : Fin 3072) :
    V m c main_v1 (ix2 d n) = m ((c : Thread nD τ).loc main_arg3) (ix2 d ⟨n.val, by omega⟩) := by
  rw [show V m c main_v1 = extractStridedSlice S1024x3072 ![0, 0] (m ((c : Thread nD τ).loc main_arg3)) slices_S1024x3104_S1024x3072_0_0 from rfl]
  refine congrArg (m ((c : Thread nD τ).loc main_arg3)) (funext fun a => Fin.ext ?_)
  match a with
  | ⟨0, _⟩ => show 0 + d.val = d.val; omega
  | ⟨1, _⟩ => show 0 + n.val = n.val; omega

/-- Over the extended reals the cast to a narrower type changes no value. -/
theorem narrowed {s : Shape} (x : FVec Ideal s .f32) (h : FTy.bits .bf16 < FTy.bits .f32) (i : s.Idx) : truncf .bf16 x h i = x i := rfl

theorem V6_eq (c : Dev nD) : V m c main_v6 = truncf (F := Ideal) .bf16 (s := S1024x128) (Host.scatter scatter_S1024x128_S1_S1024x32_01_n_1_0 (fun _ b => b)
      (broadcastInDim S1024x128 ![] bcast_S_S1024x128 (constant (F := Ideal) S_ .f32 0x00000000#32)) (broadcastInDim S1 ![] bcast_S_S1 (constantI S_ 32 0#32))
      (extractStridedSlice S1024x32 ![0, 3072] (m ((c : Thread nD τ).loc main_arg3)) slices_S1024x3104_S1024x32_0_3072)) bitsLt_bf16_f32 := by
  unfold V
  after_reads_simp

/-- The weights of the gates' first product as the call finds them. -/
theorem V6_at (c : Dev nD) (d : Fin 1024) (l : Fin 128) :
    V m c main_v6 (ix2 d l) = lowW (m ((c : Thread nD τ).loc main_arg3)) d l := by
  rw [V6_eq, narrowed]
  refine (set_block scatter_S1024x128_S1_S1024x32_01_n_1_0 _ 0 0 (fun k => ?_) (fun k => ?_) _ _ d l).trans ?_
  · show (0 : Int) + ((k 0).val : Int) = ((0 + (k 0).val : ℕ) : Int)
    omega
  · show (0 : Int) + ((k 1).val : Int) = ((0 + (k 1).val : ℕ) : Int)
    omega
  unfold lowW
  by_cases h : l.val < 32
  · rw [dif_pos ⟨⟨by omega, by omega⟩, ⟨by omega, by omega⟩⟩, dif_pos h]
    refine congrArg (m ((c : Thread nD τ).loc main_arg3)) (funext fun a => Fin.ext ?_)
    match a with
    | ⟨0, _⟩ => show 0 + (d.val - 0) = d.val; omega
    | ⟨1, _⟩ => show 3072 + (l.val - 0) = 3072 + l.val; omega
  · rw [dif_neg (by omega), dif_neg h]
    exact Cert.Gates.zero_word

theorem words_eq {a a' b b' : IVec S1 32} (ha : a = a') (hb : b = b') :
    concatenate S2 0 [⟨S1, a⟩, ⟨S1, b⟩] concatenates_S1_S1_S2_d0 = concatenate S2 0 [⟨S1, a'⟩, ⟨S1, b'⟩] concatenates_S1_S1_S2_d0 := by
  subst ha hb
  rfl

theorem V15_eq (c : Dev nD) : V m c main_v15 = Host.scatter scatter_S128x1024_S2_S16x512_01_n_01_0 (fun _ b => b)
      (Host.scatter scatter_S128x1024_S2_S16x512_01_n_01_0 (fun _ b => b)
        (broadcastInDim S128x1024 ![] bcast_S_S128x1024 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg4)))
      (concatenate S2 0 [⟨S1, broadcastInDim S1 ![] bcast_S_S1 (constantI S_ 32 16#32)⟩, ⟨S1, broadcastInDim S1 ![] bcast_S_S1 (constantI S_ 32 512#32)⟩] concatenates_S1_S1_S2_d0)
      (m ((c : Thread nD τ).loc main_arg6)) := by
  unfold V
  after_reads_simp
  exact congrArg₂ (fun i j : IVec S2 32 => Host.scatter scatter_S128x1024_S2_S16x512_01_n_01_0 (fun _ b => b)
      (Host.scatter scatter_S128x1024_S2_S16x512_01_n_01_0 (fun _ b => b)
        (broadcastInDim S128x1024 ![] bcast_S_S128x1024 (constant (F := Ideal) S_ .f32 0x00000000#32)) i (m ((c : Thread nD τ).loc main_arg4)))
      j (m ((c : Thread nD τ).loc main_arg6))) (words_eq (by after_reads_simp) (by after_reads_simp)) (words_eq (by after_reads_simp) (by after_reads_simp))

/-- The weights of the gates' second product as the call finds them. -/
theorem V15_at (c : Dev nD) (l : Fin 128) (n : Fin 1024) :
    V m c main_v15 (ix2 l n) = highW (m ((c : Thread nD τ).loc main_arg4)) (m ((c : Thread nD τ).loc main_arg6)) l n := by
  rw [V15_eq]
  refine (set_block scatter_S128x1024_S2_S16x512_01_n_01_0 _ 16 512 (fun k => ?_) (fun k => ?_) _ _ l n).trans ?_
  · show (16 : Int) + ((k 0).val : Int) = ((16 + (k 0).val : ℕ) : Int)
    omega
  · show (512 : Int) + ((k 1).val : Int) = ((512 + (k 1).val : ℕ) : Int)
    omega
  unfold highW
  by_cases h : (16 ≤ l.val ∧ l.val - 16 < 16) ∧ 512 ≤ n.val
  · rw [dif_pos ⟨h.1, ⟨h.2, by omega⟩⟩, dif_pos h]
  rw [dif_neg (fun hh => h ⟨hh.1, hh.2.1⟩), dif_neg h]
  refine (set_block scatter_S128x1024_S2_S16x512_01_n_01_0 _ 0 0 (fun k => ?_) (fun k => ?_) _ _ l n).trans ?_
  · show (0 : Int) + ((k 0).val : Int) = ((0 + (k 0).val : ℕ) : Int)
    omega
  · show (0 : Int) + ((k 1).val : Int) = ((0 + (k 1).val : ℕ) : Int)
    omega
  by_cases h' : l.val < 16 ∧ n.val < 512
  · rw [dif_pos ⟨⟨by omega, by omega⟩, ⟨by omega, by omega⟩⟩, dif_pos h']
    rfl
  · rw [dif_neg (by omega), dif_neg h']
    exact Cert.Gates.zero_word

/-- The biases as the call finds them. -/
theorem V17_at (c : Dev nD) (n : Fin 1024) :
    V m c main_v17 (ix2 0 n) = bias (m ((c : Thread nD τ).loc main_arg5)) (m ((c : Thread nD τ).loc main_arg7)) n := by
  rw [show V m c main_v17 = shapeCast S1x1024 (concatenate S1024 0 [⟨S512, m ((c : Thread nD τ).loc main_arg5)⟩, ⟨S512, m ((c : Thread nD τ).loc main_arg7)⟩]
      concatenates_S512_S512_S1024_d0) shapeCasts_S1024_S1x1024 from rfl]
  refine (shapeCast_apply (s := S1024) (t := S1x1024) _ _ _ (ix1 n) (by
    rw [Shape.rowMajor_val_one, Shape.rowMajor_val_two]
    show n.val = 0 * 1024 + n.val
    omega)).trans ?_
  unfold bias
  by_cases h : n.val < 512
  · rw [dif_pos h]
    refine concatenate_pair_apply_left (t := S1024) (s₁ := S512) (s₂ := S512) 0 _ _ concatenates_S512_S512_S1024_d0 (ix1 n) rfl (ix1 ⟨n.val, h⟩) fun a => ?_
    match a with | ⟨0, _⟩ => rfl
  · rw [dif_neg h]
    refine concatenate_pair_apply_right (t := S1024) (s₁ := S512) (s₂ := S512) 0 _ _ concatenates_S512_S512_S1024_d0 (ix1 n) rfl rfl (ix1 ⟨n.val - 512, by omega⟩) (fun a ha => ?_) ?_
    · match a with | ⟨0, _⟩ => exact absurd rfl ha
    · show n.val - 512 + 512 = n.val
      omega

theorem blk2_at (c : Dev nD) (t : Fin cfg0.N) (j : Fin 1024) : iblk m c 2 t (ix2 0 j) = m ((c : Thread nD τ).loc main_arg2) (ix1 j) := by
  refine Eq.trans ?_ (V18_at m c j)
  show V m c main_v18 ((win0_2.rect t).emb (ix2 0 j)) = _
  congr 1
  funext a
  apply Fin.ext
  refine (Window.rect_emb_val win0_2 t _ a).trans ?_
  rw [at2 t]
  match a with
  | ⟨0, _⟩ => show 0 * 1 + 0 = 0; omega
  | ⟨1, _⟩ => show 0 * 1024 + j.val = j.val; omega

theorem blk3_at (c : Dev nD) (t : Fin cfg0.N) (i : Fin 1024) (j : Fin 3072) : iblk m c 3 t (ix2 i j) = m ((c : Thread nD τ).loc main_arg3) (ix2 i ⟨j.val, by omega⟩) := by
  refine Eq.trans ?_ (V1_at m c i j)
  show V m c main_v1 ((win0_3.rect t).emb (ix2 i j)) = _
  congr 1
  funext a
  apply Fin.ext
  refine (Window.rect_emb_val win0_3 t _ a).trans ?_
  rw [at3 t]
  match a with
  | ⟨0, _⟩ => show 0 * 1024 + i.val = i.val; omega
  | ⟨1, _⟩ => show 0 * 3072 + j.val = j.val; omega

theorem blk4_at (c : Dev nD) (t : Fin cfg0.N) (i : Fin 1024) (j : Fin 128) : iblk m c 4 t (ix2 i j) = lowW (m ((c : Thread nD τ).loc main_arg3)) i j := by
  refine Eq.trans ?_ (V6_at m c i j)
  show V m c main_v6 ((win0_4.rect t).emb (ix2 i j)) = _
  congr 1
  funext a
  apply Fin.ext
  refine (Window.rect_emb_val win0_4 t _ a).trans ?_
  rw [at4 t]
  match a with
  | ⟨0, _⟩ => show 0 * 1024 + i.val = i.val; omega
  | ⟨1, _⟩ => show 0 * 128 + j.val = j.val; omega

theorem blk5_at (c : Dev nD) (t : Fin cfg0.N) (i : Fin 128) (j : Fin 1024) : iblk m c 5 t (ix2 i j) = highW (m ((c : Thread nD τ).loc main_arg4)) (m ((c : Thread nD τ).loc main_arg6)) i j := by
  refine Eq.trans ?_ (V15_at m c i j)
  show V m c main_v15 ((win0_5.rect t).emb (ix2 i j)) = _
  congr 1
  funext a
  apply Fin.ext
  refine (Window.rect_emb_val win0_5 t _ a).trans ?_
  rw [at5 t]
  match a with
  | ⟨0, _⟩ => show 0 * 128 + i.val = i.val; omega
  | ⟨1, _⟩ => show 0 * 1024 + j.val = j.val; omega

theorem blk6_at (c : Dev nD) (t : Fin cfg0.N) (j : Fin 1024) : iblk m c 6 t (ix2 0 j) = bias (m ((c : Thread nD τ).loc main_arg5)) (m ((c : Thread nD τ).loc main_arg7)) j := by
  refine Eq.trans ?_ (V17_at m c j)
  show V m c main_v17 ((win0_6.rect t).emb (ix2 0 j)) = _
  congr 1
  funext a
  apply Fin.ext
  refine (Window.rect_emb_val win0_6 t _ a).trans ?_
  rw [at6 t]
  match a with
  | ⟨0, _⟩ => show 0 * 1 + 0 = 0; omega
  | ⟨1, _⟩ => show 0 * 1024 + j.val = j.val; omega

theorem seg_eq (t : Fin cfg0.N) (q : Fin 256) :
    (if t.val % 17 = 0 then 0 else 1 : Fin 2) = if (tok t q).val < 256 then 0 else 1 := by
  have h : (tok t q).val < 256 ↔ t.val % 17 = 0 := by
    show 256 * (t.val % 17) + q.val < 256 ↔ _
    omega
  by_cases ht : t.val % 17 = 0
  · rw [if_pos ht, if_pos (h.2 ht)]
  · rw [if_neg ht, if_neg (fun hh => ht (h.1 hh))]

theorem hBlk (c : Dev nD) (t : Fin cfg0.N) (q : Fin 256) :
    hAt (iblk m c 0 t) (iblk m c 1 t) (iblk m c 2 t) q
      = feature (m ((c : Thread nD τ).loc main_arg0)) (m ((c : Thread nD τ).loc main_arg1)) (m ((c : Thread nD τ).loc main_arg2)) (bat t) (tok t q) := by
  funext d
  unfold hAt feature
  rw [← seg_eq t q]
  have h0 : (fun d => iblk m c 0 t (ix3 0 q d)) = fun d => m ((c : Thread nD τ).loc main_arg0) (ix3 (bat t) (tok t q) d) := funext fun d => blk0_at m c t q d
  have h2 : (fun d => iblk m c 2 t (ix2 0 d)) = fun d => m ((c : Thread nD τ).loc main_arg2) (ix1 d) := funext fun d => blk2_at m c t d
  have h10 := funext fun d => blk1_at m c t 0 d
  have h11 := funext fun d => blk1_at m c t 1 d
  exact congrFun (congr (congr (congrArg₂ modulated h0 h2) h10) h11) d

theorem colBlk (c : Dev nD) (t : Fin cfg0.N) (q : Fin 256) (n : Fin 3072) :
    dotAt (hAt (iblk m c 0 t) (iblk m c 1 t) (iblk m c 2 t) q) (fun d => iblk m c 3 t (ix2 d n))
      = column (m ((c : Thread nD τ).loc main_arg0)) (m ((c : Thread nD τ).loc main_arg1)) (m ((c : Thread nD τ).loc main_arg2)) (m ((c : Thread nD τ).loc main_arg3)) (bat t) (tok t q) ⟨n.val, by omega⟩ :=
  congrArg₂ dotAt (hBlk m c t q) (funext fun d => blk3_at m c t d n)

theorem gateBlk (c : Dev nD) (t : Fin cfg0.N) (q : Fin 256) (n : Fin 1024) :
    Ideal.div (logSig (splitDot (lowAt (iblk m c 0 t) (iblk m c 1 t) (iblk m c 2 t) (iblk m c 4 t) q) (fun l => iblk m c 5 t (ix2 l n)) + iblk m c 6 t (ix2 0 n))) (Ideal.ofBits .f32 0x41800000#32)
      = laneGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bat t) (tok t q) n := by
  have hl : lowAt (iblk m c 0 t) (iblk m c 1 t) (iblk m c 2 t) (iblk m c 4 t) q
      = fun l => dotAt (feature (m ((c : Thread nD τ).loc main_arg0)) (m ((c : Thread nD τ).loc main_arg1)) (m ((c : Thread nD τ).loc main_arg2)) (bat t) (tok t q)) (fun d => lowW (m ((c : Thread nD τ).loc main_arg3)) d l) :=
    funext fun l => congrArg₂ dotAt (hBlk m c t q) (funext fun d => blk4_at m c t d l)
  have hh : (fun l => iblk m c 5 t (ix2 l n)) = fun l => highW (m ((c : Thread nD τ).loc main_arg4)) (m ((c : Thread nD τ).loc main_arg6)) l n := funext fun l => blk5_at m c t l n
  exact congrArg (fun p => Ideal.div (logSig p) (Ideal.ofBits .f32 0x41800000#32)) (congrArg₂ (fun a b : EReal => a + b) (congrArg₂ splitDot hl hh) (blk6_at m c t n))

end Cert.Kernel5Ideal.Hand
end
-- ==== Proof.Kernel5Ideal.Value.lean ====
/-
  The result arrays of the gated linear attention's projection after the run.
-/
module

public import proofs.«01_k».proof.Proof.Kernel5Ideal.Reads

@[expose] public section

set_option maxRecDepth 16384

noncomputable section

namespace Cert.Kernel5Ideal.Hand

open Cert.Kernel5Ideal Cert.Kernel5Ideal.Gen
open Idealize.ShloMosaic Idealize.ShloMosaic.TcCoe
open Idealize.ShloMosaic.Pipeline (Window Dat)
open Cert.Kernel4Ideal.Hand (modulated)
open Cert.Gates (logSig set_block)

variable (m : (ℓ : Loc nD τ sig) → Buf (Elt Ideal) ℓ)

/-- The queries of device `c`'s arrays. -/
abbrev res7 (c : Dev nD) : FVec Ideal S8x4352x512 .bf16 :=
  queries (m ((c : Thread nD τ).loc main_arg0)) (m ((c : Thread nD τ).loc main_arg1)) (m ((c : Thread nD τ).loc main_arg2)) (m ((c : Thread nD τ).loc main_arg3))

/-- The keys of device `c`'s arrays. -/
abbrev res8 (c : Dev nD) : FVec Ideal S8x4352x512 .bf16 :=
  keys (m ((c : Thread nD τ).loc main_arg0)) (m ((c : Thread nD τ).loc main_arg1)) (m ((c : Thread nD τ).loc main_arg2)) (m ((c : Thread nD τ).loc main_arg3))

/-- The values of device `c`'s arrays. -/
abbrev res9 (c : Dev nD) : FVec Ideal S8x4352x1024 .bf16 :=
  values (m ((c : Thread nD τ).loc main_arg0)) (m ((c : Thread nD τ).loc main_arg1)) (m ((c : Thread nD τ).loc main_arg2)) (m ((c : Thread nD τ).loc main_arg3))

/-- The output gate's pre-activations of device `c`'s arrays. -/
abbrev res10 (c : Dev nD) : FVec Ideal S8x4352x1024 .bf16 :=
  outGate (m ((c : Thread nD τ).loc main_arg0)) (m ((c : Thread nD τ).loc main_arg1)) (m ((c : Thread nD τ).loc main_arg2)) (m ((c : Thread nD τ).loc main_arg3))

/-- The forward gates of device `c`'s arrays. -/
abbrev res11 (c : Dev nD) : FVec Ideal S8x4352x512 .f32 :=
  laneF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The backward gates of device `c`'s arrays. -/
abbrev res12 (c : Dev nD) : FVec Ideal S8x4352x512 .f32 :=
  laneB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem entry7 (c : Dev nD) (t : Fin cfg0.N) (q : Fin 256) (n : Fin 512) :
    out0_7 (F := Ideal) (iblk m c 0 t) (iblk m c 1 t) (iblk m c 2 t) (iblk m c 3 t) (iblk m c 4 t) (iblk m c 5 t) (iblk m c 6 t) (ix3 (0 : Fin 1) q n) = res7 m c (ix3 (bat t) (tok t q) n) :=
  (out7_at _ _ _ _ _ _ _ q n).trans (congrArg (fun x : EReal => x * Ideal.ofBits .f32 0x3DB504F3#32) (colBlk m c t q ⟨n.val, by omega⟩))

theorem flushed7_eq (c : Dev nD) (t : Fin cfg0.N) :
    (dats m 0 c).flushed 7 t = ((cfg0.win 7).blk t).view.read (Elt Ideal) (res7 m c) := by
  unfold Pipeline.Dat.flushed
  rw [after0_7]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_7 (F := Ideal) (iblk m c 0 t) (iblk m c 1 t) (iblk m c 2 t) (iblk m c 3 t) (iblk m c 4 t) (iblk m c 5 t) (iblk m c 6 t) y = res7 m c ((win0_7.rect t).emb y)
  rw [hy]
  refine (entry7 m c t (y 1) (y 2)).trans ?_
  congr 1
  funext a
  apply Fin.ext
  refine Eq.trans ?_ (Window.rect_emb_val win0_7 t _ a).symm
  rw [at7 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 512 + (y 2).val; omega

theorem cover7 (i : S8x4352x512.Idx) : ∃ t : Fin cfg0.N, (cfg0.win 7).flush t = true ∧ i ∈ ((cfg0.win 7).blk t).view.set := by
  have h0 : (i 0).val < 8 := (i 0).isLt
  have h1 : (i 1).val < 4352 := (i 1).isLt
  have h2 : (i 2).val < 512 := (i 2).isLt
  have hN : 17 * (i 0).val + (i 1).val / 256 < cfg0.N := lt_of_lt_of_eq (show _ < 136 by omega) N_0.symm
  refine ⟨⟨_, hN⟩, flush0_7 _, ?_⟩
  show i ∈ ((View.whole main_v19_0).slice (win0_7.rect ⟨_, hN⟩)).set
  rw [View.set_slice_whole, Rect.mem_set_unit]
  intro a
  show win0_7.index ⟨_, hN⟩ a * _ ≤ _ ∧ _ < win0_7.index ⟨_, hN⟩ a * _ + _
  rw [at7]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 512 ≤ (i 2).val ∧ (i 2).val < 0 * 512 + 512; omega

theorem final7 (c : Dev nD) : (dats m 0 c).arrAt 7 cfg0.N = res7 m c :=
  (dats m 0 c).arrAt_eq_of_cover 7 (res7 m c) (fun t _ => flushed7_eq m c t) cover7

theorem entry8 (c : Dev nD) (t : Fin cfg0.N) (q : Fin 256) (n : Fin 512) :
    out0_8 (F := Ideal) (iblk m c 0 t) (iblk m c 1 t) (iblk m c 2 t) (iblk m c 3 t) (iblk m c 4 t) (iblk m c 5 t) (iblk m c 6 t) (ix3 (0 : Fin 1) q n) = res8 m c (ix3 (bat t) (tok t q) n) :=
  (out8_at _ _ _ _ _ _ _ q n).trans (colBlk m c t q ⟨512 + n.val, by omega⟩)

theorem flushed8_eq (c : Dev nD) (t : Fin cfg0.N) :
    (dats m 0 c).flushed 8 t = ((cfg0.win 8).blk t).view.read (Elt Ideal) (res8 m c) := by
  unfold Pipeline.Dat.flushed
  rw [after0_8]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_8 (F := Ideal) (iblk m c 0 t) (iblk m c 1 t) (iblk m c 2 t) (iblk m c 3 t) (iblk m c 4 t) (iblk m c 5 t) (iblk m c 6 t) y = res8 m c ((win0_8.rect t).emb y)
  rw [hy]
  refine (entry8 m c t (y 1) (y 2)).trans ?_
  congr 1
  funext a
  apply Fin.ext
  refine Eq.trans ?_ (Window.rect_emb_val win0_8 t _ a).symm
  rw [at8 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 512 + (y 2).val; omega

theorem cover8 (i : S8x4352x512.Idx) : ∃ t : Fin cfg0.N, (cfg0.win 8).flush t = true ∧ i ∈ ((cfg0.win 8).blk t).view.set := by
  have h0 : (i 0).val < 8 := (i 0).isLt
  have h1 : (i 1).val < 4352 := (i 1).isLt
  have h2 : (i 2).val < 512 := (i 2).isLt
  have hN : 17 * (i 0).val + (i 1).val / 256 < cfg0.N := lt_of_lt_of_eq (show _ < 136 by omega) N_0.symm
  refine ⟨⟨_, hN⟩, flush0_8 _, ?_⟩
  show i ∈ ((View.whole main_v19_1).slice (win0_8.rect ⟨_, hN⟩)).set
  rw [View.set_slice_whole, Rect.mem_set_unit]
  intro a
  show win0_8.index ⟨_, hN⟩ a * _ ≤ _ ∧ _ < win0_8.index ⟨_, hN⟩ a * _ + _
  rw [at8]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 512 ≤ (i 2).val ∧ (i 2).val < 0 * 512 + 512; omega

theorem final8 (c : Dev nD) : (dats m 0 c).arrAt 8 cfg0.N = res8 m c :=
  (dats m 0 c).arrAt_eq_of_cover 8 (res8 m c) (fun t _ => flushed8_eq m c t) cover8

theorem entry9 (c : Dev nD) (t : Fin cfg0.N) (q : Fin 256) (n : Fin 1024) :
    out0_9 (F := Ideal) (iblk m c 0 t) (iblk m c 1 t) (iblk m c 2 t) (iblk m c 3 t) (iblk m c 4 t) (iblk m c 5 t) (iblk m c 6 t) (ix3 (0 : Fin 1) q n) = res9 m c (ix3 (bat t) (tok t q) n) :=
  (out9_at _ _ _ _ _ _ _ q n).trans (colBlk m c t q ⟨1024 + n.val, by omega⟩)

theorem flushed9_eq (c : Dev nD) (t : Fin cfg0.N) :
    (dats m 0 c).flushed 9 t = ((cfg0.win 9).blk t).view.read (Elt Ideal) (res9 m c) := by
  unfold Pipeline.Dat.flushed
  rw [after0_9]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_9 (F := Ideal) (iblk m c 0 t) (iblk m c 1 t) (iblk m c 2 t) (iblk m c 3 t) (iblk m c 4 t) (iblk m c 5 t) (iblk m c 6 t) y = res9 m c ((win0_9.rect t).emb y)
  rw [hy]
  refine (entry9 m c t (y 1) (y 2)).trans ?_
  congr 1
  funext a
  apply Fin.ext
  refine Eq.trans ?_ (Window.rect_emb_val win0_9 t _ a).symm
  rw [at9 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 1024 + (y 2).val; omega

theorem cover9 (i : S8x4352x1024.Idx) : ∃ t : Fin cfg0.N, (cfg0.win 9).flush t = true ∧ i ∈ ((cfg0.win 9).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := lt_of_lt_of_eq (show _ < 136 by omega) N_0.symm
  refine ⟨⟨_, hN⟩, flush0_9 _, ?_⟩
  show i ∈ ((View.whole main_v19_2).slice (win0_9.rect ⟨_, hN⟩)).set
  rw [View.set_slice_whole, Rect.mem_set_unit]
  intro a
  show win0_9.index ⟨_, hN⟩ a * _ ≤ _ ∧ _ < win0_9.index ⟨_, hN⟩ a * _ + _
  rw [at9]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 1024 ≤ (i 2).val ∧ (i 2).val < 0 * 1024 + 1024; omega

theorem final9 (c : Dev nD) : (dats m 0 c).arrAt 9 cfg0.N = res9 m c :=
  (dats m 0 c).arrAt_eq_of_cover 9 (res9 m c) (fun t _ => flushed9_eq m c t) cover9

theorem entry10 (c : Dev nD) (t : Fin cfg0.N) (q : Fin 256) (n : Fin 1024) :
    out0_10 (F := Ideal) (iblk m c 0 t) (iblk m c 1 t) (iblk m c 2 t) (iblk m c 3 t) (iblk m c 4 t) (iblk m c 5 t) (iblk m c 6 t) (ix3 (0 : Fin 1) q n) = res10 m c (ix3 (bat t) (tok t q) n) :=
  (out10_at _ _ _ _ _ _ _ q n).trans (colBlk m c t q ⟨2048 + n.val, by omega⟩)

theorem flushed10_eq (c : Dev nD) (t : Fin cfg0.N) :
    (dats m 0 c).flushed 10 t = ((cfg0.win 10).blk t).view.read (Elt Ideal) (res10 m c) := by
  unfold Pipeline.Dat.flushed
  rw [after0_10]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_10 (F := Ideal) (iblk m c 0 t) (iblk m c 1 t) (iblk m c 2 t) (iblk m c 3 t) (iblk m c 4 t) (iblk m c 5 t) (iblk m c 6 t) y = res10 m c ((win0_10.rect t).emb y)
  rw [hy]
  refine (entry10 m c t (y 1) (y 2)).trans ?_
  congr 1
  funext a
  apply Fin.ext
  refine Eq.trans ?_ (Window.rect_emb_val win0_10 t _ a).symm
  rw [at10 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 1024 + (y 2).val; omega

theorem cover10 (i : S8x4352x1024.Idx) : ∃ t : Fin cfg0.N, (cfg0.win 10).flush t = true ∧ i ∈ ((cfg0.win 10).blk t).view.set := by
  have h0 : (i 0).val < 8 := (i 0).isLt
  have h1 : (i 1).val < 4352 := (i 1).isLt
  have h2 : (i 2).val < 1024 := (i 2).isLt
  have hN : 17 * (i 0).val + (i 1).val / 256 < cfg0.N := lt_of_lt_of_eq (show _ < 136 by omega) N_0.symm
  refine ⟨⟨_, hN⟩, flush0_10 _, ?_⟩
  show i ∈ ((View.whole main_v19_3).slice (win0_10.rect ⟨_, hN⟩)).set
  rw [View.set_slice_whole, Rect.mem_set_unit]
  intro a
  show win0_10.index ⟨_, hN⟩ a * _ ≤ _ ∧ _ < win0_10.index ⟨_, hN⟩ a * _ + _
  rw [at10]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 1024 ≤ (i 2).val ∧ (i 2).val < 0 * 1024 + 1024; omega

theorem final10 (c : Dev nD) : (dats m 0 c).arrAt 10 cfg0.N = res10 m c :=
  (dats m 0 c).arrAt_eq_of_cover 10 (res10 m c) (fun t _ => flushed10_eq m c t) cover10

theorem entry11 (c : Dev nD) (t : Fin cfg0.N) (q : Fin 256) (n : Fin 512) :
    out0_11 (F := Ideal) (iblk m c 0 t) (iblk m c 1 t) (iblk m c 2 t) (iblk m c 3 t) (iblk m c 4 t) (iblk m c 5 t) (iblk m c 6 t) (ix3 (0 : Fin 1) q n) = res11 m c (ix3 (bat t) (tok t q) n) :=
  (out11_at _ _ _ _ _ _ _ q n).trans (gateBlk m c t q ⟨n.val, by omega⟩)

theorem flushed11_eq (c : Dev nD) (t : Fin cfg0.N) :
    (dats m 0 c).flushed 11 t = ((cfg0.win 11).blk t).view.read (Elt Ideal) (res11 m c) := by
  unfold Pipeline.Dat.flushed
  rw [after0_11]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_11 (F := Ideal) (iblk m c 0 t) (iblk m c 1 t) (iblk m c 2 t) (iblk m c 3 t) (iblk m c 4 t) (iblk m c 5 t) (iblk m c 6 t) y = res11 m c ((win0_11.rect t).emb y)
  rw [hy]
  refine (entry11 m c t (y 1) (y 2)).trans ?_
  congr 1
  funext a
  apply Fin.ext
  refine Eq.trans ?_ (Window.rect_emb_val win0_11 t _ a).symm
  rw [at11 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 512 + (y 2).val; omega

theorem cover11 (i : S8x4352x512.Idx) : ∃ t : Fin cfg0.N, (cfg0.win 11).flush t = true ∧ i ∈ ((cfg0.win 11).blk t).view.set := by
  have h0 : (i 0).val < 8 := (i 0).isLt
  have h1 : (i 1).val < 4352 := (i 1).isLt
  have h2 : (i 2).val < 512 := (i 2).isLt
  have hN : 17 * (i 0).val + (i 1).val / 256 < cfg0.N := lt_of_lt_of_eq (show _ < 136 by omega) N_0.symm
  refine ⟨⟨_, hN⟩, flush0_11 _, ?_⟩
  show i ∈ ((View.whole main_v19_4).slice (win0_11.rect ⟨_, hN⟩)).set
  rw [View.set_slice_whole, Rect.mem_set_unit]
  intro a
  show win0_11.index ⟨_, hN⟩ a * _ ≤ _ ∧ _ < win0_11.index ⟨_, hN⟩ a * _ + _
  rw [at11]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 512 ≤ (i 2).val ∧ (i 2).val < 0 * 512 + 512; omega

theorem final11 (c : Dev nD) : (dats m 0 c).arrAt 11 cfg0.N = res11 m c :=
  (dats m 0 c).arrAt_eq_of_cover 11 (res11 m c) (fun t _ => flushed11_eq m c t) cover11

theorem entry12 (c : Dev nD) (t : Fin cfg0.N) (q : Fin 256) (n : Fin 512) :
    out0_12 (F := Ideal) (iblk m c 0 t) (iblk m c 1 t) (iblk m c 2 t) (iblk m c 3 t) (iblk m c 4 t) (iblk m c 5 t) (iblk m c 6 t) (ix3 (0 : Fin 1) q n) = res12 m c (ix3 (bat t) (tok t q) n) :=
  (out12_at _ _ _ _ _ _ _ q n).trans (gateBlk m c t q ⟨512 + n.val, by omega⟩)

theorem flushed12_eq (c : Dev nD) (t : Fin cfg0.N) :
    (dats m 0 c).flushed 12 t = ((cfg0.win 12).blk t).view.read (Elt Ideal) (res12 m c) := by
  unfold Pipeline.Dat.flushed
  rw [after0_12]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_12 (F := Ideal) (iblk m c 0 t) (iblk m c 1 t) (iblk m c 2 t) (iblk m c 3 t) (iblk m c 4 t) (iblk m c 5 t) (iblk m c 6 t) y = res12 m c ((win0_12.rect t).emb y)
  rw [hy]
  refine (entry12 m c t (y 1) (y 2)).trans ?_
  congr 1
  funext a
  apply Fin.ext
  refine Eq.trans ?_ (Window.rect_emb_val win0_12 t _ a).symm
  rw [at12 t]
  match a with
  | ⟨0, _⟩ => show t.val / 17 = t.val / 17 * 1 + 0; omega
  | ⟨1, _⟩ => show 256 * (t.val % 17) + (y 1).val = t.val % 17 * 256 + (y 1).val; omega
  | ⟨2, _⟩ => show (y 2).val = 0 * 512 + (y 2).val; omega

theorem cover12 (i : S8x4352x512.Idx) : ∃ t : Fin cfg0.N, (cfg0.win 12).flush t = true ∧ i ∈ ((cfg0.win 12).blk t).view.set := by
  have h0 : (i 0).val < 8 := (i 0).isLt
  have h1 : (i 1).val < 4352 := (i 1).isLt
  have h2 : (i 2).val < 512 := (i 2).isLt
  have hN : 17 * (i 0).val + (i 1).val / 256 < cfg0.N := lt_of_lt_of_eq (show _ < 136 by omega) N_0.symm
  refine ⟨⟨_, hN⟩, flush0_12 _, ?_⟩
  show i ∈ ((View.whole main_v19_5).slice (win0_12.rect ⟨_, hN⟩)).set
  rw [View.set_slice_whole, Rect.mem_set_unit]
  intro a
  show win0_12.index ⟨_, hN⟩ a * _ ≤ _ ∧ _ < win0_12.index ⟨_, hN⟩ a * _ + _
  rw [at12]
  match a with
  | ⟨0, _⟩ => show (17 * (i 0).val + (i 1).val / 256) / 17 * 1 ≤ (i 0).val ∧ (i 0).val < (17 * (i 0).val + (i 1).val / 256) / 17 * 1 + 1; omega
  | ⟨1, _⟩ => show (17 * (i 0).val + (i 1).val / 256) % 17 * 256 ≤ (i 1).val ∧ (i 1).val < (17 * (i 0).val + (i 1).val / 256) % 17 * 256 + 256; omega
  | ⟨2, _⟩ => show 0 * 512 ≤ (i 2).val ∧ (i 2).val < 0 * 512 + 512; omega

theorem final12 (c : Dev nD) : (dats m 0 c).arrAt 12 cfg0.N = res12 m c :=
  (dats m 0 c).arrAt_eq_of_cover 12 (res12 m c) (fun t _ => flushed12_eq m c t) cover12

/-- The run's final state: the result arrays' contents, and the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v19_0) = res7 m c
      ∧ r.2.mem ((c.tc : Thread nD τ).loc main_v19_1) = res8 m c
      ∧ r.2.mem ((c.tc : Thread nD τ).loc main_v19_2) = res9 m c
      ∧ r.2.mem ((c.tc : Thread nD τ).loc main_v19_3) = res10 m c
      ∧ r.2.mem ((c.tc : Thread nD τ).loc main_v19_4) = res11 m c
      ∧ r.2.mem ((c.tc : Thread nD τ).loc main_v19_5) = res12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 7).trans (final7 m c), ((h.1 c).1 8).trans (final8 m c), ((h.1 c).1 9).trans (final9 m c), ((h.1 c).1 10).trans (final10 m c), ((h.1 c).1 11).trans (final11 m c), ((h.1 c).1 12).trans (final12 m c), h.2 c⟩)
    (θ_run_and (run_main m ρ) (unchanged m ρ))

end Cert.Kernel5Ideal.Hand
end
-- ==== Proof.Kernel5Ideal.Lanes.lean ====
/-
  The decay gates from finite parameters: the lanes that hold zeros add nothing, and the split factors give the product.
-/
module

public import proofs.«01_k».proof.Proof.Kernel5Ideal.Reads

@[expose] public section

noncomputable section

namespace Cert.Kernel5Ideal.Hand

open Cert.Kernel5Ideal Cert.Kernel5Ideal.Gen
open Idealize.ShloMosaic Idealize.ShloMosaic.TcCoe
open Cert.Gates (logSig IsReal)

/-- A sum over 128 lanes of which all but sixteen in a row are zero. -/
theorem sum_lanes (f : Fin 128 → EReal) (o : ℕ) (ho : o + 16 ≤ 128) (h : ∀ l : Fin 128, ¬ (o ≤ l.val ∧ l.val < o + 16) → f l = 0) :
    ∑ l, f l = ∑ j : Fin 16, f ⟨o + j.val, by omega⟩ := by
  refine (Finset.sum_of_injOn (fun j : Fin 16 => (⟨o + j.val, by omega⟩ : Fin 128)) ?_ ?_ ?_ ?_).symm
  · intro i _ j _ hij
    have e : o + i.val = o + j.val := congrArg Fin.val hij
    exact Fin.ext (by omega)
  · intro i _
    exact Finset.mem_coe.2 (Finset.mem_univ _)
  · intro l _ hl
    refine h l fun hh => hl ⟨⟨l.val - o, by omega⟩, Finset.mem_coe.2 (Finset.mem_univ _), Fin.ext ?_⟩
    show o + (l.val - o) = l.val
    omega
  · intro i _
    rfl

variable (X0 : FVec Ideal S8x4352x1024 .f32) (X1 : FVec Ideal S8x2x6x1024 .f32) (X2 : FVec Ideal S1024 .f32) (X3 : FVec Ideal S1024x3104 .f32)
  (X4 : FVec Ideal S16x512 .f32) (X5 : FVec Ideal S512 .f32) (X6 : FVec Ideal S16x512 .f32) (X7 : FVec Ideal S512 .f32)

/-- A decay gate: sixteen columns of the projection, from column `3072 + o` on, times the gate's weights, plus its bias; the
    logarithm of the sigmoid of that, over sixteen. -/
def gateOf (o : ℕ) (ho : o ≤ 16) (W : FVec Ideal S16x512 .f32) (B : FVec Ideal S512 .f32) (b : Fin 8) (q : Fin 4352) (n : Fin 512) : EReal :=
  Ideal.div (logSig ((∑ j : Fin 16, column X0 X1 X2 X3 b q ⟨3072 + (o + j.val), by omega⟩ * W (ix2 j n)) + B (ix1 n))) (Ideal.ofBits .f32 0x41800000#32)

/-- The forward gates. -/
def gatesF : FVec Ideal S8x4352x512 .f32 := fun i => gateOf X0 X1 X2 X3 0 (by omega) X4 X5 (i 0) (i 1) (i 2)
/-- The backward gates. -/
def gatesB : FVec Ideal S8x4352x512 .f32 := fun i => gateOf X0 X1 X2 X3 16 (by omega) X6 X7 (i 0) (i 1) (i 2)

/-- The parameters the gates rest on are real: shift and scale of the modulation, the norm's gain, the projection's last 32
    columns, and the weights of both gates. -/
structure Reals : Prop where
  shift : ∀ b s d, IsReal (X1 (ix4 b s 0 d))
  scale : ∀ b s d, IsReal (X1 (ix4 b s 1 d))
  gain : ∀ i, IsReal (X2 i)
  low : ∀ (d : Fin 1024) (l : Fin 32), IsReal (X3 (ix2 d ⟨3072 + l.val, by omega⟩))
  forward : ∀ i, IsReal (X4 i)
  backward : ∀ i, IsReal (X6 i)

variable {X1 X2 X3 X4 X6} (hR : Reals X1 X2 X3 X4 X6)
include hR

theorem feature_real (b : Fin 8) (q : Fin 4352) (d : Fin 1024) : IsReal (feature X0 X1 X2 b q d) :=
  Cert.Gates.modulated_real _ _ _ _ (fun _ => hR.gain _) (fun _ => hR.shift _ _ _) (fun _ => hR.scale _ _ _) d

theorem lowW_real (d : Fin 1024) (l : Fin 128) : IsReal (lowW X3 d l) := by
  unfold lowW
  by_cases h : l.val < 32
  · rw [dif_pos h]; exact hR.low d ⟨l.val, h⟩
  · rw [dif_neg h]; exact IsReal.zero

theorem highW_real (l : Fin 128) (n : Fin 1024) : IsReal (highW X4 X6 l n) := by
  unfold highW
  by_cases h : (16 ≤ l.val ∧ l.val - 16 < 16) ∧ 512 ≤ n.val
  · rw [dif_pos h]; exact hR.backward _
  rw [dif_neg h]
  by_cases h' : l.val < 16 ∧ n.val < 512
  · rw [dif_pos h']; exact hR.forward _
  · rw [dif_neg h']; exact IsReal.zero

theorem low_real (b : Fin 8) (q : Fin 4352) (l : Fin 128) : IsReal (dotAt (feature X0 X1 X2 b q) (fun d => lowW X3 d l)) :=
  IsReal.sum fun d => (feature_real X0 hR b q d).mul (lowW_real hR d l)

theorem split_eq (b : Fin 8) (q : Fin 4352) (n : Fin 1024) :
    splitDot (fun l => dotAt (feature X0 X1 X2 b q) (fun d => lowW X3 d l)) (fun l => highW X4 X6 l n)
      = ∑ l : Fin 128, dotAt (feature X0 X1 X2 b q) (fun d => lowW X3 d l) * highW X4 X6 l n :=
  Cert.Gates.split_product _ _ (low_real X0 hR b q) (fun l => highW_real hR l n)

omit hR in
theorem low_column (b : Fin 8) (q : Fin 4352) (k : ℕ) (hk : k < 32) (hl : k < 128) (hc : 3072 + k < 3104) :
    dotAt (feature X0 X1 X2 b q) (fun d => lowW X3 d ⟨k, hl⟩) = column X0 X1 X2 X3 b q ⟨3072 + k, hc⟩ := by
  refine congrArg (dotAt _) (funext fun d => ?_)
  unfold lowW
  rw [dif_pos hk]

theorem laneF_eq : laneF X0 X1 X2 X3 X4 X5 X6 X7 = gatesF X0 X1 X2 X3 X4 X5 := by
  funext i
  have hn : (i 2).val < 512 := (i 2).isLt
  unfold laneF gatesF laneGate gateOf
  refine congrArg (fun p => Ideal.div (logSig p) (Ideal.ofBits .f32 0x41800000#32)) (congrArg₂ (fun a b : EReal => a + b) ?_ ?_)
  · refine (split_eq X0 hR (i 0) (i 1) _).trans ?_
    refine (sum_lanes _ 0 (by omega) fun l hl => ?_).trans (Finset.sum_congr rfl fun j _ => ?_)
    · have hz : highW X4 X6 l ⟨(i 2).val, by omega⟩ = 0 := by
        unfold highW
        rw [dif_neg (fun h => absurd h.2 (by show ¬ 512 ≤ (i 2).val; omega)), dif_neg (fun h => hl ⟨Nat.zero_le _, by omega⟩)]
      rw [hz, mul_zero]
    · refine congrArg₂ (fun a b : EReal => a * b) (low_column X0 (i 0) (i 1) (0 + j.val) (by omega) _ _) ?_
      unfold highW
      rw [dif_neg (fun h => absurd h.2 (by show ¬ 512 ≤ (i 2).val; omega)), dif_pos ⟨show 0 + j.val < 16 by omega, hn⟩]
      refine congrArg X4 (funext fun a => Fin.ext ?_)
      match a with
      | ⟨0, _⟩ => show 0 + j.val = j.val; omega
      | ⟨1, _⟩ => rfl
  · unfold bias
    rw [dif_pos (show (i 2).val < 512 from hn)]
    rfl

theorem laneB_eq : laneB X0 X1 X2 X3 X4 X5 X6 X7 = gatesB X0 X1 X2 X3 X6 X7 := by
  funext i
  have hn : (i 2).val < 512 := (i 2).isLt
  unfold laneB gatesB laneGate gateOf
  refine congrArg (fun p => Ideal.div (logSig p) (Ideal.ofBits .f32 0x41800000#32)) (congrArg₂ (fun a b : EReal => a + b) ?_ ?_)
  · refine (split_eq X0 hR (i 0) (i 1) _).trans ?_
    refine (sum_lanes _ 16 (by omega) fun l hl => ?_).trans (Finset.sum_congr rfl fun j _ => ?_)
    · have hz : highW X4 X6 l ⟨512 + (i 2).val, by omega⟩ = 0 := by
        unfold highW
        rw [dif_neg (fun h => hl ⟨h.1.1, by have := h.1.2; omega⟩), dif_neg (fun h => absurd h.2 (by show ¬ 512 + (i 2).val < 512; omega))]
      rw [hz, mul_zero]
    · refine congrArg₂ (fun a b : EReal => a * b) (low_column X0 (i 0) (i 1) (16 + j.val) (by omega) _ _) ?_
      unfold highW
      rw [dif_pos ⟨⟨show 16 ≤ 16 + j.val by omega, show 16 + j.val - 16 < 16 by omega⟩, show 512 ≤ 512 + (i 2).val by omega⟩]
      refine congrArg X6 (funext fun a => Fin.ext ?_)
      match a with
      | ⟨0, _⟩ => show 16 + j.val - 16 = j.val; omega
      | ⟨1, _⟩ => show 512 + (i 2).val - 512 = (i 2).val; omega
  · unfold bias
    rw [dif_neg (show ¬ 512 + (i 2).val < 512 by omega)]
    refine congrArg X7 (funext fun a => Fin.ext ?_)
    match a with | ⟨0, _⟩ => show 512 + (i 2).val - 512 = (i 2).val; omega

end Cert.Kernel5Ideal.Hand

end
-- ==== Proof.Reference5.lean ====
/-
  The reference's projection of the gated linear attention, entry by entry, over the extended reals.
-/
module

public import proofs.«01_k».proof.Proof.Gen.Reference5Ideal
public import proofs.«01_k».proof.Proof.Gen.Reference5Ideal.Run
public import proofs.«01_k».proof.Proof.Gen.Reference5Ideal.Read
public import proofs.«01_k».proof.Proof.Kernel5Ideal.Lanes
public import proofs.«01_k».proof.Proof.Reference4

@[expose] public section

set_option maxRecDepth 16384

noncomputable section

namespace Cert.Reference5Ideal.Hand

open Cert.Reference5Ideal Cert.Reference5Ideal.Gen Cert.Reference5Ideal.Read
open Idealize.ShloMosaic Idealize.ShloMosaic.TcCoe
open Cert.Kernel5Ideal.Hand (feature column queries keys values outGate gateOf gatesF gatesB)
open Cert.Gates (logSig logSig_eq)
open Cert.Reference2Ideal.Hand (zero_bits)

variable (x0 : FVec Ideal S8x4352x1024 .f32) (x1 : FVec Ideal S8x2x6x1024 .f32) (x2 : FVec Ideal S1024 .f32) (x3 : FVec Ideal S1024x3104 .f32)
  (x4 : FVec Ideal S16x512 .f32) (x5 : FVec Ideal S512 .f32) (x6 : FVec Ideal S16x512 .f32) (x7 : FVec Ideal S512 .f32)

/-- The modulated tokens are those of the attention's projection. -/
theorem v35_eq : val_main_v35 (F := Ideal) x0 x1 x2 = Cert.Reference4Ideal.Read.val_main_v35 (F := Ideal) x0 x1 x2 := rfl

/-- The projection. -/
theorem v36_at (b : Fin 8) (q : Fin 4352) (n : Fin 3104) :
    val_main_v36 (F := Ideal) x0 x1 x2 x3 (ix3 b q n) = column x0 x1 x2 x3 b q n := by
  rw [val_main_v36_apply]
  refine Finset.sum_congr rfl fun d _ => ?_
  have hl : lidx_main_v36 (ix3 b q n) d = ix3 b q d := by
    funext a; match a with | ⟨0, _⟩ => rfl | ⟨1, _⟩ => rfl | ⟨2, _⟩ => rfl
  have hr : ridx_main_v36 (ix3 b q n) d = ix2 d n := by
    funext a; match a with | ⟨0, _⟩ => rfl | ⟨1, _⟩ => rfl
  rw [hl, hr, v35_eq, Cert.Reference4Ideal.Hand.v35_at]
  rfl

theorem queries_eq : val_main_v59 (F := Ideal) x0 x1 x2 x3 = queries x0 x1 x2 x3 := by
  funext i
  rw [val_main_v59_apply, val_main_v58_apply, val_main_v37_apply]
  have hi : (i 2).val < 512 := (i 2).isLt
  have h : idx_main_v37 i = ix3 (i 0) (i 1) ⟨(i 2).val, by omega⟩ := by
    funext a; match a with | ⟨0, _⟩ => rfl | ⟨1, _⟩ => rfl | ⟨2, _⟩ => rfl
  refine congrArg₂ (fun a b : EReal => a * b) ((congrArg (val_main_v36 (F := Ideal) x0 x1 x2 x3) h).trans (v36_at x0 x1 x2 x3 _ _ _)) ?_
  rw [val_main_v57_apply]
  rfl

theorem keys_eq : val_main_v60 (F := Ideal) x0 x1 x2 x3 = keys x0 x1 x2 x3 := by
  funext i
  rw [val_main_v60_apply, val_main_v38_apply]
  have hi : (i 2).val < 512 := (i 2).isLt
  have h : idx_main_v38 i = ix3 (i 0) (i 1) ⟨512 + (i 2).val, by omega⟩ := by
    funext a; match a with | ⟨0, _⟩ => rfl | ⟨1, _⟩ => rfl | ⟨2, _⟩ => rfl
  exact (congrArg (val_main_v36 (F := Ideal) x0 x1 x2 x3) h).trans (v36_at x0 x1 x2 x3 _ _ _)

theorem values_eq : val_main_v61 (F := Ideal) x0 x1 x2 x3 = values x0 x1 x2 x3 := by
  funext i
  rw [val_main_v61_apply, val_main_v39_apply]
  have hi : (i 2).val < 1024 := (i 2).isLt
  have h : idx_main_v39 i = ix3 (i 0) (i 1) ⟨1024 + (i 2).val, by omega⟩ := by
    funext a; match a with | ⟨0, _⟩ => rfl | ⟨1, _⟩ => rfl | ⟨2, _⟩ => rfl
  exact (congrArg (val_main_v36 (F := Ideal) x0 x1 x2 x3) h).trans (v36_at x0 x1 x2 x3 _ _ _)

theorem outGate_eq : val_main_v62 (F := Ideal) x0 x1 x2 x3 = outGate x0 x1 x2 x3 := by
  funext i
  rw [val_main_v62_apply, val_main_v40_apply]
  have hi : (i 2).val < 1024 := (i 2).isLt
  have h : idx_main_v40 i = ix3 (i 0) (i 1) ⟨2048 + (i 2).val, by omega⟩ := by
    funext a; match a with | ⟨0, _⟩ => rfl | ⟨1, _⟩ => rfl | ⟨2, _⟩ => rfl
  exact (congrArg (val_main_v36 (F := Ideal) x0 x1 x2 x3) h).trans (v36_at x0 x1 x2 x3 _ _ _)

/-! ## The gates -/

/-- The logarithm of the sigmoid as the reference computes it: its test for a value that is no number never holds. -/
theorem log_sigmoid (p z y : EReal) (hz : z = 0) :
    -(Scalar.select (Ideal.cmp .une (-p - z) (-p - z)) y (max (-p) z + Ideal.log1p (Ideal.exp (-(max (-p - z) (-(-p - z))))))) = logSig p := by
  subst hz
  have hne : Ideal.cmp .une (-p - 0) (-p - 0) = 0#1 := by
    show BitVec.ofBool (decide (-p - 0 ≠ -p - 0)) = 0#1
    rw [decide_eq_false (fun h => h rfl)]
    rfl
  rw [hne]
  exact logSig_eq p

theorem v41_at (b : Fin 8) (q : Fin 4352) (j : Fin 16) :
    val_main_v41 (F := Ideal) x0 x1 x2 x3 (ix3 b q j) = column x0 x1 x2 x3 b q ⟨3072 + (0 + j.val), by omega⟩ := by
  rw [val_main_v41_apply]
  refine Eq.trans (congrArg _ (show _ = ix3 b q ⟨3072 + (0 + j.val), by omega⟩ from ?_)) (v36_at x0 x1 x2 x3 b q _)
  funext a
  apply Fin.ext
  match a with
  | ⟨0, _⟩ => rfl
  | ⟨1, _⟩ => rfl
  | ⟨2, _⟩ => show 3072 + j.val = 3072 + (0 + j.val); omega

theorem v46_at (b : Fin 8) (q : Fin 4352) (n : Fin 512) :
    val_main_v46 (F := Ideal) x0 x1 x2 x3 x4 x5 (ix3 b q n)
      = (∑ j : Fin 16, column x0 x1 x2 x3 b q ⟨3072 + (0 + j.val), by omega⟩ * x4 (ix2 j n)) + x5 (ix1 n) := by
  rw [val_main_v46_apply, val_main_v43_apply, val_main_v45_apply, val_main_v44_apply]
  refine congrArg₂ (fun a b : EReal => a + b) (Finset.sum_congr rfl fun j _ => congrArg₂ (fun a b : EReal => a * b) ?_ ?_) ?_
  · refine Eq.trans (congrArg _ (show _ = ix3 b q j from ?_)) (v41_at x0 x1 x2 x3 b q j)
    funext a; match a with | ⟨0, _⟩ => rfl | ⟨1, _⟩ => rfl | ⟨2, _⟩ => rfl
  · refine congrArg x4 ?_
    funext a; match a with | ⟨0, _⟩ => rfl | ⟨1, _⟩ => rfl
  · refine congrArg x5 ?_
    funext a; match a with | ⟨0, _⟩ => rfl

theorem gatesF_eq : val_main_v49 (F := Ideal) x0 x1 x2 x3 x4 x5 = gatesF x0 x1 x2 x3 x4 x5 := by
  funext i
  have hi : i = ix3 (i 0) (i 1) (i 2) := by
    funext a; match a with | ⟨0, _⟩ => rfl | ⟨1, _⟩ => rfl | ⟨2, _⟩ => rfl
  have hp : val_main_v46 (F := Ideal) x0 x1 x2 x3 x4 x5 i
      = (∑ j : Fin 16, column x0 x1 x2 x3 (i 0) (i 1) ⟨3072 + (0 + j.val), by omega⟩ * x4 (ix2 j (i 2))) + x5 (ix1 (i 2)) :=
    (congrArg (val_main_v46 (F := Ideal) x0 x1 x2 x3 x4 x5) hi).trans (v46_at x0 x1 x2 x3 x4 x5 (i 0) (i 1) (i 2))
  unfold gatesF gateOf
  rw [val_main_v49_apply, val_main_v48_apply]
  refine congrArg (fun p : EReal => Ideal.div p (Ideal.ofBits .f32 0x41800000#32)) (Eq.trans ?_ (congrArg logSig hp))
  rw [val_main_v47_apply, val_main_call0_v1_apply, val_main_call0_call0_v4_apply, val_main_call0_call0_v11_apply,
    val_main_call0_call0_v10_apply, val_main_call0_call0_v9_apply, val_main_call0_call0_v8_apply, val_main_call0_call0_v7_apply,
    val_main_call0_call0_v3_apply, val_main_call0_call0_v1_apply, val_main_call0_call0_v2_apply, val_main_call0_call0_v0_apply, val_main_call0_v0_apply]
  generalize val_main_v46 (F := Ideal) x0 x1 x2 x3 x4 x5 i = p
  exact log_sigmoid p (Ideal.ofBits .f32 0x00000000#32) _ zero_bits

theorem v42_at (b : Fin 8) (q : Fin 4352) (j : Fin 16) :
    val_main_v42 (F := Ideal) x0 x1 x2 x3 (ix3 b q j) = column x0 x1 x2 x3 b q ⟨3072 + (16 + j.val), by omega⟩ := by
  rw [val_main_v42_apply]
  refine Eq.trans (congrArg _ (show _ = ix3 b q ⟨3072 + (16 + j.val), by omega⟩ from ?_)) (v36_at x0 x1 x2 x3 b q _)
  funext a
  apply Fin.ext
  match a with
  | ⟨0, _⟩ => rfl
  | ⟨1, _⟩ => rfl
  | ⟨2, _⟩ => show 3088 + j.val = 3072 + (16 + j.val); omega

theorem v53_at (b : Fin 8) (q : Fin 4352) (n : Fin 512) :
    val_main_v53 (F := Ideal) x0 x1 x2 x3 x6 x7 (ix3 b q n)
      = (∑ j : Fin 16, column x0 x1 x2 x3 b q ⟨3072 + (16 + j.val), by omega⟩ * x6 (ix2 j n)) + x7 (ix1 n) := by
  rw [val_main_v53_apply, val_main_v50_apply, val_main_v52_apply, val_main_v51_apply]
  refine congrArg₂ (fun a b : EReal => a + b) (Finset.sum_congr rfl fun j _ => congrArg₂ (fun a b : EReal => a * b) ?_ ?_) ?_
  · refine Eq.trans (congrArg _ (show _ = ix3 b q j from ?_)) (v42_at x0 x1 x2 x3 b q j)
    funext a; match a with | ⟨0, _⟩ => rfl | ⟨1, _⟩ => rfl | ⟨2, _⟩ => rfl
  · refine congrArg x6 ?_
    funext a; match a with | ⟨0, _⟩ => rfl | ⟨1, _⟩ => rfl
  · refine congrArg x7 ?_
    funext a; match a with | ⟨0, _⟩ => rfl

theorem gatesB_eq : val_main_v56 (F := Ideal) x0 x1 x2 x3 x6 x7 = gatesB x0 x1 x2 x3 x6 x7 := by
  funext i
  have hi : i = ix3 (i 0) (i 1) (i 2) := by
    funext a; match a with | ⟨0, _⟩ => rfl | ⟨1, _⟩ => rfl | ⟨2, _⟩ => rfl
  have hp : val_main_v53 (F := Ideal) x0 x1 x2 x3 x6 x7 i
      = (∑ j : Fin 16, column x0 x1 x2 x3 (i 0) (i 1) ⟨3072 + (16 + j.val), by omega⟩ * x6 (ix2 j (i 2))) + x7 (ix1 (i 2)) :=
    (congrArg (val_main_v53 (F := Ideal) x0 x1 x2 x3 x6 x7) hi).trans (v53_at x0 x1 x2 x3 x6 x7 (i 0) (i 1) (i 2))
  unfold gatesB gateOf
  rw [val_main_v56_apply, val_main_v55_apply]
  refine congrArg (fun p : EReal => Ideal.div p (Ideal.ofBits .f32 0x41800000#32)) (Eq.trans ?_ (congrArg logSig hp))
  rw [val_main_v54_apply, val_main_call1_v1_apply, val_main_call1_call0_v4_apply, val_main_call1_call0_v11_apply,
    val_main_call1_call0_v10_apply, val_main_call1_call0_v9_apply, val_main_call1_call0_v8_apply, val_main_call1_call0_v7_apply,
    val_main_call1_call0_v3_apply, val_main_call1_call0_v1_apply, val_main_call1_call0_v2_apply, val_main_call1_call0_v0_apply, val_main_call1_v0_apply]
  generalize val_main_v53 (F := Ideal) x0 x1 x2 x3 x6 x7 i = p
  exact log_sigmoid p (Ideal.ofBits .f32 0x00000000#32) _ zero_bits

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run _ _ _).mono (fun r h => ⟨fun c => (h c).2.2.2.2.2.2, sem_eq_zero_of_no_sems (by decide) r.2⟩) (Cert.Reference5Ideal.Value.run m ρ)

end Cert.Reference5Ideal.Hand

end
-- ==== Proof.FiniteGates.lean ====
/-
  What the precondition of the gated linear attention's projection says: the parameters the decay gates rest on are real.
-/
module

public import proofs.«01_k».proof.Defs
public import proofs.«01_k».proof.Proof.Gen.Pre_finite_gates
public import proofs.«01_k».proof.Proof.Kernel5Ideal.Lanes
public import Idealize.ShloMosaic.Lib.ReduceAll
public import Idealize.ShloMosaic.Lib.Pointwise

@[expose] public section

noncomputable section

namespace Cert.FiniteGates

open Idealize.ShloMosaic Cert.Pre_finite_gates Cert.Pre_finite_gates.Facts
open Cert.Gates (IsReal)

instance : Subsingleton S_.Idx := ⟨fun a b => funext fun d => d.elim0⟩

theorem top_bits : Ideal.ofBits .f32 0x7F800000#32 = ⊤ := by simp [Ideal.ofBits, Ideal.ieee]

/-- A value whose absolute value is below infinity is a real number. -/
theorem real_of_abs {x : EReal} (h : Ideal.cmp .olt (max x (-x)) (Ideal.ofBits .f32 0x7F800000#32) = 1#1) : IsReal x := by
  have hlt : max x (-x) < ⊤ := by
    rw [top_bits] at h
    by_contra hn
    have h' : Ideal.cmp .olt (max x (-x)) ⊤ = 0#1 := by
      show BitVec.ofBool (decide (max x (-x) < ⊤)) = 0#1
      rw [decide_eq_false hn]; rfl
    rw [h'] at h
    exact absurd h (by decide)
  obtain ⟨h1, h2⟩ := max_lt_iff.1 hlt
  induction x with
  | bot => simp at h2
  | top => simp at h1
  | coe r => exact ⟨r, rfl⟩

theorem of_fn [Cert.Pre_finite_gates.Facts] (x0 : FVec Ideal S8x4352x1024 .f32) (x1 : FVec Ideal S8x2x6x1024 .f32) (x2 : FVec Ideal S1024 .f32)
    (x3 : FVec Ideal S1024x3104 .f32) (x4 : FVec Ideal S16x512 .f32) (x5 : FVec Ideal S512 .f32) (x6 : FVec Ideal S16x512 .f32) (x7 : FVec Ideal S512 .f32)
    (h : fn x0 x1 x2 x3 x4 x5 x6 x7 (fun d => d.elim0) = 1#1) : Cert.Kernel5Ideal.Hand.Reals x1 x2 x3 x4 x6 := by
  obtain ⟨h20, h24⟩ := IntOp.andi_eq_one.1 h
  obtain ⟨h15, h19⟩ := IntOp.andi_eq_one.1 h20
  obtain ⟨h9, h14⟩ := IntOp.andi_eq_one.1 h15
  obtain ⟨h4, h8⟩ := IntOp.andi_eq_one.1 h9
  have hm := fun i => real_of_abs (Host.reduce_andi_all _ _ _ _ _ h4 i)
  have hg := fun i => real_of_abs (Host.reduce_andi_all _ _ _ _ _ h8 i)
  have hw := fun i => real_of_abs (Host.reduce_andi_all _ _ _ _ _ h14 i)
  have hf := fun i => real_of_abs (Host.reduce_andi_all _ _ _ _ _ h19 i)
  have hb := fun i => real_of_abs (Host.reduce_andi_all _ _ _ _ _ h24 i)
  refine ⟨fun b s d => ?_, fun b s d => ?_, hg, fun d l => ?_, hf, hb⟩
  · have e := hm (ix4 b s 0 d)
    refine (congrArg (fun i => IsReal (x1 i)) (funext fun a => Fin.ext ?_)).mp e
    match a with
    | ⟨0, _⟩ => show 0 + b.val = b.val; omega
    | ⟨1, _⟩ => show 0 + s.val = s.val; omega
    | ⟨2, _⟩ => rfl
    | ⟨3, _⟩ => show 0 + d.val = d.val; omega
  · have e := hm (ix4 b s 1 d)
    refine (congrArg (fun i => IsReal (x1 i)) (funext fun a => Fin.ext ?_)).mp e
    match a with
    | ⟨0, _⟩ => show 0 + b.val = b.val; omega
    | ⟨1, _⟩ => show 0 + s.val = s.val; omega
    | ⟨2, _⟩ => rfl
    | ⟨3, _⟩ => show 0 + d.val = d.val; omega
  · have e := hw (ix2 d l)
    refine (congrArg (fun i => IsReal (x3 i)) (funext fun a => Fin.ext ?_)).mp e
    match a with
    | ⟨0, _⟩ => show 0 + d.val = d.val; omega
    | ⟨1, _⟩ => rfl

end Cert.FiniteGates

end
-- ==== Proof.Kernel6Ideal.Value.lean ====
/-
  What the modulation table's call leaves, entry by entry, over the extended reals.
-/
module

public import proofs.«01_k».proof.Proof.Gen.Kernel6Ideal.Frame
public import proofs.«01_k».proof.Proof.Gates
public import proofs.«01_k».proof.Proof.Kernel3Ideal.Value
public import Idealize.ShloMosaic.Lib.Pointwise
public import Idealize.ShloMosaic.Lib.Quiescent
public import Idealize.ShloMosaic.Lib.Claim

@[expose] public section

set_option maxRecDepth 16384

noncomputable section

namespace Cert.Kernel6Ideal.Hand

open Cert.Kernel6Ideal Cert.Kernel6Ideal.Gen
open Idealize.ShloMosaic Idealize.ShloMosaic.TcCoe
open Idealize.ShloMosaic.Pipeline (Window Dat)
open Cert.Kernel3Ideal.Hand (silu)
open Cert.Gates (IsReal)

/-! ## A product of split factors -/

/-- The three products of a sum's split factors: value by value, value by rest, rest by value. -/
def threefold (a w : Fin 1024 → EReal) : EReal :=
  (∑ k, a k * w k) + (∑ k, a k * (w k - w k)) + ∑ k, (a k - a k) * w k

/-- `silu` of anything but plus infinity is real: of minus infinity it is zero. -/
theorem silu_real {c : EReal} (hc : c ≠ ⊤) : IsReal (silu c) := by
  unfold silu Ideal.div
  induction c with
  | top => exact absurd rfl hc
  | bot =>
    have h : (1 : EReal) + Ideal.exp (0 - ⊥) = ⊤ := by
      show (1 : EReal) + Ideal.exp (0 + -⊥) = ⊤
      rw [EReal.neg_bot, zero_add]
      exact EReal.coe_add_top 1
    rw [h, if_neg EReal.top_ne_zero, EReal.inv_top, mul_zero, mul_zero]
    exact IsReal.zero
  | coe r =>
    have h : (1 : EReal) + Ideal.exp (0 - (r : EReal)) = ((1 + Real.exp (-r) : ℝ) : EReal) := by
      rw [zero_sub, ← EReal.coe_neg]
      rfl
    have hp : (0 : ℝ) < 1 + Real.exp (-r) := by positivity
    rw [h, if_neg (by exact_mod_cast hp.ne'), ← EReal.coe_inv]
    exact IsReal.mul ⟨r, rfl⟩ (IsReal.mul IsReal.one ⟨_, rfl⟩)

/-- Adding a real factor times what is left of a weight below plus infinity changes nothing: of a real weight zero is left,
    of minus infinity minus infinity. -/
theorem rest_absorbed {a w : EReal} (ha : IsReal a) (hw : w ≠ ⊤) : a * w + a * (w - w) = a * w := by
  obtain ⟨r, rfl⟩ := ha
  induction w with
  | top => exact absurd rfl hw
  | coe s => rw [IsReal.sub_self ⟨s, rfl⟩, mul_zero, add_zero]
  | bot =>
    rw [show (⊥ : EReal) - ⊥ = ⊥ from EReal.bot_sub _]
    rcases lt_trichotomy r 0 with h | h | h
    · rw [EReal.coe_mul_bot_of_neg h]; rfl
    · subst h; rw [EReal.coe_zero, zero_mul, add_zero]
    · rw [EReal.coe_mul_bot_of_pos h]; rfl

/-- From real factors and weights below plus infinity the three products give the product. -/
theorem threefold_eq {a w : Fin 1024 → EReal} (ha : ∀ k, IsReal (a k)) (hw : ∀ k, w k ≠ ⊤) : threefold a w = ∑ k, a k * w k := by
  unfold threefold
  have h : (∑ k, (a k - a k) * w k) = 0 := Finset.sum_eq_zero fun k _ => by rw [(ha k).sub_self, zero_mul]
  rw [h, add_zero, ← Finset.sum_add_distrib]
  exact Finset.sum_congr rfl fun k _ => rest_absorbed (ha k) (hw k)

/-! ## One block -/

section Block

variable (x0 : Vec Ideal S16x1024 .f32) (x1 : Vec Ideal S1x1024x1536 .f32) (x2 : Vec Ideal S1x1x1536 .f32)

theorem pay_at (r : Fin 16) (n : Fin 1536) :
    k0_pay1 x0 x1 x2 (ix3 0 r n) = threefold (fun k => silu (x0 (ix2 r k))) (fun k => x1 (ix3 0 k n)) + x2 (ix3 0 0 n) := by
  pointwise [k0_pay1]
  rfl

/-- The output block. -/
theorem out_at (r : Fin 16) (n : Fin 1536) :
    out0_3 x0 x1 x2 (ix3 0 r n) = threefold (fun k => silu (x0 (ix2 r k))) (fun k => x1 (ix3 0 k n)) + x2 (ix3 0 0 n) := by
  have z2 : (![0, 0] : Fin 2 → ℕ) = fun _ => 0 := funext fun a => by fin_cases a <;> rfl
  have z3 : (![0, 0, 0] : Fin 3 → ℕ) = fun _ => 0 := funext fun a => by fin_cases a <;> rfl
  unfold out0_3
  rw [View.canon_unit_zero z3]
  simp only [View.ld_unit_zero (S := S16x1024) z2, View.ld_unit_zero (S := S1x1024x1536) z3, View.ld_unit_zero (S := S1x1x1536) z3]
  exact pay_at x0 x1 x2 r n

end Block

/-! ## The blocks a point reads -/

variable (m : (ℓ : Loc nD τ sig) → Buf (Elt Ideal) ℓ)

theorem at0 : ∀ t : Fin grid0.N, win0_0.index t = ![0, 0] := by decide +kernel
theorem at1 : ∀ t : Fin grid0.N, win0_1.index t = ![t.val / 4, 0, t.val % 4] := by decide +kernel
theorem at2 : ∀ t : Fin grid0.N, win0_2.index t = ![t.val / 4, 0, t.val % 4] := by decide +kernel
theorem at3 : ∀ t : Fin grid0.N, win0_3.index t = ![t.val / 4, 0, t.val % 4] := by decide +kernel

theorem lt_N (t : Fin cfg0.N) : t.val < 16 := by have h := t.isLt; exact lt_of_lt_of_eq h N_0

/-- The layer of a point. -/
def lay (t : Fin cfg0.N) : Fin 4 := ⟨t.val / 4, by have := lt_N t; omega⟩
/-- The table's column of column `n` of a point's block. -/
def col (t : Fin cfg0.N) (n : Fin 1536) : Fin 6144 := ⟨1536 * (t.val % 4) + n.val, by omega⟩

theorem blk0_at (c : Dev nD) (t : Fin cfg0.N) (r : Fin 16) (k : Fin 1024) :
    iblk m c 0 t (ix2 r k) = m ((c : Thread nD τ).loc main_arg0) (ix2 r k) := by
  show V m c main_arg0 ((win0_0.rect t).emb (ix2 r k)) = _
  rw [V_main_arg0]
  congr 1
  funext a
  apply Fin.ext
  refine (Window.rect_emb_val win0_0 t _ a).trans ?_
  rw [at0 t]
  match a with
  | ⟨0, _⟩ => show 0 * 16 + r.val = r.val; omega
  | ⟨1, _⟩ => show 0 * 1024 + k.val = k.val; omega

theorem blk1_at (c : Dev nD) (t : Fin cfg0.N) (k : Fin 1024) (n : Fin 1536) :
    iblk m c 1 t (ix3 0 k n) = m ((c : Thread nD τ).loc main_arg1) (ix3 (lay t) k (col t n)) := by
  show V m c main_arg1 ((win0_1.rect t).emb (ix3 0 k n)) = _
  rw [V_main_arg1]
  congr 1
  funext a
  apply Fin.ext
  refine (Window.rect_emb_val win0_1 t _ a).trans ?_
  rw [at1 t]
  match a with
  | ⟨0, _⟩ => show t.val / 4 * 1 + 0 = t.val / 4; omega
  | ⟨1, _⟩ => show 0 * 1024 + k.val = k.val; omega
  | ⟨2, _⟩ => show t.val % 4 * 1536 + n.val = 1536 * (t.val % 4) + n.val; omega

/-- The biases as the call finds them: a unit axis more. -/
theorem V_main_v0_at (c : Dev nD) (l : Fin 4) (e : Fin 6144) : V m c main_v0 (ix3 l 0 e) = m ((c : Thread nD τ).loc main_arg2) (ix2 l e) := by
  rw [show V m c main_v0 = shapeCast S4x1x6144 (m ((c : Thread nD τ).loc main_arg2)) shapeCasts_S4x6144_S4x1x6144 from rfl]
  exact shapeCast_apply (s := S4x6144) (t := S4x1x6144) _ _ _ _ (by
    rw [Shape.rowMajor_val_two, Shape.rowMajor_val_three]
    show l.val * 6144 + e.val = (l.val * 1 + 0) * 6144 + e.val
    omega)

theorem blk2_at (c : Dev nD) (t : Fin cfg0.N) (n : Fin 1536) :
    iblk m c 2 t (ix3 0 0 n) = m ((c : Thread nD τ).loc main_arg2) (ix2 (lay t) (col t n)) := by
  refine Eq.trans ?_ (V_main_v0_at m c (lay t) (col t n))
  show V m c main_v0 ((win0_2.rect t).emb (ix3 0 0 n)) = _
  congr 1
  funext a
  apply Fin.ext
  refine (Window.rect_emb_val win0_2 t _ a).trans ?_
  rw [at2 t]
  match a with
  | ⟨0, _⟩ => show t.val / 4 * 1 + 0 = t.val / 4; omega
  | ⟨1, _⟩ => show 0 * 1 + 0 = 0; omega
  | ⟨2, _⟩ => show t.val % 4 * 1536 + n.val = 1536 * (t.val % 4) + n.val; omega

/-! ## The result array -/

section Spec

variable (X0 : FVec Ideal S16x1024 .f32) (X1 : FVec Ideal S4x1024x6144 .f32) (X2 : FVec Ideal S4x6144 .f32)

/-- The table as the call computes it, of split factors. -/
def splitTable : FVec Ideal S4x16x6144 .f32 := fun i =>
  threefold (fun k => silu (X0 (ix2 (i 1) k))) (fun k => X1 (ix3 (i 0) k (i 2))) + X2 (ix2 (i 0) (i 2))

/-- The table: `silu` of a condition times a layer's weights, plus the layer's bias. -/
def table : FVec Ideal S4x16x6144 .f32 := fun i =>
  (∑ k : Fin 1024, silu (X0 (ix2 (i 1) k)) * X1 (ix3 (i 0) k (i 2))) + X2 (ix2 (i 0) (i 2))

theorem splitTable_eq (h0 : ∀ i, X0 i ≠ ⊤) (h1 : ∀ i, X1 i ≠ ⊤) : splitTable X0 X1 X2 = table X0 X1 X2 :=
  funext fun i => congrArg (fun s : EReal => s + X2 (ix2 (i 0) (i 2))) (threefold_eq (fun k => silu_real (h0 _)) (fun k => h1 _))

end Spec

/-- The table of device `c`'s arrays. -/
abbrev res (c : Dev nD) : FVec Ideal S4x16x6144 .f32 :=
  splitTable (m ((c : Thread nD τ).loc main_arg0)) (m ((c : Thread nD τ).loc main_arg1)) (m ((c : Thread nD τ).loc main_arg2))

theorem entry (c : Dev nD) (t : Fin cfg0.N) (r : Fin 16) (n : Fin 1536) :
    out0_3 (F := Ideal) (iblk m c 0 t) (iblk m c 1 t) (iblk m c 2 t) (ix3 (0 : Fin 1) r n) = res m c (ix3 (lay t) r (col t n)) := by
  refine (out_at _ _ _ r n).trans ?_
  refine congrArg₂ (fun a b : EReal => a + b) (congrArg₂ threefold (funext fun k => ?_) (funext fun k => ?_)) (blk2_at m c t n)
  · exact congrArg silu (blk0_at m c t r k)
  · exact blk1_at m c t k n

theorem flushed_eq (c : Dev nD) (t : Fin cfg0.N) :
    (dats m 0 c).flushed 3 t = ((cfg0.win 3).blk t).view.read (Elt Ideal) (res m c) := by
  unfold Pipeline.Dat.flushed
  rw [after0_3]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show out0_3 (F := Ideal) (iblk m c 0 t) (iblk m c 1 t) (iblk m c 2 t) y = res m c ((win0_3.rect t).emb y)
  rw [hy]
  refine (entry m c t (y 1) (y 2)).trans ?_
  congr 1
  funext a
  apply Fin.ext
  refine Eq.trans ?_ (Window.rect_emb_val win0_3 t _ a).symm
  rw [at3 t]
  match a with
  | ⟨0, _⟩ => show t.val / 4 = t.val / 4 * 1 + 0; omega
  | ⟨1, _⟩ => show (y 1).val = 0 * 16 + (y 1).val; omega
  | ⟨2, _⟩ => show 1536 * (t.val % 4) + (y 2).val = t.val % 4 * 1536 + (y 2).val; omega

theorem cover (i : S4x16x6144.Idx) : ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 6144 := (i 2).isLt
  have hN : 4 * (i 0).val + (i 2).val / 1536 < cfg0.N := lt_of_lt_of_eq (show _ < 16 by omega) N_0.symm
  refine ⟨⟨_, hN⟩, flush0_3 _, ?_⟩
  show i ∈ ((View.whole main_v1).slice (win0_3.rect ⟨_, hN⟩)).set
  rw [View.set_slice_whole, Rect.mem_set_unit]
  intro a
  show win0_3.index ⟨_, hN⟩ a * _ ≤ _ ∧ _ < win0_3.index ⟨_, hN⟩ a * _ + _
  rw [at3]
  match a with
  | ⟨0, _⟩ => show (4 * (i 0).val + (i 2).val / 1536) / 4 * 1 ≤ (i 0).val ∧ (i 0).val < (4 * (i 0).val + (i 2).val / 1536) / 4 * 1 + 1; omega
  | ⟨1, _⟩ => show 0 * 16 ≤ (i 1).val ∧ (i 1).val < 0 * 16 + 16; omega
  | ⟨2, _⟩ => show (4 * (i 0).val + (i 2).val / 1536) % 4 * 1536 ≤ (i 2).val ∧ (i 2).val < (4 * (i 0).val + (i 2).val / 1536) % 4 * 1536 + 1536; omega

/-- The result array after the launch. -/
theorem final (c : Dev nD) : (dats m 0 c).arrAt 3 cfg0.N = res m c :=
  (dats m 0 c).arrAt_eq_of_cover 3 (res m c) (fun t _ => flushed_eq m c t) cover

/-- The run's final state: the table, and the arguments unchanged. -/
theorem value (ρ : Dev nD → PrngReg) : θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩)
    (θ_run_and (run_main m ρ) (unchanged m ρ))

end Cert.Kernel6Ideal.Hand
end
-- ==== Proof.Reference6.lean ====
/-
  The reference's modulation table, entry by entry, over the extended reals; and what its precondition says.
-/
module

public import proofs.«01_k».proof.Defs
public import proofs.«01_k».proof.Proof.Gen.Pre_below_infinity
public import proofs.«01_k».proof.Proof.Gen.Reference6Ideal
public import proofs.«01_k».proof.Proof.Gen.Reference6Ideal.Run
public import proofs.«01_k».proof.Proof.Gen.Reference6Ideal.Read
public import proofs.«01_k».proof.Proof.Kernel6Ideal.Value
public import proofs.«01_k».proof.Proof.Reference2
public import Idealize.ShloMosaic.Lib.ReduceAll

@[expose] public section

set_option maxRecDepth 16384

noncomputable section

namespace Cert.BelowInfinity

open Idealize.ShloMosaic Cert.Pre_below_infinity Cert.Pre_below_infinity.Facts

instance : Subsingleton S_.Idx := ⟨fun a b => funext fun d => d.elim0⟩

theorem ne_top_of_olt {x : EReal} (h : Ideal.cmp .olt x (Ideal.ofBits .f32 0x7F800000#32) = 1#1) : x ≠ ⊤ := by
  rintro rfl
  have ht : Ideal.ofBits .f32 0x7F800000#32 = ⊤ := by simp [Ideal.ofBits, Ideal.ieee]
  rw [ht] at h
  have h' : Ideal.cmp .olt ⊤ ⊤ = 0#1 := by
    show BitVec.ofBool (decide ((⊤ : EReal) < ⊤)) = 0#1
    rw [decide_eq_false (lt_irrefl _)]; rfl
  rw [h'] at h
  exact absurd h (by decide)

theorem of_fn [Cert.Pre_below_infinity.Facts] (x0 : FVec Ideal S16x1024 .f32) (x1 : FVec Ideal S4x1024x6144 .f32) (x2 : FVec Ideal S4x6144 .f32)
    (h : fn x0 x1 x2 (fun d => d.elim0) = 1#1) : (∀ i, x0 i ≠ (⊤ : EReal)) ∧ ∀ i, x1 i ≠ (⊤ : EReal) := by
  obtain ⟨ha, hb⟩ := IntOp.andi_eq_one.1 h
  exact ⟨fun i => ne_top_of_olt (Host.reduce_andi_all _ _ _ _ _ ha i), fun i => ne_top_of_olt (Host.reduce_andi_all _ _ _ _ _ hb i)⟩

end Cert.BelowInfinity

namespace Cert.Reference6Ideal.Hand

open Cert.Reference6Ideal Cert.Reference6Ideal.Gen Cert.Reference6Ideal.Read
open Idealize.ShloMosaic Idealize.ShloMosaic.TcCoe
open Cert.Kernel3Ideal.Hand (silu)
open Cert.Kernel6Ideal.Hand (table)
open Cert.Reference2Ideal.Hand (one_bits)

variable (x0 : FVec Ideal S16x1024 .f32) (x1 : FVec Ideal S4x1024x6144 .f32) (x2 : FVec Ideal S4x6144 .f32)

/-- The conditions' `silu`. -/
theorem v0_at (i : S16x1024.Idx) : val_main_v0 (F := Ideal) x0 i = silu (x0 i) := by
  rw [val_main_v0_apply, val_main_call0_v5_apply, val_main_call0_v3_apply, val_main_call0_v2_apply, val_main_call0_v4_apply,
    val_main_call0_v1_apply, val_main_call0_v0_apply]
  show (x0 i : EReal) * Ideal.div (Ideal.ofBits .f32 0x3F800000#32) (Ideal.ofBits .f32 0x3F800000#32 + Ideal.exp (-(x0 i : EReal))) = _
  rw [one_bits]
  unfold silu
  rw [zero_sub]

/-- The reference's result is the table. -/
theorem reference_eq : val_main_v5 (F := Ideal) x0 x1 x2 = table x0 x1 x2 := by
  funext i
  rw [val_main_v5_apply, val_main_v2_apply, val_main_v1_apply, val_main_v4_apply, val_main_v3_apply]
  unfold table
  refine congrArg₂ (fun a b : EReal => a + b) (Finset.sum_congr rfl fun k _ => ?_) (congrArg x2 ?_)
  · rw [v0_at]
    refine (mul_comm (_ : EReal) _).trans (congrArg₂ (fun a b : EReal => a * b) (congrArg (fun j => silu (x0 j)) ?_) (congrArg x1 ?_))
    · funext a; match a with | ⟨0, _⟩ => rfl | ⟨1, _⟩ => rfl
    · funext a; match a with | ⟨0, _⟩ => rfl | ⟨1, _⟩ => rfl | ⟨2, _⟩ => rfl
  · funext a; match a with | ⟨0, _⟩ => rfl | ⟨1, _⟩ => rfl

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2, sem_eq_zero_of_no_sems (by decide) r.2⟩) (Cert.Reference6Ideal.Value.run m ρ)

end Cert.Reference6Ideal.Hand

end
-- ==== Proof.Kernel7Ideal.Body.lean ====
/-
  What one grid point of the forward scan leaves in its output block and in the carried state: four chunks, one after another.
-/
module

public import proofs.«01_k».proof.Proof.Gen.Kernel7Ideal.Frame
public import Idealize.ShloMosaic.Lib.Pipeline.Value
public import Idealize.ShloMosaic.Lib.Pointwise

@[expose] public section

set_option maxRecDepth 16384

noncomputable section

namespace Cert.Kernel7Ideal.Hand

open Cert.Kernel7Ideal Cert.Kernel7Ideal.Gen
open Idealize.ShloMosaic Idealize.ShloMosaic.TcCoe

variable {F : FTy → Type} [FloatOps F]

theorem z2 : (![0, 0] : Fin 2 → ℕ) = fun _ => 0 := funext fun a => by fin_cases a <;> rfl

/-- The rows a chunk writes, from its gates, queries, keys and values and the state it finds. -/
def chunkOut (g : Vec F S1x64x128 .f32) (q k : Vec F S1x64x128 .bf16) (v : Vec F S1x64x256 .bf16) (st : Vec F S256x128 .f32) :
    FVec F S1x64x256 .f32 :=
  k0_pay14 k0_pay5 (k0_pay9 g q) (k0_pay12 v) (k0_pay13 g k) st

/-- The state a chunk leaves. -/
def chunkSt (g : Vec F S1x64x128 .f32) (k : Vec F S1x64x128 .bf16) (v : Vec F S1x64x256 .bf16) (st : Vec F S256x128 .f32) :
    FVec F S256x128 .f32 :=
  k0_pay15 (k0_pay8 g) (k0_pay11 g k) (k0_pay12 v) st

section Forms
variable (g : Vec F S1x64x128 .f32) (q k : Vec F S1x64x128 .bf16) (v : Vec F S1x64x256 .bf16) (st : Vec F S256x128 .f32)

theorem out1 : k0_pay21 k0_pay5 (k0_pay16 (k0_pay6 (F := F)) g) (k0_pay18 (k0_pay6 (F := F)) g q) k v st = chunkOut g q k v st := rfl
theorem st1 : k0_pay22 (k0_pay16 (k0_pay6 (F := F)) g) (k0_pay17 (k0_pay6 (F := F)) g) k v st = chunkSt g k v st := rfl
theorem out2 : k0_pay29 (k0_pay28 k0_pay5 (k0_pay6 (F := F)) g q k v st) = chunkOut g q k v st := rfl
theorem st2 : k0_pay30 (k0_pay24 (k0_pay6 (F := F)) g) (k0_pay26 (k0_pay6 (F := F)) g k) (k0_pay27 v) st = chunkSt g k v st := rfl
theorem out3 : k0_pay2 k0_pay5 (k0_pay33 (k0_pay6 (F := F)) g q) (k0_pay34 (k0_pay6 (F := F)) g k) v st = chunkOut g q k v st := rfl
theorem st3 : k0_pay3 (k0_pay32 (k0_pay6 (F := F)) g) (k0_pay35 (k0_pay6 (F := F)) g k) v st = chunkSt g k v st := rfl
end Forms

theorem rows_in {W : ℕ} (o : ℕ) (ho : o + 64 ≤ 256) (a : Fin 3) :
    (![0, o, 0] : Fin 3 → ℕ) a + (⟨3, ![1, 64, W]⟩ : Shape).size a ≤ (⟨3, ![1, 256, W]⟩ : Shape).size a := by
  match a with
  | ⟨0, _⟩ => show 0 + 1 ≤ 1; omega
  | ⟨1, _⟩ => show o + 64 ≤ 256; omega
  | ⟨2, _⟩ => show 0 + W ≤ W; omega

/-- The 64 rows of a block from row `o` on. -/
def rowsFrom {W : ℕ} {e : EltTy} (o : ℕ) (ho : o + 64 ≤ 256) (x : Vec F (⟨3, ![1, 256, W]⟩ : Shape) e) : Vec F (⟨3, ![1, 64, W]⟩ : Shape) e :=
  View.ld x (Rect.unit (s := (⟨3, ![1, 256, W]⟩ : Shape)) ![0, o, 0] (⟨3, ![1, 64, W]⟩ : Shape).size (rows_in o ho))

/-- The `n`-th 64 rows of a block. -/
def rowsOf {W : ℕ} {e : EltTy} (n : ℕ) (x : Vec F (⟨3, ![1, 256, W]⟩ : Shape) e) : Vec F (⟨3, ![1, 64, W]⟩ : Shape) e :=
  match n with
  | 0 => rowsFrom 0 (by omega) x
  | 1 => rowsFrom 64 (by omega) x
  | 2 => rowsFrom 128 (by omega) x
  | _ => rowsFrom 192 (by omega) x

theorem rowsFrom_at {W : ℕ} {e : EltTy} (o : ℕ) (ho : o + 64 ≤ 256) (x : Vec F (⟨3, ![1, 256, W]⟩ : Shape) e) (r : Fin 64) (d : Fin W) :
    rowsFrom o ho x (ix3 (0 : Fin 1) r d) = x (ix3 (0 : Fin 1) (⟨o + r.val, by omega⟩ : Fin 256) d) := by
  unfold rowsFrom View.ld
  congr 1
  funext a
  apply Fin.ext
  match a with
  | ⟨0, _⟩ => show 0 + 1 * 0 = 0; omega
  | ⟨1, _⟩ => show o + 1 * r.val = o + r.val; omega
  | ⟨2, _⟩ => show 0 + 1 * d.val = d.val; omega

theorem rowsOf_at {W : ℕ} {e : EltTy} (n : ℕ) (hn : n < 4) (x : Vec F (⟨3, ![1, 256, W]⟩ : Shape) e) (r : Fin 64) (d : Fin W) :
    rowsOf n x (ix3 (0 : Fin 1) r d) = x (ix3 (0 : Fin 1) (⟨64 * n + r.val, by omega⟩ : Fin 256) d) := by
  match n, hn with
  | 0, _ => exact rowsFrom_at 0 (by omega) x r d
  | 1, _ => exact rowsFrom_at 64 (by omega) x r d
  | 2, _ => exact rowsFrom_at 128 (by omega) x r d
  | 3, _ => exact rowsFrom_at 192 (by omega) x r d

/-- The state before chunk `n` of a block, from the state `st` before the block. -/
def stateAt (x1 : Vec F S1x256x128 .bf16) (x2 : Vec F S1x256x256 .bf16) (x3 : Vec F S1x256x128 .f32) (st : Vec F S256x128 .f32) : ℕ → Vec F S256x128 .f32
  | 0 => st
  | n + 1 => chunkSt (rowsOf n x3) (rowsOf n x1) (rowsOf n x2) (stateAt x1 x2 x3 st n)

/-- The rows chunk `n` of a block writes. -/
def outOf (x0 x1 : Vec F S1x256x128 .bf16) (x2 : Vec F S1x256x256 .bf16) (x3 : Vec F S1x256x128 .f32) (st : Vec F S256x128 .f32) (n : ℕ) : Vec F S1x64x256 .f32 :=
  chunkOut (rowsOf n x3) (rowsOf n x0) (rowsOf n x1) (rowsOf n x2) (stateAt x1 x2 x3 st n)

/-- The output block. -/
def outBlk (x0 x1 : Vec F S1x256x128 .bf16) (x2 : Vec F S1x256x256 .bf16) (x3 : Vec F S1x256x128 .f32) (st : Vec F S256x128 .f32) : Vec F S1x256x256 .f32 :=
  fun y => outOf x0 x1 x2 x3 st ((y 1).val / 64) (ix3 (0 : Fin 1) (⟨(y 1).val % 64, Nat.mod_lt _ (by omega)⟩ : Fin 64) (y 2))

theorem piece_eq (x0 x1 : Vec F S1x256x128 .bf16) (x2 : Vec F S1x256x256 .bf16) (x3 : Vec F S1x256x128 .f32) (st : Vec F S256x128 .f32)
    (n : ℕ) (y : S1x256x256.Idx) (x : S1x64x256.Idx) (h1 : (y 1).val = 64 * n + (x 1).val) (h2 : (y 2).val = (x 2).val) :
    outOf x0 x1 x2 x3 st n x = outBlk x0 x1 x2 x3 st y := by
  have hx1 : (x 1).val < 64 := (x 1).isLt
  have hx0 : (x 0).val < 1 := (x 0).isLt
  unfold outBlk
  rw [show (y 1).val / 64 = n by omega]
  congr 1
  funext a
  apply Fin.ext
  match a with
  | ⟨0, _⟩ => show (x 0).val = 0; omega
  | ⟨1, _⟩ => show (x 1).val = (y 1).val % 64; omega
  | ⟨2, _⟩ => exact h2.symm

theorem sout_B (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : ¬cond0_0 i) (x0 x1 : Vec F S1x256x128 .bf16) (x2 : Vec F S1x256x256 .bf16) (x3 : Vec F S1x256x128 .f32) (xs0 : Vec F S256x128 .f32) :
    sout0_B_0 c i arg3 harg3 arg4 harg4 arg5 harg5 arg6 harg6 arg7 harg7 arg8 harg8 hc0 x0 x1 x2 x3 xs0 = stateAt x1 x2 x3 xs0 4 := by
  unfold sout0_B_0
  rw [View.read_writes_eq_canon _ _ _ (scover0_B_0 c i arg3 harg3 arg4 harg4 arg5 harg5 arg6 harg6 arg7 harg7 arg8 harg8 hc0 x0 x1 x2 x3 xs0)]
  unfold kernelRun0_B
  dsimp only
  sl_unfold_words
  rw [View.canon_cons_unit_zero (S := S256x128) z2]
  simp only [View.readCov_cons_toLoadRect]
  simp only [View.readAt_eq_ld, harg4.read_unread, harg5.read_unread, harg6.read_unread, harg8.read_unread, out1, st1, out2, st2, out3, st3, View.ld_unit_zero (S := S256x128) z2]
  rfl

theorem out_B (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : ¬cond0_0 i) (x0 x1 : Vec F S1x256x128 .bf16) (x2 : Vec F S1x256x256 .bf16) (x3 : Vec F S1x256x128 .f32) (xs0 : Vec F S256x128 .f32) :
    out0_B_4 c i arg3 harg3 arg4 harg4 arg5 harg5 arg6 harg6 arg7 harg7 arg8 harg8 hc0 x0 x1 x2 x3 xs0 = outBlk x0 x1 x2 x3 xs0 := by
  unfold out0_B_4
  rw [View.read_writes_eq_canon _ _ _ (cover0_B_4 c i arg3 harg3 arg4 harg4 arg5 harg5 arg6 harg6 arg7 harg7 arg8 harg8 hc0 x0 x1 x2 x3 xs0)]
  funext y
  refine View.canon_apply_of_pieces (Val := Elt F) (S := S1x256x256) (e := .f32) (outBlk x0 x1 x2 x3 xs0) _ ?_ y (cover0_B_4 c i arg3 harg3 arg4 harg4 arg5 harg5 arg6 harg6 arg7 harg7 arg8 harg8 hc0 x0 x1 x2 x3 xs0 y)
  unfold kernelRun0_B
  dsimp only
  sl_unfold_words
  intro p hp
  simp only [View.readCov_cons_toLoadRect] at hp
  simp only [View.readAt_eq_ld, harg3.read_unread, harg4.read_unread, harg5.read_unread, harg6.read_unread, harg8.read_unread, out1, st1, out2, st2, out3, st3, View.ld_unit_zero (S := S256x128) z2,
    List.mem_cons, List.not_mem_nil, or_false] at hp
  rcases hp with rfl | rfl | rfl | rfl
  · exact fun x => piece_eq x0 x1 x2 x3 xs0 3 ((Rect.unit (s := S1x256x256) ![0, 192, 0] S1x64x256.size inb_S1x256x256_S1x64x256_0_192_0).emb x) x
      (congrArg (192 + ·) (Nat.one_mul _)) ((Nat.zero_add _).trans (Nat.one_mul _))
  · exact fun x => piece_eq x0 x1 x2 x3 xs0 2 ((Rect.unit (s := S1x256x256) ![0, 128, 0] S1x64x256.size inb_S1x256x256_S1x64x256_0_128_0).emb x) x
      (congrArg (128 + ·) (Nat.one_mul _)) ((Nat.zero_add _).trans (Nat.one_mul _))
  · exact fun x => piece_eq x0 x1 x2 x3 xs0 1 ((Rect.unit (s := S1x256x256) ![0, 64, 0] S1x64x256.size inb_S1x256x256_S1x64x256_0_64_0).emb x) x
      (congrArg (64 + ·) (Nat.one_mul _)) ((Nat.zero_add _).trans (Nat.one_mul _))
  · exact fun x => piece_eq x0 x1 x2 x3 xs0 0 ((Rect.unit (s := S1x256x256) ![0, 0, 0] S1x64x256.size inb_S1x256x256_S1x64x256_0_0_0).emb x) x
      (congrArg (0 + ·) (Nat.one_mul _)) ((Nat.zero_add _).trans (Nat.one_mul _))

theorem sout_A (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : cond0_0 i) (x0 x1 : Vec F S1x256x128 .bf16) (x2 : Vec F S1x256x256 .bf16) (x3 : Vec F S1x256x128 .f32) :
    sout0_A_0 c i arg3 harg3 arg4 harg4 arg5 harg5 arg6 harg6 arg7 harg7 arg8 harg8 hc0 x0 x1 x2 x3 = stateAt x1 x2 x3 (k0_pay4 (F := F)) 4 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_cons_unit_zero (S := S256x128) z2]
  simp only [View.readCov_cons_toLoadRect]
  simp only [View.readAt_eq_ld, harg4.read_unread, harg5.read_unread, harg6.read_unread, out1, st1, out2, st2, out3, st3]
  rfl

theorem out_A (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : cond0_0 i) (x0 x1 : Vec F S1x256x128 .bf16) (x2 : Vec F S1x256x256 .bf16) (x3 : Vec F S1x256x128 .f32) :
    out0_A_4 c i arg3 harg3 arg4 harg4 arg5 harg5 arg6 harg6 arg7 harg7 arg8 harg8 hc0 x0 x1 x2 x3 = outBlk x0 x1 x2 x3 (k0_pay4 (F := F)) := by
  unfold out0_A_4
  rw [View.read_writes_eq_canon _ _ _ (cover0_A_4 c i arg3 harg3 arg4 harg4 arg5 harg5 arg6 harg6 arg7 harg7 arg8 harg8 hc0 x0 x1 x2 x3)]
  funext y
  refine View.canon_apply_of_pieces (Val := Elt F) (S := S1x256x256) (e := .f32) (outBlk x0 x1 x2 x3 (k0_pay4 (F := F))) _ ?_ y (cover0_A_4 c i arg3 harg3 arg4 harg4 arg5 harg5 arg6 harg6 arg7 harg7 arg8 harg8 hc0 x0 x1 x2 x3 y)
  unfold kernelRun0_A
  dsimp only
  sl_unfold_words
  intro p hp
  simp only [View.readCov_cons_toLoadRect] at hp
  simp only [View.readAt_eq_ld, harg3.read_unread, harg4.read_unread, harg5.read_unread, harg6.read_unread, out1, st1, out2, st2, out3, st3,
    List.mem_cons, List.not_mem_nil, or_false] at hp
  rcases hp with rfl | rfl | rfl | rfl
  · exact fun x => piece_eq x0 x1 x2 x3 (k0_pay4 (F := F)) 3 ((Rect.unit (s := S1x256x256) ![0, 192, 0] S1x64x256.size inb_S1x256x256_S1x64x256_0_192_0).emb x) x
      (congrArg (192 + ·) (Nat.one_mul _)) ((Nat.zero_add _).trans (Nat.one_mul _))
  · exact fun x => piece_eq x0 x1 x2 x3 (k0_pay4 (F := F)) 2 ((Rect.unit (s := S1x256x256) ![0, 128, 0] S1x64x256.size inb_S1x256x256_S1x64x256_0_128_0).emb x) x
      (congrArg (128 + ·) (Nat.one_mul _)) ((Nat.zero_add _).trans (Nat.one_mul _))
  · exact fun x => piece_eq x0 x1 x2 x3 (k0_pay4 (F := F)) 1 ((Rect.unit (s := S1x256x256) ![0, 64, 0] S1x64x256.size inb_S1x256x256_S1x64x256_0_64_0).emb x) x
      (congrArg (64 + ·) (Nat.one_mul _)) ((Nat.zero_add _).trans (Nat.one_mul _))
  · exact fun x => piece_eq x0 x1 x2 x3 (k0_pay4 (F := F)) 0 ((Rect.unit (s := S1x256x256) ![0, 0, 0] S1x64x256.size inb_S1x256x256_S1x64x256_0_0_0).emb x) x
      (congrArg (0 + ·) (Nat.one_mul _)) ((Nat.zero_add _).trans (Nat.one_mul _))

end Cert.Kernel7Ideal.Hand
end
-- ==== Proof.Kernel7Ideal.Chunk.lean ====
/-
  One chunk of the forward scan, entry by entry, over the extended reals: from real inputs it carries the recurrence's state
  sixty-four tokens on, and its rows are the recurrence's outputs.
-/
module

public import proofs.«01_k».proof.Proof.Kernel7Ideal.Body
public import proofs.«01_k».proof.Proof.Gates
public import Idealize.ShloMosaic.Lib.Pointwise

@[expose] public section

set_option maxRecDepth 16384

noncomputable section

namespace Cert.Scan

/-! ## The recurrence over the reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One head's queries, keys, values and log gates, token by token. -/
structure Seq where
  q : ℕ → Fin 128 → ℝ
  k : ℕ → Fin 128 → ℝ
  v : ℕ → Fin 256 → ℝ
  g : ℕ → Fin 128 → ℝ

namespace Seq

variable (S : Seq)

/-- The sum of the log gates of the first `n` tokens. -/
def C (n : ℕ) (d : Fin 128) : ℝ := ∑ j ∈ Finset.range n, S.g j d

/-- The state after `n` tokens: every token's value times its key, decayed by the gates after it. -/
def St (n : ℕ) (e : Fin 256) (d : Fin 128) : ℝ := ∑ s ∈ Finset.range n, S.v s e * (S.k s d * Real.exp (S.C n d - S.C (s + 1) d))

/-- Token `i`'s output: the values up to it, weighted by its query against their decayed keys. -/
def Out (i : ℕ) (e : Fin 256) : ℝ :=
  ∑ s ∈ Finset.range (i + 1), (∑ d, S.q i d * S.k s d * Real.exp (S.C (i + 1) d - S.C (s + 1) d)) * S.v s e

/-- The log gates' sum within a chunk from token `n`, up to and with its row `r`. -/
def b (n : ℕ) (r : Fin 64) (d : Fin 128) : ℝ := ∑ y : Fin 64, (if y.val ≤ r.val then 1 else 0) * S.g (n + y.val) d

theorem low (f : ℕ → ℝ) (x : ℕ) (hx : x < 64) : (∑ y ∈ Finset.range 64, if y ≤ x then f y else 0) = ∑ y ∈ Finset.range (x + 1), f y := by
  rw [← Finset.sum_filter]
  congr 1
  ext y
  simp only [Finset.mem_filter, Finset.mem_range]
  omega

theorem b_eq (n : ℕ) (r : Fin 64) (d : Fin 128) : S.b n r d = S.C (n + r.val + 1) d - S.C n d := by
  unfold b C
  rw [Fin.sum_univ_eq_sum_range (fun y => (if y ≤ r.val then (1 : ℝ) else 0) * S.g (n + y) d) 64,
    show n + r.val + 1 = n + (r.val + 1) by omega, Finset.sum_range_add, ← low _ _ r.isLt]
  simp only [ite_mul, one_mul, zero_mul]
  ring

theorem St_step (n : ℕ) (e : Fin 256) (d : Fin 128) :
    S.St (n + 64) e d = S.St n e d * Real.exp (S.b n 63 d)
      + ∑ x : Fin 64, S.v (n + x.val) e * (S.k (n + x.val) d * Real.exp (0 - S.b n x d) * Real.exp (S.b n 63 d)) := by
  have hB : S.b n 63 d = S.C (n + 64) d - S.C n d := S.b_eq n 63 d
  simp only [hB, S.b_eq]
  rw [Fin.sum_univ_eq_sum_range (fun x => S.v (n + x) e * (S.k (n + x) d * Real.exp (0 - (S.C (n + x + 1) d - S.C n d)) * Real.exp (S.C (n + 64) d - S.C n d))) 64]
  unfold St
  rw [Finset.sum_range_add, Finset.sum_mul]
  refine congrArg₂ (· + ·) (Finset.sum_congr rfl fun s _ => ?_) (Finset.sum_congr rfl fun s _ => ?_)
  · rw [show S.C (n + 64) d - S.C (s + 1) d = (S.C n d - S.C (s + 1) d) + (S.C (n + 64) d - S.C n d) by ring, Real.exp_add]
    ring
  · rw [mul_assoc (S.k (n + s) d), ← Real.exp_add]
    congr 3
    ring

theorem Out_eq (n : ℕ) (r : Fin 64) (e : Fin 256) :
    S.Out (n + r.val) e = (∑ d, S.q (n + r.val) d * Real.exp (S.b n r d) * S.St n e d)
      + ∑ x : Fin 64, if x.val ≤ r.val then
          (∑ d, S.q (n + r.val) d * Real.exp (S.b n r d) * (S.k (n + x.val) d * Real.exp (0 - S.b n x d))) * S.v (n + x.val) e else 0 := by
  simp only [S.b_eq]
  rw [Fin.sum_univ_eq_sum_range (fun x => if x ≤ r.val then
          (∑ d, S.q (n + r.val) d * Real.exp (S.C (n + r.val + 1) d - S.C n d) * (S.k (n + x) d * Real.exp (0 - (S.C (n + x + 1) d - S.C n d)))) * S.v (n + x) e else 0) 64,
    low _ _ r.isLt]
  unfold Out St
  rw [show n + r.val + 1 = n + (r.val + 1) by omega, Finset.sum_range_add]
  refine congrArg₂ (· + ·) ?_ (Finset.sum_congr rfl fun s _ => ?_)
  · simp only [Finset.sum_mul, Finset.mul_sum]
    rw [Finset.sum_comm]
    refine Finset.sum_congr rfl fun d _ => Finset.sum_congr rfl fun s _ => ?_
    rw [show S.C (n + (r.val + 1)) d - S.C (s + 1) d = (S.C (n + (r.val + 1)) d - S.C n d) + (S.C n d - S.C (s + 1) d) by ring, Real.exp_add]
    ring
  · congr 1
    refine Finset.sum_congr rfl fun d _ => ?_
    rw [show S.C (n + (r.val + 1)) d - S.C (n + s + 1) d = (S.C (n + (r.val + 1)) d - S.C n d) + (0 - (S.C (n + s + 1) d - S.C n d)) by ring, Real.exp_add]
    ring

theorem St_zero (e : Fin 256) (d : Fin 128) : S.St 0 e d = 0 := rfl

end Seq

end Cert.Scan

namespace Cert.Kernel7Ideal.Hand

open Cert.Kernel7Ideal Cert.Kernel7Ideal.Gen
open Idealize.ShloMosaic Idealize.ShloMosaic.TcCoe
open Cert.Scan

/-! ## The chunk's values -/

theorem sle_small : ∀ r s : Fin 64, IntOp.cmpi .sle (BitVec.ofNat 32 s.val) (BitVec.ofNat 32 r.val) = if s.val ≤ r.val then 1#1 else 0#1 := by
  decide +kernel

theorem mask_at (r s : Fin 64) : k0_pay5 (ix2 r s) = if s.val ≤ r.val then 1#1 else 0#1 := by
  pointwise [k0_pay5]
  exact sle_small r s

theorem lower_at (r s : Fin 64) : k0_pay6 (F := Ideal) (ix2 r s) = (((if s.val ≤ r.val then 1 else 0 : ℝ)) : EReal) := by
  have h := mask_at r s
  pointwise [k0_pay6]
  rw [h]
  split
  · show (((BitVec.setWidth 32 (1#1)).toInt : ℝ) : EReal) = _
    norm_num
  · show (((BitVec.setWidth 32 (0#1)).toInt : ℝ) : EReal) = _
    norm_num

section Chunk

variable {S : Seq} {n : ℕ} {g : Vec Ideal S1x64x128 .f32} {q k : Vec Ideal S1x64x128 .bf16} {v : Vec Ideal S1x64x256 .bf16} {st : Vec Ideal S256x128 .f32}
  (hg : ∀ (r : Fin 64) d, g (ix3 0 r d) = ((S.g (n + r.val) d : ℝ) : EReal))
  (hq : ∀ (r : Fin 64) d, q (ix3 0 r d) = ((S.q (n + r.val) d : ℝ) : EReal))
  (hk : ∀ (r : Fin 64) d, k (ix3 0 r d) = ((S.k (n + r.val) d : ℝ) : EReal))
  (hv : ∀ (r : Fin 64) e, v (ix3 0 r e) = ((S.v (n + r.val) e : ℝ) : EReal))
  (hst : ∀ e d, st (ix2 e d) = ((S.St n e d : ℝ) : EReal))

include hg in
/-- The gates' sums within the chunk; the split's rest of a real gate is zero. -/
theorem sums_at (r : Fin 64) (d : Fin 128) : k0_pay7 (F := Ideal) g (ix2 r d) = ((S.b n r d : ℝ) : EReal) := by
  have h : k0_pay7 (F := Ideal) g (ix2 r d)
      = (∑ x, k0_pay6 (F := Ideal) (ix2 r x) * g (ix3 0 x d)) + ∑ x, k0_pay6 (F := Ideal) (ix2 r x) * (g (ix3 0 x d) - g (ix3 0 x d)) := by
    pointwise [k0_pay7]
  refine h.trans ?_
  have h2 : (∑ x, k0_pay6 (F := Ideal) (ix2 r x) * (g (ix3 0 x d) - g (ix3 0 x d)) : EReal) = 0 :=
    Finset.sum_eq_zero fun x _ => by rw [Cert.Gates.IsReal.sub_self ⟨_, hg x d⟩, mul_zero]
  rw [h2, add_zero]
  unfold Seq.b
  rw [coe_sum]
  refine Finset.sum_congr rfl fun x _ => ?_
  rw [lower_at, hg, ← EReal.coe_mul]

include hg in
theorem last_at (d : Fin 128) : k0_pay8 (F := Ideal) g (ix2 0 d) = ((S.b n 63 d : ℝ) : EReal) := by
  have h : k0_pay8 (F := Ideal) g (ix2 0 d) = k0_pay7 (F := Ideal) g (ix2 63 d) := by
    pointwise [k0_pay8]
  exact h.trans (sums_at hg 63 d)

theorem exp_coe (x : ℝ) : Ideal.exp (x : EReal) = ((Real.exp x : ℝ) : EReal) := rfl

include hg hq in
theorem query_at (r : Fin 64) (d : Fin 128) :
    k0_pay9 (F := Ideal) g q (ix2 r d) = ((S.q (n + r.val) d * Real.exp (S.b n r d) : ℝ) : EReal) := by
  have h : k0_pay9 (F := Ideal) g q (ix2 r d) = q (ix3 0 r d) * Ideal.exp (k0_pay7 (F := Ideal) g (ix2 r d)) := by
    pointwise [k0_pay9]
  rw [h, hq, sums_at hg, exp_coe, ← EReal.coe_mul]

include hg hk in
theorem key_at (r : Fin 64) (d : Fin 128) :
    k0_pay13 (F := Ideal) g k (ix2 r d) = ((S.k (n + r.val) d * Real.exp (0 - S.b n r d) : ℝ) : EReal) := by
  have h : k0_pay13 (F := Ideal) g k (ix2 r d) = k (ix3 0 r d) * Ideal.exp (0 - k0_pay7 (F := Ideal) g (ix2 r d)) := by
    pointwise [k0_pay13, k0_pay10]
  rw [h, hk, sums_at hg, ← EReal.coe_zero, ← EReal.coe_sub, exp_coe, ← EReal.coe_mul]

include hg hk in
theorem carried_at (r : Fin 64) (d : Fin 128) :
    k0_pay11 (F := Ideal) g k (ix2 r d) = ((S.k (n + r.val) d * Real.exp (0 - S.b n r d) * Real.exp (S.b n 63 d) : ℝ) : EReal) := by
  have h : k0_pay11 (F := Ideal) g k (ix2 r d)
      = k (ix3 0 r d) * Ideal.exp (0 - k0_pay7 (F := Ideal) g (ix2 r d)) * Ideal.exp (k0_pay8 (F := Ideal) g (ix2 0 d)) := by
    pointwise [k0_pay11, k0_pay10]
  rw [h, hk, sums_at hg, last_at hg, ← EReal.coe_zero, ← EReal.coe_sub, exp_coe, exp_coe, ← EReal.coe_mul, ← EReal.coe_mul]

include hv in
theorem value_at (r : Fin 64) (e : Fin 256) : k0_pay12 (F := Ideal) v (ix2 r e) = ((S.v (n + r.val) e : ℝ) : EReal) := by
  have h : k0_pay12 (F := Ideal) v (ix2 r e) = v (ix3 0 r e) := by
    pointwise [k0_pay12]
  exact h.trans (hv r e)

include hg hk hv hst in
/-- The chunk carries the state sixty-four tokens on. -/
theorem chunkSt_at (e : Fin 256) (d : Fin 128) : chunkSt g k v st (ix2 e d) = ((S.St (n + 64) e d : ℝ) : EReal) := by
  have h : ∀ (a : FVec Ideal S1x128 .f32) (kd : FVec Ideal S64x128 .bf16) (w : FVec Ideal S64x256 .bf16),
      k0_pay15 (F := Ideal) a kd w st (ix2 e d) = st (ix2 e d) * Ideal.exp (a (ix2 0 d)) + ∑ x, w (ix2 x e) * kd (ix2 x d) := by
    intro a kd w
    pointwise [k0_pay15]
  refine (h _ _ _).trans ?_
  rw [S.St_step, hst, last_at hg, exp_coe, EReal.coe_add, EReal.coe_mul, coe_sum]
  refine congrArg (fun z : EReal => ((S.St n e d : ℝ) : EReal) * ((Real.exp (S.b n 63 d) : ℝ) : EReal) + z) (Finset.sum_congr rfl fun x _ => ?_)
  rw [value_at hv, carried_at hg hk, ← EReal.coe_mul]

include hg hq hk hv hst in
/-- The chunk's rows are the tokens' outputs. -/
theorem chunkOut_at (r : Fin 64) (e : Fin 256) : chunkOut g q k v st (ix3 0 r e) = ((S.Out (n + r.val) e : ℝ) : EReal) := by
  have h : ∀ (a : IVec S64x64 1) (qd kd : FVec Ideal S64x128 .bf16) (w : FVec Ideal S64x256 .bf16),
      k0_pay14 (F := Ideal) a qd w kd st (ix3 0 r e) = (∑ x, qd (ix2 r x) * st (ix2 e x))
        + ∑ x, Scalar.select (a (ix2 r x)) ((∑ y, qd (ix2 r y) * kd (ix2 x y)) * w (ix2 x e)) 0 := by
    intro a qd kd w
    pointwise [k0_pay14]
  refine (h _ _ _ _).trans ?_
  rw [S.Out_eq, EReal.coe_add, coe_sum, coe_sum]
  refine congrArg₂ (fun y z : EReal => y + z) (Finset.sum_congr rfl fun x _ => ?_) (Finset.sum_congr rfl fun x _ => ?_)
  · rw [query_at hg hq, hst, ← EReal.coe_mul]
  · rw [mask_at]
    by_cases hx : x.val ≤ r.val
    · rw [if_pos hx, if_pos hx]
      show (∑ y, _ * _ : EReal) * _ = _
      rw [EReal.coe_mul, coe_sum, value_at hv]
      refine congrArg (fun z : EReal => z * ((S.v (n + x.val) e : ℝ) : EReal)) (Finset.sum_congr rfl fun y _ => ?_)
      rw [query_at hg hq, key_at hg hk, ← EReal.coe_mul]
    · rw [if_neg hx, if_neg hx]
      rfl

end Chunk

end Cert.Kernel7Ideal.Hand
end
-- ==== Proof.Kernel7Ideal.Value.lean ====
/-
  What the forward scan leaves, entry by entry, over the extended reals: from real arrays the recurrence's outputs.
-/
module

public import proofs.«01_k».proof.Proof.Gen.Kernel7Ideal.Frame
public import proofs.«01_k».proof.Proof.Kernel7Ideal.Chunk
public import Idealize.ShloMosaic.Lib.Quiescent
public import Idealize.ShloMosaic.Lib.Claim

@[expose] public section

set_option maxRecDepth 16384

noncomputable section

namespace Cert.Kernel7Ideal.Hand

open Cert.Kernel7Ideal Cert.Kernel7Ideal.Gen
open Idealize.ShloMosaic Idealize.ShloMosaic.TcCoe
open Idealize.ShloMosaic.Pipeline (Window Dat)
open Cert.Scan
open Cert.Gates (IsReal)

/-! ## One block -/

section Block

variable {S : Seq} {n : ℕ} {x0 x1 : Vec Ideal S1x256x128 .bf16} {x2 : Vec Ideal S1x256x256 .bf16} {x3 : Vec Ideal S1x256x128 .f32}
  {st : Vec Ideal S256x128 .f32}
  (h0 : ∀ (r : Fin 256) d, x0 (ix3 0 r d) = ((S.q (n + r.val) d : ℝ) : EReal))
  (h1 : ∀ (r : Fin 256) d, x1 (ix3 0 r d) = ((S.k (n + r.val) d : ℝ) : EReal))
  (h2 : ∀ (r : Fin 256) e, x2 (ix3 0 r e) = ((S.v (n + r.val) e : ℝ) : EReal))
  (h3 : ∀ (r : Fin 256) d, x3 (ix3 0 r d) = ((S.g (n + r.val) d : ℝ) : EReal))
  (hst : ∀ e d, st (ix2 e d) = ((S.St n e d : ℝ) : EReal))

/-- A chunk's rows of a block that holds a sequence's tokens. -/
theorem rows_real (W : ℕ) (ty : EltTy) (f : ℕ → Fin W → Elt Ideal ty) {x : Vec Ideal (⟨3, ![1, 256, W]⟩ : Shape) ty}
    (h : ∀ (r : Fin 256) d, x (ix3 0 r d) = f (n + r.val) d) {j : ℕ} (hj : j < 4) (r : Fin 64) (d : Fin W) :
    rowsOf j x (ix3 0 r d) = f (n + 64 * j + r.val) d := by
  refine (rowsOf_at j hj x r d).trans ((h _ d).trans ?_)
  show f (n + (64 * j + r.val)) d = _
  rw [Nat.add_assoc]

include h1 h2 h3 hst in
/-- The state before chunk `j`. -/
theorem stateAt_real (j : ℕ) (hj4 : j ≤ 4) (e : Fin 256) (d : Fin 128) :
    stateAt x1 x2 x3 st j (ix2 e d) = ((S.St (n + 64 * j) e d : ℝ) : EReal) := by
  induction j generalizing e d with
  | zero => exact hst e d
  | succ j ih =>
    have hj : j < 4 := by omega
    refine (chunkSt_at (S := S) (n := n + 64 * j) ?_ ?_ ?_ (fun e d => ih (by omega) e d) e d).trans ?_
    · exact fun r d => rows_real 128 .f32 (fun i d => ((S.g i d : ℝ) : EReal)) h3 hj r d
    · exact fun r d => rows_real 128 .bf16 (fun i d => ((S.k i d : ℝ) : EReal)) h1 hj r d
    · exact fun r d => rows_real 256 .bf16 (fun i d => ((S.v i d : ℝ) : EReal)) h2 hj r d
    · rw [show n + 64 * j + 64 = n + 64 * (j + 1) by omega]

include h0 h1 h2 h3 hst in
/-- The block's rows are the tokens' outputs. -/
theorem outBlk_real (r : Fin 256) (e : Fin 256) : outBlk x0 x1 x2 x3 st (ix3 0 r e) = ((S.Out (n + r.val) e : ℝ) : EReal) := by
  have hr : r.val < 256 := r.isLt
  have hj : r.val / 64 < 4 := by omega
  show chunkOut (rowsOf (r.val / 64) x3) (rowsOf (r.val / 64) x0) (rowsOf (r.val / 64) x1) (rowsOf (r.val / 64) x2)
    (stateAt x1 x2 x3 st (r.val / 64)) (ix3 (0 : Fin 1) (⟨r.val % 64, Nat.mod_lt _ (by omega)⟩ : Fin 64) e) = _
  refine (chunkOut_at (S := S) (n := n + 64 * (r.val / 64)) ?_ ?_ ?_ ?_ (fun e d => stateAt_real h1 h2 h3 hst (r.val / 64) (by omega) e d)
    ⟨r.val % 64, Nat.mod_lt _ (by omega)⟩ e).trans ?_
  · exact fun r d => rows_real 128 .f32 (fun i d => ((S.g i d : ℝ) : EReal)) h3 hj r d
  · exact fun r d => rows_real 128 .bf16 (fun i d => ((S.q i d : ℝ) : EReal)) h0 hj r d
  · exact fun r d => rows_real 128 .bf16 (fun i d => ((S.k i d : ℝ) : EReal)) h1 hj r d
  · exact fun r d => rows_real 256 .bf16 (fun i d => ((S.v i d : ℝ) : EReal)) h2 hj r d
  · show ((S.Out (n + 64 * (r.val / 64) + r.val % 64) e : ℝ) : EReal) = _
    rw [show n + 64 * (r.val / 64) + r.val % 64 = n + r.val by omega]

end Block

/-! ## The result array -/

section Spec

variable (X0 X1 : FVec Ideal S8x4352x512 .bf16) (X2 : FVec Ideal S8x4352x1024 .bf16) (X3 : FVec Ideal S8x4352x512 .f32)

/-- The column of a head's key feature. -/
def keyCol (h : Fin 4) (d : Fin 128) : Fin 512 := ⟨128 * h.val + d.val, by omega⟩
/-- The column of a head's value feature. -/
def valCol (h : Fin 4) (e : Fin 256) : Fin 1024 := ⟨256 * h.val + e.val, by omega⟩

/-- The tokens of one batch element's head, nothing after the last. -/
def seqOf (b : Fin 8) (h : Fin 4) : Seq where
  q n d := if hn : n < 4352 then (X0 (ix3 b ⟨n, hn⟩ (keyCol h d)) : EReal).toReal else 0
  k n d := if hn : n < 4352 then (X1 (ix3 b ⟨n, hn⟩ (keyCol h d)) : EReal).toReal else 0
  v n e := if hn : n < 4352 then (X2 (ix3 b ⟨n, hn⟩ (valCol h e)) : EReal).toReal else 0
  g n d := if hn : n < 4352 then (X3 (ix3 b ⟨n, hn⟩ (keyCol h d)) : EReal).toReal else 0

/-- The head of a value column. -/
def headOf (n : Fin 1024) : Fin 4 := ⟨n.val / 256, by omega⟩
/-- The value feature of a value column. -/
def featOf (n : Fin 1024) : Fin 256 := ⟨n.val % 256, Nat.mod_lt _ (by omega)⟩

/-- The outputs of every batch element's every head. -/
def scan : FVec Ideal S8x4352x1024 .f32 := fun i =>
  (((seqOf X0 X1 X2 X3 (i 0) (headOf (i 2))).Out (i 1).val (featOf (i 2)) : ℝ) : EReal)

theorem coe_toReal {x : EReal} (h : IsReal x) : x = ((x.toReal : ℝ) : EReal) := by
  obtain ⟨r, rfl⟩ := h
  rfl

variable {X0 X1 X2 X3} (b : Fin 8) (h : Fin 4)

theorem seq_q (hr : ∀ i, IsReal (X0 i)) (n : Fin 4352) (d : Fin 128) :
    X0 (ix3 b n (keyCol h d)) = (((seqOf X0 X1 X2 X3 b h).q n.val d : ℝ) : EReal) := by
  rw [show (seqOf X0 X1 X2 X3 b h).q n.val d = (X0 (ix3 b n (keyCol h d)) : EReal).toReal from dif_pos n.isLt]
  exact coe_toReal (hr _)
theorem seq_k (hr : ∀ i, IsReal (X1 i)) (n : Fin 4352) (d : Fin 128) :
    X1 (ix3 b n (keyCol h d)) = (((seqOf X0 X1 X2 X3 b h).k n.val d : ℝ) : EReal) := by
  rw [show (seqOf X0 X1 X2 X3 b h).k n.val d = (X1 (ix3 b n (keyCol h d)) : EReal).toReal from dif_pos n.isLt]
  exact coe_toReal (hr _)
theorem seq_v (hr : ∀ i, IsReal (X2 i)) (n : Fin 4352) (e : Fin 256) :
    X2 (ix3 b n (valCol h e)) = (((seqOf X0 X1 X2 X3 b h).v n.val e : ℝ) : EReal) := by
  rw [show (seqOf X0 X1 X2 X3 b h).v n.val e = (X2 (ix3 b n (valCol h e)) : EReal).toReal from dif_pos n.isLt]
  exact coe_toReal (hr _)
theorem seq_g (hr : ∀ i, IsReal (X3 i)) (n : Fin 4352) (d : Fin 128) :
    X3 (ix3 b n (keyCol h d)) = (((seqOf X0 X1 X2 X3 b h).g n.val d : ℝ) : EReal) := by
  rw [show (seqOf X0 X1 X2 X3 b h).g n.val d = (X3 (ix3 b n (keyCol h d)) : EReal).toReal from dif_pos n.isLt]
  exact coe_toReal (hr _)

end Spec

/-! ## The blocks a point reads -/

variable (m : (ℓ : Loc nD τ sig) → Buf (Elt Ideal) ℓ)

theorem at0 : ∀ t : Fin grid0.N, win0_0.index t = ![t.val / 68, t.val % 17, t.val / 17 % 4] := by decide +kernel
theorem at1 : ∀ t : Fin grid0.N, win0_1.index t = ![t.val / 68, t.val % 17, t.val / 17 % 4] := by decide +kernel
theorem at2 : ∀ t : Fin grid0.N, win0_2.index t = ![t.val / 68, t.val % 17, t.val / 17 % 4] := by decide +kernel
theorem at3 : ∀ t : Fin grid0.N, win0_3.index t = ![t.val / 68, t.val % 17, t.val / 17 % 4] := by decide +kernel
theorem at4 : ∀ t : Fin grid0.N, win0_4.index t = ![t.val / 68, t.val % 17, t.val / 17 % 4] := by decide +kernel

theorem lt_N (t : Fin cfg0.N) : t.val < 544 := by have h := t.isLt; exact lt_of_lt_of_eq h N_0

/-- The batch element of a point. -/
def bat (t : Fin cfg0.N) : Fin 8 := ⟨t.val / 68, by have := lt_N t; omega⟩
/-- The head of a point. -/
def hed (t : Fin cfg0.N) : Fin 4 := ⟨t.val / 17 % 4, by omega⟩
/-- The token of row `r` of a point's block. -/
def tok (t : Fin cfg0.N) (r : Fin 256) : Fin 4352 := ⟨256 * (t.val % 17) + r.val, by omega⟩

theorem blk0_at (c : Dev nD) (t : Fin cfg0.N) (r : Fin 256) (d : Fin 128) :
    iblk m c 0 t (ix3 0 r d) = m ((c : Thread nD τ).loc main_arg0) (ix3 (bat t) (tok t r) (keyCol (hed t) d)) := by
  show V m c main_arg0 ((win0_0.rect t).emb (ix3 0 r d)) = _
  rw [V_main_arg0]
  congr 1
  funext a
  apply Fin.ext
  refine (Window.rect_emb_val win0_0 t _ a).trans ?_
  rw [at0 t]
  match a with
  | ⟨0, _⟩ => show t.val / 68 * 1 + 0 = t.val / 68; omega
  | ⟨1, _⟩ => show t.val % 17 * 256 + r.val = 256 * (t.val % 17) + r.val; omega
  | ⟨2, _⟩ => show t.val / 17 % 4 * 128 + d.val = 128 * (t.val / 17 % 4) + d.val; omega

theorem blk1_at (c : Dev nD) (t : Fin cfg0.N) (r : Fin 256) (d : Fin 128) :
    iblk m c 1 t (ix3 0 r d) = m ((c : Thread nD τ).loc main_arg1) (ix3 (bat t) (tok t r) (keyCol (hed t) d)) := by
  show V m c main_arg1 ((win0_1.rect t).emb (ix3 0 r d)) = _
  rw [V_main_arg1]
  congr 1
  funext a
  apply Fin.ext
  refine (Window.rect_emb_val win0_1 t _ a).trans ?_
  rw [at1 t]
  match a with
  | ⟨0, _⟩ => show t.val / 68 * 1 + 0 = t.val / 68; omega
  | ⟨1, _⟩ => show t.val % 17 * 256 + r.val = 256 * (t.val % 17) + r.val; omega
  | ⟨2, _⟩ => show t.val / 17 % 4 * 128 + d.val = 128 * (t.val / 17 % 4) + d.val; omega

theorem blk2_at (c : Dev nD) (t : Fin cfg0.N) (r : Fin 256) (e : Fin 256) :
    iblk m c 2 t (ix3 0 r e) = m ((c : Thread nD τ).loc main_arg2) (ix3 (bat t) (tok t r) (valCol (hed t) e)) := by
  show V m c main_arg2 ((win0_2.rect t).emb (ix3 0 r e)) = _
  rw [V_main_arg2]
  congr 1
  funext a
  apply Fin.ext
  refine (Window.rect_emb_val win0_2 t _ a).trans ?_
  rw [at2 t]
  match a with
  | ⟨0, _⟩ => show t.val / 68 * 1 + 0 = t.val / 68; omega
  | ⟨1, _⟩ => show t.val % 17 * 256 + r.val = 256 * (t.val % 17) + r.val; omega
  | ⟨2, _⟩ => show t.val / 17 % 4 * 256 + e.val = 256 * (t.val / 17 % 4) + e.val; omega

theorem blk3_at (c : Dev nD) (t : Fin cfg0.N) (r : Fin 256) (d : Fin 128) :
    iblk m c 3 t (ix3 0 r d) = m ((c : Thread nD τ).loc main_arg3) (ix3 (bat t) (tok t r) (keyCol (hed t) d)) := by
  show V m c main_arg3 ((win0_3.rect t).emb (ix3 0 r d)) = _
  rw [V_main_arg3]
  congr 1
  funext a
  apply Fin.ext
  refine (Window.rect_emb_val win0_3 t _ a).trans ?_
  rw [at3 t]
  match a with
  | ⟨0, _⟩ => show t.val / 68 * 1 + 0 = t.val / 68; omega
  | ⟨1, _⟩ => show t.val % 17 * 256 + r.val = 256 * (t.val % 17) + r.val; omega
  | ⟨2, _⟩ => show t.val / 17 % 4 * 128 + d.val = 128 * (t.val / 17 % 4) + d.val; omega

/-! ## Point after point -/

/-- Device `c`'s arrays are real. -/
structure Real4 (c : Dev nD) : Prop where
  q : ∀ i, IsReal (m ((c : Thread nD τ).loc main_arg0) i)
  k : ∀ i, IsReal (m ((c : Thread nD τ).loc main_arg1) i)
  v : ∀ i, IsReal (m ((c : Thread nD τ).loc main_arg2) i)
  g : ∀ i, IsReal (m ((c : Thread nD τ).loc main_arg3) i)

/-- The tokens of a point's batch element and head. -/
abbrev sq (c : Dev nD) (t : Fin cfg0.N) : Seq :=
  seqOf (m ((c : Thread nD τ).loc main_arg0)) (m ((c : Thread nD τ).loc main_arg1)) (m ((c : Thread nD τ).loc main_arg2))
    (m ((c : Thread nD τ).loc main_arg3)) (bat t) (hed t)

section Points

variable {m} {c : Dev nD} (hr : Real4 m c) (t : Fin cfg0.N)

include hr

theorem rq (r : Fin 256) (d : Fin 128) : iblk m c 0 t (ix3 0 r d) = (((sq m c t).q (256 * (t.val % 17) + r.val) d : ℝ) : EReal) :=
  (blk0_at m c t r d).trans (seq_q (bat t) (hed t) hr.q (tok t r) d)
theorem rk (r : Fin 256) (d : Fin 128) : iblk m c 1 t (ix3 0 r d) = (((sq m c t).k (256 * (t.val % 17) + r.val) d : ℝ) : EReal) :=
  (blk1_at m c t r d).trans (seq_k (bat t) (hed t) hr.k (tok t r) d)
theorem rv (r : Fin 256) (e : Fin 256) : iblk m c 2 t (ix3 0 r e) = (((sq m c t).v (256 * (t.val % 17) + r.val) e : ℝ) : EReal) :=
  (blk2_at m c t r e).trans (seq_v (bat t) (hed t) hr.v (tok t r) e)
theorem rg (r : Fin 256) (d : Fin 128) : iblk m c 3 t (ix3 0 r d) = (((sq m c t).g (256 * (t.val % 17) + r.val) d : ℝ) : EReal) :=
  (blk3_at m c t r d).trans (seq_g (bat t) (hed t) hr.g (tok t r) d)

omit hr in
/-- Within a head the point before is of the same tokens. -/
theorem sq_pred (h : ¬t.val % 17 = 0) (hp : t.val - 1 < cfg0.N) : sq m c ⟨t.val - 1, hp⟩ = sq m c t := by
  unfold sq
  rw [show bat ⟨t.val - 1, hp⟩ = bat t from Fin.ext (by show (t.val - 1) / 68 = t.val / 68; omega),
    show hed ⟨t.val - 1, hp⟩ = hed t from Fin.ext (by show (t.val - 1) / 17 % 4 = t.val / 17 % 4; omega)]

/-- The state a head starts from. -/
theorem start_at (h : t.val % 17 = 0) (e : Fin 256) (d : Fin 128) :
    k0_pay4 (F := Ideal) (ix2 e d) = (((sq m c t).St (256 * (t.val % 17)) e d : ℝ) : EReal) := by
  have hz : k0_pay4 (F := Ideal) (ix2 e d) = 0 := by
    pointwise [k0_pay4]
  rw [hz, h]
  rfl

/-- The carried state after a point: the recurrence's after the block's tokens. -/
theorem state_at : ∀ (n : ℕ) (hn : n < cfg0.N) (e : Fin 256) (d : Fin 128),
    (outsAt0 m c n hn).2 (ix2 e d) = (((sq m c ⟨n, hn⟩).St (256 * (n % 17) + 256) e d : ℝ) : EReal) := by
  intro n
  induction n with
  | zero =>
    intro hn e d
    rw [outsAt0_A m c ⟨0, hn⟩ (Nat.zero_mod _)]
    dsimp only
    rw [sout_A]
    exact stateAt_real (rk hr ⟨0, hn⟩) (rv hr ⟨0, hn⟩) (rg hr ⟨0, hn⟩) (start_at hr ⟨0, hn⟩ (Nat.zero_mod _)) 4 le_rfl e d
  | succ n ih =>
    intro hn e d
    by_cases h : (n + 1) % 17 = 0
    · rw [outsAt0_A m c ⟨n + 1, hn⟩ h]
      dsimp only
      rw [sout_A]
      exact stateAt_real (rk hr ⟨n + 1, hn⟩) (rv hr ⟨n + 1, hn⟩) (rg hr ⟨n + 1, hn⟩) (start_at hr ⟨n + 1, hn⟩ h) 4 le_rfl e d
    · rw [outsAt0_B m c ⟨n + 1, hn⟩ h]
      dsimp only
      rw [sout_B]
      refine stateAt_real (rk hr ⟨n + 1, hn⟩) (rv hr ⟨n + 1, hn⟩) (rg hr ⟨n + 1, hn⟩) (fun e d => (ih (by omega) e d).trans ?_) 4 le_rfl e d
      rw [show sq m c ⟨n, by omega⟩ = sq m c ⟨n + 1, hn⟩ from sq_pred ⟨n + 1, hn⟩ h (by show n < cfg0.N; omega),
        show 256 * (n % 17) + 256 = 256 * ((n + 1) % 17) by omega]

/-- The block a point leaves: the outputs of its tokens. -/
theorem block_at (r e : Fin 256) :
    (outsAt0 m c t.val t.isLt).1 (ix3 0 r e) = (((sq m c t).Out (256 * (t.val % 17) + r.val) e : ℝ) : EReal) := by
  by_cases h : t.val % 17 = 0
  · rw [outsAt0_A m c t h]
    dsimp only
    rw [out_A]
    exact outBlk_real (rq hr t) (rk hr t) (rv hr t) (rg hr t) (start_at hr t h) r e
  · have ht := lt_N t
    have hp : t.val - 1 < cfg0.N := lt_of_le_of_lt (Nat.sub_le _ _) t.isLt
    rw [outsAt0_B m c t h]
    dsimp only
    rw [out_B]
    refine outBlk_real (rq hr t) (rk hr t) (rv hr t) (rg hr t) (fun e d => (state_at hr (t.val - 1) hp e d).trans ?_) r e
    rw [sq_pred t h hp, show 256 * ((t.val - 1) % 17) + 256 = 256 * (t.val % 17) by omega]

end Points

/-- The outputs of device `c`'s arrays. -/
abbrev res (c : Dev nD) : FVec Ideal S8x4352x1024 .f32 :=
  scan (m ((c : Thread nD τ).loc main_arg0)) (m ((c : Thread nD τ).loc main_arg1)) (m ((c : Thread nD τ).loc main_arg2))
    (m ((c : Thread nD τ).loc main_arg3))

theorem entry {c : Dev nD} (hr : Real4 m c) (t : Fin cfg0.N) (r e : Fin 256) :
    (outsAt0 m c t.val t.isLt).1 (ix3 0 r e) = res m c (ix3 (bat t) (tok t r) (valCol (hed t) e)) := by
  refine (block_at hr t r e).trans ?_
  have hh : headOf (valCol (hed t) e) = hed t := Fin.ext (by show (256 * (hed t).val + e.val) / 256 = (hed t).val; omega)
  have hf : featOf (valCol (hed t) e) = e := Fin.ext (by show (256 * (hed t).val + e.val) % 256 = e.val; omega)
  show _ = (((seqOf _ _ _ _ (bat t) (headOf (valCol (hed t) e))).Out (tok t r).val (featOf (valCol (hed t) e)) : ℝ) : EReal)
  rw [hh, hf]
  rfl

theorem flushed_eq {c : Dev nD} (hr : Real4 m c) (t : Fin cfg0.N) :
    (dats m 0 c).flushed 4 t = ((cfg0.win 4).blk t).view.read (Elt Ideal) (res m c) := by
  unfold Pipeline.Dat.flushed
  rw [after0_4]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show (outsAt0 m c t.val t.isLt).1 y = res m c ((win0_4.rect t).emb y)
  rw [hy]
  refine (entry m hr t (y 1) (y 2)).trans ?_
  congr 1
  funext a
  apply Fin.ext
  refine Eq.trans ?_ (Window.rect_emb_val win0_4 t _ a).symm
  rw [at4 t]
  match a with
  | ⟨0, _⟩ => show t.val / 68 = t.val / 68 * 1 + 0; omega
  | ⟨1, _⟩ => show 256 * (t.val % 17) + (y 1).val = t.val % 17 * 256 + (y 1).val; omega
  | ⟨2, _⟩ => show 256 * (t.val / 17 % 4) + (y 2).val = t.val / 17 % 4 * 256 + (y 2).val; omega

theorem cover (i : S8x4352x1024.Idx) : ∃ t : Fin cfg0.N, (cfg0.win 4).flush t = true ∧ i ∈ ((cfg0.win 4).blk t).view.set := by
  have h0 : (i 0).val < 8 := (i 0).isLt
  have h1 : (i 1).val < 4352 := (i 1).isLt
  have h2 : (i 2).val < 1024 := (i 2).isLt
  obtain ⟨n, hn⟩ : ∃ n, n = 68 * (i 0).val + 17 * ((i 2).val / 256) + (i 1).val / 256 := ⟨_, rfl⟩
  have hN : n < cfg0.N := lt_of_lt_of_eq (show n < 544 by omega) N_0.symm
  refine ⟨⟨n, hN⟩, flush0_4 _, ?_⟩
  show i ∈ ((View.whole main_v0).slice (win0_4.rect ⟨n, hN⟩)).set
  rw [View.set_slice_whole, Rect.mem_set_unit]
  intro a
  show win0_4.index ⟨n, hN⟩ a * _ ≤ _ ∧ _ < win0_4.index ⟨n, hN⟩ a * _ + _
  rw [at4]
  match a with
  | ⟨0, _⟩ => show n / 68 * 1 ≤ (i 0).val ∧ (i 0).val < n / 68 * 1 + 1; omega
  | ⟨1, _⟩ => show n % 17 * 256 ≤ (i 1).val ∧ (i 1).val < n % 17 * 256 + 256; omega
  | ⟨2, _⟩ => show n / 17 % 4 * 256 ≤ (i 2).val ∧ (i 2).val < n / 17 % 4 * 256 + 256; omega

/-- The result array after the launch. -/
theorem final {c : Dev nD} (hr : Real4 m c) : (dats m 0 c).arrAt 4 cfg0.N = res m c :=
  (dats m 0 c).arrAt_eq_of_cover 4 (res m c) (fun t _ => flushed_eq m hr t) cover

/-- The run's final state from real arrays: the outputs, and the arguments unchanged. -/
theorem value (hr : ∀ c, Real4 m c) (ρ : Dev nD → PrngReg) : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m (hr c)), h.2 c⟩)
    (θ_run_and (run_main m ρ) (unchanged m ρ))

end Cert.Kernel7Ideal.Hand
end
-- ==== Proof.Reference7.lean ====
/-
  The reference's recurrence, entry by entry, over the extended reals; and what its precondition says.
-/
module

public import proofs.«01_k».proof.Defs
public import proofs.«01_k».proof.Proof.Gen.Pre_finite_scan
public import proofs.«01_k».proof.Proof.Gen.Reference7Ideal
public import proofs.«01_k».proof.Proof.Gen.Reference7Ideal.Run
public import proofs.«01_k».proof.Proof.Gen.Reference7Ideal.Read
public import proofs.«01_k».proof.Proof.Kernel7Ideal.Value
public import proofs.«01_k».proof.Proof.FiniteGates
public import proofs.«01_k».proof.Proof.Reference2
public import Idealize.ShloMosaic.Lib.ReduceAll

@[expose] public section

set_option maxRecDepth 16384

noncomputable section

namespace Cert.FiniteScan

open Idealize.ShloMosaic Cert.Pre_finite_scan Cert.Pre_finite_scan.Facts
open Cert.Gates (IsReal)
open Cert.FiniteGates (real_of_abs)

instance : Subsingleton S_.Idx := ⟨fun a b => funext fun d => d.elim0⟩

theorem top_bits16 : Ideal.ofBits .bf16 0x7F80#16 = Ideal.ofBits .f32 0x7F800000#32 := by simp [Ideal.ofBits, Ideal.ieee]

theorem real_of_abs16 {x : EReal} (h : Ideal.cmp .olt (max x (-x)) (Ideal.ofBits .bf16 0x7F80#16) = 1#1) : IsReal x :=
  real_of_abs (top_bits16 ▸ h)

theorem of_fn [Cert.Pre_finite_scan.Facts] (x0 x1 : FVec Ideal S8x4352x512 .bf16) (x2 : FVec Ideal S8x4352x1024 .bf16) (x3 : FVec Ideal S8x4352x512 .f32)
    (h : fn x0 x1 x2 x3 (fun d => d.elim0) = 1#1) : (∀ i, IsReal (x0 i)) ∧ (∀ i, IsReal (x1 i)) ∧ (∀ i, IsReal (x2 i)) ∧ ∀ i, IsReal (x3 i) := by
  obtain ⟨h13, h17⟩ := IntOp.andi_eq_one.1 h
  obtain ⟨h8, h12⟩ := IntOp.andi_eq_one.1 h13
  obtain ⟨h3, h7⟩ := IntOp.andi_eq_one.1 h8
  exact ⟨fun i => real_of_abs16 (Host.reduce_andi_all _ _ _ _ _ h3 i), fun i => real_of_abs16 (Host.reduce_andi_all _ _ _ _ _ h7 i),
    fun i => real_of_abs16 (Host.reduce_andi_all _ _ _ _ _ h12 i), fun i => real_of_abs (Host.reduce_andi_all _ _ _ _ _ h17 i)⟩

end Cert.FiniteScan

namespace Cert.Reference7Ideal.Hand

open Cert.Reference7Ideal Cert.Reference7Ideal.Gen Cert.Reference7Ideal.Read
open Idealize.ShloMosaic Idealize.ShloMosaic.TcCoe
open Cert.Kernel7Ideal.Hand (scan seqOf keyCol valCol headOf featOf exp_coe seq_q seq_k seq_v seq_g)
open Cert.Scan
open Cert.Gates (IsReal)
open Cert.Reference2Ideal.Hand (zero_bits)

/-! ## The sum of the gates -/

theorem foldl_add {N : ℕ} (f : Fin N → EReal) (z : EReal) (L : List (Fin N)) :
    L.foldl (fun r n => r + f n) z = z + (L.map f).sum := by
  induction L generalizing z with
  | nil => simp
  | cons a L ih => rw [List.foldl_cons, ih, List.map_cons, List.sum_cons, add_assoc]

/-- The window that ends at a token holds the tokens up to it. -/
theorem window_sum {N P : ℕ} (hN : P + 1 = N) (f : ℕ → ℝ) (i : ℕ) (hi : i < N) :
    (∑ w ∈ Finset.range N, if P ≤ i + w then f (i + w - P) else 0) = ∑ j ∈ Finset.range (i + 1), f j := by
  obtain ⟨p, hp⟩ : ∃ p, p = P - i := ⟨_, rfl⟩
  rw [show N = p + (i + 1) by omega, Finset.sum_range_add]
  have hz : (∑ w ∈ Finset.range p, if P ≤ i + w then f (i + w - P) else 0) = 0 :=
    Finset.sum_eq_zero fun w hw => if_neg (by have := Finset.mem_range.1 hw; omega)
  rw [hz, zero_add]
  refine Finset.sum_congr rfl fun j hj => ?_
  have := Finset.mem_range.1 hj
  rw [if_pos (by omega), show i + (p + j) - P = j by omega]

/-- The sums along the second axis: a window that reaches back over every row before. -/
theorem running_sum {A N P B C : ℕ} (hN : P + 1 = N) {u : Shape} (x : (⟨4, ![A, N, B, C]⟩ : Shape).Idx → EReal)
    (R : (⟨4, ![A, N, B, C]⟩ : Shape).ReduceWindows (![1, N, 1, 1] : Fin 4 → ℕ) ![1, 1, 1, 1] ![0, P, 0, 0] ![0, 0, 0, 0] (⟨4, ![A, N, B, C]⟩ : Shape))
    (hu : 0 < u.numel) (b : Fin A) (h : Fin B) (d : Fin C) (f : ℕ → ℝ)
    (hx : ∀ j : Fin N, x (ix4 b j h d) = ((f j.val : ℝ) : EReal)) (i : Fin N) :
    Host.reduceWindow (s := (⟨4, ![A, N, B, C]⟩ : Shape)) (t := (⟨4, ![A, N, B, C]⟩ : Shape)) (u := u) (fun a b : EReal => a + b)
      ![1, N, 1, 1] ![1, 1, 1, 1] ![0, P, 0, 0] ![0, 0, 0, 0] x (fun _ => (0 : EReal)) R hu (ix4 b i h d)
      = ((∑ j ∈ Finset.range (i.val + 1), f j : ℝ) : EReal) := by
  have hi : i.val < N := i.isLt
  have hb := b.isLt
  have hh := h.isLt
  have hd := d.isLt
  unfold Host.reduceWindow
  dsimp only
  refine (foldl_add _ _ _).trans ?_
  rw [zero_add, ← Fin.sum_univ_def]
  let G : (⟨4, ![1, N, 1, 1]⟩ : Shape).Idx → EReal := fun w =>
    (((if P ≤ i.val + (w 1).val then f (i.val + (w 1).val - P) else 0 : ℝ)) : EReal)
  have hG : (∑ w, G w) = ((∑ j ∈ Finset.range (i.val + 1), f j : ℝ) : EReal) := by
    rw [sum_idx4]
    simp only [Fin.sum_univ_one, Fin.isValue]
    rw [← window_sum hN f i.val hi, coe_sum,
      ← Fin.sum_univ_eq_sum_range (fun w => (((if P ≤ i.val + w then f (i.val + w - P) else 0 : ℝ)) : EReal)) N]
    rfl
  refine Eq.trans (Finset.sum_congr rfl fun n _ => ?_) ((Equiv.sum_comp (⟨4, ![1, N, 1, 1]⟩ : Shape).rowMajor.symm G).trans hG)
  let w : (⟨4, ![1, N, 1, 1]⟩ : Shape).Idx := (⟨4, ![1, N, 1, 1]⟩ : Shape).rowMajor.symm n
  have w0 : (w 0).val < 1 := (w 0).isLt
  have w1 : (w 1).val < N := (w 1).isLt
  have w2 : (w 2).val < 1 := (w 2).isLt
  have w3 : (w 3).val < 1 := (w 3).isLt
  show _ = (((if P ≤ i.val + (w 1).val then f (i.val + (w 1).val - P) else 0 : ℝ)) : EReal)
  by_cases hc : P ≤ i.val + (w 1).val
  · rw [if_pos hc]
    refine (dif_pos fun a => ?_).trans ((congrArg x (funext fun a => Fin.ext ?_)).trans (hx ⟨i.val + (w 1).val - P, by omega⟩))
    · match a with
      | ⟨0, _⟩ => show 0 ≤ b.val * 1 + (w 0).val ∧ b.val * 1 + (w 0).val - 0 < A; omega
      | ⟨1, _⟩ => show P ≤ i.val * 1 + (w 1).val ∧ i.val * 1 + (w 1).val - P < N; omega
      | ⟨2, _⟩ => show 0 ≤ h.val * 1 + (w 2).val ∧ h.val * 1 + (w 2).val - 0 < B; omega
      | ⟨3, _⟩ => show 0 ≤ d.val * 1 + (w 3).val ∧ d.val * 1 + (w 3).val - 0 < C; omega
    · match a with
      | ⟨0, _⟩ => show b.val * 1 + (w 0).val - 0 = b.val; omega
      | ⟨1, _⟩ => show i.val * 1 + (w 1).val - P = i.val + (w 1).val - P; omega
      | ⟨2, _⟩ => show h.val * 1 + (w 2).val - 0 = h.val; omega
      | ⟨3, _⟩ => show d.val * 1 + (w 3).val - 0 = d.val; omega
  · rw [if_neg hc]
    refine dif_neg fun hin => hc ?_
    have h1 : P ≤ i.val * 1 + (w 1).val := (hin 1).1
    omega

theorem cumsum_at (x : FVec Ideal S8x4352x4x128 .f32) (y : FVec Ideal S_ .f32) (hy : ∀ u, y u = (0 : EReal)) (b : Fin 8) (h : Fin 4) (d : Fin 128)
    (f : ℕ → ℝ) (hx : ∀ j : Fin 4352, x (ix4 b j h d) = ((f j.val : ℝ) : EReal)) (i : Fin 4352) :
    Host.reduceWindowAdd ![1, 4352, 1, 1] ![1, 1, 1, 1] ![0, 4351, 0, 0] ![0, 0, 0, 0] x y
      reduceWindows_S8x4352x4x128_S8x4352x4x128_w1s1p0_0_w4352s1p4351_0_w1s1p0_0_w1s1p0_0 h_S_ (ix4 b i h d)
      = ((∑ j ∈ Finset.range (i.val + 1), f j : ℝ) : EReal) := by
  unfold Host.reduceWindowAdd
  rw [hy]
  show Ideal.hostReduceWindowAdd ![1, 4352, 1, 1] ![1, 1, 1, 1] ![0, 4351, 0, 0] ![0, 0, 0, 0]
    reduceWindows_S8x4352x4x128_S8x4352x4x128_w1s1p0_0_w4352s1p4351_0_w1s1p0_0_w1s1p0_0 x 0 (ix4 b i h d) = _
  unfold Ideal.hostReduceWindowAdd
  exact running_sum (P := 4351) rfl x _ _ b h d f hx i

/-! ## The mask -/

theorem sge_small {i k : ℕ} (hi : i < 4352) (hk : k < 4352) :
    IntOp.cmpi .sge (IntOp.addi (BitVec.ofNat 32 i) 0#32) (BitVec.ofNat 32 k) = if k ≤ i then 1#1 else 0#1 := by
  have e : IntOp.addi (BitVec.ofNat 32 i) 0#32 = BitVec.ofNat 32 i := BitVec.add_zero _
  rw [e]
  have hi' : (BitVec.ofNat 32 i).toInt = i := by
    rw [BitVec.toInt_eq_toNat_of_lt] <;> rw [BitVec.toNat_ofNat] <;> omega
  have hk' : (BitVec.ofNat 32 k).toInt = k := by
    rw [BitVec.toInt_eq_toNat_of_lt] <;> rw [BitVec.toNat_ofNat] <;> omega
  show BitVec.ofBool (BitVec.sle (BitVec.ofNat 32 k) (BitVec.ofNat 32 i)) = _
  rw [BitVec.sle, hi', hk']
  by_cases hc : k ≤ i
  · rw [if_pos hc, decide_eq_true (by exact_mod_cast hc)]; rfl
  · rw [if_neg hc, decide_eq_false (by exact_mod_cast hc)]; rfl

theorem mask_at (b : Fin 8) (i k : Fin 4352) (h : Fin 4) (d : Fin 128) :
    val_main_call2_v1 (F := Ideal) (ix5 b i k h d) = if k.val ≤ i.val then 1#1 else 0#1 := by
  rw [val_main_call2_v1_apply, val_main_v10_apply, val_main_v9_apply, val_main_call1_v4_apply, val_main_call1_v2_apply, val_main_call1_v0_apply,
    val_main_call1_v1_apply, val_main_call1_c_apply, val_main_call1_v3_apply, val_main_v8_apply, val_main_c_apply, val_main_call1_v5_apply,
    val_main_call1_c_0_apply]
  show Scalar.select (IntOp.cmpi .sge (IntOp.addi (BitVec.ofNat 32 i.val) 0#32) (BitVec.ofNat 32 k.val)) 1#1 0#1 = _
  rw [sge_small i.isLt k.isLt]
  split <;> rfl

/-! ## The recurrence -/

variable {x0 x1 : FVec Ideal S8x4352x512 .bf16} {x2 : FVec Ideal S8x4352x1024 .bf16} {x3 : FVec Ideal S8x4352x512 .f32}
  (h0 : ∀ i, IsReal (x0 i)) (h1 : ∀ i, IsReal (x1 i)) (h2 : ∀ i, IsReal (x2 i)) (h3 : ∀ i, IsReal (x3 i))

theorem query_at (b : Fin 8) (i k : Fin 4352) (h : Fin 4) (d : Fin 128) :
    val_main_v20 (F := Ideal) x0 (ix5 b i k h d) = x0 (ix3 b i (keyCol h d)) := by
  rw [val_main_v20_apply, val_main_v18_apply, val_main_v1_apply, val_main_v0_apply]
  show x0 _ = _
  refine congrArg x0 (funext fun a => Fin.ext ?_)
  have hb := b.isLt
  have hi := i.isLt
  have hh := h.isLt
  have hd := d.isLt
  match a with
  | ⟨0, _⟩ => show (((b.val * 4352 + i.val) * 4 + h.val) * 128 + d.val) / 2228224 = b.val; omega
  | ⟨1, _⟩ => show (((b.val * 4352 + i.val) * 4 + h.val) * 128 + d.val) / 512 % 4352 = i.val; omega
  | ⟨2, _⟩ => show (((b.val * 4352 + i.val) * 4 + h.val) * 128 + d.val) % 512 = 128 * h.val + d.val; omega

theorem key_at (b : Fin 8) (i k : Fin 4352) (h : Fin 4) (d : Fin 128) :
    val_main_v21 (F := Ideal) x1 (ix5 b i k h d) = x1 (ix3 b k (keyCol h d)) := by
  rw [val_main_v21_apply, val_main_v19_apply, val_main_v3_apply, val_main_v2_apply]
  show x1 _ = _
  refine congrArg x1 (funext fun a => Fin.ext ?_)
  have hb := b.isLt
  have hi := k.isLt
  have hh := h.isLt
  have hd := d.isLt
  match a with
  | ⟨0, _⟩ => show (((b.val * 4352 + k.val) * 4 + h.val) * 128 + d.val) / 2228224 = b.val; omega
  | ⟨1, _⟩ => show (((b.val * 4352 + k.val) * 4 + h.val) * 128 + d.val) / 512 % 4352 = k.val; omega
  | ⟨2, _⟩ => show (((b.val * 4352 + k.val) * 4 + h.val) * 128 + d.val) % 512 = 128 * h.val + d.val; omega

theorem value_at (b : Fin 8) (k : Fin 4352) (h : Fin 4) (e : Fin 256) :
    val_main_v5 (F := Ideal) x2 (ix4 b k h e) = x2 (ix3 b k (valCol h e)) := by
  rw [val_main_v5_apply, val_main_v4_apply]
  show x2 _ = _
  refine congrArg x2 (funext fun a => Fin.ext ?_)
  have hb := b.isLt
  have hi := k.isLt
  have hh := h.isLt
  have hd := e.isLt
  match a with
  | ⟨0, _⟩ => show (((b.val * 4352 + k.val) * 4 + h.val) * 256 + e.val) / 4456448 = b.val; omega
  | ⟨1, _⟩ => show (((b.val * 4352 + k.val) * 4 + h.val) * 256 + e.val) / 1024 % 4352 = k.val; omega
  | ⟨2, _⟩ => show (((b.val * 4352 + k.val) * 4 + h.val) * 256 + e.val) % 1024 = 256 * h.val + e.val; omega

theorem gate_at (b : Fin 8) (k : Fin 4352) (h : Fin 4) (d : Fin 128) :
    val_main_v6 (F := Ideal) x3 (ix4 b k h d) = x3 (ix3 b k (keyCol h d)) := by
  rw [val_main_v6_apply]
  refine congrArg x3 (funext fun a => Fin.ext ?_)
  have hb := b.isLt
  have hi := k.isLt
  have hh := h.isLt
  have hd := d.isLt
  match a with
  | ⟨0, _⟩ => show (((b.val * 4352 + k.val) * 4 + h.val) * 128 + d.val) / 2228224 = b.val; omega
  | ⟨1, _⟩ => show (((b.val * 4352 + k.val) * 4 + h.val) * 128 + d.val) / 512 % 4352 = k.val; omega
  | ⟨2, _⟩ => show (((b.val * 4352 + k.val) * 4 + h.val) * 128 + d.val) % 512 = 128 * h.val + d.val; omega

include h3 in
/-- The gates' sums up to a token. -/
theorem sums_at (b : Fin 8) (i : Fin 4352) (h : Fin 4) (d : Fin 128) :
    val_main_v7 (F := Ideal) x3 (ix4 b i h d) = (((seqOf x0 x1 x2 x3 b h).C (i.val + 1) d : ℝ) : EReal) := by
  unfold val_main_v7
  exact cumsum_at _ _ (fun u => by
      rw [val_main_call0_call0_v0_apply, val_main_call0_call0_cst_apply]
      exact zero_bits) b h d (fun j => (seqOf x0 x1 x2 x3 b h).g j d)
    (fun j => (gate_at b j h d).trans (seq_g b h h3 j d)) i

include h3 in
/-- The decay between two tokens, none from a later one. -/
theorem decay_at (b : Fin 8) (i k : Fin 4352) (h : Fin 4) (d : Fin 128) :
    val_main_v17 (F := Ideal) x3 (ix5 b i k h d)
      = (((if k.val ≤ i.val then Real.exp ((seqOf x0 x1 x2 x3 b h).C (i.val + 1) d - (seqOf x0 x1 x2 x3 b h).C (k.val + 1) d) else 0 : ℝ)) : EReal) := by
  rw [val_main_v17_apply, val_main_v16_apply, mask_at, val_main_v15_apply, val_main_v13_apply, val_main_v11_apply, val_main_v14_apply,
    val_main_v12_apply]
  have e1 : val_main_v7 (F := Ideal) x3 (idx_main_v11 (idx_main_v13 (ix5 b i k h d))) = (((seqOf x0 x1 x2 x3 b h).C (i.val + 1) d : ℝ) : EReal) := by
    refine Eq.trans (congrArg _ (funext fun a => ?_)) (sums_at h3 b i h d)
    match a with | ⟨0, _⟩ => rfl | ⟨1, _⟩ => rfl | ⟨2, _⟩ => rfl | ⟨3, _⟩ => rfl
  have e2 : val_main_v7 (F := Ideal) x3 (idx_main_v12 (idx_main_v14 (ix5 b i k h d))) = (((seqOf x0 x1 x2 x3 b h).C (k.val + 1) d : ℝ) : EReal) := by
    refine Eq.trans (congrArg _ (funext fun a => ?_)) (sums_at h3 b k h d)
    match a with | ⟨0, _⟩ => rfl | ⟨1, _⟩ => rfl | ⟨2, _⟩ => rfl | ⟨3, _⟩ => rfl
  rw [e1, e2]
  by_cases hc : k.val ≤ i.val
  · rw [if_pos hc, if_pos hc]
    show Ideal.exp ((((seqOf x0 x1 x2 x3 b h).C (i.val + 1) d : ℝ) : EReal) - (((seqOf x0 x1 x2 x3 b h).C (k.val + 1) d : ℝ) : EReal)) = _
    rw [← EReal.coe_sub, exp_coe]
  · rw [if_neg hc, if_neg hc, val_main_call2_v2_apply, val_main_call2_v0_apply, val_main_cst_apply]
    show Ideal.exp (Ideal.ofBits .f32 0xFF800000#32) = _
    have hb : Ideal.ofBits .f32 0xFF800000#32 = ⊥ := by simp [Ideal.ofBits, Ideal.ieee]
    rw [hb]
    rfl

include h0 h1 h3 in
/-- A query against a key. -/
theorem weight_at (b : Fin 8) (i k : Fin 4352) (h : Fin 4) :
    val_main_v24 (F := Ideal) x0 x1 x3 (ix4 b i k h)
      = (((if k.val ≤ i.val then ∑ d, (seqOf x0 x1 x2 x3 b h).q i.val d * (seqOf x0 x1 x2 x3 b h).k k.val d
            * Real.exp ((seqOf x0 x1 x2 x3 b h).C (i.val + 1) d - (seqOf x0 x1 x2 x3 b h).C (k.val + 1) d) else 0 : ℝ)) : EReal) := by
  rw [val_main_v24_apply, val_main_cst_0_apply]
  have hz : (FloatOps.ofBits .f32 0x00000000#32 : Ideal .f32) = (0 : EReal) := zero_bits
  rw [hz]
  refine (zero_add (_ : EReal)).trans ?_
  have e : ∀ d : Fin 128, val_main_v23 (F := Ideal) x0 x1 x3 (idx_main_v24 (ix4 b i k h) d)
      = (((seqOf x0 x1 x2 x3 b h).q i.val d * (seqOf x0 x1 x2 x3 b h).k k.val d
        * (if k.val ≤ i.val then Real.exp ((seqOf x0 x1 x2 x3 b h).C (i.val + 1) d - (seqOf x0 x1 x2 x3 b h).C (k.val + 1) d) else 0) : ℝ) : EReal) := by
    intro d
    have hi : idx_main_v24 (ix4 b i k h) d = ix5 b i k h d := by
      funext a; match a with | ⟨0, _⟩ => rfl | ⟨1, _⟩ => rfl | ⟨2, _⟩ => rfl | ⟨3, _⟩ => rfl | ⟨4, _⟩ => rfl
    rw [hi, val_main_v23_apply, val_main_v22_apply, query_at, key_at, decay_at (x0 := x0) (x1 := x1) (x2 := x2) h3,
      seq_q (X1 := x1) (X2 := x2) (X3 := x3) b h h0, seq_k (X0 := x0) (X2 := x2) (X3 := x3) b h h1, EReal.coe_mul, EReal.coe_mul]
    rfl
  rw [Finset.sum_congr rfl fun d _ => e d, ← coe_sum]
  by_cases hc : k.val ≤ i.val
  · simp only [if_pos hc]
  · simp only [if_neg hc, mul_zero, Finset.sum_const_zero]

include h0 h1 h2 h3 in
/-- From real arrays the reference's result is the recurrence's outputs. -/
theorem reference_eq : val_main_v27 (F := Ideal) x0 x1 x2 x3 = scan x0 x1 x2 x3 := by
  funext i
  obtain ⟨b, t, n, rfl⟩ : ∃ b t n, i = ix3 b t n := ⟨i 0, i 1, i 2, by
    funext a; match a with | ⟨0, _⟩ => rfl | ⟨1, _⟩ => rfl | ⟨2, _⟩ => rfl⟩
  have hb : b.val < 8 := b.isLt
  have ht : t.val < 4352 := t.isLt
  have hn : n.val < 1024 := n.isLt
  rw [val_main_v27_apply, val_main_v26_apply]
  have hi : idx_main_v26 (idx_main_v27 (ix3 b t n)) = ix4 b (headOf n) (featOf n) t := by
    funext a
    apply Fin.ext
    match a with
    | ⟨0, _⟩ => show ((b.val * 4352 + t.val) * 1024 + n.val) / 4456448 = b.val; omega
    | ⟨1, _⟩ => show ((b.val * 4352 + t.val) * 1024 + n.val) / 256 % 4 = n.val / 256; omega
    | ⟨2, _⟩ => show ((b.val * 4352 + t.val) * 1024 + n.val) % 256 = n.val % 256; omega
    | ⟨3, _⟩ => show ((b.val * 4352 + t.val) * 1024 + n.val) / 1024 % 4352 = t.val; omega
  rw [hi, val_main_v25_apply]
  show _ = (((seqOf x0 x1 x2 x3 b (headOf n)).Out t.val (featOf n) : ℝ) : EReal)
  generalize headOf n = h
  generalize featOf n = e
  have e1 : ∀ k : Fin 4352, val_main_v5 (F := Ideal) x2 (lidx_main_v25 (ix4 b h e t) k) * val_main_v24 (F := Ideal) x0 x1 x3 (ridx_main_v25 (ix4 b h e t) k)
      = (((if k.val ≤ t.val then (∑ d, (seqOf x0 x1 x2 x3 b h).q t.val d * (seqOf x0 x1 x2 x3 b h).k k.val d
            * Real.exp ((seqOf x0 x1 x2 x3 b h).C (t.val + 1) d - (seqOf x0 x1 x2 x3 b h).C (k.val + 1) d)) * (seqOf x0 x1 x2 x3 b h).v k.val e else 0 : ℝ)) : EReal) := by
    intro k
    have hl : lidx_main_v25 (ix4 b h e t) k = ix4 b k h e := by
      funext a; match a with | ⟨0, _⟩ => rfl | ⟨1, _⟩ => rfl | ⟨2, _⟩ => rfl | ⟨3, _⟩ => rfl
    have hr : ridx_main_v25 (ix4 b h e t) k = ix4 b t k h := by
      funext a; match a with | ⟨0, _⟩ => rfl | ⟨1, _⟩ => rfl | ⟨2, _⟩ => rfl | ⟨3, _⟩ => rfl
    rw [hl, hr, value_at, weight_at (x2 := x2) h0 h1 h3, seq_v (X0 := x0) (X1 := x1) (X3 := x3) b h h2]
    refine (EReal.coe_mul _ _).symm.trans (congrArg (fun z : ℝ => (z : EReal)) ?_)
    by_cases hc : k.val ≤ t.val
    · rw [if_pos hc, if_pos hc, mul_comm]
    · rw [if_neg hc, if_neg hc, mul_zero]
  rw [Finset.sum_congr rfl fun k _ => e1 k, ← coe_sum]
  refine congrArg (fun z : ℝ => (z : EReal)) ?_
  unfold Seq.Out
  rw [Fin.sum_univ_eq_sum_range (fun k => if k ≤ t.val then (∑ d, (seqOf x0 x1 x2 x3 b h).q t.val d * (seqOf x0 x1 x2 x3 b h).k k d
            * Real.exp ((seqOf x0 x1 x2 x3 b h).C (t.val + 1) d - (seqOf x0 x1 x2 x3 b h).C (k + 1) d)) * (seqOf x0 x1 x2 x3 b h).v k e else 0) 4352,
    ← Finset.sum_filter]
  refine Finset.sum_congr (Finset.ext fun k => ?_) fun _ _ => rfl
  simp only [Finset.mem_filter, Finset.mem_range]
  omega

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (Cert.Reference7Ideal.Value.run m ρ)

end Cert.Reference7Ideal.Hand

end
-- ==== Proof.Kernel8Ideal.Body.lean ====
/-
  What one grid point of the backward scan leaves in its output block and in the carried state: four chunks, the last rows first.
-/
module

public import proofs.«01_k».proof.Proof.Gen.Kernel8Ideal.Frame
public import Idealize.ShloMosaic.Lib.Pipeline.Value
public import Idealize.ShloMosaic.Lib.Pointwise

@[expose] public section

set_option maxRecDepth 16384

noncomputable section

namespace Cert.Kernel8Ideal.Hand

open Cert.Kernel8Ideal Cert.Kernel8Ideal.Gen
open Idealize.ShloMosaic Idealize.ShloMosaic.TcCoe

variable {F : FTy → Type} [FloatOps F]

theorem z2 : (![0, 0] : Fin 2 → ℕ) = fun _ => 0 := funext fun a => by fin_cases a <;> rfl

/-- The rows a chunk writes, from its gates, queries, keys and values and the state it finds. -/
def chunkOut (g : Vec F S1x64x128 .f32) (q k : Vec F S1x64x128 .bf16) (v : Vec F S1x64x256 .bf16) (st : Vec F S256x128 .f32) :
    FVec F S1x64x256 .f32 :=
  k0_pay14 k0_pay5 (k0_pay9 g q) (k0_pay12 v) (k0_pay13 g k) st

/-- The state a chunk leaves. -/
def chunkSt (g : Vec F S1x64x128 .f32) (k : Vec F S1x64x128 .bf16) (v : Vec F S1x64x256 .bf16) (st : Vec F S256x128 .f32) :
    FVec F S256x128 .f32 :=
  k0_pay15 (k0_pay8 g) (k0_pay11 g k) (k0_pay12 v) st

section Forms
variable (g : Vec F S1x64x128 .f32) (q k : Vec F S1x64x128 .bf16) (v : Vec F S1x64x256 .bf16) (st : Vec F S256x128 .f32)

theorem out1 : k0_pay21 k0_pay5 (k0_pay16 (k0_pay6 (F := F)) g) (k0_pay18 (k0_pay6 (F := F)) g q) k v st = chunkOut g q k v st := rfl
theorem st1 : k0_pay22 (k0_pay16 (k0_pay6 (F := F)) g) (k0_pay17 (k0_pay6 (F := F)) g) k v st = chunkSt g k v st := rfl
theorem out2 : k0_pay29 (k0_pay28 k0_pay5 (k0_pay6 (F := F)) g q k v st) = chunkOut g q k v st := rfl
theorem st2 : k0_pay30 (k0_pay24 (k0_pay6 (F := F)) g) (k0_pay26 (k0_pay6 (F := F)) g k) (k0_pay27 v) st = chunkSt g k v st := rfl
theorem out3 : k0_pay2 k0_pay5 (k0_pay33 (k0_pay6 (F := F)) g q) (k0_pay34 (k0_pay6 (F := F)) g k) v st = chunkOut g q k v st := rfl
theorem st3 : k0_pay3 (k0_pay32 (k0_pay6 (F := F)) g) (k0_pay35 (k0_pay6 (F := F)) g k) v st = chunkSt g k v st := rfl
end Forms

theorem rows_in {W : ℕ} (o : ℕ) (ho : o + 64 ≤ 256) (a : Fin 3) :
    (![0, o, 0] : Fin 3 → ℕ) a + (⟨3, ![1, 64, W]⟩ : Shape).size a ≤ (⟨3, ![1, 256, W]⟩ : Shape).size a := by
  match a with
  | ⟨0, _⟩ => show 0 + 1 ≤ 1; omega
  | ⟨1, _⟩ => show o + 64 ≤ 256; omega
  | ⟨2, _⟩ => show 0 + W ≤ W; omega

/-- The 64 rows of a block from row `o` on. -/
def rowsFrom {W : ℕ} {e : EltTy} (o : ℕ) (ho : o + 64 ≤ 256) (x : Vec F (⟨3, ![1, 256, W]⟩ : Shape) e) : Vec F (⟨3, ![1, 64, W]⟩ : Shape) e :=
  View.ld x (Rect.unit (s := (⟨3, ![1, 256, W]⟩ : Shape)) ![0, o, 0] (⟨3, ![1, 64, W]⟩ : Shape).size (rows_in o ho))

/-- The `n`-th 64 rows of a block, from its end. -/
def rowsOf {W : ℕ} {e : EltTy} (n : ℕ) (x : Vec F (⟨3, ![1, 256, W]⟩ : Shape) e) : Vec F (⟨3, ![1, 64, W]⟩ : Shape) e :=
  match n with
  | 0 => rowsFrom 192 (by omega) x
  | 1 => rowsFrom 128 (by omega) x
  | 2 => rowsFrom 64 (by omega) x
  | _ => rowsFrom 0 (by omega) x

theorem rowsFrom_at {W : ℕ} {e : EltTy} (o : ℕ) (ho : o + 64 ≤ 256) (x : Vec F (⟨3, ![1, 256, W]⟩ : Shape) e) (r : Fin 64) (d : Fin W) :
    rowsFrom o ho x (ix3 (0 : Fin 1) r d) = x (ix3 (0 : Fin 1) (⟨o + r.val, by omega⟩ : Fin 256) d) := by
  unfold rowsFrom View.ld
  congr 1
  funext a
  apply Fin.ext
  match a with
  | ⟨0, _⟩ => show 0 + 1 * 0 = 0; omega
  | ⟨1, _⟩ => show o + 1 * r.val = o + r.val; omega
  | ⟨2, _⟩ => show 0 + 1 * d.val = d.val; omega

theorem rowsOf_at {W : ℕ} {e : EltTy} (n : ℕ) (hn : n < 4) (x : Vec F (⟨3, ![1, 256, W]⟩ : Shape) e) (r : Fin 64) (d : Fin W) :
    rowsOf n x (ix3 (0 : Fin 1) r d) = x (ix3 (0 : Fin 1) (⟨(192 - 64 * n) + r.val, by omega⟩ : Fin 256) d) := by
  match n, hn with
  | 0, _ => exact rowsFrom_at 192 (by omega) x r d
  | 1, _ => exact rowsFrom_at 128 (by omega) x r d
  | 2, _ => exact rowsFrom_at 64 (by omega) x r d
  | 3, _ => exact rowsFrom_at 0 (by omega) x r d

/-- The state before chunk `n` of a block, from the state `st` before the block. -/
def stateAt (x1 : Vec F S1x256x128 .bf16) (x2 : Vec F S1x256x256 .bf16) (x3 : Vec F S1x256x128 .f32) (st : Vec F S256x128 .f32) : ℕ → Vec F S256x128 .f32
  | 0 => st
  | n + 1 => chunkSt (rowsOf n x3) (rowsOf n x1) (rowsOf n x2) (stateAt x1 x2 x3 st n)

/-- The rows chunk `n` of a block writes. -/
def outOf (x0 x1 : Vec F S1x256x128 .bf16) (x2 : Vec F S1x256x256 .bf16) (x3 : Vec F S1x256x128 .f32) (st : Vec F S256x128 .f32) (n : ℕ) : Vec F S1x64x256 .f32 :=
  chunkOut (rowsOf n x3) (rowsOf n x0) (rowsOf n x1) (rowsOf n x2) (stateAt x1 x2 x3 st n)

/-- The output block. -/
def outBlk (x0 x1 : Vec F S1x256x128 .bf16) (x2 : Vec F S1x256x256 .bf16) (x3 : Vec F S1x256x128 .f32) (st : Vec F S256x128 .f32) : Vec F S1x256x256 .f32 :=
  fun y => outOf x0 x1 x2 x3 st (3 - (y 1).val / 64) (ix3 (0 : Fin 1) (⟨(y 1).val % 64, Nat.mod_lt _ (by omega)⟩ : Fin 64) (y 2))

theorem piece_eq (x0 x1 : Vec F S1x256x128 .bf16) (x2 : Vec F S1x256x256 .bf16) (x3 : Vec F S1x256x128 .f32) (st : Vec F S256x128 .f32)
    (n : ℕ) (hn : n < 4) (y : S1x256x256.Idx) (x : S1x64x256.Idx) (h1 : (y 1).val = (192 - 64 * n) + (x 1).val) (h2 : (y 2).val = (x 2).val) :
    outOf x0 x1 x2 x3 st n x = outBlk x0 x1 x2 x3 st y := by
  have hx1 : (x 1).val < 64 := (x 1).isLt
  have hx0 : (x 0).val < 1 := (x 0).isLt
  unfold outBlk
  rw [show 3 - (y 1).val / 64 = n by omega]
  congr 1
  funext a
  apply Fin.ext
  match a with
  | ⟨0, _⟩ => show (x 0).val = 0; omega
  | ⟨1, _⟩ => show (x 1).val = (y 1).val % 64; omega
  | ⟨2, _⟩ => exact h2.symm

theorem sout_B (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : ¬cond0_0 i) (x0 x1 : Vec F S1x256x128 .bf16) (x2 : Vec F S1x256x256 .bf16) (x3 : Vec F S1x256x128 .f32) (xs0 : Vec F S256x128 .f32) :
    sout0_B_0 c i arg3 harg3 arg4 harg4 arg5 harg5 arg6 harg6 arg7 harg7 arg8 harg8 hc0 x0 x1 x2 x3 xs0 = stateAt x1 x2 x3 xs0 4 := by
  unfold sout0_B_0
  rw [View.read_writes_eq_canon _ _ _ (scover0_B_0 c i arg3 harg3 arg4 harg4 arg5 harg5 arg6 harg6 arg7 harg7 arg8 harg8 hc0 x0 x1 x2 x3 xs0)]
  unfold kernelRun0_B
  dsimp only
  sl_unfold_words
  rw [View.canon_cons_unit_zero (S := S256x128) z2]
  simp only [View.readCov_cons_toLoadRect]
  simp only [View.readAt_eq_ld, harg4.read_unread, harg5.read_unread, harg6.read_unread, harg8.read_unread, out1, st1, out2, st2, out3, st3, View.ld_unit_zero (S := S256x128) z2]
  rfl

theorem out_B (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : ¬cond0_0 i) (x0 x1 : Vec F S1x256x128 .bf16) (x2 : Vec F S1x256x256 .bf16) (x3 : Vec F S1x256x128 .f32) (xs0 : Vec F S256x128 .f32) :
    out0_B_4 c i arg3 harg3 arg4 harg4 arg5 harg5 arg6 harg6 arg7 harg7 arg8 harg8 hc0 x0 x1 x2 x3 xs0 = outBlk x0 x1 x2 x3 xs0 := by
  unfold out0_B_4
  rw [View.read_writes_eq_canon _ _ _ (cover0_B_4 c i arg3 harg3 arg4 harg4 arg5 harg5 arg6 harg6 arg7 harg7 arg8 harg8 hc0 x0 x1 x2 x3 xs0)]
  funext y
  refine View.canon_apply_of_pieces (Val := Elt F) (S := S1x256x256) (e := .f32) (outBlk x0 x1 x2 x3 xs0) _ ?_ y (cover0_B_4 c i arg3 harg3 arg4 harg4 arg5 harg5 arg6 harg6 arg7 harg7 arg8 harg8 hc0 x0 x1 x2 x3 xs0 y)
  unfold kernelRun0_B
  dsimp only
  sl_unfold_words
  intro p hp
  simp only [View.readCov_cons_toLoadRect] at hp
  simp only [View.readAt_eq_ld, harg3.read_unread, harg4.read_unread, harg5.read_unread, harg6.read_unread, harg8.read_unread, out1, st1, out2, st2, out3, st3, View.ld_unit_zero (S := S256x128) z2,
    List.mem_cons, List.not_mem_nil, or_false] at hp
  rcases hp with rfl | rfl | rfl | rfl
  · exact fun x => piece_eq x0 x1 x2 x3 xs0 3 (by omega) ((Rect.unit (s := S1x256x256) ![0, 0, 0] S1x64x256.size inb_S1x256x256_S1x64x256_0_0_0).emb x) x
      (congrArg (0 + ·) (Nat.one_mul _)) ((Nat.zero_add _).trans (Nat.one_mul _))
  · exact fun x => piece_eq x0 x1 x2 x3 xs0 2 (by omega) ((Rect.unit (s := S1x256x256) ![0, 64, 0] S1x64x256.size inb_S1x256x256_S1x64x256_0_64_0).emb x) x
      (congrArg (64 + ·) (Nat.one_mul _)) ((Nat.zero_add _).trans (Nat.one_mul _))
  · exact fun x => piece_eq x0 x1 x2 x3 xs0 1 (by omega) ((Rect.unit (s := S1x256x256) ![0, 128, 0] S1x64x256.size inb_S1x256x256_S1x64x256_0_128_0).emb x) x
      (congrArg (128 + ·) (Nat.one_mul _)) ((Nat.zero_add _).trans (Nat.one_mul _))
  · exact fun x => piece_eq x0 x1 x2 x3 xs0 0 (by omega) ((Rect.unit (s := S1x256x256) ![0, 192, 0] S1x64x256.size inb_S1x256x256_S1x64x256_0_192_0).emb x) x
      (congrArg (192 + ·) (Nat.one_mul _)) ((Nat.zero_add _).trans (Nat.one_mul _))

theorem sout_A (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : cond0_0 i) (x0 x1 : Vec F S1x256x128 .bf16) (x2 : Vec F S1x256x256 .bf16) (x3 : Vec F S1x256x128 .f32) :
    sout0_A_0 c i arg3 harg3 arg4 harg4 arg5 harg5 arg6 harg6 arg7 harg7 arg8 harg8 hc0 x0 x1 x2 x3 = stateAt x1 x2 x3 (k0_pay4 (F := F)) 4 := by
  unfold sout0_A_0
  rw [View.read_writes_eq_canon _ _ _ (scover0_A_0 c i arg3 harg3 arg4 harg4 arg5 harg5 arg6 harg6 arg7 harg7 arg8 harg8 hc0 x0 x1 x2 x3)]
  unfold kernelRun0_A
  dsimp only
  sl_unfold_words
  rw [View.canon_cons_unit_zero (S := S256x128) z2]
  simp only [View.readCov_cons_toLoadRect]
  simp only [View.readAt_eq_ld, harg4.read_unread, harg5.read_unread, harg6.read_unread, out1, st1, out2, st2, out3, st3]
  rfl

theorem out_A (c : Dev nD) (i : grid0.Coords) (arg3 : Memref sig .tc .vmem S1x256x128 .bf16) (harg3 : arg3.IsWhole)
    (arg4 : Memref sig .tc .vmem S1x256x128 .bf16) (harg4 : arg4.IsWhole) (arg5 : Memref sig .tc .vmem S1x256x256 .bf16) (harg5 : arg5.IsWhole)
    (arg6 : Memref sig .tc .vmem S1x256x128 .f32) (harg6 : arg6.IsWhole) (arg7 : Memref sig .tc .vmem S1x256x256 .f32) (harg7 : arg7.IsWhole)
    (arg8 : Memref sig .tc .vmem S256x128 .f32) (harg8 : arg8.IsWhole)
    (hc0 : cond0_0 i) (x0 x1 : Vec F S1x256x128 .bf16) (x2 : Vec F S1x256x256 .bf16) (x3 : Vec F S1x256x128 .f32) :
    out0_A_4 c i arg3 harg3 arg4 harg4 arg5 harg5 arg6 harg6 arg7 harg7 arg8 harg8 hc0 x0 x1 x2 x3 = outBlk x0 x1 x2 x3 (k0_pay4 (F := F)) := by
  unfold out0_A_4
  rw [View.read_writes_eq_canon _ _ _ (cover0_A_4 c i arg3 harg3 arg4 harg4 arg5 harg5 arg6 harg6 arg7 harg7 arg8 harg8 hc0 x0 x1 x2 x3)]
  funext y
  refine View.canon_apply_of_pieces (Val := Elt F) (S := S1x256x256) (e := .f32) (outBlk x0 x1 x2 x3 (k0_pay4 (F := F))) _ ?_ y (cover0_A_4 c i arg3 harg3 arg4 harg4 arg5 harg5 arg6 harg6 arg7 harg7 arg8 harg8 hc0 x0 x1 x2 x3 y)
  unfold kernelRun0_A
  dsimp only
  sl_unfold_words
  intro p hp
  simp only [View.readCov_cons_toLoadRect] at hp
  simp only [View.readAt_eq_ld, harg3.read_unread, harg4.read_unread, harg5.read_unread, harg6.read_unread, out1, st1, out2, st2, out3, st3,
    List.mem_cons, List.not_mem_nil, or_false] at hp
  rcases hp with rfl | rfl | rfl | rfl
  · exact fun x => piece_eq x0 x1 x2 x3 (k0_pay4 (F := F)) 3 (by omega) ((Rect.unit (s := S1x256x256) ![0, 0, 0] S1x64x256.size inb_S1x256x256_S1x64x256_0_0_0).emb x) x
      (congrArg (0 + ·) (Nat.one_mul _)) ((Nat.zero_add _).trans (Nat.one_mul _))
  · exact fun x => piece_eq x0 x1 x2 x3 (k0_pay4 (F := F)) 2 (by omega) ((Rect.unit (s := S1x256x256) ![0, 64, 0] S1x64x256.size inb_S1x256x256_S1x64x256_0_64_0).emb x) x
      (congrArg (64 + ·) (Nat.one_mul _)) ((Nat.zero_add _).trans (Nat.one_mul _))
  · exact fun x => piece_eq x0 x1 x2 x3 (k0_pay4 (F := F)) 1 (by omega) ((Rect.unit (s := S1x256x256) ![0, 128, 0] S1x64x256.size inb_S1x256x256_S1x64x256_0_128_0).emb x) x
      (congrArg (128 + ·) (Nat.one_mul _)) ((Nat.zero_add _).trans (Nat.one_mul _))
  · exact fun x => piece_eq x0 x1 x2 x3 (k0_pay4 (F := F)) 0 (by omega) ((Rect.unit (s := S1x256x256) ![0, 192, 0] S1x64x256.size inb_S1x256x256_S1x64x256_0_192_0).emb x) x
      (congrArg (192 + ·) (Nat.one_mul _)) ((Nat.zero_add _).trans (Nat.one_mul _))

end Cert.Kernel8Ideal.Hand
end
-- ==== Proof.Kernel8Ideal.Chunk.lean ====
/-
  One chunk of the backward scan, entry by entry, over the extended reals: from real inputs it carries the recurrence's state
  sixty-four tokens on, and its rows, the last one first, are the recurrence's outputs.
-/
module

public import proofs.«01_k».proof.Proof.Kernel8Ideal.Body
public import proofs.«01_k».proof.Proof.Kernel7Ideal.Chunk
public import Idealize.ShloMosaic.Lib.Pointwise

@[expose] public section

set_option maxRecDepth 16384

noncomputable section

namespace Cert.Kernel8Ideal.Hand

open Cert.Kernel8Ideal Cert.Kernel8Ideal.Gen
open Idealize.ShloMosaic Idealize.ShloMosaic.TcCoe
open Cert.Scan
open Cert.Kernel7Ideal.Hand (exp_coe)

/-! ## The chunk's values -/

theorem sge_small : ∀ r s : Fin 64, IntOp.cmpi .sge (BitVec.ofNat 32 s.val) (BitVec.ofNat 32 r.val) = if s.rev.val ≤ r.rev.val then 1#1 else 0#1 := by
  decide +kernel

theorem mask_at (r s : Fin 64) : k0_pay5 (ix2 r s) = if s.rev.val ≤ r.rev.val then 1#1 else 0#1 := by
  pointwise [k0_pay5]
  exact sge_small r s

theorem lower_at (r s : Fin 64) : k0_pay6 (F := Ideal) (ix2 r s) = (((if s.rev.val ≤ r.rev.val then 1 else 0 : ℝ)) : EReal) := by
  have h := mask_at r s
  pointwise [k0_pay6]
  rw [h]
  split
  · show (((BitVec.setWidth 32 (1#1)).toInt : ℝ) : EReal) = _
    norm_num
  · show (((BitVec.setWidth 32 (0#1)).toInt : ℝ) : EReal) = _
    norm_num

/-- A sum over a chunk's rows, from the last row on. -/
theorem sum_rev (f : Fin 64 → EReal) : ∑ x, f x = ∑ x : Fin 64, f x.rev := (Equiv.sum_comp (Fin.revPerm (n := 64)) f).symm

section Chunk

variable {S : Seq} {n : ℕ} {g : Vec Ideal S1x64x128 .f32} {q k : Vec Ideal S1x64x128 .bf16} {v : Vec Ideal S1x64x256 .bf16} {st : Vec Ideal S256x128 .f32}
  (hg : ∀ (r : Fin 64) d, g (ix3 0 r d) = ((S.g (n + r.rev.val) d : ℝ) : EReal))
  (hq : ∀ (r : Fin 64) d, q (ix3 0 r d) = ((S.q (n + r.rev.val) d : ℝ) : EReal))
  (hk : ∀ (r : Fin 64) d, k (ix3 0 r d) = ((S.k (n + r.rev.val) d : ℝ) : EReal))
  (hv : ∀ (r : Fin 64) e, v (ix3 0 r e) = ((S.v (n + r.rev.val) e : ℝ) : EReal))
  (hst : ∀ e d, st (ix2 e d) = ((S.St n e d : ℝ) : EReal))

include hg in
/-- The gates' sums within the chunk; the split's rest of a real gate is zero. -/
theorem sums_at (r : Fin 64) (d : Fin 128) : k0_pay7 (F := Ideal) g (ix2 r d) = ((S.b n r.rev d : ℝ) : EReal) := by
  have h : k0_pay7 (F := Ideal) g (ix2 r d)
      = (∑ x, k0_pay6 (F := Ideal) (ix2 r x) * g (ix3 0 x d)) + ∑ x, k0_pay6 (F := Ideal) (ix2 r x) * (g (ix3 0 x d) - g (ix3 0 x d)) := by
    pointwise [k0_pay7]
  refine h.trans ?_
  have h2 : (∑ x, k0_pay6 (F := Ideal) (ix2 r x) * (g (ix3 0 x d) - g (ix3 0 x d)) : EReal) = 0 :=
    Finset.sum_eq_zero fun x _ => by rw [Cert.Gates.IsReal.sub_self ⟨_, hg x d⟩, mul_zero]
  rw [h2, add_zero]
  unfold Seq.b
  rw [coe_sum]
  refine Eq.trans (Finset.sum_congr rfl fun x _ => ?_) (sum_rev _).symm
  beta_reduce
  rw [lower_at, hg, ← EReal.coe_mul]

include hg in
theorem last_at (d : Fin 128) : k0_pay8 (F := Ideal) g (ix2 0 d) = ((S.b n 63 d : ℝ) : EReal) := by
  have h : k0_pay8 (F := Ideal) g (ix2 0 d) = k0_pay7 (F := Ideal) g (ix2 0 d) := by
    pointwise [k0_pay8]
  exact h.trans (sums_at hg 0 d)

include hg hq in
theorem query_at (r : Fin 64) (d : Fin 128) :
    k0_pay9 (F := Ideal) g q (ix2 r d) = ((S.q (n + r.rev.val) d * Real.exp (S.b n r.rev d) : ℝ) : EReal) := by
  have h : k0_pay9 (F := Ideal) g q (ix2 r d) = q (ix3 0 r d) * Ideal.exp (k0_pay7 (F := Ideal) g (ix2 r d)) := by
    pointwise [k0_pay9]
  rw [h, hq, sums_at hg, exp_coe, ← EReal.coe_mul]

include hg hk in
theorem key_at (r : Fin 64) (d : Fin 128) :
    k0_pay13 (F := Ideal) g k (ix2 r d) = ((S.k (n + r.rev.val) d * Real.exp (0 - S.b n r.rev d) : ℝ) : EReal) := by
  have h : k0_pay13 (F := Ideal) g k (ix2 r d) = k (ix3 0 r d) * Ideal.exp (0 - k0_pay7 (F := Ideal) g (ix2 r d)) := by
    pointwise [k0_pay13, k0_pay10]
  rw [h, hk, sums_at hg, ← EReal.coe_zero, ← EReal.coe_sub, exp_coe, ← EReal.coe_mul]

include hg hk in
theorem carried_at (r : Fin 64) (d : Fin 128) :
    k0_pay11 (F := Ideal) g k (ix2 r d) = ((S.k (n + r.rev.val) d * Real.exp (0 - S.b n r.rev d) * Real.exp (S.b n 63 d) : ℝ) : EReal) := by
  have h : k0_pay11 (F := Ideal) g k (ix2 r d)
      = k (ix3 0 r d) * Ideal.exp (0 - k0_pay7 (F := Ideal) g (ix2 r d)) * Ideal.exp (k0_pay8 (F := Ideal) g (ix2 0 d)) := by
    pointwise [k0_pay11, k0_pay10]
  rw [h, hk, sums_at hg, last_at hg, ← EReal.coe_zero, ← EReal.coe_sub, exp_coe, exp_coe, ← EReal.coe_mul, ← EReal.coe_mul]

include hv in
theorem value_at (r : Fin 64) (e : Fin 256) : k0_pay12 (F := Ideal) v (ix2 r e) = ((S.v (n + r.rev.val) e : ℝ) : EReal) := by
  have h : k0_pay12 (F := Ideal) v (ix2 r e) = v (ix3 0 r e) := by
    pointwise [k0_pay12]
  exact h.trans (hv r e)

include hg hk hv hst in
/-- The chunk carries the state sixty-four tokens on. -/
theorem chunkSt_at (e : Fin 256) (d : Fin 128) : chunkSt g k v st (ix2 e d) = ((S.St (n + 64) e d : ℝ) : EReal) := by
  have h : ∀ (a : FVec Ideal S1x128 .f32) (kd : FVec Ideal S64x128 .bf16) (w : FVec Ideal S64x256 .bf16),
      k0_pay15 (F := Ideal) a kd w st (ix2 e d) = st (ix2 e d) * Ideal.exp (a (ix2 0 d)) + ∑ x, w (ix2 x e) * kd (ix2 x d) := by
    intro a kd w
    pointwise [k0_pay15]
  refine (h _ _ _).trans ?_
  rw [S.St_step, hst, last_at hg, exp_coe, EReal.coe_add, EReal.coe_mul, coe_sum]
  refine congrArg (fun z : EReal => ((S.St n e d : ℝ) : EReal) * ((Real.exp (S.b n 63 d) : ℝ) : EReal) + z)
    (Eq.trans (Finset.sum_congr rfl fun x _ => ?_) (sum_rev _).symm)
  beta_reduce
  rw [value_at hv, carried_at hg hk, ← EReal.coe_mul]

include hg hq hk hv hst in
/-- The chunk's rows are the tokens' outputs. -/
theorem chunkOut_at (r : Fin 64) (e : Fin 256) : chunkOut g q k v st (ix3 0 r e) = ((S.Out (n + r.rev.val) e : ℝ) : EReal) := by
  have h : ∀ (a : IVec S64x64 1) (qd kd : FVec Ideal S64x128 .bf16) (w : FVec Ideal S64x256 .bf16),
      k0_pay14 (F := Ideal) a qd w kd st (ix3 0 r e) = (∑ x, qd (ix2 r x) * st (ix2 e x))
        + ∑ x, Scalar.select (a (ix2 r x)) ((∑ y, qd (ix2 r y) * kd (ix2 x y)) * w (ix2 x e)) 0 := by
    intro a qd kd w
    pointwise [k0_pay14]
  refine (h _ _ _ _).trans ?_
  rw [S.Out_eq, EReal.coe_add, coe_sum, coe_sum]
  refine congrArg₂ (fun y z : EReal => y + z) (Finset.sum_congr rfl fun x _ => ?_)
    (Eq.trans (Finset.sum_congr rfl fun x _ => ?_) (sum_rev _).symm)
  · rw [query_at hg hq, hst, ← EReal.coe_mul]
  · beta_reduce
    rw [mask_at]
    by_cases hx : x.rev.val ≤ r.rev.val
    · rw [if_pos hx, if_pos hx]
      show (∑ y, _ * _ : EReal) * _ = _
      rw [EReal.coe_mul, coe_sum, value_at hv]
      refine congrArg (fun z : EReal => z * ((S.v (n + x.rev.val) e : ℝ) : EReal)) (Finset.sum_congr rfl fun y _ => ?_)
      rw [query_at hg hq, key_at hg hk, ← EReal.coe_mul]
    · rw [if_neg hx, if_neg hx]
      rfl

end Chunk

end Cert.Kernel8Ideal.Hand
end
-- ==== Proof.Kernel8Ideal.Value.lean ====
/-
  What the backward scan leaves, entry by entry, over the extended reals: from real arrays the recurrence's outputs, the
  context's tokens taken from last to first and then the latent tokens from last to first.
-/
module

public import proofs.«01_k».proof.Proof.Gen.Kernel8Ideal.Frame
public import proofs.«01_k».proof.Proof.Kernel8Ideal.Chunk
public import proofs.«01_k».proof.Proof.Kernel7Ideal.Value
public import Idealize.ShloMosaic.Lib.Quiescent
public import Idealize.ShloMosaic.Lib.Claim

@[expose] public section

set_option maxRecDepth 16384

noncomputable section

namespace Cert.Kernel8Ideal.Hand

open Cert.Kernel8Ideal Cert.Kernel8Ideal.Gen
open Idealize.ShloMosaic Idealize.ShloMosaic.TcCoe
open Idealize.ShloMosaic.Pipeline (Window Dat)
open Cert.Scan
open Cert.Gates (IsReal)
open Cert.Kernel7Ideal.Hand (scan seqOf keyCol valCol headOf featOf seq_q seq_k seq_v seq_g)

/-! ## One block -/

section Block

variable {S : Seq} {n : ℕ} {x0 x1 : Vec Ideal S1x256x128 .bf16} {x2 : Vec Ideal S1x256x256 .bf16} {x3 : Vec Ideal S1x256x128 .f32}
  {st : Vec Ideal S256x128 .f32}
  (h0 : ∀ (r : Fin 256) d, x0 (ix3 0 r d) = ((S.q (n + r.rev.val) d : ℝ) : EReal))
  (h1 : ∀ (r : Fin 256) d, x1 (ix3 0 r d) = ((S.k (n + r.rev.val) d : ℝ) : EReal))
  (h2 : ∀ (r : Fin 256) e, x2 (ix3 0 r e) = ((S.v (n + r.rev.val) e : ℝ) : EReal))
  (h3 : ∀ (r : Fin 256) d, x3 (ix3 0 r d) = ((S.g (n + r.rev.val) d : ℝ) : EReal))
  (hst : ∀ e d, st (ix2 e d) = ((S.St n e d : ℝ) : EReal))

/-- A chunk's rows of a block that holds a sequence's tokens. -/
theorem rows_real (W : ℕ) (ty : EltTy) (f : ℕ → Fin W → Elt Ideal ty) {x : Vec Ideal (⟨3, ![1, 256, W]⟩ : Shape) ty}
    (h : ∀ (r : Fin 256) d, x (ix3 0 r d) = f (n + r.rev.val) d) {j : ℕ} (hj : j < 4) (r : Fin 64) (d : Fin W) :
    rowsOf j x (ix3 0 r d) = f (n + 64 * j + r.rev.val) d := by
  refine (rowsOf_at j hj x r d).trans ((h _ d).trans ?_)
  refine congrArg (fun i => f i d) ?_
  rw [Fin.val_rev, Fin.val_rev]
  show n + (256 - (192 - 64 * j + r.val + 1)) = n + 64 * j + (64 - (r.val + 1))
  have hr : r.val < 64 := r.isLt
  omega

include h1 h2 h3 hst in
/-- The state before chunk `j`. -/
theorem stateAt_real (j : ℕ) (hj4 : j ≤ 4) (e : Fin 256) (d : Fin 128) :
    stateAt x1 x2 x3 st j (ix2 e d) = ((S.St (n + 64 * j) e d : ℝ) : EReal) := by
  induction j generalizing e d with
  | zero => exact hst e d
  | succ j ih =>
    have hj : j < 4 := by omega
    refine (chunkSt_at (S := S) (n := n + 64 * j) ?_ ?_ ?_ (fun e d => ih (by omega) e d) e d).trans ?_
    · exact fun r d => rows_real 128 .f32 (fun i d => ((S.g i d : ℝ) : EReal)) h3 hj r d
    · exact fun r d => rows_real 128 .bf16 (fun i d => ((S.k i d : ℝ) : EReal)) h1 hj r d
    · exact fun r d => rows_real 256 .bf16 (fun i d => ((S.v i d : ℝ) : EReal)) h2 hj r d
    · rw [show n + 64 * j + 64 = n + 64 * (j + 1) by omega]

include h0 h1 h2 h3 hst in
/-- The block's rows are the tokens' outputs. -/
theorem outBlk_real (r : Fin 256) (e : Fin 256) : outBlk x0 x1 x2 x3 st (ix3 0 r e) = ((S.Out (n + r.rev.val) e : ℝ) : EReal) := by
  have hr : r.val < 256 := r.isLt
  have hj : 3 - r.val / 64 < 4 := by omega
  show chunkOut (rowsOf (3 - r.val / 64) x3) (rowsOf (3 - r.val / 64) x0) (rowsOf (3 - r.val / 64) x1) (rowsOf (3 - r.val / 64) x2)
    (stateAt x1 x2 x3 st (3 - r.val / 64)) (ix3 (0 : Fin 1) (⟨r.val % 64, Nat.mod_lt _ (by omega)⟩ : Fin 64) e) = _
  refine (chunkOut_at (S := S) (n := n + 64 * (3 - r.val / 64)) ?_ ?_ ?_ ?_ (fun e d => stateAt_real h1 h2 h3 hst (3 - r.val / 64) (by omega) e d)
    ⟨r.val % 64, Nat.mod_lt _ (by omega)⟩ e).trans ?_
  · exact fun r d => rows_real 128 .f32 (fun i d => ((S.g i d : ℝ) : EReal)) h3 hj r d
  · exact fun r d => rows_real 128 .bf16 (fun i d => ((S.q i d : ℝ) : EReal)) h0 hj r d
  · exact fun r d => rows_real 128 .bf16 (fun i d => ((S.k i d : ℝ) : EReal)) h1 hj r d
  · exact fun r d => rows_real 256 .bf16 (fun i d => ((S.v i d : ℝ) : EReal)) h2 hj r d
  · refine congrArg (fun i => ((S.Out i e : ℝ) : EReal)) ?_
    rw [Fin.val_rev, Fin.val_rev]
    show n + 64 * (3 - r.val / 64) + (64 - (r.val % 64 + 1)) = n + (256 - (r.val + 1))
    omega

end Block

/-! ## The result array -/

/-- The `n`-th token in the order the scan takes them: the context's 256 from the last, then the others from the last. -/
def turn (n : Fin 4352) : Fin 4352 := ⟨if n.val < 256 then 255 - n.val else 4607 - n.val, by split <;> omega⟩

/-- An array with its tokens in that order. -/
def turned {W : ℕ} {φ : FTy} (X : FVec Ideal (⟨3, ![8, 4352, W]⟩ : Shape) φ) : FVec Ideal (⟨3, ![8, 4352, W]⟩ : Shape) φ :=
  fun i => X (ix3 (i 0) (turn (i 1)) (i 2))

theorem turned_at {W : ℕ} {φ : FTy} (X : FVec Ideal (⟨3, ![8, 4352, W]⟩ : Shape) φ) (b : Fin 8) (n : Fin 4352) (d : Fin W) :
    turned X (ix3 b n d) = X (ix3 b (turn n) d) := rfl

theorem turned_real {W : ℕ} {φ : FTy} {X : FVec Ideal (⟨3, ![8, 4352, W]⟩ : Shape) φ} (h : ∀ i, IsReal (X i)) (i) : IsReal (turned X i) := h _

/-- The outputs of every batch element's every head. -/
def scanBack (X0 X1 : FVec Ideal S8x4352x512 .bf16) (X2 : FVec Ideal S8x4352x1024 .bf16) (X3 : FVec Ideal S8x4352x512 .f32) :
    FVec Ideal S8x4352x1024 .f32 :=
  turned (scan (turned X0) (turned X1) (turned X2) (turned X3))

/-! ## The blocks a point reads -/

variable (m : (ℓ : Loc nD τ sig) → Buf (Elt Ideal) ℓ)

theorem at0 : ∀ t : Fin grid0.N, win0_0.index t = ![t.val / 68, (17 - t.val % 17) % 17, t.val / 17 % 4] := by decide +kernel
theorem at1 : ∀ t : Fin grid0.N, win0_1.index t = ![t.val / 68, (17 - t.val % 17) % 17, t.val / 17 % 4] := by decide +kernel
theorem at2 : ∀ t : Fin grid0.N, win0_2.index t = ![t.val / 68, (17 - t.val % 17) % 17, t.val / 17 % 4] := by decide +kernel
theorem at3 : ∀ t : Fin grid0.N, win0_3.index t = ![t.val / 68, (17 - t.val % 17) % 17, t.val / 17 % 4] := by decide +kernel
theorem at4 : ∀ t : Fin grid0.N, win0_4.index t = ![t.val / 68, (17 - t.val % 17) % 17, t.val / 17 % 4] := by decide +kernel

theorem lt_N (t : Fin cfg0.N) : t.val < 544 := by have h := t.isLt; exact lt_of_lt_of_eq h N_0

/-- The batch element of a point. -/
def bat (t : Fin cfg0.N) : Fin 8 := ⟨t.val / 68, by have := lt_N t; omega⟩
/-- The head of a point. -/
def hed (t : Fin cfg0.N) : Fin 4 := ⟨t.val / 17 % 4, by omega⟩
/-- The token of row `r` of a point's block. -/
def tok (t : Fin cfg0.N) (r : Fin 256) : Fin 4352 := ⟨256 * ((17 - t.val % 17) % 17) + r.val, by omega⟩
/-- That token's place in the scan's order. -/
def pos (t : Fin cfg0.N) (r : Fin 256) : Fin 4352 := ⟨256 * (t.val % 17) + r.rev.val, by have := r.rev.isLt; omega⟩

theorem turn_pos (t : Fin cfg0.N) (r : Fin 256) : turn (pos t r) = tok t r := by
  apply Fin.ext
  show (if 256 * (t.val % 17) + r.rev.val < 256 then 255 - (256 * (t.val % 17) + r.rev.val) else 4607 - (256 * (t.val % 17) + r.rev.val))
    = 256 * ((17 - t.val % 17) % 17) + r.val
  rw [Fin.val_rev]
  have hr := r.isLt
  split <;> omega

theorem turn_tok (t : Fin cfg0.N) (r : Fin 256) : turn (tok t r) = pos t r := by
  apply Fin.ext
  show (if 256 * ((17 - t.val % 17) % 17) + r.val < 256 then 255 - (256 * ((17 - t.val % 17) % 17) + r.val) else 4607 - (256 * ((17 - t.val % 17) % 17) + r.val))
    = 256 * (t.val % 17) + r.rev.val
  rw [Fin.val_rev]
  have hr := r.isLt
  split <;> omega

theorem blk0_at (c : Dev nD) (t : Fin cfg0.N) (r : Fin 256) (d : Fin 128) :
    iblk m c 0 t (ix3 0 r d) = m ((c : Thread nD τ).loc main_arg0) (ix3 (bat t) (tok t r) (keyCol (hed t) d)) := by
  show V m c main_arg0 ((win0_0.rect t).emb (ix3 0 r d)) = _
  rw [V_main_arg0]
  congr 1
  funext a
  apply Fin.ext
  refine (Window.rect_emb_val win0_0 t _ a).trans ?_
  rw [at0 t]
  match a with
  | ⟨0, _⟩ => show t.val / 68 * 1 + 0 = t.val / 68; omega
  | ⟨1, _⟩ => show (17 - t.val % 17) % 17 * 256 + r.val = 256 * ((17 - t.val % 17) % 17) + r.val; omega
  | ⟨2, _⟩ => show t.val / 17 % 4 * 128 + d.val = 128 * (t.val / 17 % 4) + d.val; omega

theorem blk1_at (c : Dev nD) (t : Fin cfg0.N) (r : Fin 256) (d : Fin 128) :
    iblk m c 1 t (ix3 0 r d) = m ((c : Thread nD τ).loc main_arg1) (ix3 (bat t) (tok t r) (keyCol (hed t) d)) := by
  show V m c main_arg1 ((win0_1.rect t).emb (ix3 0 r d)) = _
  rw [V_main_arg1]
  congr 1
  funext a
  apply Fin.ext
  refine (Window.rect_emb_val win0_1 t _ a).trans ?_
  rw [at1 t]
  match a with
  | ⟨0, _⟩ => show t.val / 68 * 1 + 0 = t.val / 68; omega
  | ⟨1, _⟩ => show (17 - t.val % 17) % 17 * 256 + r.val = 256 * ((17 - t.val % 17) % 17) + r.val; omega
  | ⟨2, _⟩ => show t.val / 17 % 4 * 128 + d.val = 128 * (t.val / 17 % 4) + d.val; omega

theorem blk2_at (c : Dev nD) (t : Fin cfg0.N) (r : Fin 256) (e : Fin 256) :
    iblk m c 2 t (ix3 0 r e) = m ((c : Thread nD τ).loc main_arg2) (ix3 (bat t) (tok t r) (valCol (hed t) e)) := by
  show V m c main_arg2 ((win0_2.rect t).emb (ix3 0 r e)) = _
  rw [V_main_arg2]
  congr 1
  funext a
  apply Fin.ext
  refine (Window.rect_emb_val win0_2 t _ a).trans ?_
  rw [at2 t]
  match a with
  | ⟨0, _⟩ => show t.val / 68 * 1 + 0 = t.val / 68; omega
  | ⟨1, _⟩ => show (17 - t.val % 17) % 17 * 256 + r.val = 256 * ((17 - t.val % 17) % 17) + r.val; omega
  | ⟨2, _⟩ => show t.val / 17 % 4 * 256 + e.val = 256 * (t.val / 17 % 4) + e.val; omega

theorem blk3_at (c : Dev nD) (t : Fin cfg0.N) (r : Fin 256) (d : Fin 128) :
    iblk m c 3 t (ix3 0 r d) = m ((c : Thread nD τ).loc main_arg3) (ix3 (bat t) (tok t r) (keyCol (hed t) d)) := by
  show V m c main_arg3 ((win0_3.rect t).emb (ix3 0 r d)) = _
  rw [V_main_arg3]
  congr 1
  funext a
  apply Fin.ext
  refine (Window.rect_emb_val win0_3 t _ a).trans ?_
  rw [at3 t]
  match a with
  | ⟨0, _⟩ => show t.val / 68 * 1 + 0 = t.val / 68; omega
  | ⟨1, _⟩ => show (17 - t.val % 17) % 17 * 256 + r.val = 256 * ((17 - t.val % 17) % 17) + r.val; omega
  | ⟨2, _⟩ => show t.val / 17 % 4 * 128 + d.val = 128 * (t.val / 17 % 4) + d.val; omega

/-! ## Point after point -/

/-- Device `c`'s arrays are real. -/
structure Real4 (c : Dev nD) : Prop where
  q : ∀ i, IsReal (m ((c : Thread nD τ).loc main_arg0) i)
  k : ∀ i, IsReal (m ((c : Thread nD τ).loc main_arg1) i)
  v : ∀ i, IsReal (m ((c : Thread nD τ).loc main_arg2) i)
  g : ∀ i, IsReal (m ((c : Thread nD τ).loc main_arg3) i)

/-- The tokens of a point's batch element and head. -/
abbrev sq (c : Dev nD) (t : Fin cfg0.N) : Seq :=
  seqOf (turned (m ((c : Thread nD τ).loc main_arg0))) (turned (m ((c : Thread nD τ).loc main_arg1))) (turned (m ((c : Thread nD τ).loc main_arg2)))
    (turned (m ((c : Thread nD τ).loc main_arg3))) (bat t) (hed t)

section Points

variable {m} {c : Dev nD} (hr : Real4 m c) (t : Fin cfg0.N)

include hr

theorem rq (r : Fin 256) (d : Fin 128) : iblk m c 0 t (ix3 0 r d) = (((sq m c t).q (256 * (t.val % 17) + r.rev.val) d : ℝ) : EReal) :=
  (blk0_at m c t r d).trans ((congrArg (fun n => m ((c : Thread nD τ).loc main_arg0) (ix3 (bat t) n (keyCol (hed t) d))) (turn_pos t r).symm).trans
    (seq_q (bat t) (hed t) (turned_real hr.q) (pos t r) d))
theorem rk (r : Fin 256) (d : Fin 128) : iblk m c 1 t (ix3 0 r d) = (((sq m c t).k (256 * (t.val % 17) + r.rev.val) d : ℝ) : EReal) :=
  (blk1_at m c t r d).trans ((congrArg (fun n => m ((c : Thread nD τ).loc main_arg1) (ix3 (bat t) n (keyCol (hed t) d))) (turn_pos t r).symm).trans
    (seq_k (bat t) (hed t) (turned_real hr.k) (pos t r) d))
theorem rv (r : Fin 256) (e : Fin 256) : iblk m c 2 t (ix3 0 r e) = (((sq m c t).v (256 * (t.val % 17) + r.rev.val) e : ℝ) : EReal) :=
  (blk2_at m c t r e).trans ((congrArg (fun n => m ((c : Thread nD τ).loc main_arg2) (ix3 (bat t) n (valCol (hed t) e))) (turn_pos t r).symm).trans
    (seq_v (bat t) (hed t) (turned_real hr.v) (pos t r) e))
theorem rg (r : Fin 256) (d : Fin 128) : iblk m c 3 t (ix3 0 r d) = (((sq m c t).g (256 * (t.val % 17) + r.rev.val) d : ℝ) : EReal) :=
  (blk3_at m c t r d).trans ((congrArg (fun n => m ((c : Thread nD τ).loc main_arg3) (ix3 (bat t) n (keyCol (hed t) d))) (turn_pos t r).symm).trans
    (seq_g (bat t) (hed t) (turned_real hr.g) (pos t r) d))

omit hr in
/-- Within a head the point before is of the same tokens. -/
theorem sq_pred (h : ¬t.val % 17 = 0) (hp : t.val - 1 < cfg0.N) : sq m c ⟨t.val - 1, hp⟩ = sq m c t := by
  unfold sq
  rw [show bat ⟨t.val - 1, hp⟩ = bat t from Fin.ext (by show (t.val - 1) / 68 = t.val / 68; omega),
    show hed ⟨t.val - 1, hp⟩ = hed t from Fin.ext (by show (t.val - 1) / 17 % 4 = t.val / 17 % 4; omega)]

/-- The state a head starts from. -/
theorem start_at (h : t.val % 17 = 0) (e : Fin 256) (d : Fin 128) :
    k0_pay4 (F := Ideal) (ix2 e d) = (((sq m c t).St (256 * (t.val % 17)) e d : ℝ) : EReal) := by
  have hz : k0_pay4 (F := Ideal) (ix2 e d) = 0 := by
    pointwise [k0_pay4]
  rw [hz, h]
  rfl

/-- The carried state after a point: the recurrence's after the block's tokens. -/
theorem state_at : ∀ (n : ℕ) (hn : n < cfg0.N) (e : Fin 256) (d : Fin 128),
    (outsAt0 m c n hn).2 (ix2 e d) = (((sq m c ⟨n, hn⟩).St (256 * (n % 17) + 256) e d : ℝ) : EReal) := by
  intro n
  induction n with
  | zero =>
    intro hn e d
    rw [outsAt0_A m c ⟨0, hn⟩ (Nat.zero_mod _)]
    dsimp only
    rw [sout_A]
    exact stateAt_real (rk hr ⟨0, hn⟩) (rv hr ⟨0, hn⟩) (rg hr ⟨0, hn⟩) (start_at hr ⟨0, hn⟩ (Nat.zero_mod _)) 4 le_rfl e d
  | succ n ih =>
    intro hn e d
    by_cases h : (n + 1) % 17 = 0
    · rw [outsAt0_A m c ⟨n + 1, hn⟩ h]
      dsimp only
      rw [sout_A]
      exact stateAt_real (rk hr ⟨n + 1, hn⟩) (rv hr ⟨n + 1, hn⟩) (rg hr ⟨n + 1, hn⟩) (start_at hr ⟨n + 1, hn⟩ h) 4 le_rfl e d
    · rw [outsAt0_B m c ⟨n + 1, hn⟩ h]
      dsimp only
      rw [sout_B]
      refine stateAt_real (rk hr ⟨n + 1, hn⟩) (rv hr ⟨n + 1, hn⟩) (rg hr ⟨n + 1, hn⟩) (fun e d => (ih (by omega) e d).trans ?_) 4 le_rfl e d
      rw [show sq m c ⟨n, by omega⟩ = sq m c ⟨n + 1, hn⟩ from sq_pred ⟨n + 1, hn⟩ h (by show n < cfg0.N; omega),
        show 256 * (n % 17) + 256 = 256 * ((n + 1) % 17) by omega]

/-- The block a point leaves: the outputs of its tokens. -/
theorem block_at (r e : Fin 256) :
    (outsAt0 m c t.val t.isLt).1 (ix3 0 r e) = (((sq m c t).Out (256 * (t.val % 17) + r.rev.val) e : ℝ) : EReal) := by
  by_cases h : t.val % 17 = 0
  · rw [outsAt0_A m c t h]
    dsimp only
    rw [out_A]
    exact outBlk_real (rq hr t) (rk hr t) (rv hr t) (rg hr t) (start_at hr t h) r e
  · have ht := lt_N t
    have hp : t.val - 1 < cfg0.N := lt_of_le_of_lt (Nat.sub_le _ _) t.isLt
    rw [outsAt0_B m c t h]
    dsimp only
    rw [out_B]
    refine outBlk_real (rq hr t) (rk hr t) (rv hr t) (rg hr t) (fun e d => (state_at hr (t.val - 1) hp e d).trans ?_) r e
    rw [sq_pred t h hp, show 256 * ((t.val - 1) % 17) + 256 = 256 * (t.val % 17) by omega]

end Points

/-- The outputs of device `c`'s arrays. -/
abbrev res (c : Dev nD) : FVec Ideal S8x4352x1024 .f32 :=
  scanBack (m ((c : Thread nD τ).loc main_arg0)) (m ((c : Thread nD τ).loc main_arg1)) (m ((c : Thread nD τ).loc main_arg2))
    (m ((c : Thread nD τ).loc main_arg3))

theorem entry {c : Dev nD} (hr : Real4 m c) (t : Fin cfg0.N) (r e : Fin 256) :
    (outsAt0 m c t.val t.isLt).1 (ix3 0 r e) = res m c (ix3 (bat t) (tok t r) (valCol (hed t) e)) := by
  refine (block_at hr t r e).trans ?_
  have hh : headOf (valCol (hed t) e) = hed t := Fin.ext (by show (256 * (hed t).val + e.val) / 256 = (hed t).val; omega)
  have hf : featOf (valCol (hed t) e) = e := Fin.ext (by show (256 * (hed t).val + e.val) % 256 = e.val; omega)
  show _ = (((seqOf _ _ _ _ (bat t) (headOf (valCol (hed t) e))).Out (turn (tok t r)).val (featOf (valCol (hed t) e)) : ℝ) : EReal)
  rw [hh, hf, turn_tok]
  rfl

theorem flushed_eq {c : Dev nD} (hr : Real4 m c) (t : Fin cfg0.N) :
    (dats m 0 c).flushed 4 t = ((cfg0.win 4).blk t).view.read (Elt Ideal) (res m c) := by
  unfold Pipeline.Dat.flushed
  rw [after0_4]
  funext y
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  show (outsAt0 m c t.val t.isLt).1 y = res m c ((win0_4.rect t).emb y)
  rw [hy]
  refine (entry m hr t (y 1) (y 2)).trans ?_
  congr 1
  funext a
  apply Fin.ext
  refine Eq.trans ?_ (Window.rect_emb_val win0_4 t _ a).symm
  rw [at4 t]
  match a with
  | ⟨0, _⟩ => show t.val / 68 = t.val / 68 * 1 + 0; omega
  | ⟨1, _⟩ => show 256 * ((17 - t.val % 17) % 17) + (y 1).val = (17 - t.val % 17) % 17 * 256 + (y 1).val; omega
  | ⟨2, _⟩ => show 256 * (t.val / 17 % 4) + (y 2).val = t.val / 17 % 4 * 256 + (y 2).val; omega

theorem cover (i : S8x4352x1024.Idx) : ∃ t : Fin cfg0.N, (cfg0.win 4).flush t = true ∧ i ∈ ((cfg0.win 4).blk t).view.set := by
  have h0 : (i 0).val < 8 := (i 0).isLt
  have h1 : (i 1).val < 4352 := (i 1).isLt
  have h2 : (i 2).val < 1024 := (i 2).isLt
  obtain ⟨n, hn⟩ : ∃ n, n = 68 * (i 0).val + 17 * ((i 2).val / 256) + (17 - (i 1).val / 256) % 17 := ⟨_, rfl⟩
  have hN : n < cfg0.N := lt_of_lt_of_eq (show n < 544 by omega) N_0.symm
  refine ⟨⟨n, hN⟩, flush0_4 _, ?_⟩
  show i ∈ ((View.whole main_v0).slice (win0_4.rect ⟨n, hN⟩)).set
  rw [View.set_slice_whole, Rect.mem_set_unit]
  intro a
  show win0_4.index ⟨n, hN⟩ a * _ ≤ _ ∧ _ < win0_4.index ⟨n, hN⟩ a * _ + _
  rw [at4]
  match a with
  | ⟨0, _⟩ => show n / 68 * 1 ≤ (i 0).val ∧ (i 0).val < n / 68 * 1 + 1; omega
  | ⟨1, _⟩ => show (17 - n % 17) % 17 * 256 ≤ (i 1).val ∧ (i 1).val < (17 - n % 17) % 17 * 256 + 256; omega
  | ⟨2, _⟩ => show n / 17 % 4 * 256 ≤ (i 2).val ∧ (i 2).val < n / 17 % 4 * 256 + 256; omega

/-- The result array after the launch. -/
theorem final {c : Dev nD} (hr : Real4 m c) : (dats m 0 c).arrAt 4 cfg0.N = res m c :=
  (dats m 0 c).arrAt_eq_of_cover 4 (res m c) (fun t _ => flushed_eq m hr t) cover

/-- The run's final state from real arrays: the outputs, and the arguments unchanged. -/
theorem value (hr : ∀ c, Real4 m c) (ρ : Dev nD → PrngReg) : θ_run defs (onTc (τ := τ) (main (F := Ideal))) ⟨m, fun _ => 0, ρ⟩ (fun r => ∀ c : Dev nD,
      r.2.mem ((c.tc : Thread nD τ).loc main_v0) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m (hr c)), h.2 c⟩)
    (θ_run_and (run_main m ρ) (unchanged m ρ))

end Cert.Kernel8Ideal.Hand
end
-- ==== Proof.Reference8.lean ====
/-
  The backward reference: the forward one on the arrays with their tokens turned around, and its result turned back.
-/
module

public import proofs.«01_k».proof.Defs
public import proofs.«01_k».proof.Proof.Gen.Reference8Ideal
public import proofs.«01_k».proof.Proof.Gen.Reference8Ideal.Run
public import proofs.«01_k».proof.Proof.Gen.Reference8Ideal.Read
public import proofs.«01_k».proof.Proof.Kernel8Ideal.Value
public import proofs.«01_k».proof.Proof.Reference7

@[expose] public section

set_option maxRecDepth 16384

noncomputable section

namespace Cert.Reference8Ideal.Hand

open Cert.Reference8Ideal Cert.Reference8Ideal.Gen Cert.Reference8Ideal.Read
open Idealize.ShloMosaic Idealize.ShloMosaic.TcCoe
open Cert.Kernel7Ideal.Hand (scan)
open Cert.Kernel8Ideal.Hand (turn turned turned_real scanBack)
open Cert.Gates (IsReal)

/-- The first 256 tokens turned around, and the others turned around after them. -/
theorem turn_parts {W : ℕ} {φ : FTy} (X : FVec Ideal (⟨3, ![8, 4352, W]⟩ : Shape) φ)
    (h1 : (⟨3, ![8, 4352, W]⟩ : Shape).Slices ![0, 0, 0] ⟨3, ![8, 256, W]⟩)
    (h2 : (⟨3, ![8, 4352, W]⟩ : Shape).Slices ![0, 256, 0] ⟨3, ![8, 4096, W]⟩)
    (hc : Shape.Concatenates [⟨3, ![8, 256, W]⟩, ⟨3, ![8, 4096, W]⟩] (⟨3, ![8, 4352, W]⟩ : Shape) 1) :
    concatenate (⟨3, ![8, 4352, W]⟩ : Shape) 1
      [⟨⟨3, ![8, 256, W]⟩, Host.reverse [1] (extractStridedSlice (⟨3, ![8, 256, W]⟩ : Shape) ![0, 0, 0] X h1)⟩,
        ⟨⟨3, ![8, 4096, W]⟩, Host.reverse [1] (extractStridedSlice (⟨3, ![8, 4096, W]⟩ : Shape) ![0, 256, 0] X h2)⟩] hc = turned X := by
  funext i
  obtain ⟨b, n, d, rfl⟩ : ∃ b n d, i = ix3 b n d := ⟨i 0, i 1, i 2, by
    funext a; match a with | ⟨0, _⟩ => rfl | ⟨1, _⟩ => rfl | ⟨2, _⟩ => rfl⟩
  show _ = X (ix3 b (turn n) d)
  have hn := n.isLt
  by_cases hs : n.val < 256
  · refine (concatenate_pair_apply_left (t := ⟨3, ![8, 4352, W]⟩) (s₁ := ⟨3, ![8, 256, W]⟩) (s₂ := ⟨3, ![8, 4096, W]⟩) 1 _ _ hc (ix3 b n d) rfl
      (ix3 b (⟨n.val, hs⟩ : Fin 256) d) fun a => ?_).trans ?_
    · match a with | ⟨0, _⟩ => rfl | ⟨1, _⟩ => rfl | ⟨2, _⟩ => rfl
    · refine extractStridedSlice_apply ![0, 0, 0] X h1 _ _ fun a => ?_
      match a with
      | ⟨0, _⟩ => show b.val = 0 + b.val; omega
      | ⟨1, _⟩ =>
        show (if n.val < 256 then 255 - n.val else 4607 - n.val) = 0 + (256 - (n.val + 1))
        rw [if_pos hs]; omega
      | ⟨2, _⟩ => show d.val = 0 + d.val; omega
  · refine (concatenate_pair_apply_right (t := ⟨3, ![8, 4352, W]⟩) (s₁ := ⟨3, ![8, 256, W]⟩) (s₂ := ⟨3, ![8, 4096, W]⟩) 1 _ _ hc (ix3 b n d) rfl rfl
      (ix3 b (⟨n.val - 256, by omega⟩ : Fin 4096) d) (fun a ha => ?_) ?_).trans ?_
    · match a with
      | ⟨0, _⟩ => rfl
      | ⟨1, _⟩ => exact absurd rfl ha
      | ⟨2, _⟩ => rfl
    · show n.val - 256 + 256 = n.val
      omega
    · refine extractStridedSlice_apply ![0, 256, 0] X h2 _ _ fun a => ?_
      match a with
      | ⟨0, _⟩ => show b.val = 0 + b.val; omega
      | ⟨1, _⟩ =>
        show (if n.val < 256 then 255 - n.val else 4607 - n.val) = 256 + (4096 - (n.val - 256 + 1))
        rw [if_neg hs]; omega
      | ⟨2, _⟩ => show d.val = 0 + d.val; omega

variable {x0 x1 : (⟨S8x4352x512, .bf16⟩ : BufTy).Contents (Elt Ideal)} {x2 : (⟨S8x4352x1024, .bf16⟩ : BufTy).Contents (Elt Ideal)}
  {x3 : (⟨S8x4352x512, .f32⟩ : BufTy).Contents (Elt Ideal)}

theorem queries_eq : val_main_v4 (F := Ideal) x0 = turned (φ := .bf16) x0 := turn_parts (φ := .bf16) x0 _ _ _
theorem keys_eq : val_main_v9 (F := Ideal) x1 = turned (φ := .bf16) x1 := turn_parts (φ := .bf16) x1 _ _ _
theorem values_eq : val_main_v14 (F := Ideal) x2 = turned (φ := .bf16) x2 := turn_parts (φ := .bf16) x2 _ _ _
theorem gates_eq : val_main_v19 (F := Ideal) x3 = turned (φ := .f32) x3 := turn_parts (φ := .f32) x3 _ _ _

/-- Between the two turns the reference is the forward one. -/
theorem middle_eq : val_main_v47 (F := Ideal) x0 x1 x2 x3
    = Cert.Reference7Ideal.Read.val_main_v27 (F := Ideal) (val_main_v4 x0) (val_main_v9 x1) (val_main_v14 x2) (val_main_v19 x3) := rfl

/-- From real arrays the reference's result is the recurrence's outputs, turned back. -/
theorem reference_eq (h0 : ∀ i, IsReal (x0 i)) (h1 : ∀ i, IsReal (x1 i)) (h2 : ∀ i, IsReal (x2 i)) (h3 : ∀ i, IsReal (x3 i)) :
    val_main_v52 (F := Ideal) x0 x1 x2 x3 = scanBack x0 x1 x2 x3 := by
  refine (turn_parts (φ := .f32) (val_main_v47 (F := Ideal) x0 x1 x2 x3) _ _ _).trans ?_
  unfold scanBack
  rw [middle_eq, queries_eq, keys_eq, values_eq, gates_eq]
  exact congrArg (turned (φ := .f32)) (Cert.Reference7Ideal.Hand.reference_eq (turned_real h0) (turned_real h1) (turned_real h2) (turned_real h3))

/-- The reference runs, its arguments end unchanged, and it holds no semaphore. -/
theorem quiet (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨fun c => (h c).2, sem_eq_zero_of_no_sems (by decide) r.2⟩) (Cert.Reference8Ideal.Value.run m ρ)

end Cert.Reference8Ideal.Hand

end
-- ==== Proof.lean ====
/-
  The certificate's proof: the attention call of the layer, the experts' call, the readout of the gated linear attention,
  the attention's projection, the gated linear attention's projection, the modulation table and both scans each run
  and end quiescent, at the machine's floats and over the extended reals, and the results of each are its reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Pre_tiles_ok
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_finite_gates
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_below_infinity
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Pre_finite_scan
public import proofs.«01_k».proof.Proof.Kernel.Run
public import proofs.«01_k».proof.Proof.KernelIdeal.Run
public import proofs.«01_k».proof.Proof.KernelIdeal.Value
public import proofs.«01_k».proof.Proof.Reference
public import proofs.«01_k».proof.Proof.Finite
public import proofs.«01_k».proof.Proof.Kernel2.Run
public import proofs.«01_k».proof.Proof.Kernel2.Tables
public import proofs.«01_k».proof.Proof.Kernel2Ideal.Value
public import proofs.«01_k».proof.Proof.Reference2
public import proofs.«01_k».proof.Proof.Tiles
public import proofs.«01_k».proof.Proof.Kernel3Ideal.Value
public import proofs.«01_k».proof.Proof.Reference3
public import proofs.«01_k».proof.Proof.Kernel4Ideal.Value
public import proofs.«01_k».proof.Proof.Reference4
public import proofs.«01_k».proof.Proof.Kernel5Ideal.Value
public import proofs.«01_k».proof.Proof.Kernel5Ideal.Lanes
public import proofs.«01_k».proof.Proof.Reference5
public import proofs.«01_k».proof.Proof.FiniteGates
public import proofs.«01_k».proof.Proof.Kernel6Ideal.Value
public import proofs.«01_k».proof.Proof.Reference6
public import Idealize.ShloMosaic.Adequacy
public import Idealize.ShloMosaic.Init
public import proofs.«01_k».proof.Proof.Kernel7Ideal.Value
public import proofs.«01_k».proof.Proof.Reference7
public import proofs.«01_k».proof.Proof.Kernel8Ideal.Value
public import proofs.«01_k».proof.Proof.Reference8

@[expose] public section

noncomputable section

open Idealize.ShloMosaic Idealize.ShloMosaic.TcCoe

/-- Where the precondition holds, the kernel's result array is the reference's. -/
theorem Cert.Proof.agree : Cert.algebraic_KernelIdeal_ReferenceIdeal_pre_finite_scores := by
  intro m g m' g' hpre hagree
  refine ⟨fun c => Cert.KernelIdeal.Hand.res m c, Cert.KernelIdeal.Hand.value m g, ?_⟩
  refine (θ_run _ _ _).mono (fun r h c => ⟨(h c).1.trans ?_, (h c).2⟩) (Cert.ReferenceIdeal.Value.run m' g')
  refine (Cert.ReferenceIdeal.Read.val_main_v58_eq m' c).trans ?_
  obtain ⟨e0, e1, e2, e3, e4, e5⟩ := hagree c
  rw [e0, e1, e2, e3, e4, e5]
  obtain ⟨h0, h1⟩ := Cert.Finite.of_fn _ _ _ _ _ _ (congrFun (hpre c) (fun d => d.elim0))
  exact Cert.ReferenceIdeal.Hand.val_eq _ _ _ _ _ _ h0 h1

/-- The experts' tables are in range where the precondition holds, at the machine's floats. -/
theorem Cert.Proof.range {m} (h : Cert.Pre_Kernel2 m) : Cert.Kernel2.Hand.Range m :=
  fun c => Cert.Tiles.of_fn _ _ _ _ _ _ _ (congrFun (h c) (fun d => d.elim0))

/-- The experts' tables are in range where the precondition holds, over the extended reals. -/
theorem Cert.Proof.rangeIdeal {m} (h : Cert.Pre_Kernel2Ideal m) : Cert.Kernel2Ideal.Hand.Range m :=
  fun c => Cert.Tiles.of_fn _ _ _ _ _ _ _ (congrFun (h c) (fun d => d.elim0))

/-- Where the tables are in range, the experts' result array is the reference's. -/
theorem Cert.Proof.agree2 : Cert.algebraic_Kernel2Ideal_Reference2Ideal := by
  intro m g m' g' hpre hagree
  have hR : Cert.Kernel2Ideal.Hand.Range m := Cert.Proof.rangeIdeal hpre
  refine ⟨fun c => Cert.Kernel2Ideal.Hand.res m c, Cert.Kernel2Ideal.Hand.value m hR g, ?_⟩
  refine (θ_run _ _ _).mono (fun r h c => ⟨(h c).1.trans ?_, (h c).2⟩) (Cert.Reference2Ideal.Value.run m' g')
  refine (Cert.Reference2Ideal.Read.val_main_v60_eq m' c).trans ?_
  obtain ⟨e0, e1, e2, e3, e4, e5, e6⟩ := hagree c
  rw [e0, e1, e2, e3, e4, e5, e6]
  exact Cert.Reference2Ideal.Hand.reference_eq _ _ _ _ _ _ _ (hR c).1 ((hR c).2 _).2

/-- The readout's result array is the reference's. -/
theorem Cert.Proof.agree3 : Cert.algebraic_Kernel3Ideal_Reference3Ideal := by
  intro m g m' g' _ hagree
  refine ⟨fun c => Cert.Kernel3Ideal.Hand.res m c, Cert.Kernel3Ideal.Hand.value m g, ?_⟩
  refine (θ_run _ _ _).mono (fun r h c => ⟨(h c).1.trans ?_, (h c).2⟩) (Cert.Reference3Ideal.Value.run m' g')
  refine (Cert.Reference3Ideal.Read.val_main_v34_eq m' c).trans ?_
  obtain ⟨e0, e1, e2, e3, e4, e5, e6⟩ := hagree c
  rw [e0, e1, e2, e3, e4, e5, e6]
  exact Cert.Reference3Ideal.Hand.reference_eq _ _ _ _ _ _ _

/-- The queries, keys and values are the reference's. -/
theorem Cert.Proof.agree4 : Cert.algebraic_Kernel4Ideal_Reference4Ideal := by
  intro m g m' g' _ hagree
  refine ⟨fun c => Cert.Kernel4Ideal.Hand.resQ m c, fun c => Cert.Kernel4Ideal.Hand.resK m c,
    fun c => Cert.Kernel4Ideal.Hand.resV m c, Cert.Kernel4Ideal.Hand.value m g, ?_⟩
  refine (θ_run _ _ _).mono (fun r h c => ⟨(h c).1.trans ?_, (h c).2.1.trans ?_, (h c).2.2.1.trans ?_, (h c).2.2.2⟩)
    (Cert.Reference4Ideal.Value.run m' g')
  · refine (Cert.Reference4Ideal.Read.val_main_v115_eq m' c).trans ?_
    obtain ⟨e0, e1, e2, e3, e4, e5, e6, e7⟩ := hagree c
    rw [e0, e1, e2, e3, e4, e6, e7]
    exact Cert.Reference4Ideal.Hand.queries_eq _ _ _ _ _ _ _
  · refine (Cert.Reference4Ideal.Read.val_main_v116_eq m' c).trans ?_
    obtain ⟨e0, e1, e2, e3, e4, e5, e6, e7⟩ := hagree c
    rw [e0, e1, e2, e3, e5, e6, e7]
    exact Cert.Reference4Ideal.Hand.keys_eq _ _ _ _ _ _ _
  · refine (Cert.Reference4Ideal.Read.val_main_v118_eq _ _ _ _).trans ?_
    obtain ⟨e0, e1, e2, e3, e4, e5, e6, e7⟩ := hagree c
    rw [e0, e1, e2, e3]
    exact Cert.Reference4Ideal.Hand.values_eq _ _ _ _

/-- Where the precondition holds, queries, keys, values, output gate and both decay gates of the gated linear attention are
    the reference's. -/
theorem Cert.Proof.agree5 : Cert.algebraic_Kernel5Ideal_Reference5Ideal_pre_finite_gates := by
  intro m g m' g' hpre hagree
  refine ⟨fun c => Cert.Kernel5Ideal.Hand.res7 m c, fun c => Cert.Kernel5Ideal.Hand.res8 m c, fun c => Cert.Kernel5Ideal.Hand.res9 m c,
    fun c => Cert.Kernel5Ideal.Hand.res10 m c, fun c => Cert.Kernel5Ideal.Hand.res11 m c, fun c => Cert.Kernel5Ideal.Hand.res12 m c,
    Cert.Kernel5Ideal.Hand.value m g, ?_⟩
  refine (θ_run _ _ _).mono (fun r h c => ⟨(h c).1.trans ?_, (h c).2.1.trans ?_, (h c).2.2.1.trans ?_, (h c).2.2.2.1.trans ?_,
    (h c).2.2.2.2.1.trans ?_, (h c).2.2.2.2.2.1.trans ?_, (h c).2.2.2.2.2.2⟩) (Cert.Reference5Ideal.Value.run m' g')
  · refine (Cert.Reference5Ideal.Read.val_main_v59_eq _ _ _ _).trans ?_
    obtain ⟨e0, e1, e2, e3, e4, e5, e6, e7⟩ := hagree c
    rw [e0, e1, e2, e3]
    exact Cert.Reference5Ideal.Hand.queries_eq _ _ _ _
  · refine (Cert.Reference5Ideal.Read.val_main_v60_eq _ _ _ _).trans ?_
    obtain ⟨e0, e1, e2, e3, e4, e5, e6, e7⟩ := hagree c
    rw [e0, e1, e2, e3]
    exact Cert.Reference5Ideal.Hand.keys_eq _ _ _ _
  · refine (Cert.Reference5Ideal.Read.val_main_v61_eq _ _ _ _).trans ?_
    obtain ⟨e0, e1, e2, e3, e4, e5, e6, e7⟩ := hagree c
    rw [e0, e1, e2, e3]
    exact Cert.Reference5Ideal.Hand.values_eq _ _ _ _
  · refine (Cert.Reference5Ideal.Read.val_main_v62_eq _ _ _ _).trans ?_
    obtain ⟨e0, e1, e2, e3, e4, e5, e6, e7⟩ := hagree c
    rw [e0, e1, e2, e3]
    exact Cert.Reference5Ideal.Hand.outGate_eq _ _ _ _
  · refine (Cert.Reference5Ideal.Read.val_main_v49_eq m' c).trans ?_
    obtain ⟨e0, e1, e2, e3, e4, e5, e6, e7⟩ := hagree c
    rw [e0, e1, e2, e3, e4, e5]
    have hR := Cert.FiniteGates.of_fn _ _ _ _ _ _ _ _ (congrFun (hpre c) (fun d => d.elim0))
    exact (Cert.Reference5Ideal.Hand.gatesF_eq _ _ _ _ _ _).trans (Cert.Kernel5Ideal.Hand.laneF_eq _ _ _ hR).symm
  · refine (Cert.Reference5Ideal.Read.val_main_v56_eq m' c).trans ?_
    obtain ⟨e0, e1, e2, e3, e4, e5, e6, e7⟩ := hagree c
    rw [e0, e1, e2, e3, e6, e7]
    have hR := Cert.FiniteGates.of_fn _ _ _ _ _ _ _ _ (congrFun (hpre c) (fun d => d.elim0))
    exact (Cert.Reference5Ideal.Hand.gatesB_eq _ _ _ _ _ _).trans (Cert.Kernel5Ideal.Hand.laneB_eq _ _ _ hR).symm

/-- Where the precondition holds, the modulation table is the reference's. -/
theorem Cert.Proof.agree6 : Cert.algebraic_Kernel6Ideal_Reference6Ideal_pre_below_infinity := by
  intro m g m' g' hpre hagree
  refine ⟨fun c => Cert.Kernel6Ideal.Hand.res m c, Cert.Kernel6Ideal.Hand.value m g, ?_⟩
  refine (θ_run _ _ _).mono (fun r h c => ⟨(h c).1.trans ?_, (h c).2⟩) (Cert.Reference6Ideal.Value.run m' g')
  refine (Cert.Reference6Ideal.Read.val_main_v5_eq _ _ _).trans ?_
  obtain ⟨e0, e1, e2⟩ := hagree c
  rw [e0, e1, e2]
  obtain ⟨h0, h1⟩ := Cert.BelowInfinity.of_fn _ _ _ (congrFun (hpre c) (fun d => d.elim0))
  exact (Cert.Reference6Ideal.Hand.reference_eq _ _ _).trans (Cert.Kernel6Ideal.Hand.splitTable_eq _ _ _ h0 h1).symm

/-- Where the precondition holds, the forward scan's outputs are the reference's. -/
theorem Cert.Proof.agree7 : Cert.algebraic_Kernel7Ideal_Reference7Ideal_pre_finite_scan := by
  intro m g m' g' hpre hagree
  have hf := fun c => Cert.FiniteScan.of_fn _ _ _ _ (congrFun (hpre c) (fun d => d.elim0))
  have hr : ∀ c, Cert.Kernel7Ideal.Hand.Real4 m c := fun c => ⟨(hf c).1, (hf c).2.1, (hf c).2.2.1, (hf c).2.2.2⟩
  refine ⟨fun c => Cert.Kernel7Ideal.Hand.res m c, Cert.Kernel7Ideal.Hand.value m hr g, ?_⟩
  refine (θ_run _ _ _).mono (fun r h c => ⟨(h c).1.trans ?_, (h c).2⟩) (Cert.Reference7Ideal.Value.run m' g')
  refine (Cert.Reference7Ideal.Read.val_main_v27_eq _ _ _ _).trans ?_
  obtain ⟨e0, e1, e2, e3⟩ := hagree c
  rw [e0, e1, e2, e3]
  exact Cert.Reference7Ideal.Hand.reference_eq (hf c).1 (hf c).2.1 (hf c).2.2.1 (hf c).2.2.2

/-- Where the precondition holds, the backward scan's outputs are the reference's. -/
theorem Cert.Proof.agree8 : Cert.algebraic_Kernel8Ideal_Reference8Ideal_pre_finite_scan := by
  intro m g m' g' hpre hagree
  have hf := fun c => Cert.FiniteScan.of_fn _ _ _ _ (congrFun (hpre c) (fun d => d.elim0))
  have hr : ∀ c, Cert.Kernel8Ideal.Hand.Real4 m c := fun c => ⟨(hf c).1, (hf c).2.1, (hf c).2.2.1, (hf c).2.2.2⟩
  refine ⟨fun c => Cert.Kernel8Ideal.Hand.res m c, Cert.Kernel8Ideal.Hand.value m hr g, ?_⟩
  refine (θ_run _ _ _).mono (fun r h c => ⟨(h c).1.trans ?_, (h c).2⟩) (Cert.Reference8Ideal.Value.run m' g')
  refine (Cert.Reference8Ideal.Read.val_main_v52_eq _ _).trans ?_
  obtain ⟨e0, e1, e2, e3⟩ := hagree c
  rw [e0, e1, e2, e3]
  exact Cert.Reference8Ideal.Hand.reference_eq (hf c).1 (hf c).2.1 (hf c).2.2.1 (hf c).2.2.2

/-- The certificate. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Pre_finite_scores.Gen.facts, Cert.Pre_tiles_ok.Gen.facts, Cert.Pre_finite_gates.Gen.facts, Cert.Pre_below_infinity.Gen.facts,
    Cert.Pre_finite_scan.Gen.facts,
    fun m ρ _ => Cert.Kernel.Hand.quiet m ρ, fun m ρ _ => Cert.KernelIdeal.Hand.quiet m ρ, fun m ρ _ => Cert.KernelIdeal.Hand.quiet m ρ,
    fun m ρ _ => Cert.ReferenceIdeal.Hand.quiet m ρ, fun m ρ _ => Cert.ReferenceIdeal.Hand.quiet m ρ,
    fun m ρ h => Cert.Kernel2.Hand.quiet m ρ (Cert.Kernel2.Hand.ok (Cert.Proof.range h)),
    fun m ρ h => Cert.Kernel2Ideal.Hand.quiet m ρ (Cert.Kernel2Ideal.Hand.ok (Cert.Proof.rangeIdeal h)),
    fun m ρ _ => Cert.Reference2Ideal.Hand.quiet m ρ, fun m ρ _ => Cert.Reference2Ideal.Hand.quiet m ρ,
    fun m ρ _ => Cert.Kernel3.Gen.frame m ρ, fun m ρ _ => Cert.Kernel3Ideal.Gen.frame m ρ, fun m ρ _ => Cert.Reference3Ideal.Hand.quiet m ρ,
    fun m ρ _ => Cert.Kernel4.Gen.frame m ρ, fun m ρ _ => Cert.Kernel4Ideal.Gen.frame m ρ, fun m ρ _ => Cert.Reference4Ideal.Hand.quiet m ρ,
    fun m ρ _ => Cert.Kernel5.Gen.frame m ρ, fun m ρ _ => Cert.Kernel5Ideal.Gen.frame m ρ, fun m ρ _ => Cert.Kernel5Ideal.Gen.frame m ρ,
    fun m ρ _ => Cert.Reference5Ideal.Hand.quiet m ρ, fun m ρ _ => Cert.Reference5Ideal.Hand.quiet m ρ,
    fun m ρ _ => Cert.Kernel6.Gen.frame m ρ, fun m ρ _ => Cert.Kernel6Ideal.Gen.frame m ρ, fun m ρ _ => Cert.Kernel6Ideal.Gen.frame m ρ,
    fun m ρ _ => Cert.Reference6Ideal.Hand.quiet m ρ, fun m ρ _ => Cert.Reference6Ideal.Hand.quiet m ρ,
    fun m ρ _ => Cert.Kernel7.Gen.frame m ρ, fun m ρ _ => Cert.Kernel7Ideal.Gen.frame m ρ, fun m ρ _ => Cert.Kernel7Ideal.Gen.frame m ρ,
    fun m ρ _ => Cert.Reference7Ideal.Hand.quiet m ρ, fun m ρ _ => Cert.Reference7Ideal.Hand.quiet m ρ,
    fun m ρ _ => Cert.Kernel8.Gen.frame m ρ, fun m ρ _ => Cert.Kernel8Ideal.Gen.frame m ρ, fun m ρ _ => Cert.Kernel8Ideal.Gen.frame m ρ,
    fun m ρ _ => Cert.Reference8Ideal.Hand.quiet m ρ, fun m ρ _ => Cert.Reference8Ideal.Hand.quiet m ρ,
    trivial, Cert.Proof.agree, trivial, Cert.Proof.agree2, trivial, Cert.Proof.agree3, trivial, Cert.Proof.agree4,
    trivial, Cert.Proof.agree5, trivial, Cert.Proof.agree6, trivial, Cert.Proof.agree7, trivial, Cert.Proof.agree8⟩

end
